-- ==== Defs.lean ====
def Pre_DecMla (m : (ℓ : Loc Cert.DecMla.nD Cert.DecMla.τ Cert.DecMla.sig) → Buf (Elt Bits) ℓ) : Prop :=
  True

def Pre_DecMlaIdeal (m : (ℓ : Loc Cert.DecMlaIdeal.nD Cert.DecMlaIdeal.τ Cert.DecMlaIdeal.sig) → Buf (Elt Ideal) ℓ) : Prop :=
  True

def Pre_DecMlaIdeal_finite_mla [hPre_finite_mla : Cert.Pre_finite_mla.Facts] (m : (ℓ : Loc Cert.DecMlaIdeal.nD Cert.DecMlaIdeal.τ Cert.DecMlaIdeal.sig) → Buf (Elt Ideal) ℓ) : Prop :=
  ∀ c : Dev Cert.DecMlaIdeal.nD,
    (Cert.Pre_finite_mla.fn (F := Ideal) (m ((c.tc : Thread Cert.DecMlaIdeal.nD Cert.DecMlaIdeal.τ).loc Cert.DecMlaIdeal.main_arg0)) (m ((c.tc : Thread Cert.DecMlaIdeal.nD Cert.DecMlaIdeal.τ).loc Cert.DecMlaIdeal.main_arg1)) (m ((c.tc : Thread Cert.DecMlaIdeal.nD Cert.DecMlaIdeal.τ).loc Cert.DecMlaIdeal.main_arg2)) (m ((c.tc : Thread Cert.DecMlaIdeal.nD Cert.DecMlaIdeal.τ).loc Cert.DecMlaIdeal.main_arg3)) (m ((c.tc : Thread Cert.DecMlaIdeal.nD Cert.DecMlaIdeal.τ).loc Cert.DecMlaIdeal.main_arg4)) (m ((c.tc : Thread Cert.DecMlaIdeal.nD Cert.DecMlaIdeal.τ).loc Cert.DecMlaIdeal.main_arg5))).1 = (fun _ => 1#1)
    ∧ (Cert.Pre_finite_mla.fn (F := Ideal) (m ((c.tc : Thread Cert.DecMlaIdeal.nD Cert.DecMlaIdeal.τ).loc Cert.DecMlaIdeal.main_arg0)) (m ((c.tc : Thread Cert.DecMlaIdeal.nD Cert.DecMlaIdeal.τ).loc Cert.DecMlaIdeal.main_arg1)) (m ((c.tc : Thread Cert.DecMlaIdeal.nD Cert.DecMlaIdeal.τ).loc Cert.DecMlaIdeal.main_arg2)) (m ((c.tc : Thread Cert.DecMlaIdeal.nD Cert.DecMlaIdeal.τ).loc Cert.DecMlaIdeal.main_arg3)) (m ((c.tc : Thread Cert.DecMlaIdeal.nD Cert.DecMlaIdeal.τ).loc Cert.DecMlaIdeal.main_arg4)) (m ((c.tc : Thread Cert.DecMlaIdeal.nD Cert.DecMlaIdeal.τ).loc Cert.DecMlaIdeal.main_arg5))).2.1 = (fun _ => 1#1)
    ∧ (Cert.Pre_finite_mla.fn (F := Ideal) (m ((c.tc : Thread Cert.DecMlaIdeal.nD Cert.DecMlaIdeal.τ).loc Cert.DecMlaIdeal.main_arg0)) (m ((c.tc : Thread Cert.DecMlaIdeal.nD Cert.DecMlaIdeal.τ).loc Cert.DecMlaIdeal.main_arg1)) (m ((c.tc : Thread Cert.DecMlaIdeal.nD Cert.DecMlaIdeal.τ).loc Cert.DecMlaIdeal.main_arg2)) (m ((c.tc : Thread Cert.DecMlaIdeal.nD Cert.DecMlaIdeal.τ).loc Cert.DecMlaIdeal.main_arg3)) (m ((c.tc : Thread Cert.DecMlaIdeal.nD Cert.DecMlaIdeal.τ).loc Cert.DecMlaIdeal.main_arg4)) (m ((c.tc : Thread Cert.DecMlaIdeal.nD Cert.DecMlaIdeal.τ).loc Cert.DecMlaIdeal.main_arg5))).2.2.1 = (fun _ => 1#1)
    ∧ (Cert.Pre_finite_mla.fn (F := Ideal) (m ((c.tc : Thread Cert.DecMlaIdeal.nD Cert.DecMlaIdeal.τ).loc Cert.DecMlaIdeal.main_arg0)) (m ((c.tc : Thread Cert.DecMlaIdeal.nD Cert.DecMlaIdeal.τ).loc Cert.DecMlaIdeal.main_arg1)) (m ((c.tc : Thread Cert.DecMlaIdeal.nD Cert.DecMlaIdeal.τ).loc Cert.DecMlaIdeal.main_arg2)) (m ((c.tc : Thread Cert.DecMlaIdeal.nD Cert.DecMlaIdeal.τ).loc Cert.DecMlaIdeal.main_arg3)) (m ((c.tc : Thread Cert.DecMlaIdeal.nD Cert.DecMlaIdeal.τ).loc Cert.DecMlaIdeal.main_arg4)) (m ((c.tc : Thread Cert.DecMlaIdeal.nD Cert.DecMlaIdeal.τ).loc Cert.DecMlaIdeal.main_arg5))).2.2.2.1 = (fun _ => 1#1)
    ∧ (Cert.Pre_finite_mla.fn (F := Ideal) (m ((c.tc : Thread Cert.DecMlaIdeal.nD Cert.DecMlaIdeal.τ).loc Cert.DecMlaIdeal.main_arg0)) (m ((c.tc : Thread Cert.DecMlaIdeal.nD Cert.DecMlaIdeal.τ).loc Cert.DecMlaIdeal.main_arg1)) (m ((c.tc : Thread Cert.DecMlaIdeal.nD Cert.DecMlaIdeal.τ).loc Cert.DecMlaIdeal.main_arg2)) (m ((c.tc : Thread Cert.DecMlaIdeal.nD Cert.DecMlaIdeal.τ).loc Cert.DecMlaIdeal.main_arg3)) (m ((c.tc : Thread Cert.DecMlaIdeal.nD Cert.DecMlaIdeal.τ).loc Cert.DecMlaIdeal.main_arg4)) (m ((c.tc : Thread Cert.DecMlaIdeal.nD Cert.DecMlaIdeal.τ).loc Cert.DecMlaIdeal.main_arg5))).2.2.2.2 = (fun _ => 1#1)

def Pre_DecMlaRefIdeal (m : (ℓ : Loc Cert.DecMlaRefIdeal.nD Cert.DecMlaRefIdeal.τ Cert.DecMlaRefIdeal.sig) → Buf (Elt Ideal) ℓ) : Prop :=
  True

def Pre_DecMlaRefIdeal_finite_mla [hPre_finite_mla : Cert.Pre_finite_mla.Facts] (m : (ℓ : Loc Cert.DecMlaRefIdeal.nD Cert.DecMlaRefIdeal.τ Cert.DecMlaRefIdeal.sig) → Buf (Elt Ideal) ℓ) : Prop :=
  ∀ c : Dev Cert.DecMlaRefIdeal.nD,
    (Cert.Pre_finite_mla.fn (F := Ideal) (m ((c.tc : Thread Cert.DecMlaRefIdeal.nD Cert.DecMlaRefIdeal.τ).loc Cert.DecMlaRefIdeal.main_arg0)) (m ((c.tc : Thread Cert.DecMlaRefIdeal.nD Cert.DecMlaRefIdeal.τ).loc Cert.DecMlaRefIdeal.main_arg1)) (m ((c.tc : Thread Cert.DecMlaRefIdeal.nD Cert.DecMlaRefIdeal.τ).loc Cert.DecMlaRefIdeal.main_arg2)) (m ((c.tc : Thread Cert.DecMlaRefIdeal.nD Cert.DecMlaRefIdeal.τ).loc Cert.DecMlaRefIdeal.main_arg3)) (m ((c.tc : Thread Cert.DecMlaRefIdeal.nD Cert.DecMlaRefIdeal.τ).loc Cert.DecMlaRefIdeal.main_arg4)) (m ((c.tc : Thread Cert.DecMlaRefIdeal.nD Cert.DecMlaRefIdeal.τ).loc Cert.DecMlaRefIdeal.main_arg5))).1 = (fun _ => 1#1)
    ∧ (Cert.Pre_finite_mla.fn (F := Ideal) (m ((c.tc : Thread Cert.DecMlaRefIdeal.nD Cert.DecMlaRefIdeal.τ).loc Cert.DecMlaRefIdeal.main_arg0)) (m ((c.tc : Thread Cert.DecMlaRefIdeal.nD Cert.DecMlaRefIdeal.τ).loc Cert.DecMlaRefIdeal.main_arg1)) (m ((c.tc : Thread Cert.DecMlaRefIdeal.nD Cert.DecMlaRefIdeal.τ).loc Cert.DecMlaRefIdeal.main_arg2)) (m ((c.tc : Thread Cert.DecMlaRefIdeal.nD Cert.DecMlaRefIdeal.τ).loc Cert.DecMlaRefIdeal.main_arg3)) (m ((c.tc : Thread Cert.DecMlaRefIdeal.nD Cert.DecMlaRefIdeal.τ).loc Cert.DecMlaRefIdeal.main_arg4)) (m ((c.tc : Thread Cert.DecMlaRefIdeal.nD Cert.DecMlaRefIdeal.τ).loc Cert.DecMlaRefIdeal.main_arg5))).2.1 = (fun _ => 1#1)
    ∧ (Cert.Pre_finite_mla.fn (F := Ideal) (m ((c.tc : Thread Cert.DecMlaRefIdeal.nD Cert.DecMlaRefIdeal.τ).loc Cert.DecMlaRefIdeal.main_arg0)) (m ((c.tc : Thread Cert.DecMlaRefIdeal.nD Cert.DecMlaRefIdeal.τ).loc Cert.DecMlaRefIdeal.main_arg1)) (m ((c.tc : Thread Cert.DecMlaRefIdeal.nD Cert.DecMlaRefIdeal.τ).loc Cert.DecMlaRefIdeal.main_arg2)) (m ((c.tc : Thread Cert.DecMlaRefIdeal.nD Cert.DecMlaRefIdeal.τ).loc Cert.DecMlaRefIdeal.main_arg3)) (m ((c.tc : Thread Cert.DecMlaRefIdeal.nD Cert.DecMlaRefIdeal.τ).loc Cert.DecMlaRefIdeal.main_arg4)) (m ((c.tc : Thread Cert.DecMlaRefIdeal.nD Cert.DecMlaRefIdeal.τ).loc Cert.DecMlaRefIdeal.main_arg5))).2.2.1 = (fun _ => 1#1)
    ∧ (Cert.Pre_finite_mla.fn (F := Ideal) (m ((c.tc : Thread Cert.DecMlaRefIdeal.nD Cert.DecMlaRefIdeal.τ).loc Cert.DecMlaRefIdeal.main_arg0)) (m ((c.tc : Thread Cert.DecMlaRefIdeal.nD Cert.DecMlaRefIdeal.τ).loc Cert.DecMlaRefIdeal.main_arg1)) (m ((c.tc : Thread Cert.DecMlaRefIdeal.nD Cert.DecMlaRefIdeal.τ).loc Cert.DecMlaRefIdeal.main_arg2)) (m ((c.tc : Thread Cert.DecMlaRefIdeal.nD Cert.DecMlaRefIdeal.τ).loc Cert.DecMlaRefIdeal.main_arg3)) (m ((c.tc : Thread Cert.DecMlaRefIdeal.nD Cert.DecMlaRefIdeal.τ).loc Cert.DecMlaRefIdeal.main_arg4)) (m ((c.tc : Thread Cert.DecMlaRefIdeal.nD Cert.DecMlaRefIdeal.τ).loc Cert.DecMlaRefIdeal.main_arg5))).2.2.2.1 = (fun _ => 1#1)
    ∧ (Cert.Pre_finite_mla.fn (F := Ideal) (m ((c.tc : Thread Cert.DecMlaRefIdeal.nD Cert.DecMlaRefIdeal.τ).loc Cert.DecMlaRefIdeal.main_arg0)) (m ((c.tc : Thread Cert.DecMlaRefIdeal.nD Cert.DecMlaRefIdeal.τ).loc Cert.DecMlaRefIdeal.main_arg1)) (m ((c.tc : Thread Cert.DecMlaRefIdeal.nD Cert.DecMlaRefIdeal.τ).loc Cert.DecMlaRefIdeal.main_arg2)) (m ((c.tc : Thread Cert.DecMlaRefIdeal.nD Cert.DecMlaRefIdeal.τ).loc Cert.DecMlaRefIdeal.main_arg3)) (m ((c.tc : Thread Cert.DecMlaRefIdeal.nD Cert.DecMlaRefIdeal.τ).loc Cert.DecMlaRefIdeal.main_arg4)) (m ((c.tc : Thread Cert.DecMlaRefIdeal.nD Cert.DecMlaRefIdeal.τ).loc Cert.DecMlaRefIdeal.main_arg5))).2.2.2.2 = (fun _ => 1#1)

def Pre_DecDiff (m : (ℓ : Loc Cert.DecDiff.nD Cert.DecDiff.τ Cert.DecDiff.sig) → Buf (Elt Bits) ℓ) : Prop :=
  True

def Pre_DecDiffIdeal (m : (ℓ : Loc Cert.DecDiffIdeal.nD Cert.DecDiffIdeal.τ Cert.DecDiffIdeal.sig) → Buf (Elt Ideal) ℓ) : Prop :=
  True

def Pre_DecDiffIdeal_finite_diff [hPre_finite_diff : Cert.Pre_finite_diff.Facts] (m : (ℓ : Loc Cert.DecDiffIdeal.nD Cert.DecDiffIdeal.τ Cert.DecDiffIdeal.sig) → Buf (Elt Ideal) ℓ) : Prop :=
  ∀ c : Dev Cert.DecDiffIdeal.nD,
    (Cert.Pre_finite_diff.fn (F := Ideal) (m ((c.tc : Thread Cert.DecDiffIdeal.nD Cert.DecDiffIdeal.τ).loc Cert.DecDiffIdeal.main_arg0)) (m ((c.tc : Thread Cert.DecDiffIdeal.nD Cert.DecDiffIdeal.τ).loc Cert.DecDiffIdeal.main_arg1)) (m ((c.tc : Thread Cert.DecDiffIdeal.nD Cert.DecDiffIdeal.τ).loc Cert.DecDiffIdeal.main_arg2)) (m ((c.tc : Thread Cert.DecDiffIdeal.nD Cert.DecDiffIdeal.τ).loc Cert.DecDiffIdeal.main_arg3)) (m ((c.tc : Thread Cert.DecDiffIdeal.nD Cert.DecDiffIdeal.τ).loc Cert.DecDiffIdeal.main_arg4)) (m ((c.tc : Thread Cert.DecDiffIdeal.nD Cert.DecDiffIdeal.τ).loc Cert.DecDiffIdeal.main_arg5)) (m ((c.tc : Thread Cert.DecDiffIdeal.nD Cert.DecDiffIdeal.τ).loc Cert.DecDiffIdeal.main_arg6)) (m ((c.tc : Thread Cert.DecDiffIdeal.nD Cert.DecDiffIdeal.τ).loc Cert.DecDiffIdeal.main_arg7)) (m ((c.tc : Thread Cert.DecDiffIdeal.nD Cert.DecDiffIdeal.τ).loc Cert.DecDiffIdeal.main_arg8))).1 = (fun _ => 1#1)
    ∧ (Cert.Pre_finite_diff.fn (F := Ideal) (m ((c.tc : Thread Cert.DecDiffIdeal.nD Cert.DecDiffIdeal.τ).loc Cert.DecDiffIdeal.main_arg0)) (m ((c.tc : Thread Cert.DecDiffIdeal.nD Cert.DecDiffIdeal.τ).loc Cert.DecDiffIdeal.main_arg1)) (m ((c.tc : Thread Cert.DecDiffIdeal.nD Cert.DecDiffIdeal.τ).loc Cert.DecDiffIdeal.main_arg2)) (m ((c.tc : Thread Cert.DecDiffIdeal.nD Cert.DecDiffIdeal.τ).loc Cert.DecDiffIdeal.main_arg3)) (m ((c.tc : Thread Cert.DecDiffIdeal.nD Cert.DecDiffIdeal.τ).loc Cert.DecDiffIdeal.main_arg4)) (m ((c.tc : Thread Cert.DecDiffIdeal.nD Cert.DecDiffIdeal.τ).loc Cert.DecDiffIdeal.main_arg5)) (m ((c.tc : Thread Cert.DecDiffIdeal.nD Cert.DecDiffIdeal.τ).loc Cert.DecDiffIdeal.main_arg6)) (m ((c.tc : Thread Cert.DecDiffIdeal.nD Cert.DecDiffIdeal.τ).loc Cert.DecDiffIdeal.main_arg7)) (m ((c.tc : Thread Cert.DecDiffIdeal.nD Cert.DecDiffIdeal.τ).loc Cert.DecDiffIdeal.main_arg8))).2.1 = (fun _ => 1#1)
    ∧ (Cert.Pre_finite_diff.fn (F := Ideal) (m ((c.tc : Thread Cert.DecDiffIdeal.nD Cert.DecDiffIdeal.τ).loc Cert.DecDiffIdeal.main_arg0)) (m ((c.tc : Thread Cert.DecDiffIdeal.nD Cert.DecDiffIdeal.τ).loc Cert.DecDiffIdeal.main_arg1)) (m ((c.tc : Thread Cert.DecDiffIdeal.nD Cert.DecDiffIdeal.τ).loc Cert.DecDiffIdeal.main_arg2)) (m ((c.tc : Thread Cert.DecDiffIdeal.nD Cert.DecDiffIdeal.τ).loc Cert.DecDiffIdeal.main_arg3)) (m ((c.tc : Thread Cert.DecDiffIdeal.nD Cert.DecDiffIdeal.τ).loc Cert.DecDiffIdeal.main_arg4)) (m ((c.tc : Thread Cert.DecDiffIdeal.nD Cert.DecDiffIdeal.τ).loc Cert.DecDiffIdeal.main_arg5)) (m ((c.tc : Thread Cert.DecDiffIdeal.nD Cert.DecDiffIdeal.τ).loc Cert.DecDiffIdeal.main_arg6)) (m ((c.tc : Thread Cert.DecDiffIdeal.nD Cert.DecDiffIdeal.τ).loc Cert.DecDiffIdeal.main_arg7)) (m ((c.tc : Thread Cert.DecDiffIdeal.nD Cert.DecDiffIdeal.τ).loc Cert.DecDiffIdeal.main_arg8))).2.2 = (fun _ => 1#1)

def Pre_DecDiffRefIdeal (m : (ℓ : Loc Cert.DecDiffRefIdeal.nD Cert.DecDiffRefIdeal.τ Cert.DecDiffRefIdeal.sig) → Buf (Elt Ideal) ℓ) : Prop :=
  True

def Pre_DecDiffRefIdeal_finite_diff [hPre_finite_diff : Cert.Pre_finite_diff.Facts] (m : (ℓ : Loc Cert.DecDiffRefIdeal.nD Cert.DecDiffRefIdeal.τ Cert.DecDiffRefIdeal.sig) → Buf (Elt Ideal) ℓ) : Prop :=
  ∀ c : Dev Cert.DecDiffRefIdeal.nD,
    (Cert.Pre_finite_diff.fn (F := Ideal) (m ((c.tc : Thread Cert.DecDiffRefIdeal.nD Cert.DecDiffRefIdeal.τ).loc Cert.DecDiffRefIdeal.main_arg0)) (m ((c.tc : Thread Cert.DecDiffRefIdeal.nD Cert.DecDiffRefIdeal.τ).loc Cert.DecDiffRefIdeal.main_arg1)) (m ((c.tc : Thread Cert.DecDiffRefIdeal.nD Cert.DecDiffRefIdeal.τ).loc Cert.DecDiffRefIdeal.main_arg2)) (m ((c.tc : Thread Cert.DecDiffRefIdeal.nD Cert.DecDiffRefIdeal.τ).loc Cert.DecDiffRefIdeal.main_arg3)) (m ((c.tc : Thread Cert.DecDiffRefIdeal.nD Cert.DecDiffRefIdeal.τ).loc Cert.DecDiffRefIdeal.main_arg4)) (m ((c.tc : Thread Cert.DecDiffRefIdeal.nD Cert.DecDiffRefIdeal.τ).loc Cert.DecDiffRefIdeal.main_arg5)) (m ((c.tc : Thread Cert.DecDiffRefIdeal.nD Cert.DecDiffRefIdeal.τ).loc Cert.DecDiffRefIdeal.main_arg6)) (m ((c.tc : Thread Cert.DecDiffRefIdeal.nD Cert.DecDiffRefIdeal.τ).loc Cert.DecDiffRefIdeal.main_arg7)) (m ((c.tc : Thread Cert.DecDiffRefIdeal.nD Cert.DecDiffRefIdeal.τ).loc Cert.DecDiffRefIdeal.main_arg8))).1 = (fun _ => 1#1)
    ∧ (Cert.Pre_finite_diff.fn (F := Ideal) (m ((c.tc : Thread Cert.DecDiffRefIdeal.nD Cert.DecDiffRefIdeal.τ).loc Cert.DecDiffRefIdeal.main_arg0)) (m ((c.tc : Thread Cert.DecDiffRefIdeal.nD Cert.DecDiffRefIdeal.τ).loc Cert.DecDiffRefIdeal.main_arg1)) (m ((c.tc : Thread Cert.DecDiffRefIdeal.nD Cert.DecDiffRefIdeal.τ).loc Cert.DecDiffRefIdeal.main_arg2)) (m ((c.tc : Thread Cert.DecDiffRefIdeal.nD Cert.DecDiffRefIdeal.τ).loc Cert.DecDiffRefIdeal.main_arg3)) (m ((c.tc : Thread Cert.DecDiffRefIdeal.nD Cert.DecDiffRefIdeal.τ).loc Cert.DecDiffRefIdeal.main_arg4)) (m ((c.tc : Thread Cert.DecDiffRefIdeal.nD Cert.DecDiffRefIdeal.τ).loc Cert.DecDiffRefIdeal.main_arg5)) (m ((c.tc : Thread Cert.DecDiffRefIdeal.nD Cert.DecDiffRefIdeal.τ).loc Cert.DecDiffRefIdeal.main_arg6)) (m ((c.tc : Thread Cert.DecDiffRefIdeal.nD Cert.DecDiffRefIdeal.τ).loc Cert.DecDiffRefIdeal.main_arg7)) (m ((c.tc : Thread Cert.DecDiffRefIdeal.nD Cert.DecDiffRefIdeal.τ).loc Cert.DecDiffRefIdeal.main_arg8))).2.1 = (fun _ => 1#1)
    ∧ (Cert.Pre_finite_diff.fn (F := Ideal) (m ((c.tc : Thread Cert.DecDiffRefIdeal.nD Cert.DecDiffRefIdeal.τ).loc Cert.DecDiffRefIdeal.main_arg0)) (m ((c.tc : Thread Cert.DecDiffRefIdeal.nD Cert.DecDiffRefIdeal.τ).loc Cert.DecDiffRefIdeal.main_arg1)) (m ((c.tc : Thread Cert.DecDiffRefIdeal.nD Cert.DecDiffRefIdeal.τ).loc Cert.DecDiffRefIdeal.main_arg2)) (m ((c.tc : Thread Cert.DecDiffRefIdeal.nD Cert.DecDiffRefIdeal.τ).loc Cert.DecDiffRefIdeal.main_arg3)) (m ((c.tc : Thread Cert.DecDiffRefIdeal.nD Cert.DecDiffRefIdeal.τ).loc Cert.DecDiffRefIdeal.main_arg4)) (m ((c.tc : Thread Cert.DecDiffRefIdeal.nD Cert.DecDiffRefIdeal.τ).loc Cert.DecDiffRefIdeal.main_arg5)) (m ((c.tc : Thread Cert.DecDiffRefIdeal.nD Cert.DecDiffRefIdeal.τ).loc Cert.DecDiffRefIdeal.main_arg6)) (m ((c.tc : Thread Cert.DecDiffRefIdeal.nD Cert.DecDiffRefIdeal.τ).loc Cert.DecDiffRefIdeal.main_arg7)) (m ((c.tc : Thread Cert.DecDiffRefIdeal.nD Cert.DecDiffRefIdeal.τ).loc Cert.DecDiffRefIdeal.main_arg8))).2.2 = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnRefIdeal (m : (ℓ : Loc Cert.OutFfnRefIdeal.nD Cert.OutFfnRefIdeal.τ Cert.OutFfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutFfnS (m : (ℓ : Loc Cert.OutFfnS.nD Cert.OutFfnS.τ Cert.OutFfnS.sig) → Buf (Elt Bits) ℓ) : Prop :=
  True

def Pre_OutFfnSIdeal (m : (ℓ : Loc Cert.OutFfnSIdeal.nD Cert.OutFfnSIdeal.τ Cert.OutFfnSIdeal.sig) → Buf (Elt Ideal) ℓ) : Prop :=
  True

def Pre_OutFfnSRefIdeal (m : (ℓ : Loc Cert.OutFfnSRefIdeal.nD Cert.OutFfnSRefIdeal.τ Cert.OutFfnSRefIdeal.sig) → Buf (Elt Ideal) ℓ) : Prop :=
  True

def Pre_ProjP (m : (ℓ : Loc Cert.ProjP.nD Cert.ProjP.τ Cert.ProjP.sig) → Buf (Elt Bits) ℓ) : Prop :=
  True

def Pre_ProjPIdeal (m : (ℓ : Loc Cert.ProjPIdeal.nD Cert.ProjPIdeal.τ Cert.ProjPIdeal.sig) → Buf (Elt Ideal) ℓ) : Prop :=
  True

def Pre_ProjPRefIdeal (m : (ℓ : Loc Cert.ProjPRefIdeal.nD Cert.ProjPRefIdeal.τ Cert.ProjPRefIdeal.sig) → Buf (Elt Ideal) ℓ) : Prop :=
  True

def quiescent_DecMla [hDecMla : Cert.DecMla.Facts] : Prop :=
  ∀ (m : (ℓ : Loc Cert.DecMla.nD Cert.DecMla.τ Cert.DecMla.sig) → Buf (Elt Bits) ℓ) (g : Dev Cert.DecMla.nD → PrngReg), Pre_DecMla m →
    θ_run (Cert.DecMla.defs (F := Bits)) (onTc (τ := Cert.DecMla.τ) (Cert.DecMla.main (F := Bits))) ⟨m, fun _ => 0, g⟩ (fun r => (∀ c : Dev Cert.DecMla.nD,
      r.2.mem ((c.tc : Thread Cert.DecMla.nD Cert.DecMla.τ).loc Cert.DecMla.main_arg0) = m ((c.tc : Thread Cert.DecMla.nD Cert.DecMla.τ).loc Cert.DecMla.main_arg0)
      ∧ r.2.mem ((c.tc : Thread Cert.DecMla.nD Cert.DecMla.τ).loc Cert.DecMla.main_arg1) = m ((c.tc : Thread Cert.DecMla.nD Cert.DecMla.τ).loc Cert.DecMla.main_arg1)
      ∧ r.2.mem ((c.tc : Thread Cert.DecMla.nD Cert.DecMla.τ).loc Cert.DecMla.main_arg2) = m ((c.tc : Thread Cert.DecMla.nD Cert.DecMla.τ).loc Cert.DecMla.main_arg2)
      ∧ r.2.mem ((c.tc : Thread Cert.DecMla.nD Cert.DecMla.τ).loc Cert.DecMla.main_arg3) = m ((c.tc : Thread Cert.DecMla.nD Cert.DecMla.τ).loc Cert.DecMla.main_arg3)
      ∧ r.2.mem ((c.tc : Thread Cert.DecMla.nD Cert.DecMla.τ).loc Cert.DecMla.main_arg4) = m ((c.tc : Thread Cert.DecMla.nD Cert.DecMla.τ).loc Cert.DecMla.main_arg4)
      ∧ r.2.mem ((c.tc : Thread Cert.DecMla.nD Cert.DecMla.τ).loc Cert.DecMla.main_arg5) = m ((c.tc : Thread Cert.DecMla.nD Cert.DecMla.τ).loc Cert.DecMla.main_arg5))
      ∧ r.2.sem = fun _ => 0)

def quiescent_DecMlaIdeal [hDecMlaIdeal : Cert.DecMlaIdeal.Facts] : Prop :=
  ∀ (m : (ℓ : Loc Cert.DecMlaIdeal.nD Cert.DecMlaIdeal.τ Cert.DecMlaIdeal.sig) → Buf (Elt Ideal) ℓ) (g : Dev Cert.DecMlaIdeal.nD → PrngReg), Pre_DecMlaIdeal m →
    θ_run (Cert.DecMlaIdeal.defs (F := Ideal)) (onTc (τ := Cert.DecMlaIdeal.τ) (Cert.DecMlaIdeal.main (F := Ideal))) ⟨m, fun _ => 0, g⟩ (fun r => (∀ c : Dev Cert.DecMlaIdeal.nD,
      r.2.mem ((c.tc : Thread Cert.DecMlaIdeal.nD Cert.DecMlaIdeal.τ).loc Cert.DecMlaIdeal.main_arg0) = m ((c.tc : Thread Cert.DecMlaIdeal.nD Cert.DecMlaIdeal.τ).loc Cert.DecMlaIdeal.main_arg0)
      ∧ r.2.mem ((c.tc : Thread Cert.DecMlaIdeal.nD Cert.DecMlaIdeal.τ).loc Cert.DecMlaIdeal.main_arg1) = m ((c.tc : Thread Cert.DecMlaIdeal.nD Cert.DecMlaIdeal.τ).loc Cert.DecMlaIdeal.main_arg1)
      ∧ r.2.mem ((c.tc : Thread Cert.DecMlaIdeal.nD Cert.DecMlaIdeal.τ).loc Cert.DecMlaIdeal.main_arg2) = m ((c.tc : Thread Cert.DecMlaIdeal.nD Cert.DecMlaIdeal.τ).loc Cert.DecMlaIdeal.main_arg2)
      ∧ r.2.mem ((c.tc : Thread Cert.DecMlaIdeal.nD Cert.DecMlaIdeal.τ).loc Cert.DecMlaIdeal.main_arg3) = m ((c.tc : Thread Cert.DecMlaIdeal.nD Cert.DecMlaIdeal.τ).loc Cert.DecMlaIdeal.main_arg3)
      ∧ r.2.mem ((c.tc : Thread Cert.DecMlaIdeal.nD Cert.DecMlaIdeal.τ).loc Cert.DecMlaIdeal.main_arg4) = m ((c.tc : Thread Cert.DecMlaIdeal.nD Cert.DecMlaIdeal.τ).loc Cert.DecMlaIdeal.main_arg4)
      ∧ r.2.mem ((c.tc : Thread Cert.DecMlaIdeal.nD Cert.DecMlaIdeal.τ).loc Cert.DecMlaIdeal.main_arg5) = m ((c.tc : Thread Cert.DecMlaIdeal.nD Cert.DecMlaIdeal.τ).loc Cert.DecMlaIdeal.main_arg5))
      ∧ r.2.sem = fun _ => 0)

def quiescent_DecMlaIdeal_pre_finite_mla [hDecMlaIdeal : Cert.DecMlaIdeal.Facts] [hPre_finite_mla : Cert.Pre_finite_mla.Facts] : Prop :=
  ∀ (m : (ℓ : Loc Cert.DecMlaIdeal.nD Cert.DecMlaIdeal.τ Cert.DecMlaIdeal.sig) → Buf (Elt Ideal) ℓ) (g : Dev Cert.DecMlaIdeal.nD → PrngReg), Pre_DecMlaIdeal_finite_mla m →
    θ_run (Cert.DecMlaIdeal.defs (F := Ideal)) (onTc (τ := Cert.DecMlaIdeal.τ) (Cert.DecMlaIdeal.main (F := Ideal))) ⟨m, fun _ => 0, g⟩ (fun r => (∀ c : Dev Cert.DecMlaIdeal.nD,
      r.2.mem ((c.tc : Thread Cert.DecMlaIdeal.nD Cert.DecMlaIdeal.τ).loc Cert.DecMlaIdeal.main_arg0) = m ((c.tc : Thread Cert.DecMlaIdeal.nD Cert.DecMlaIdeal.τ).loc Cert.DecMlaIdeal.main_arg0)
      ∧ r.2.mem ((c.tc : Thread Cert.DecMlaIdeal.nD Cert.DecMlaIdeal.τ).loc Cert.DecMlaIdeal.main_arg1) = m ((c.tc : Thread Cert.DecMlaIdeal.nD Cert.DecMlaIdeal.τ).loc Cert.DecMlaIdeal.main_arg1)
      ∧ r.2.mem ((c.tc : Thread Cert.DecMlaIdeal.nD Cert.DecMlaIdeal.τ).loc Cert.DecMlaIdeal.main_arg2) = m ((c.tc : Thread Cert.DecMlaIdeal.nD Cert.DecMlaIdeal.τ).loc Cert.DecMlaIdeal.main_arg2)
      ∧ r.2.mem ((c.tc : Thread Cert.DecMlaIdeal.nD Cert.DecMlaIdeal.τ).loc Cert.DecMlaIdeal.main_arg3) = m ((c.tc : Thread Cert.DecMlaIdeal.nD Cert.DecMlaIdeal.τ).loc Cert.DecMlaIdeal.main_arg3)
      ∧ r.2.mem ((c.tc : Thread Cert.DecMlaIdeal.nD Cert.DecMlaIdeal.τ).loc Cert.DecMlaIdeal.main_arg4) = m ((c.tc : Thread Cert.DecMlaIdeal.nD Cert.DecMlaIdeal.τ).loc Cert.DecMlaIdeal.main_arg4)
      ∧ r.2.mem ((c.tc : Thread Cert.DecMlaIdeal.nD Cert.DecMlaIdeal.τ).loc Cert.DecMlaIdeal.main_arg5) = m ((c.tc : Thread Cert.DecMlaIdeal.nD Cert.DecMlaIdeal.τ).loc Cert.DecMlaIdeal.main_arg5))
      ∧ r.2.sem = fun _ => 0)

def quiescent_DecMlaRefIdeal [hDecMlaRefIdeal : Cert.DecMlaRefIdeal.Facts] : Prop :=
  ∀ (m : (ℓ : Loc Cert.DecMlaRefIdeal.nD Cert.DecMlaRefIdeal.τ Cert.DecMlaRefIdeal.sig) → Buf (Elt Ideal) ℓ) (g : Dev Cert.DecMlaRefIdeal.nD → PrngReg), Pre_DecMlaRefIdeal m →
    θ_run (Cert.DecMlaRefIdeal.defs (F := Ideal)) (onTc (τ := Cert.DecMlaRefIdeal.τ) (Cert.DecMlaRefIdeal.main (F := Ideal))) ⟨m, fun _ => 0, g⟩ (fun r => (∀ c : Dev Cert.DecMlaRefIdeal.nD,
      r.2.mem ((c.tc : Thread Cert.DecMlaRefIdeal.nD Cert.DecMlaRefIdeal.τ).loc Cert.DecMlaRefIdeal.main_arg0) = m ((c.tc : Thread Cert.DecMlaRefIdeal.nD Cert.DecMlaRefIdeal.τ).loc Cert.DecMlaRefIdeal.main_arg0)
      ∧ r.2.mem ((c.tc : Thread Cert.DecMlaRefIdeal.nD Cert.DecMlaRefIdeal.τ).loc Cert.DecMlaRefIdeal.main_arg1) = m ((c.tc : Thread Cert.DecMlaRefIdeal.nD Cert.DecMlaRefIdeal.τ).loc Cert.DecMlaRefIdeal.main_arg1)
      ∧ r.2.mem ((c.tc : Thread Cert.DecMlaRefIdeal.nD Cert.DecMlaRefIdeal.τ).loc Cert.DecMlaRefIdeal.main_arg2) = m ((c.tc : Thread Cert.DecMlaRefIdeal.nD Cert.DecMlaRefIdeal.τ).loc Cert.DecMlaRefIdeal.main_arg2)
      ∧ r.2.mem ((c.tc : Thread Cert.DecMlaRefIdeal.nD Cert.DecMlaRefIdeal.τ).loc Cert.DecMlaRefIdeal.main_arg3) = m ((c.tc : Thread Cert.DecMlaRefIdeal.nD Cert.DecMlaRefIdeal.τ).loc Cert.DecMlaRefIdeal.main_arg3)
      ∧ r.2.mem ((c.tc : Thread Cert.DecMlaRefIdeal.nD Cert.DecMlaRefIdeal.τ).loc Cert.DecMlaRefIdeal.main_arg4) = m ((c.tc : Thread Cert.DecMlaRefIdeal.nD Cert.DecMlaRefIdeal.τ).loc Cert.DecMlaRefIdeal.main_arg4)
      ∧ r.2.mem ((c.tc : Thread Cert.DecMlaRefIdeal.nD Cert.DecMlaRefIdeal.τ).loc Cert.DecMlaRefIdeal.main_arg5) = m ((c.tc : Thread Cert.DecMlaRefIdeal.nD Cert.DecMlaRefIdeal.τ).loc Cert.DecMlaRefIdeal.main_arg5))
      ∧ r.2.sem = fun _ => 0)

def quiescent_DecMlaRefIdeal_pre_finite_mla [hDecMlaRefIdeal : Cert.DecMlaRefIdeal.Facts] [hPre_finite_mla : Cert.Pre_finite_mla.Facts] : Prop :=
  ∀ (m : (ℓ : Loc Cert.DecMlaRefIdeal.nD Cert.DecMlaRefIdeal.τ Cert.DecMlaRefIdeal.sig) → Buf (Elt Ideal) ℓ) (g : Dev Cert.DecMlaRefIdeal.nD → PrngReg), Pre_DecMlaRefIdeal_finite_mla m →
    θ_run (Cert.DecMlaRefIdeal.defs (F := Ideal)) (onTc (τ := Cert.DecMlaRefIdeal.τ) (Cert.DecMlaRefIdeal.main (F := Ideal))) ⟨m, fun _ => 0, g⟩ (fun r => (∀ c : Dev Cert.DecMlaRefIdeal.nD,
      r.2.mem ((c.tc : Thread Cert.DecMlaRefIdeal.nD Cert.DecMlaRefIdeal.τ).loc Cert.DecMlaRefIdeal.main_arg0) = m ((c.tc : Thread Cert.DecMlaRefIdeal.nD Cert.DecMlaRefIdeal.τ).loc Cert.DecMlaRefIdeal.main_arg0)
      ∧ r.2.mem ((c.tc : Thread Cert.DecMlaRefIdeal.nD Cert.DecMlaRefIdeal.τ).loc Cert.DecMlaRefIdeal.main_arg1) = m ((c.tc : Thread Cert.DecMlaRefIdeal.nD Cert.DecMlaRefIdeal.τ).loc Cert.DecMlaRefIdeal.main_arg1)
      ∧ r.2.mem ((c.tc : Thread Cert.DecMlaRefIdeal.nD Cert.DecMlaRefIdeal.τ).loc Cert.DecMlaRefIdeal.main_arg2) = m ((c.tc : Thread Cert.DecMlaRefIdeal.nD Cert.DecMlaRefIdeal.τ).loc Cert.DecMlaRefIdeal.main_arg2)
      ∧ r.2.mem ((c.tc : Thread Cert.DecMlaRefIdeal.nD Cert.DecMlaRefIdeal.τ).loc Cert.DecMlaRefIdeal.main_arg3) = m ((c.tc : Thread Cert.DecMlaRefIdeal.nD Cert.DecMlaRefIdeal.τ).loc Cert.DecMlaRefIdeal.main_arg3)
      ∧ r.2.mem ((c.tc : Thread Cert.DecMlaRefIdeal.nD Cert.DecMlaRefIdeal.τ).loc Cert.DecMlaRefIdeal.main_arg4) = m ((c.tc : Thread Cert.DecMlaRefIdeal.nD Cert.DecMlaRefIdeal.τ).loc Cert.DecMlaRefIdeal.main_arg4)
      ∧ r.2.mem ((c.tc : Thread Cert.DecMlaRefIdeal.nD Cert.DecMlaRefIdeal.τ).loc Cert.DecMlaRefIdeal.main_arg5) = m ((c.tc : Thread Cert.DecMlaRefIdeal.nD Cert.DecMlaRefIdeal.τ).loc Cert.DecMlaRefIdeal.main_arg5))
      ∧ r.2.sem = fun _ => 0)

def quiescent_DecDiff [hDecDiff : Cert.DecDiff.Facts] : Prop :=
  ∀ (m : (ℓ : Loc Cert.DecDiff.nD Cert.DecDiff.τ Cert.DecDiff.sig) → Buf (Elt Bits) ℓ) (g : Dev Cert.DecDiff.nD → PrngReg), Pre_DecDiff m →
    θ_run (Cert.DecDiff.defs (F := Bits)) (onTc (τ := Cert.DecDiff.τ) (Cert.DecDiff.main (F := Bits))) ⟨m, fun _ => 0, g⟩ (fun r => (∀ c : Dev Cert.DecDiff.nD,
      r.2.mem ((c.tc : Thread Cert.DecDiff.nD Cert.DecDiff.τ).loc Cert.DecDiff.main_arg0) = m ((c.tc : Thread Cert.DecDiff.nD Cert.DecDiff.τ).loc Cert.DecDiff.main_arg0)
      ∧ r.2.mem ((c.tc : Thread Cert.DecDiff.nD Cert.DecDiff.τ).loc Cert.DecDiff.main_arg1) = m ((c.tc : Thread Cert.DecDiff.nD Cert.DecDiff.τ).loc Cert.DecDiff.main_arg1)
      ∧ r.2.mem ((c.tc : Thread Cert.DecDiff.nD Cert.DecDiff.τ).loc Cert.DecDiff.main_arg2) = m ((c.tc : Thread Cert.DecDiff.nD Cert.DecDiff.τ).loc Cert.DecDiff.main_arg2)
      ∧ r.2.mem ((c.tc : Thread Cert.DecDiff.nD Cert.DecDiff.τ).loc Cert.DecDiff.main_arg3) = m ((c.tc : Thread Cert.DecDiff.nD Cert.DecDiff.τ).loc Cert.DecDiff.main_arg3)
      ∧ r.2.mem ((c.tc : Thread Cert.DecDiff.nD Cert.DecDiff.τ).loc Cert.DecDiff.main_arg4) = m ((c.tc : Thread Cert.DecDiff.nD Cert.DecDiff.τ).loc Cert.DecDiff.main_arg4)
      ∧ r.2.mem ((c.tc : Thread Cert.DecDiff.nD Cert.DecDiff.τ).loc Cert.DecDiff.main_arg5) = m ((c.tc : Thread Cert.DecDiff.nD Cert.DecDiff.τ).loc Cert.DecDiff.main_arg5)
      ∧ r.2.mem ((c.tc : Thread Cert.DecDiff.nD Cert.DecDiff.τ).loc Cert.DecDiff.main_arg6) = m ((c.tc : Thread Cert.DecDiff.nD Cert.DecDiff.τ).loc Cert.DecDiff.main_arg6)
      ∧ r.2.mem ((c.tc : Thread Cert.DecDiff.nD Cert.DecDiff.τ).loc Cert.DecDiff.main_arg7) = m ((c.tc : Thread Cert.DecDiff.nD Cert.DecDiff.τ).loc Cert.DecDiff.main_arg7)
      ∧ r.2.mem ((c.tc : Thread Cert.DecDiff.nD Cert.DecDiff.τ).loc Cert.DecDiff.main_arg8) = m ((c.tc : Thread Cert.DecDiff.nD Cert.DecDiff.τ).loc Cert.DecDiff.main_arg8))
      ∧ r.2.sem = fun _ => 0)

def quiescent_DecDiffIdeal [hDecDiffIdeal : Cert.DecDiffIdeal.Facts] : Prop :=
  ∀ (m : (ℓ : Loc Cert.DecDiffIdeal.nD Cert.DecDiffIdeal.τ Cert.DecDiffIdeal.sig) → Buf (Elt Ideal) ℓ) (g : Dev Cert.DecDiffIdeal.nD → PrngReg), Pre_DecDiffIdeal m →
    θ_run (Cert.DecDiffIdeal.defs (F := Ideal)) (onTc (τ := Cert.DecDiffIdeal.τ) (Cert.DecDiffIdeal.main (F := Ideal))) ⟨m, fun _ => 0, g⟩ (fun r => (∀ c : Dev Cert.DecDiffIdeal.nD,
      r.2.mem ((c.tc : Thread Cert.DecDiffIdeal.nD Cert.DecDiffIdeal.τ).loc Cert.DecDiffIdeal.main_arg0) = m ((c.tc : Thread Cert.DecDiffIdeal.nD Cert.DecDiffIdeal.τ).loc Cert.DecDiffIdeal.main_arg0)
      ∧ r.2.mem ((c.tc : Thread Cert.DecDiffIdeal.nD Cert.DecDiffIdeal.τ).loc Cert.DecDiffIdeal.main_arg1) = m ((c.tc : Thread Cert.DecDiffIdeal.nD Cert.DecDiffIdeal.τ).loc Cert.DecDiffIdeal.main_arg1)
      ∧ r.2.mem ((c.tc : Thread Cert.DecDiffIdeal.nD Cert.DecDiffIdeal.τ).loc Cert.DecDiffIdeal.main_arg2) = m ((c.tc : Thread Cert.DecDiffIdeal.nD Cert.DecDiffIdeal.τ).loc Cert.DecDiffIdeal.main_arg2)
      ∧ r.2.mem ((c.tc : Thread Cert.DecDiffIdeal.nD Cert.DecDiffIdeal.τ).loc Cert.DecDiffIdeal.main_arg3) = m ((c.tc : Thread Cert.DecDiffIdeal.nD Cert.DecDiffIdeal.τ).loc Cert.DecDiffIdeal.main_arg3)
      ∧ r.2.mem ((c.tc : Thread Cert.DecDiffIdeal.nD Cert.DecDiffIdeal.τ).loc Cert.DecDiffIdeal.main_arg4) = m ((c.tc : Thread Cert.DecDiffIdeal.nD Cert.DecDiffIdeal.τ).loc Cert.DecDiffIdeal.main_arg4)
      ∧ r.2.mem ((c.tc : Thread Cert.DecDiffIdeal.nD Cert.DecDiffIdeal.τ).loc Cert.DecDiffIdeal.main_arg5) = m ((c.tc : Thread Cert.DecDiffIdeal.nD Cert.DecDiffIdeal.τ).loc Cert.DecDiffIdeal.main_arg5)
      ∧ r.2.mem ((c.tc : Thread Cert.DecDiffIdeal.nD Cert.DecDiffIdeal.τ).loc Cert.DecDiffIdeal.main_arg6) = m ((c.tc : Thread Cert.DecDiffIdeal.nD Cert.DecDiffIdeal.τ).loc Cert.DecDiffIdeal.main_arg6)
      ∧ r.2.mem ((c.tc : Thread Cert.DecDiffIdeal.nD Cert.DecDiffIdeal.τ).loc Cert.DecDiffIdeal.main_arg7) = m ((c.tc : Thread Cert.DecDiffIdeal.nD Cert.DecDiffIdeal.τ).loc Cert.DecDiffIdeal.main_arg7)
      ∧ r.2.mem ((c.tc : Thread Cert.DecDiffIdeal.nD Cert.DecDiffIdeal.τ).loc Cert.DecDiffIdeal.main_arg8) = m ((c.tc : Thread Cert.DecDiffIdeal.nD Cert.DecDiffIdeal.τ).loc Cert.DecDiffIdeal.main_arg8))
      ∧ r.2.sem = fun _ => 0)

def quiescent_DecDiffIdeal_pre_finite_diff [hDecDiffIdeal : Cert.DecDiffIdeal.Facts] [hPre_finite_diff : Cert.Pre_finite_diff.Facts] : Prop :=
  ∀ (m : (ℓ : Loc Cert.DecDiffIdeal.nD Cert.DecDiffIdeal.τ Cert.DecDiffIdeal.sig) → Buf (Elt Ideal) ℓ) (g : Dev Cert.DecDiffIdeal.nD → PrngReg), Pre_DecDiffIdeal_finite_diff m →
    θ_run (Cert.DecDiffIdeal.defs (F := Ideal)) (onTc (τ := Cert.DecDiffIdeal.τ) (Cert.DecDiffIdeal.main (F := Ideal))) ⟨m, fun _ => 0, g⟩ (fun r => (∀ c : Dev Cert.DecDiffIdeal.nD,
      r.2.mem ((c.tc : Thread Cert.DecDiffIdeal.nD Cert.DecDiffIdeal.τ).loc Cert.DecDiffIdeal.main_arg0) = m ((c.tc : Thread Cert.DecDiffIdeal.nD Cert.DecDiffIdeal.τ).loc Cert.DecDiffIdeal.main_arg0)
      ∧ r.2.mem ((c.tc : Thread Cert.DecDiffIdeal.nD Cert.DecDiffIdeal.τ).loc Cert.DecDiffIdeal.main_arg1) = m ((c.tc : Thread Cert.DecDiffIdeal.nD Cert.DecDiffIdeal.τ).loc Cert.DecDiffIdeal.main_arg1)
      ∧ r.2.mem ((c.tc : Thread Cert.DecDiffIdeal.nD Cert.DecDiffIdeal.τ).loc Cert.DecDiffIdeal.main_arg2) = m ((c.tc : Thread Cert.DecDiffIdeal.nD Cert.DecDiffIdeal.τ).loc Cert.DecDiffIdeal.main_arg2)
      ∧ r.2.mem ((c.tc : Thread Cert.DecDiffIdeal.nD Cert.DecDiffIdeal.τ).loc Cert.DecDiffIdeal.main_arg3) = m ((c.tc : Thread Cert.DecDiffIdeal.nD Cert.DecDiffIdeal.τ).loc Cert.DecDiffIdeal.main_arg3)
      ∧ r.2.mem ((c.tc : Thread Cert.DecDiffIdeal.nD Cert.DecDiffIdeal.τ).loc Cert.DecDiffIdeal.main_arg4) = m ((c.tc : Thread Cert.DecDiffIdeal.nD Cert.DecDiffIdeal.τ).loc Cert.DecDiffIdeal.main_arg4)
      ∧ r.2.mem ((c.tc : Thread Cert.DecDiffIdeal.nD Cert.DecDiffIdeal.τ).loc Cert.DecDiffIdeal.main_arg5) = m ((c.tc : Thread Cert.DecDiffIdeal.nD Cert.DecDiffIdeal.τ).loc Cert.DecDiffIdeal.main_arg5)
      ∧ r.2.mem ((c.tc : Thread Cert.DecDiffIdeal.nD Cert.DecDiffIdeal.τ).loc Cert.DecDiffIdeal.main_arg6) = m ((c.tc : Thread Cert.DecDiffIdeal.nD Cert.DecDiffIdeal.τ).loc Cert.DecDiffIdeal.main_arg6)
      ∧ r.2.mem ((c.tc : Thread Cert.DecDiffIdeal.nD Cert.DecDiffIdeal.τ).loc Cert.DecDiffIdeal.main_arg7) = m ((c.tc : Thread Cert.DecDiffIdeal.nD Cert.DecDiffIdeal.τ).loc Cert.DecDiffIdeal.main_arg7)
      ∧ r.2.mem ((c.tc : Thread Cert.DecDiffIdeal.nD Cert.DecDiffIdeal.τ).loc Cert.DecDiffIdeal.main_arg8) = m ((c.tc : Thread Cert.DecDiffIdeal.nD Cert.DecDiffIdeal.τ).loc Cert.DecDiffIdeal.main_arg8))
      ∧ r.2.sem = fun _ => 0)

def quiescent_DecDiffRefIdeal [hDecDiffRefIdeal : Cert.DecDiffRefIdeal.Facts] : Prop :=
  ∀ (m : (ℓ : Loc Cert.DecDiffRefIdeal.nD Cert.DecDiffRefIdeal.τ Cert.DecDiffRefIdeal.sig) → Buf (Elt Ideal) ℓ) (g : Dev Cert.DecDiffRefIdeal.nD → PrngReg), Pre_DecDiffRefIdeal m →
    θ_run (Cert.DecDiffRefIdeal.defs (F := Ideal)) (onTc (τ := Cert.DecDiffRefIdeal.τ) (Cert.DecDiffRefIdeal.main (F := Ideal))) ⟨m, fun _ => 0, g⟩ (fun r => (∀ c : Dev Cert.DecDiffRefIdeal.nD,
      r.2.mem ((c.tc : Thread Cert.DecDiffRefIdeal.nD Cert.DecDiffRefIdeal.τ).loc Cert.DecDiffRefIdeal.main_arg0) = m ((c.tc : Thread Cert.DecDiffRefIdeal.nD Cert.DecDiffRefIdeal.τ).loc Cert.DecDiffRefIdeal.main_arg0)
      ∧ r.2.mem ((c.tc : Thread Cert.DecDiffRefIdeal.nD Cert.DecDiffRefIdeal.τ).loc Cert.DecDiffRefIdeal.main_arg1) = m ((c.tc : Thread Cert.DecDiffRefIdeal.nD Cert.DecDiffRefIdeal.τ).loc Cert.DecDiffRefIdeal.main_arg1)
      ∧ r.2.mem ((c.tc : Thread Cert.DecDiffRefIdeal.nD Cert.DecDiffRefIdeal.τ).loc Cert.DecDiffRefIdeal.main_arg2) = m ((c.tc : Thread Cert.DecDiffRefIdeal.nD Cert.DecDiffRefIdeal.τ).loc Cert.DecDiffRefIdeal.main_arg2)
      ∧ r.2.mem ((c.tc : Thread Cert.DecDiffRefIdeal.nD Cert.DecDiffRefIdeal.τ).loc Cert.DecDiffRefIdeal.main_arg3) = m ((c.tc : Thread Cert.DecDiffRefIdeal.nD Cert.DecDiffRefIdeal.τ).loc Cert.DecDiffRefIdeal.main_arg3)
      ∧ r.2.mem ((c.tc : Thread Cert.DecDiffRefIdeal.nD Cert.DecDiffRefIdeal.τ).loc Cert.DecDiffRefIdeal.main_arg4) = m ((c.tc : Thread Cert.DecDiffRefIdeal.nD Cert.DecDiffRefIdeal.τ).loc Cert.DecDiffRefIdeal.main_arg4)
      ∧ r.2.mem ((c.tc : Thread Cert.DecDiffRefIdeal.nD Cert.DecDiffRefIdeal.τ).loc Cert.DecDiffRefIdeal.main_arg5) = m ((c.tc : Thread Cert.DecDiffRefIdeal.nD Cert.DecDiffRefIdeal.τ).loc Cert.DecDiffRefIdeal.main_arg5)
      ∧ r.2.mem ((c.tc : Thread Cert.DecDiffRefIdeal.nD Cert.DecDiffRefIdeal.τ).loc Cert.DecDiffRefIdeal.main_arg6) = m ((c.tc : Thread Cert.DecDiffRefIdeal.nD Cert.DecDiffRefIdeal.τ).loc Cert.DecDiffRefIdeal.main_arg6)
      ∧ r.2.mem ((c.tc : Thread Cert.DecDiffRefIdeal.nD Cert.DecDiffRefIdeal.τ).loc Cert.DecDiffRefIdeal.main_arg7) = m ((c.tc : Thread Cert.DecDiffRefIdeal.nD Cert.DecDiffRefIdeal.τ).loc Cert.DecDiffRefIdeal.main_arg7)
      ∧ r.2.mem ((c.tc : Thread Cert.DecDiffRefIdeal.nD Cert.DecDiffRefIdeal.τ).loc Cert.DecDiffRefIdeal.main_arg8) = m ((c.tc : Thread Cert.DecDiffRefIdeal.nD Cert.DecDiffRefIdeal.τ).loc Cert.DecDiffRefIdeal.main_arg8))
      ∧ r.2.sem = fun _ => 0)

def quiescent_DecDiffRefIdeal_pre_finite_diff [hDecDiffRefIdeal : Cert.DecDiffRefIdeal.Facts] [hPre_finite_diff : Cert.Pre_finite_diff.Facts] : Prop :=
  ∀ (m : (ℓ : Loc Cert.DecDiffRefIdeal.nD Cert.DecDiffRefIdeal.τ Cert.DecDiffRefIdeal.sig) → Buf (Elt Ideal) ℓ) (g : Dev Cert.DecDiffRefIdeal.nD → PrngReg), Pre_DecDiffRefIdeal_finite_diff m →
    θ_run (Cert.DecDiffRefIdeal.defs (F := Ideal)) (onTc (τ := Cert.DecDiffRefIdeal.τ) (Cert.DecDiffRefIdeal.main (F := Ideal))) ⟨m, fun _ => 0, g⟩ (fun r => (∀ c : Dev Cert.DecDiffRefIdeal.nD,
      r.2.mem ((c.tc : Thread Cert.DecDiffRefIdeal.nD Cert.DecDiffRefIdeal.τ).loc Cert.DecDiffRefIdeal.main_arg0) = m ((c.tc : Thread Cert.DecDiffRefIdeal.nD Cert.DecDiffRefIdeal.τ).loc Cert.DecDiffRefIdeal.main_arg0)
      ∧ r.2.mem ((c.tc : Thread Cert.DecDiffRefIdeal.nD Cert.DecDiffRefIdeal.τ).loc Cert.DecDiffRefIdeal.main_arg1) = m ((c.tc : Thread Cert.DecDiffRefIdeal.nD Cert.DecDiffRefIdeal.τ).loc Cert.DecDiffRefIdeal.main_arg1)
      ∧ r.2.mem ((c.tc : Thread Cert.DecDiffRefIdeal.nD Cert.DecDiffRefIdeal.τ).loc Cert.DecDiffRefIdeal.main_arg2) = m ((c.tc : Thread Cert.DecDiffRefIdeal.nD Cert.DecDiffRefIdeal.τ).loc Cert.DecDiffRefIdeal.main_arg2)
      ∧ r.2.mem ((c.tc : Thread Cert.DecDiffRefIdeal.nD Cert.DecDiffRefIdeal.τ).loc Cert.DecDiffRefIdeal.main_arg3) = m ((c.tc : Thread Cert.DecDiffRefIdeal.nD Cert.DecDiffRefIdeal.τ).loc Cert.DecDiffRefIdeal.main_arg3)
      ∧ r.2.mem ((c.tc : Thread Cert.DecDiffRefIdeal.nD Cert.DecDiffRefIdeal.τ).loc Cert.DecDiffRefIdeal.main_arg4) = m ((c.tc : Thread Cert.DecDiffRefIdeal.nD Cert.DecDiffRefIdeal.τ).loc Cert.DecDiffRefIdeal.main_arg4)
      ∧ r.2.mem ((c.tc : Thread Cert.DecDiffRefIdeal.nD Cert.DecDiffRefIdeal.τ).loc Cert.DecDiffRefIdeal.main_arg5) = m ((c.tc : Thread Cert.DecDiffRefIdeal.nD Cert.DecDiffRefIdeal.τ).loc Cert.DecDiffRefIdeal.main_arg5)
      ∧ r.2.mem ((c.tc : Thread Cert.DecDiffRefIdeal.nD Cert.DecDiffRefIdeal.τ).loc Cert.DecDiffRefIdeal.main_arg6) = m ((c.tc : Thread Cert.DecDiffRefIdeal.nD Cert.DecDiffRefIdeal.τ).loc Cert.DecDiffRefIdeal.main_arg6)
      ∧ r.2.mem ((c.tc : Thread Cert.DecDiffRefIdeal.nD Cert.DecDiffRefIdeal.τ).loc Cert.DecDiffRefIdeal.main_arg7) = m ((c.tc : Thread Cert.DecDiffRefIdeal.nD Cert.DecDiffRefIdeal.τ).loc Cert.DecDiffRefIdeal.main_arg7)
      ∧ r.2.mem ((c.tc : Thread Cert.DecDiffRefIdeal.nD Cert.DecDiffRefIdeal.τ).loc Cert.DecDiffRefIdeal.main_arg8) = m ((c.tc : Thread Cert.DecDiffRefIdeal.nD Cert.DecDiffRefIdeal.τ).loc Cert.DecDiffRefIdeal.main_arg8))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8))
      ∧ r.2.sem = fun _ => 0)

def quiescent_OutFfnRefIdeal [hOutFfnRefIdeal : Cert.OutFfnRefIdeal.Facts] : Prop :=
  ∀ (m : (ℓ : Loc Cert.OutFfnRefIdeal.nD Cert.OutFfnRefIdeal.τ Cert.OutFfnRefIdeal.sig) → Buf (Elt Ideal) ℓ) (g : Dev Cert.OutFfnRefIdeal.nD → PrngReg), Pre_OutFfnRefIdeal m →
    θ_run (Cert.OutFfnRefIdeal.defs (F := Ideal)) (onTc (τ := Cert.OutFfnRefIdeal.τ) (Cert.OutFfnRefIdeal.main (F := Ideal))) ⟨m, fun _ => 0, g⟩ (fun r => (∀ c : Dev Cert.OutFfnRefIdeal.nD,
      r.2.mem ((c.tc : Thread Cert.OutFfnRefIdeal.nD Cert.OutFfnRefIdeal.τ).loc Cert.OutFfnRefIdeal.main_arg0) = m ((c.tc : Thread Cert.OutFfnRefIdeal.nD Cert.OutFfnRefIdeal.τ).loc Cert.OutFfnRefIdeal.main_arg0)
      ∧ r.2.mem ((c.tc : Thread Cert.OutFfnRefIdeal.nD Cert.OutFfnRefIdeal.τ).loc Cert.OutFfnRefIdeal.main_arg1) = m ((c.tc : Thread Cert.OutFfnRefIdeal.nD Cert.OutFfnRefIdeal.τ).loc Cert.OutFfnRefIdeal.main_arg1)
      ∧ r.2.mem ((c.tc : Thread Cert.OutFfnRefIdeal.nD Cert.OutFfnRefIdeal.τ).loc Cert.OutFfnRefIdeal.main_arg2) = m ((c.tc : Thread Cert.OutFfnRefIdeal.nD Cert.OutFfnRefIdeal.τ).loc Cert.OutFfnRefIdeal.main_arg2)
      ∧ r.2.mem ((c.tc : Thread Cert.OutFfnRefIdeal.nD Cert.OutFfnRefIdeal.τ).loc Cert.OutFfnRefIdeal.main_arg3) = m ((c.tc : Thread Cert.OutFfnRefIdeal.nD Cert.OutFfnRefIdeal.τ).loc Cert.OutFfnRefIdeal.main_arg3)
      ∧ r.2.mem ((c.tc : Thread Cert.OutFfnRefIdeal.nD Cert.OutFfnRefIdeal.τ).loc Cert.OutFfnRefIdeal.main_arg4) = m ((c.tc : Thread Cert.OutFfnRefIdeal.nD Cert.OutFfnRefIdeal.τ).loc Cert.OutFfnRefIdeal.main_arg4)
      ∧ r.2.mem ((c.tc : Thread Cert.OutFfnRefIdeal.nD Cert.OutFfnRefIdeal.τ).loc Cert.OutFfnRefIdeal.main_arg5) = m ((c.tc : Thread Cert.OutFfnRefIdeal.nD Cert.OutFfnRefIdeal.τ).loc Cert.OutFfnRefIdeal.main_arg5)
      ∧ r.2.mem ((c.tc : Thread Cert.OutFfnRefIdeal.nD Cert.OutFfnRefIdeal.τ).loc Cert.OutFfnRefIdeal.main_arg6) = m ((c.tc : Thread Cert.OutFfnRefIdeal.nD Cert.OutFfnRefIdeal.τ).loc Cert.OutFfnRefIdeal.main_arg6)
      ∧ r.2.mem ((c.tc : Thread Cert.OutFfnRefIdeal.nD Cert.OutFfnRefIdeal.τ).loc Cert.OutFfnRefIdeal.main_arg7) = m ((c.tc : Thread Cert.OutFfnRefIdeal.nD Cert.OutFfnRefIdeal.τ).loc Cert.OutFfnRefIdeal.main_arg7)
      ∧ r.2.mem ((c.tc : Thread Cert.OutFfnRefIdeal.nD Cert.OutFfnRefIdeal.τ).loc Cert.OutFfnRefIdeal.main_arg8) = m ((c.tc : Thread Cert.OutFfnRefIdeal.nD Cert.OutFfnRefIdeal.τ).loc Cert.OutFfnRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_OutFfnS [hOutFfnS : Cert.OutFfnS.Facts] : Prop :=
  ∀ (m : (ℓ : Loc Cert.OutFfnS.nD Cert.OutFfnS.τ Cert.OutFfnS.sig) → Buf (Elt Bits) ℓ) (g : Dev Cert.OutFfnS.nD → PrngReg), Pre_OutFfnS m →
    θ_run (Cert.OutFfnS.defs (F := Bits)) (onTc (τ := Cert.OutFfnS.τ) (Cert.OutFfnS.main (F := Bits))) ⟨m, fun _ => 0, g⟩ (fun r => (∀ c : Dev Cert.OutFfnS.nD,
      r.2.mem ((c.tc : Thread Cert.OutFfnS.nD Cert.OutFfnS.τ).loc Cert.OutFfnS.main_arg0) = m ((c.tc : Thread Cert.OutFfnS.nD Cert.OutFfnS.τ).loc Cert.OutFfnS.main_arg0)
      ∧ r.2.mem ((c.tc : Thread Cert.OutFfnS.nD Cert.OutFfnS.τ).loc Cert.OutFfnS.main_arg1) = m ((c.tc : Thread Cert.OutFfnS.nD Cert.OutFfnS.τ).loc Cert.OutFfnS.main_arg1)
      ∧ r.2.mem ((c.tc : Thread Cert.OutFfnS.nD Cert.OutFfnS.τ).loc Cert.OutFfnS.main_arg2) = m ((c.tc : Thread Cert.OutFfnS.nD Cert.OutFfnS.τ).loc Cert.OutFfnS.main_arg2)
      ∧ r.2.mem ((c.tc : Thread Cert.OutFfnS.nD Cert.OutFfnS.τ).loc Cert.OutFfnS.main_arg3) = m ((c.tc : Thread Cert.OutFfnS.nD Cert.OutFfnS.τ).loc Cert.OutFfnS.main_arg3)
      ∧ r.2.mem ((c.tc : Thread Cert.OutFfnS.nD Cert.OutFfnS.τ).loc Cert.OutFfnS.main_arg4) = m ((c.tc : Thread Cert.OutFfnS.nD Cert.OutFfnS.τ).loc Cert.OutFfnS.main_arg4)
      ∧ r.2.mem ((c.tc : Thread Cert.OutFfnS.nD Cert.OutFfnS.τ).loc Cert.OutFfnS.main_arg5) = m ((c.tc : Thread Cert.OutFfnS.nD Cert.OutFfnS.τ).loc Cert.OutFfnS.main_arg5)
      ∧ r.2.mem ((c.tc : Thread Cert.OutFfnS.nD Cert.OutFfnS.τ).loc Cert.OutFfnS.main_arg6) = m ((c.tc : Thread Cert.OutFfnS.nD Cert.OutFfnS.τ).loc Cert.OutFfnS.main_arg6)
      ∧ r.2.mem ((c.tc : Thread Cert.OutFfnS.nD Cert.OutFfnS.τ).loc Cert.OutFfnS.main_arg7) = m ((c.tc : Thread Cert.OutFfnS.nD Cert.OutFfnS.τ).loc Cert.OutFfnS.main_arg7)
      ∧ r.2.mem ((c.tc : Thread Cert.OutFfnS.nD Cert.OutFfnS.τ).loc Cert.OutFfnS.main_arg8) = m ((c.tc : Thread Cert.OutFfnS.nD Cert.OutFfnS.τ).loc Cert.OutFfnS.main_arg8))
      ∧ r.2.sem = fun _ => 0)

def quiescent_OutFfnSIdeal [hOutFfnSIdeal : Cert.OutFfnSIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg), Pre_OutFfnSIdeal m →
    θ_run (Cert.OutFfnSIdeal.defs (F := Ideal)) (onTc (τ := Cert.OutFfnSIdeal.τ) (Cert.OutFfnSIdeal.main (F := Ideal))) ⟨m, fun _ => 0, g⟩ (fun r => (∀ c : Dev Cert.OutFfnSIdeal.nD,
      r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
      ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
      ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
      ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
      ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
      ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
      ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6)
      ∧ r.2.mem ((c.tc : Thread Cert.OutFfnSIdeal.nD Cert.OutFfnSIdeal.τ).loc Cert.OutFfnSIdeal.main_arg7) = m ((c.tc : Thread Cert.OutFfnSIdeal.nD Cert.OutFfnSIdeal.τ).loc Cert.OutFfnSIdeal.main_arg7)
      ∧ r.2.mem ((c.tc : Thread Cert.OutFfnSIdeal.nD Cert.OutFfnSIdeal.τ).loc Cert.OutFfnSIdeal.main_arg8) = m ((c.tc : Thread Cert.OutFfnSIdeal.nD Cert.OutFfnSIdeal.τ).loc Cert.OutFfnSIdeal.main_arg8))
      ∧ r.2.sem = fun _ => 0)

def quiescent_OutFfnSRefIdeal [hOutFfnSRefIdeal : Cert.OutFfnSRefIdeal.Facts] : Prop :=
  ∀ (m : (ℓ : Loc Cert.OutFfnSRefIdeal.nD Cert.OutFfnSRefIdeal.τ Cert.OutFfnSRefIdeal.sig) → Buf (Elt Ideal) ℓ) (g : Dev Cert.OutFfnSRefIdeal.nD → PrngReg), Pre_OutFfnSRefIdeal m →
    θ_run (Cert.OutFfnSRefIdeal.defs (F := Ideal)) (onTc (τ := Cert.OutFfnSRefIdeal.τ) (Cert.OutFfnSRefIdeal.main (F := Ideal))) ⟨m, fun _ => 0, g⟩ (fun r => (∀ c : Dev Cert.OutFfnSRefIdeal.nD,
      r.2.mem ((c.tc : Thread Cert.OutFfnSRefIdeal.nD Cert.OutFfnSRefIdeal.τ).loc Cert.OutFfnSRefIdeal.main_arg0) = m ((c.tc : Thread Cert.OutFfnSRefIdeal.nD Cert.OutFfnSRefIdeal.τ).loc Cert.OutFfnSRefIdeal.main_arg0)
      ∧ r.2.mem ((c.tc : Thread Cert.OutFfnSRefIdeal.nD Cert.OutFfnSRefIdeal.τ).loc Cert.OutFfnSRefIdeal.main_arg1) = m ((c.tc : Thread Cert.OutFfnSRefIdeal.nD Cert.OutFfnSRefIdeal.τ).loc Cert.OutFfnSRefIdeal.main_arg1)
      ∧ r.2.mem ((c.tc : Thread Cert.OutFfnSRefIdeal.nD Cert.OutFfnSRefIdeal.τ).loc Cert.OutFfnSRefIdeal.main_arg2) = m ((c.tc : Thread Cert.OutFfnSRefIdeal.nD Cert.OutFfnSRefIdeal.τ).loc Cert.OutFfnSRefIdeal.main_arg2)
      ∧ r.2.mem ((c.tc : Thread Cert.OutFfnSRefIdeal.nD Cert.OutFfnSRefIdeal.τ).loc Cert.OutFfnSRefIdeal.main_arg3) = m ((c.tc : Thread Cert.OutFfnSRefIdeal.nD Cert.OutFfnSRefIdeal.τ).loc Cert.OutFfnSRefIdeal.main_arg3)
      ∧ r.2.mem ((c.tc : Thread Cert.OutFfnSRefIdeal.nD Cert.OutFfnSRefIdeal.τ).loc Cert.OutFfnSRefIdeal.main_arg4) = m ((c.tc : Thread Cert.OutFfnSRefIdeal.nD Cert.OutFfnSRefIdeal.τ).loc Cert.OutFfnSRefIdeal.main_arg4)
      ∧ r.2.mem ((c.tc : Thread Cert.OutFfnSRefIdeal.nD Cert.OutFfnSRefIdeal.τ).loc Cert.OutFfnSRefIdeal.main_arg5) = m ((c.tc : Thread Cert.OutFfnSRefIdeal.nD Cert.OutFfnSRefIdeal.τ).loc Cert.OutFfnSRefIdeal.main_arg5)
      ∧ r.2.mem ((c.tc : Thread Cert.OutFfnSRefIdeal.nD Cert.OutFfnSRefIdeal.τ).loc Cert.OutFfnSRefIdeal.main_arg6) = m ((c.tc : Thread Cert.OutFfnSRefIdeal.nD Cert.OutFfnSRefIdeal.τ).loc Cert.OutFfnSRefIdeal.main_arg6)
      ∧ r.2.mem ((c.tc : Thread Cert.OutFfnSRefIdeal.nD Cert.OutFfnSRefIdeal.τ).loc Cert.OutFfnSRefIdeal.main_arg7) = m ((c.tc : Thread Cert.OutFfnSRefIdeal.nD Cert.OutFfnSRefIdeal.τ).loc Cert.OutFfnSRefIdeal.main_arg7)
      ∧ r.2.mem ((c.tc : Thread Cert.OutFfnSRefIdeal.nD Cert.OutFfnSRefIdeal.τ).loc Cert.OutFfnSRefIdeal.main_arg8) = m ((c.tc : Thread Cert.OutFfnSRefIdeal.nD Cert.OutFfnSRefIdeal.τ).loc Cert.OutFfnSRefIdeal.main_arg8))
      ∧ r.2.sem = fun _ => 0)

def quiescent_ProjP [hProjP : Cert.ProjP.Facts] : Prop :=
  ∀ (m : (ℓ : Loc Cert.ProjP.nD Cert.ProjP.τ Cert.ProjP.sig) → Buf (Elt Bits) ℓ) (g : Dev Cert.ProjP.nD → PrngReg), Pre_ProjP m →
    θ_run (Cert.ProjP.defs (F := Bits)) (onTc (τ := Cert.ProjP.τ) (Cert.ProjP.main (F := Bits))) ⟨m, fun _ => 0, g⟩ (fun r => (∀ c : Dev Cert.ProjP.nD,
      r.2.mem ((c.tc : Thread Cert.ProjP.nD Cert.ProjP.τ).loc Cert.ProjP.main_arg0) = m ((c.tc : Thread Cert.ProjP.nD Cert.ProjP.τ).loc Cert.ProjP.main_arg0)
      ∧ r.2.mem ((c.tc : Thread Cert.ProjP.nD Cert.ProjP.τ).loc Cert.ProjP.main_arg1) = m ((c.tc : Thread Cert.ProjP.nD Cert.ProjP.τ).loc Cert.ProjP.main_arg1)
      ∧ r.2.mem ((c.tc : Thread Cert.ProjP.nD Cert.ProjP.τ).loc Cert.ProjP.main_arg2) = m ((c.tc : Thread Cert.ProjP.nD Cert.ProjP.τ).loc Cert.ProjP.main_arg2)
      ∧ r.2.mem ((c.tc : Thread Cert.ProjP.nD Cert.ProjP.τ).loc Cert.ProjP.main_arg3) = m ((c.tc : Thread Cert.ProjP.nD Cert.ProjP.τ).loc Cert.ProjP.main_arg3)
      ∧ r.2.mem ((c.tc : Thread Cert.ProjP.nD Cert.ProjP.τ).loc Cert.ProjP.main_arg4) = m ((c.tc : Thread Cert.ProjP.nD Cert.ProjP.τ).loc Cert.ProjP.main_arg4)
      ∧ r.2.mem ((c.tc : Thread Cert.ProjP.nD Cert.ProjP.τ).loc Cert.ProjP.main_arg5) = m ((c.tc : Thread Cert.ProjP.nD Cert.ProjP.τ).loc Cert.ProjP.main_arg5)
      ∧ r.2.mem ((c.tc : Thread Cert.ProjP.nD Cert.ProjP.τ).loc Cert.ProjP.main_arg6) = m ((c.tc : Thread Cert.ProjP.nD Cert.ProjP.τ).loc Cert.ProjP.main_arg6))
      ∧ r.2.sem = fun _ => 0)

def quiescent_ProjPIdeal [hProjPIdeal : Cert.ProjPIdeal.Facts] : Prop :=
  ∀ (m : (ℓ : Loc Cert.ProjPIdeal.nD Cert.ProjPIdeal.τ Cert.ProjPIdeal.sig) → Buf (Elt Ideal) ℓ) (g : Dev Cert.ProjPIdeal.nD → PrngReg), Pre_ProjPIdeal m →
    θ_run (Cert.ProjPIdeal.defs (F := Ideal)) (onTc (τ := Cert.ProjPIdeal.τ) (Cert.ProjPIdeal.main (F := Ideal))) ⟨m, fun _ => 0, g⟩ (fun r => (∀ c : Dev Cert.ProjPIdeal.nD,
      r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
      ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
      ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
      ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3)
      ∧ r.2.mem ((c.tc : Thread Cert.ProjPIdeal.nD Cert.ProjPIdeal.τ).loc Cert.ProjPIdeal.main_arg4) = m ((c.tc : Thread Cert.ProjPIdeal.nD Cert.ProjPIdeal.τ).loc Cert.ProjPIdeal.main_arg4)
      ∧ r.2.mem ((c.tc : Thread Cert.ProjPIdeal.nD Cert.ProjPIdeal.τ).loc Cert.ProjPIdeal.main_arg5) = m ((c.tc : Thread Cert.ProjPIdeal.nD Cert.ProjPIdeal.τ).loc Cert.ProjPIdeal.main_arg5)
      ∧ r.2.mem ((c.tc : Thread Cert.ProjPIdeal.nD Cert.ProjPIdeal.τ).loc Cert.ProjPIdeal.main_arg6) = m ((c.tc : Thread Cert.ProjPIdeal.nD Cert.ProjPIdeal.τ).loc Cert.ProjPIdeal.main_arg6))
      ∧ r.2.sem = fun _ => 0)

def quiescent_ProjPRefIdeal [hProjPRefIdeal : Cert.ProjPRefIdeal.Facts] : Prop :=
  ∀ (m : (ℓ : Loc Cert.ProjPRefIdeal.nD Cert.ProjPRefIdeal.τ Cert.ProjPRefIdeal.sig) → Buf (Elt Ideal) ℓ) (g : Dev Cert.ProjPRefIdeal.nD → PrngReg), Pre_ProjPRefIdeal m →
    θ_run (Cert.ProjPRefIdeal.defs (F := Ideal)) (onTc (τ := Cert.ProjPRefIdeal.τ) (Cert.ProjPRefIdeal.main (F := Ideal))) ⟨m, fun _ => 0, g⟩ (fun r => (∀ c : Dev Cert.ProjPRefIdeal.nD,
      r.2.mem ((c.tc : Thread Cert.ProjPRefIdeal.nD Cert.ProjPRefIdeal.τ).loc Cert.ProjPRefIdeal.main_arg0) = m ((c.tc : Thread Cert.ProjPRefIdeal.nD Cert.ProjPRefIdeal.τ).loc Cert.ProjPRefIdeal.main_arg0)
      ∧ r.2.mem ((c.tc : Thread Cert.ProjPRefIdeal.nD Cert.ProjPRefIdeal.τ).loc Cert.ProjPRefIdeal.main_arg1) = m ((c.tc : Thread Cert.ProjPRefIdeal.nD Cert.ProjPRefIdeal.τ).loc Cert.ProjPRefIdeal.main_arg1)
      ∧ r.2.mem ((c.tc : Thread Cert.ProjPRefIdeal.nD Cert.ProjPRefIdeal.τ).loc Cert.ProjPRefIdeal.main_arg2) = m ((c.tc : Thread Cert.ProjPRefIdeal.nD Cert.ProjPRefIdeal.τ).loc Cert.ProjPRefIdeal.main_arg2)
      ∧ r.2.mem ((c.tc : Thread Cert.ProjPRefIdeal.nD Cert.ProjPRefIdeal.τ).loc Cert.ProjPRefIdeal.main_arg3) = m ((c.tc : Thread Cert.ProjPRefIdeal.nD Cert.ProjPRefIdeal.τ).loc Cert.ProjPRefIdeal.main_arg3)
      ∧ r.2.mem ((c.tc : Thread Cert.ProjPRefIdeal.nD Cert.ProjPRefIdeal.τ).loc Cert.ProjPRefIdeal.main_arg4) = m ((c.tc : Thread Cert.ProjPRefIdeal.nD Cert.ProjPRefIdeal.τ).loc Cert.ProjPRefIdeal.main_arg4)
      ∧ r.2.mem ((c.tc : Thread Cert.ProjPRefIdeal.nD Cert.ProjPRefIdeal.τ).loc Cert.ProjPRefIdeal.main_arg5) = m ((c.tc : Thread Cert.ProjPRefIdeal.nD Cert.ProjPRefIdeal.τ).loc Cert.ProjPRefIdeal.main_arg5)
      ∧ r.2.mem ((c.tc : Thread Cert.ProjPRefIdeal.nD Cert.ProjPRefIdeal.τ).loc Cert.ProjPRefIdeal.main_arg6) = m ((c.tc : Thread Cert.ProjPRefIdeal.nD Cert.ProjPRefIdeal.τ).loc Cert.ProjPRefIdeal.main_arg6))
      ∧ r.2.sem = fun _ => 0)

def preserves_DecMla_DecMlaIdeal : Prop :=
  True

def algebraic_DecMlaIdeal_DecMlaRefIdeal_pre_finite_mla [hDecMlaIdeal : Cert.DecMlaIdeal.Facts] [hDecMlaRefIdeal : Cert.DecMlaRefIdeal.Facts] [hPre_finite_mla : Cert.Pre_finite_mla.Facts] : Prop :=
  ∀ (m : (ℓ : Loc Cert.DecMlaIdeal.nD Cert.DecMlaIdeal.τ Cert.DecMlaIdeal.sig) → Buf (Elt Ideal) ℓ) (g : Dev Cert.DecMlaIdeal.nD → PrngReg)
    (m' : (ℓ : Loc Cert.DecMlaRefIdeal.nD Cert.DecMlaRefIdeal.τ Cert.DecMlaRefIdeal.sig) → Buf (Elt Ideal) ℓ) (g' : Dev Cert.DecMlaRefIdeal.nD → PrngReg), Pre_DecMlaIdeal_finite_mla m →
    (∀ c : Dev Cert.DecMlaIdeal.nD,
      m' ((c.tc : Thread Cert.DecMlaRefIdeal.nD Cert.DecMlaRefIdeal.τ).loc Cert.DecMlaRefIdeal.main_arg0) = m ((c.tc : Thread Cert.DecMlaIdeal.nD Cert.DecMlaIdeal.τ).loc Cert.DecMlaIdeal.main_arg0)
      ∧ m' ((c.tc : Thread Cert.DecMlaRefIdeal.nD Cert.DecMlaRefIdeal.τ).loc Cert.DecMlaRefIdeal.main_arg1) = m ((c.tc : Thread Cert.DecMlaIdeal.nD Cert.DecMlaIdeal.τ).loc Cert.DecMlaIdeal.main_arg1)
      ∧ m' ((c.tc : Thread Cert.DecMlaRefIdeal.nD Cert.DecMlaRefIdeal.τ).loc Cert.DecMlaRefIdeal.main_arg2) = m ((c.tc : Thread Cert.DecMlaIdeal.nD Cert.DecMlaIdeal.τ).loc Cert.DecMlaIdeal.main_arg2)
      ∧ m' ((c.tc : Thread Cert.DecMlaRefIdeal.nD Cert.DecMlaRefIdeal.τ).loc Cert.DecMlaRefIdeal.main_arg3) = m ((c.tc : Thread Cert.DecMlaIdeal.nD Cert.DecMlaIdeal.τ).loc Cert.DecMlaIdeal.main_arg3)
      ∧ m' ((c.tc : Thread Cert.DecMlaRefIdeal.nD Cert.DecMlaRefIdeal.τ).loc Cert.DecMlaRefIdeal.main_arg4) = m ((c.tc : Thread Cert.DecMlaIdeal.nD Cert.DecMlaIdeal.τ).loc Cert.DecMlaIdeal.main_arg4)
      ∧ m' ((c.tc : Thread Cert.DecMlaRefIdeal.nD Cert.DecMlaRefIdeal.τ).loc Cert.DecMlaRefIdeal.main_arg5) = m ((c.tc : Thread Cert.DecMlaIdeal.nD Cert.DecMlaIdeal.τ).loc Cert.DecMlaIdeal.main_arg5)) →
    ∃ (v0 : (c : Dev Cert.DecMlaIdeal.nD) → Buf (Elt Ideal) ((c.tc : Thread Cert.DecMlaIdeal.nD Cert.DecMlaIdeal.τ).loc Cert.DecMlaIdeal.main_v3)),
      θ_run (Cert.DecMlaIdeal.defs (F := Ideal)) (onTc (τ := Cert.DecMlaIdeal.τ) (Cert.DecMlaIdeal.main (F := Ideal))) ⟨m, fun _ => 0, g⟩ (fun r => ∀ c : Dev Cert.DecMlaIdeal.nD,
          r.2.mem ((c.tc : Thread Cert.DecMlaIdeal.nD Cert.DecMlaIdeal.τ).loc Cert.DecMlaIdeal.main_v3) = v0 c
          ∧ r.2.mem ((c.tc : Thread Cert.DecMlaIdeal.nD Cert.DecMlaIdeal.τ).loc Cert.DecMlaIdeal.main_arg0) = m ((c.tc : Thread Cert.DecMlaIdeal.nD Cert.DecMlaIdeal.τ).loc Cert.DecMlaIdeal.main_arg0)
          ∧ r.2.mem ((c.tc : Thread Cert.DecMlaIdeal.nD Cert.DecMlaIdeal.τ).loc Cert.DecMlaIdeal.main_arg1) = m ((c.tc : Thread Cert.DecMlaIdeal.nD Cert.DecMlaIdeal.τ).loc Cert.DecMlaIdeal.main_arg1)
          ∧ r.2.mem ((c.tc : Thread Cert.DecMlaIdeal.nD Cert.DecMlaIdeal.τ).loc Cert.DecMlaIdeal.main_arg2) = m ((c.tc : Thread Cert.DecMlaIdeal.nD Cert.DecMlaIdeal.τ).loc Cert.DecMlaIdeal.main_arg2)
          ∧ r.2.mem ((c.tc : Thread Cert.DecMlaIdeal.nD Cert.DecMlaIdeal.τ).loc Cert.DecMlaIdeal.main_arg3) = m ((c.tc : Thread Cert.DecMlaIdeal.nD Cert.DecMlaIdeal.τ).loc Cert.DecMlaIdeal.main_arg3)
          ∧ r.2.mem ((c.tc : Thread Cert.DecMlaIdeal.nD Cert.DecMlaIdeal.τ).loc Cert.DecMlaIdeal.main_arg4) = m ((c.tc : Thread Cert.DecMlaIdeal.nD Cert.DecMlaIdeal.τ).loc Cert.DecMlaIdeal.main_arg4)
          ∧ r.2.mem ((c.tc : Thread Cert.DecMlaIdeal.nD Cert.DecMlaIdeal.τ).loc Cert.DecMlaIdeal.main_arg5) = m ((c.tc : Thread Cert.DecMlaIdeal.nD Cert.DecMlaIdeal.τ).loc Cert.DecMlaIdeal.main_arg5))
      ∧ θ_run (Cert.DecMlaRefIdeal.defs (F := Ideal)) (onTc (τ := Cert.DecMlaRefIdeal.τ) (Cert.DecMlaRefIdeal.main (F := Ideal))) ⟨m', fun _ => 0, g'⟩ (fun r => ∀ c : Dev Cert.DecMlaRefIdeal.nD,
          r.2.mem ((c.tc : Thread Cert.DecMlaRefIdeal.nD Cert.DecMlaRefIdeal.τ).loc Cert.DecMlaRefIdeal.main_v47) = v0 c
          ∧ r.2.mem ((c.tc : Thread Cert.DecMlaRefIdeal.nD Cert.DecMlaRefIdeal.τ).loc Cert.DecMlaRefIdeal.main_arg0) = m' ((c.tc : Thread Cert.DecMlaRefIdeal.nD Cert.DecMlaRefIdeal.τ).loc Cert.DecMlaRefIdeal.main_arg0)
          ∧ r.2.mem ((c.tc : Thread Cert.DecMlaRefIdeal.nD Cert.DecMlaRefIdeal.τ).loc Cert.DecMlaRefIdeal.main_arg1) = m' ((c.tc : Thread Cert.DecMlaRefIdeal.nD Cert.DecMlaRefIdeal.τ).loc Cert.DecMlaRefIdeal.main_arg1)
          ∧ r.2.mem ((c.tc : Thread Cert.DecMlaRefIdeal.nD Cert.DecMlaRefIdeal.τ).loc Cert.DecMlaRefIdeal.main_arg2) = m' ((c.tc : Thread Cert.DecMlaRefIdeal.nD Cert.DecMlaRefIdeal.τ).loc Cert.DecMlaRefIdeal.main_arg2)
          ∧ r.2.mem ((c.tc : Thread Cert.DecMlaRefIdeal.nD Cert.DecMlaRefIdeal.τ).loc Cert.DecMlaRefIdeal.main_arg3) = m' ((c.tc : Thread Cert.DecMlaRefIdeal.nD Cert.DecMlaRefIdeal.τ).loc Cert.DecMlaRefIdeal.main_arg3)
          ∧ r.2.mem ((c.tc : Thread Cert.DecMlaRefIdeal.nD Cert.DecMlaRefIdeal.τ).loc Cert.DecMlaRefIdeal.main_arg4) = m' ((c.tc : Thread Cert.DecMlaRefIdeal.nD Cert.DecMlaRefIdeal.τ).loc Cert.DecMlaRefIdeal.main_arg4)
          ∧ r.2.mem ((c.tc : Thread Cert.DecMlaRefIdeal.nD Cert.DecMlaRefIdeal.τ).loc Cert.DecMlaRefIdeal.main_arg5) = m' ((c.tc : Thread Cert.DecMlaRefIdeal.nD Cert.DecMlaRefIdeal.τ).loc Cert.DecMlaRefIdeal.main_arg5))

def preserves_DecDiff_DecDiffIdeal : Prop :=
  True

def algebraic_DecDiffIdeal_DecDiffRefIdeal_pre_finite_diff [hDecDiffIdeal : Cert.DecDiffIdeal.Facts] [hDecDiffRefIdeal : Cert.DecDiffRefIdeal.Facts] [hPre_finite_diff : Cert.Pre_finite_diff.Facts] : Prop :=
  ∀ (m : (ℓ : Loc Cert.DecDiffIdeal.nD Cert.DecDiffIdeal.τ Cert.DecDiffIdeal.sig) → Buf (Elt Ideal) ℓ) (g : Dev Cert.DecDiffIdeal.nD → PrngReg)
    (m' : (ℓ : Loc Cert.DecDiffRefIdeal.nD Cert.DecDiffRefIdeal.τ Cert.DecDiffRefIdeal.sig) → Buf (Elt Ideal) ℓ) (g' : Dev Cert.DecDiffRefIdeal.nD → PrngReg), Pre_DecDiffIdeal_finite_diff m →
    (∀ c : Dev Cert.DecDiffIdeal.nD,
      m' ((c.tc : Thread Cert.DecDiffRefIdeal.nD Cert.DecDiffRefIdeal.τ).loc Cert.DecDiffRefIdeal.main_arg0) = m ((c.tc : Thread Cert.DecDiffIdeal.nD Cert.DecDiffIdeal.τ).loc Cert.DecDiffIdeal.main_arg0)
      ∧ m' ((c.tc : Thread Cert.DecDiffRefIdeal.nD Cert.DecDiffRefIdeal.τ).loc Cert.DecDiffRefIdeal.main_arg1) = m ((c.tc : Thread Cert.DecDiffIdeal.nD Cert.DecDiffIdeal.τ).loc Cert.DecDiffIdeal.main_arg1)
      ∧ m' ((c.tc : Thread Cert.DecDiffRefIdeal.nD Cert.DecDiffRefIdeal.τ).loc Cert.DecDiffRefIdeal.main_arg2) = m ((c.tc : Thread Cert.DecDiffIdeal.nD Cert.DecDiffIdeal.τ).loc Cert.DecDiffIdeal.main_arg2)
      ∧ m' ((c.tc : Thread Cert.DecDiffRefIdeal.nD Cert.DecDiffRefIdeal.τ).loc Cert.DecDiffRefIdeal.main_arg3) = m ((c.tc : Thread Cert.DecDiffIdeal.nD Cert.DecDiffIdeal.τ).loc Cert.DecDiffIdeal.main_arg3)
      ∧ m' ((c.tc : Thread Cert.DecDiffRefIdeal.nD Cert.DecDiffRefIdeal.τ).loc Cert.DecDiffRefIdeal.main_arg4) = m ((c.tc : Thread Cert.DecDiffIdeal.nD Cert.DecDiffIdeal.τ).loc Cert.DecDiffIdeal.main_arg4)
      ∧ m' ((c.tc : Thread Cert.DecDiffRefIdeal.nD Cert.DecDiffRefIdeal.τ).loc Cert.DecDiffRefIdeal.main_arg5) = m ((c.tc : Thread Cert.DecDiffIdeal.nD Cert.DecDiffIdeal.τ).loc Cert.DecDiffIdeal.main_arg5)
      ∧ m' ((c.tc : Thread Cert.DecDiffRefIdeal.nD Cert.DecDiffRefIdeal.τ).loc Cert.DecDiffRefIdeal.main_arg6) = m ((c.tc : Thread Cert.DecDiffIdeal.nD Cert.DecDiffIdeal.τ).loc Cert.DecDiffIdeal.main_arg6)
      ∧ m' ((c.tc : Thread Cert.DecDiffRefIdeal.nD Cert.DecDiffRefIdeal.τ).loc Cert.DecDiffRefIdeal.main_arg7) = m ((c.tc : Thread Cert.DecDiffIdeal.nD Cert.DecDiffIdeal.τ).loc Cert.DecDiffIdeal.main_arg7)
      ∧ m' ((c.tc : Thread Cert.DecDiffRefIdeal.nD Cert.DecDiffRefIdeal.τ).loc Cert.DecDiffRefIdeal.main_arg8) = m ((c.tc : Thread Cert.DecDiffIdeal.nD Cert.DecDiffIdeal.τ).loc Cert.DecDiffIdeal.main_arg8)) →
    ∃ (v0 : (c : Dev Cert.DecDiffIdeal.nD) → Buf (Elt Ideal) ((c.tc : Thread Cert.DecDiffIdeal.nD Cert.DecDiffIdeal.τ).loc Cert.DecDiffIdeal.main_v7)),
      θ_run (Cert.DecDiffIdeal.defs (F := Ideal)) (onTc (τ := Cert.DecDiffIdeal.τ) (Cert.DecDiffIdeal.main (F := Ideal))) ⟨m, fun _ => 0, g⟩ (fun r => ∀ c : Dev Cert.DecDiffIdeal.nD,
          r.2.mem ((c.tc : Thread Cert.DecDiffIdeal.nD Cert.DecDiffIdeal.τ).loc Cert.DecDiffIdeal.main_v7) = v0 c
          ∧ r.2.mem ((c.tc : Thread Cert.DecDiffIdeal.nD Cert.DecDiffIdeal.τ).loc Cert.DecDiffIdeal.main_arg0) = m ((c.tc : Thread Cert.DecDiffIdeal.nD Cert.DecDiffIdeal.τ).loc Cert.DecDiffIdeal.main_arg0)
          ∧ r.2.mem ((c.tc : Thread Cert.DecDiffIdeal.nD Cert.DecDiffIdeal.τ).loc Cert.DecDiffIdeal.main_arg1) = m ((c.tc : Thread Cert.DecDiffIdeal.nD Cert.DecDiffIdeal.τ).loc Cert.DecDiffIdeal.main_arg1)
          ∧ r.2.mem ((c.tc : Thread Cert.DecDiffIdeal.nD Cert.DecDiffIdeal.τ).loc Cert.DecDiffIdeal.main_arg2) = m ((c.tc : Thread Cert.DecDiffIdeal.nD Cert.DecDiffIdeal.τ).loc Cert.DecDiffIdeal.main_arg2)
          ∧ r.2.mem ((c.tc : Thread Cert.DecDiffIdeal.nD Cert.DecDiffIdeal.τ).loc Cert.DecDiffIdeal.main_arg3) = m ((c.tc : Thread Cert.DecDiffIdeal.nD Cert.DecDiffIdeal.τ).loc Cert.DecDiffIdeal.main_arg3)
          ∧ r.2.mem ((c.tc : Thread Cert.DecDiffIdeal.nD Cert.DecDiffIdeal.τ).loc Cert.DecDiffIdeal.main_arg4) = m ((c.tc : Thread Cert.DecDiffIdeal.nD Cert.DecDiffIdeal.τ).loc Cert.DecDiffIdeal.main_arg4)
          ∧ r.2.mem ((c.tc : Thread Cert.DecDiffIdeal.nD Cert.DecDiffIdeal.τ).loc Cert.DecDiffIdeal.main_arg5) = m ((c.tc : Thread Cert.DecDiffIdeal.nD Cert.DecDiffIdeal.τ).loc Cert.DecDiffIdeal.main_arg5)
          ∧ r.2.mem ((c.tc : Thread Cert.DecDiffIdeal.nD Cert.DecDiffIdeal.τ).loc Cert.DecDiffIdeal.main_arg6) = m ((c.tc : Thread Cert.DecDiffIdeal.nD Cert.DecDiffIdeal.τ).loc Cert.DecDiffIdeal.main_arg6)
          ∧ r.2.mem ((c.tc : Thread Cert.DecDiffIdeal.nD Cert.DecDiffIdeal.τ).loc Cert.DecDiffIdeal.main_arg7) = m ((c.tc : Thread Cert.DecDiffIdeal.nD Cert.DecDiffIdeal.τ).loc Cert.DecDiffIdeal.main_arg7)
          ∧ r.2.mem ((c.tc : Thread Cert.DecDiffIdeal.nD Cert.DecDiffIdeal.τ).loc Cert.DecDiffIdeal.main_arg8) = m ((c.tc : Thread Cert.DecDiffIdeal.nD Cert.DecDiffIdeal.τ).loc Cert.DecDiffIdeal.main_arg8))
      ∧ θ_run (Cert.DecDiffRefIdeal.defs (F := Ideal)) (onTc (τ := Cert.DecDiffRefIdeal.τ) (Cert.DecDiffRefIdeal.main (F := Ideal))) ⟨m', fun _ => 0, g'⟩ (fun r => ∀ c : Dev Cert.DecDiffRefIdeal.nD,
          r.2.mem ((c.tc : Thread Cert.DecDiffRefIdeal.nD Cert.DecDiffRefIdeal.τ).loc Cert.DecDiffRefIdeal.main_v80) = v0 c
          ∧ r.2.mem ((c.tc : Thread Cert.DecDiffRefIdeal.nD Cert.DecDiffRefIdeal.τ).loc Cert.DecDiffRefIdeal.main_arg0) = m' ((c.tc : Thread Cert.DecDiffRefIdeal.nD Cert.DecDiffRefIdeal.τ).loc Cert.DecDiffRefIdeal.main_arg0)
          ∧ r.2.mem ((c.tc : Thread Cert.DecDiffRefIdeal.nD Cert.DecDiffRefIdeal.τ).loc Cert.DecDiffRefIdeal.main_arg1) = m' ((c.tc : Thread Cert.DecDiffRefIdeal.nD Cert.DecDiffRefIdeal.τ).loc Cert.DecDiffRefIdeal.main_arg1)
          ∧ r.2.mem ((c.tc : Thread Cert.DecDiffRefIdeal.nD Cert.DecDiffRefIdeal.τ).loc Cert.DecDiffRefIdeal.main_arg2) = m' ((c.tc : Thread Cert.DecDiffRefIdeal.nD Cert.DecDiffRefIdeal.τ).loc Cert.DecDiffRefIdeal.main_arg2)
          ∧ r.2.mem ((c.tc : Thread Cert.DecDiffRefIdeal.nD Cert.DecDiffRefIdeal.τ).loc Cert.DecDiffRefIdeal.main_arg3) = m' ((c.tc : Thread Cert.DecDiffRefIdeal.nD Cert.DecDiffRefIdeal.τ).loc Cert.DecDiffRefIdeal.main_arg3)
          ∧ r.2.mem ((c.tc : Thread Cert.DecDiffRefIdeal.nD Cert.DecDiffRefIdeal.τ).loc Cert.DecDiffRefIdeal.main_arg4) = m' ((c.tc : Thread Cert.DecDiffRefIdeal.nD Cert.DecDiffRefIdeal.τ).loc Cert.DecDiffRefIdeal.main_arg4)
          ∧ r.2.mem ((c.tc : Thread Cert.DecDiffRefIdeal.nD Cert.DecDiffRefIdeal.τ).loc Cert.DecDiffRefIdeal.main_arg5) = m' ((c.tc : Thread Cert.DecDiffRefIdeal.nD Cert.DecDiffRefIdeal.τ).loc Cert.DecDiffRefIdeal.main_arg5)
          ∧ r.2.mem ((c.tc : Thread Cert.DecDiffRefIdeal.nD Cert.DecDiffRefIdeal.τ).loc Cert.DecDiffRefIdeal.main_arg6) = m' ((c.tc : Thread Cert.DecDiffRefIdeal.nD Cert.DecDiffRefIdeal.τ).loc Cert.DecDiffRefIdeal.main_arg6)
          ∧ r.2.mem ((c.tc : Thread Cert.DecDiffRefIdeal.nD Cert.DecDiffRefIdeal.τ).loc Cert.DecDiffRefIdeal.main_arg7) = m' ((c.tc : Thread Cert.DecDiffRefIdeal.nD Cert.DecDiffRefIdeal.τ).loc Cert.DecDiffRefIdeal.main_arg7)
          ∧ r.2.mem ((c.tc : Thread Cert.DecDiffRefIdeal.nD Cert.DecDiffRefIdeal.τ).loc Cert.DecDiffRefIdeal.main_arg8) = m' ((c.tc : Thread Cert.DecDiffRefIdeal.nD Cert.DecDiffRefIdeal.τ).loc Cert.DecDiffRefIdeal.main_arg8))

def preserves_OutFfn_OutFfnIdeal : Prop :=
  True

def algebraic_OutFfnIdeal_OutFfnRefIdeal [hOutFfnIdeal : Cert.OutFfnIdeal.Facts] [hOutFfnRefIdeal : Cert.OutFfnRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnRefIdeal.nD Cert.OutFfnRefIdeal.τ Cert.OutFfnRefIdeal.sig) → Buf (Elt Ideal) ℓ) (g' : Dev Cert.OutFfnRefIdeal.nD → PrngReg), Pre_OutFfnIdeal m →
    (∀ c : Dev Cert.OutFfnIdeal.nD,
      m' ((c.tc : Thread Cert.OutFfnRefIdeal.nD Cert.OutFfnRefIdeal.τ).loc Cert.OutFfnRefIdeal.main_arg0) = m ((c.tc : Thread Cert.OutFfnIdeal.nD Cert.OutFfnIdeal.τ).loc Cert.OutFfnIdeal.main_arg0)
      ∧ m' ((c.tc : Thread Cert.OutFfnRefIdeal.nD Cert.OutFfnRefIdeal.τ).loc Cert.OutFfnRefIdeal.main_arg1) = m ((c.tc : Thread Cert.OutFfnIdeal.nD Cert.OutFfnIdeal.τ).loc Cert.OutFfnIdeal.main_arg1)
      ∧ m' ((c.tc : Thread Cert.OutFfnRefIdeal.nD Cert.OutFfnRefIdeal.τ).loc Cert.OutFfnRefIdeal.main_arg2) = m ((c.tc : Thread Cert.OutFfnIdeal.nD Cert.OutFfnIdeal.τ).loc Cert.OutFfnIdeal.main_arg2)
      ∧ m' ((c.tc : Thread Cert.OutFfnRefIdeal.nD Cert.OutFfnRefIdeal.τ).loc Cert.OutFfnRefIdeal.main_arg3) = m ((c.tc : Thread Cert.OutFfnIdeal.nD Cert.OutFfnIdeal.τ).loc Cert.OutFfnIdeal.main_arg3)
      ∧ m' ((c.tc : Thread Cert.OutFfnRefIdeal.nD Cert.OutFfnRefIdeal.τ).loc Cert.OutFfnRefIdeal.main_arg4) = m ((c.tc : Thread Cert.OutFfnIdeal.nD Cert.OutFfnIdeal.τ).loc Cert.OutFfnIdeal.main_arg4)
      ∧ m' ((c.tc : Thread Cert.OutFfnRefIdeal.nD Cert.OutFfnRefIdeal.τ).loc Cert.OutFfnRefIdeal.main_arg5) = m ((c.tc : Thread Cert.OutFfnIdeal.nD Cert.OutFfnIdeal.τ).loc Cert.OutFfnIdeal.main_arg5)
      ∧ m' ((c.tc : Thread Cert.OutFfnRefIdeal.nD Cert.OutFfnRefIdeal.τ).loc Cert.OutFfnRefIdeal.main_arg6) = m ((c.tc : Thread Cert.OutFfnIdeal.nD Cert.OutFfnIdeal.τ).loc Cert.OutFfnIdeal.main_arg6)
      ∧ m' ((c.tc : Thread Cert.OutFfnRefIdeal.nD Cert.OutFfnRefIdeal.τ).loc Cert.OutFfnRefIdeal.main_arg7) = m ((c.tc : Thread Cert.OutFfnIdeal.nD Cert.OutFfnIdeal.τ).loc Cert.OutFfnIdeal.main_arg7)
      ∧ m' ((c.tc : Thread Cert.OutFfnRefIdeal.nD Cert.OutFfnRefIdeal.τ).loc Cert.OutFfnRefIdeal.main_arg8) = m ((c.tc : Thread Cert.OutFfnIdeal.nD Cert.OutFfnIdeal.τ).loc Cert.OutFfnIdeal.main_arg8)) →
    ∃ (v0 : (c : Dev Cert.OutFfnIdeal.nD) → Buf (Elt Ideal) ((c.tc : Thread Cert.OutFfnIdeal.nD Cert.OutFfnIdeal.τ).loc Cert.OutFfnIdeal.main_v14)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v14) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8))
      ∧ θ_run (Cert.OutFfnRefIdeal.defs (F := Ideal)) (onTc (τ := Cert.OutFfnRefIdeal.τ) (Cert.OutFfnRefIdeal.main (F := Ideal))) ⟨m', fun _ => 0, g'⟩ (fun r => ∀ c : Dev Cert.OutFfnRefIdeal.nD,
          r.2.mem ((c.tc : Thread Cert.OutFfnRefIdeal.nD Cert.OutFfnRefIdeal.τ).loc Cert.OutFfnRefIdeal.main_v42) = v0 c
          ∧ r.2.mem ((c.tc : Thread Cert.OutFfnRefIdeal.nD Cert.OutFfnRefIdeal.τ).loc Cert.OutFfnRefIdeal.main_arg0) = m' ((c.tc : Thread Cert.OutFfnRefIdeal.nD Cert.OutFfnRefIdeal.τ).loc Cert.OutFfnRefIdeal.main_arg0)
          ∧ r.2.mem ((c.tc : Thread Cert.OutFfnRefIdeal.nD Cert.OutFfnRefIdeal.τ).loc Cert.OutFfnRefIdeal.main_arg1) = m' ((c.tc : Thread Cert.OutFfnRefIdeal.nD Cert.OutFfnRefIdeal.τ).loc Cert.OutFfnRefIdeal.main_arg1)
          ∧ r.2.mem ((c.tc : Thread Cert.OutFfnRefIdeal.nD Cert.OutFfnRefIdeal.τ).loc Cert.OutFfnRefIdeal.main_arg2) = m' ((c.tc : Thread Cert.OutFfnRefIdeal.nD Cert.OutFfnRefIdeal.τ).loc Cert.OutFfnRefIdeal.main_arg2)
          ∧ r.2.mem ((c.tc : Thread Cert.OutFfnRefIdeal.nD Cert.OutFfnRefIdeal.τ).loc Cert.OutFfnRefIdeal.main_arg3) = m' ((c.tc : Thread Cert.OutFfnRefIdeal.nD Cert.OutFfnRefIdeal.τ).loc Cert.OutFfnRefIdeal.main_arg3)
          ∧ r.2.mem ((c.tc : Thread Cert.OutFfnRefIdeal.nD Cert.OutFfnRefIdeal.τ).loc Cert.OutFfnRefIdeal.main_arg4) = m' ((c.tc : Thread Cert.OutFfnRefIdeal.nD Cert.OutFfnRefIdeal.τ).loc Cert.OutFfnRefIdeal.main_arg4)
          ∧ r.2.mem ((c.tc : Thread Cert.OutFfnRefIdeal.nD Cert.OutFfnRefIdeal.τ).loc Cert.OutFfnRefIdeal.main_arg5) = m' ((c.tc : Thread Cert.OutFfnRefIdeal.nD Cert.OutFfnRefIdeal.τ).loc Cert.OutFfnRefIdeal.main_arg5)
          ∧ r.2.mem ((c.tc : Thread Cert.OutFfnRefIdeal.nD Cert.OutFfnRefIdeal.τ).loc Cert.OutFfnRefIdeal.main_arg6) = m' ((c.tc : Thread Cert.OutFfnRefIdeal.nD Cert.OutFfnRefIdeal.τ).loc Cert.OutFfnRefIdeal.main_arg6)
          ∧ r.2.mem ((c.tc : Thread Cert.OutFfnRefIdeal.nD Cert.OutFfnRefIdeal.τ).loc Cert.OutFfnRefIdeal.main_arg7) = m' ((c.tc : Thread Cert.OutFfnRefIdeal.nD Cert.OutFfnRefIdeal.τ).loc Cert.OutFfnRefIdeal.main_arg7)
          ∧ r.2.mem ((c.tc : Thread Cert.OutFfnRefIdeal.nD Cert.OutFfnRefIdeal.τ).loc Cert.OutFfnRefIdeal.main_arg8) = m' ((c.tc : Thread Cert.OutFfnRefIdeal.nD Cert.OutFfnRefIdeal.τ).loc Cert.OutFfnRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v45_0)) (v1 : (c : Dev Cert.ProjIdeal.nD) → Buf (Elt Ideal) ((c.tc : Thread Cert.ProjIdeal.nD Cert.ProjIdeal.τ).loc Cert.ProjIdeal.main_v45_1)) (v2 : (c : Dev Cert.ProjIdeal.nD) → Buf (Elt Ideal) ((c.tc : Thread Cert.ProjIdeal.nD Cert.ProjIdeal.τ).loc Cert.ProjIdeal.main_v45_2)) (v3 : (c : Dev Cert.ProjIdeal.nD) → Buf (Elt Ideal) ((c.tc : Thread Cert.ProjIdeal.nD Cert.ProjIdeal.τ).loc Cert.ProjIdeal.main_v45_3)) (v4 : (c : Dev Cert.ProjIdeal.nD) → Buf (Elt Ideal) ((c.tc : Thread Cert.ProjIdeal.nD Cert.ProjIdeal.τ).loc Cert.ProjIdeal.main_v45_4)) (v5 : (c : Dev Cert.ProjIdeal.nD) → Buf (Elt Ideal) ((c.tc : Thread Cert.ProjIdeal.nD Cert.ProjIdeal.τ).loc Cert.ProjIdeal.main_v45_5)) (v6 : (c : Dev Cert.ProjIdeal.nD) → Buf (Elt Ideal) ((c.tc : Thread Cert.ProjIdeal.nD Cert.ProjIdeal.τ).loc Cert.ProjIdeal.main_v45_6)) (v7 : (c : Dev Cert.ProjIdeal.nD) → Buf (Elt Ideal) ((c.tc : Thread Cert.ProjIdeal.nD Cert.ProjIdeal.τ).loc Cert.ProjIdeal.main_v45_7)) (v8 : (c : Dev Cert.ProjIdeal.nD) → Buf (Elt Ideal) ((c.tc : Thread Cert.ProjIdeal.nD Cert.ProjIdeal.τ).loc Cert.ProjIdeal.main_v45_8)) (v9 : (c : Dev Cert.ProjIdeal.nD) → Buf (Elt Ideal) ((c.tc : Thread Cert.ProjIdeal.nD Cert.ProjIdeal.τ).loc Cert.ProjIdeal.main_v45_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v45_0) = v0 c
          ∧ r.2.mem ((c.tc : Thread Cert.ProjIdeal.nD Cert.ProjIdeal.τ).loc Cert.ProjIdeal.main_v45_1) = v1 c
          ∧ r.2.mem ((c.tc : Thread Cert.ProjIdeal.nD Cert.ProjIdeal.τ).loc Cert.ProjIdeal.main_v45_2) = v2 c
          ∧ r.2.mem ((c.tc : Thread Cert.ProjIdeal.nD Cert.ProjIdeal.τ).loc Cert.ProjIdeal.main_v45_3) = v3 c
          ∧ r.2.mem ((c.tc : Thread Cert.ProjIdeal.nD Cert.ProjIdeal.τ).loc Cert.ProjIdeal.main_v45_4) = v4 c
          ∧ r.2.mem ((c.tc : Thread Cert.ProjIdeal.nD Cert.ProjIdeal.τ).loc Cert.ProjIdeal.main_v45_5) = v5 c
          ∧ r.2.mem ((c.tc : Thread Cert.ProjIdeal.nD Cert.ProjIdeal.τ).loc Cert.ProjIdeal.main_v45_6) = v6 c
          ∧ r.2.mem ((c.tc : Thread Cert.ProjIdeal.nD Cert.ProjIdeal.τ).loc Cert.ProjIdeal.main_v45_7) = v7 c
          ∧ r.2.mem ((c.tc : Thread Cert.ProjIdeal.nD Cert.ProjIdeal.τ).loc Cert.ProjIdeal.main_v45_8) = v8 c
          ∧ r.2.mem ((c.tc : Thread Cert.ProjIdeal.nD Cert.ProjIdeal.τ).loc Cert.ProjIdeal.main_v45_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v142) = v0 c
          ∧ r.2.mem ((c.tc : Thread Cert.ProjRefIdeal.nD Cert.ProjRefIdeal.τ).loc Cert.ProjRefIdeal.main_v143) = v1 c
          ∧ r.2.mem ((c.tc : Thread Cert.ProjRefIdeal.nD Cert.ProjRefIdeal.τ).loc Cert.ProjRefIdeal.main_v144) = v2 c
          ∧ r.2.mem ((c.tc : Thread Cert.ProjRefIdeal.nD Cert.ProjRefIdeal.τ).loc Cert.ProjRefIdeal.main_v145) = v3 c
          ∧ r.2.mem ((c.tc : Thread Cert.ProjRefIdeal.nD Cert.ProjRefIdeal.τ).loc Cert.ProjRefIdeal.main_v147) = v4 c
          ∧ r.2.mem ((c.tc : Thread Cert.ProjRefIdeal.nD Cert.ProjRefIdeal.τ).loc Cert.ProjRefIdeal.main_v152) = v5 c
          ∧ r.2.mem ((c.tc : Thread Cert.ProjRefIdeal.nD Cert.ProjRefIdeal.τ).loc Cert.ProjRefIdeal.main_v157) = v6 c
          ∧ r.2.mem ((c.tc : Thread Cert.ProjRefIdeal.nD Cert.ProjRefIdeal.τ).loc Cert.ProjRefIdeal.main_v161) = v7 c
          ∧ r.2.mem ((c.tc : Thread Cert.ProjRefIdeal.nD Cert.ProjRefIdeal.τ).loc Cert.ProjRefIdeal.main_v165) = v8 c
          ∧ r.2.mem ((c.tc : Thread Cert.ProjRefIdeal.nD Cert.ProjRefIdeal.τ).loc Cert.ProjRefIdeal.main_v170) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_OutFfnS_OutFfnSIdeal : Prop :=
  True

def algebraic_OutFfnSIdeal_OutFfnSRefIdeal [hOutFfnSIdeal : Cert.OutFfnSIdeal.Facts] [hOutFfnSRefIdeal : Cert.OutFfnSRefIdeal.Facts] : Prop :=
  ∀ (m : (ℓ : Loc Cert.OutFfnSIdeal.nD Cert.OutFfnSIdeal.τ Cert.OutFfnSIdeal.sig) → Buf (Elt Ideal) ℓ) (g : Dev Cert.OutFfnSIdeal.nD → PrngReg)
    (m' : (ℓ : Loc Cert.OutFfnSRefIdeal.nD Cert.OutFfnSRefIdeal.τ Cert.OutFfnSRefIdeal.sig) → Buf (Elt Ideal) ℓ) (g' : Dev Cert.OutFfnSRefIdeal.nD → PrngReg), Pre_OutFfnSIdeal m →
    (∀ c : Dev Cert.OutFfnSIdeal.nD,
      m' ((c.tc : Thread Cert.OutFfnSRefIdeal.nD Cert.OutFfnSRefIdeal.τ).loc Cert.OutFfnSRefIdeal.main_arg0) = m ((c.tc : Thread Cert.OutFfnSIdeal.nD Cert.OutFfnSIdeal.τ).loc Cert.OutFfnSIdeal.main_arg0)
      ∧ m' ((c.tc : Thread Cert.OutFfnSRefIdeal.nD Cert.OutFfnSRefIdeal.τ).loc Cert.OutFfnSRefIdeal.main_arg1) = m ((c.tc : Thread Cert.OutFfnSIdeal.nD Cert.OutFfnSIdeal.τ).loc Cert.OutFfnSIdeal.main_arg1)
      ∧ m' ((c.tc : Thread Cert.OutFfnSRefIdeal.nD Cert.OutFfnSRefIdeal.τ).loc Cert.OutFfnSRefIdeal.main_arg2) = m ((c.tc : Thread Cert.OutFfnSIdeal.nD Cert.OutFfnSIdeal.τ).loc Cert.OutFfnSIdeal.main_arg2)
      ∧ m' ((c.tc : Thread Cert.OutFfnSRefIdeal.nD Cert.OutFfnSRefIdeal.τ).loc Cert.OutFfnSRefIdeal.main_arg3) = m ((c.tc : Thread Cert.OutFfnSIdeal.nD Cert.OutFfnSIdeal.τ).loc Cert.OutFfnSIdeal.main_arg3)
      ∧ m' ((c.tc : Thread Cert.OutFfnSRefIdeal.nD Cert.OutFfnSRefIdeal.τ).loc Cert.OutFfnSRefIdeal.main_arg4) = m ((c.tc : Thread Cert.OutFfnSIdeal.nD Cert.OutFfnSIdeal.τ).loc Cert.OutFfnSIdeal.main_arg4)
      ∧ m' ((c.tc : Thread Cert.OutFfnSRefIdeal.nD Cert.OutFfnSRefIdeal.τ).loc Cert.OutFfnSRefIdeal.main_arg5) = m ((c.tc : Thread Cert.OutFfnSIdeal.nD Cert.OutFfnSIdeal.τ).loc Cert.OutFfnSIdeal.main_arg5)
      ∧ m' ((c.tc : Thread Cert.OutFfnSRefIdeal.nD Cert.OutFfnSRefIdeal.τ).loc Cert.OutFfnSRefIdeal.main_arg6) = m ((c.tc : Thread Cert.OutFfnSIdeal.nD Cert.OutFfnSIdeal.τ).loc Cert.OutFfnSIdeal.main_arg6)
      ∧ m' ((c.tc : Thread Cert.OutFfnSRefIdeal.nD Cert.OutFfnSRefIdeal.τ).loc Cert.OutFfnSRefIdeal.main_arg7) = m ((c.tc : Thread Cert.OutFfnSIdeal.nD Cert.OutFfnSIdeal.τ).loc Cert.OutFfnSIdeal.main_arg7)
      ∧ m' ((c.tc : Thread Cert.OutFfnSRefIdeal.nD Cert.OutFfnSRefIdeal.τ).loc Cert.OutFfnSRefIdeal.main_arg8) = m ((c.tc : Thread Cert.OutFfnSIdeal.nD Cert.OutFfnSIdeal.τ).loc Cert.OutFfnSIdeal.main_arg8)) →
    ∃ (v0 : (c : Dev Cert.OutFfnSIdeal.nD) → Buf (Elt Ideal) ((c.tc : Thread Cert.OutFfnSIdeal.nD Cert.OutFfnSIdeal.τ).loc Cert.OutFfnSIdeal.main_v14)),
      θ_run (Cert.OutFfnSIdeal.defs (F := Ideal)) (onTc (τ := Cert.OutFfnSIdeal.τ) (Cert.OutFfnSIdeal.main (F := Ideal))) ⟨m, fun _ => 0, g⟩ (fun r => ∀ c : Dev Cert.OutFfnSIdeal.nD,
          r.2.mem ((c.tc : Thread Cert.OutFfnSIdeal.nD Cert.OutFfnSIdeal.τ).loc Cert.OutFfnSIdeal.main_v14) = v0 c
          ∧ r.2.mem ((c.tc : Thread Cert.OutFfnSIdeal.nD Cert.OutFfnSIdeal.τ).loc Cert.OutFfnSIdeal.main_arg0) = m ((c.tc : Thread Cert.OutFfnSIdeal.nD Cert.OutFfnSIdeal.τ).loc Cert.OutFfnSIdeal.main_arg0)
          ∧ r.2.mem ((c.tc : Thread Cert.OutFfnSIdeal.nD Cert.OutFfnSIdeal.τ).loc Cert.OutFfnSIdeal.main_arg1) = m ((c.tc : Thread Cert.OutFfnSIdeal.nD Cert.OutFfnSIdeal.τ).loc Cert.OutFfnSIdeal.main_arg1)
          ∧ r.2.mem ((c.tc : Thread Cert.OutFfnSIdeal.nD Cert.OutFfnSIdeal.τ).loc Cert.OutFfnSIdeal.main_arg2) = m ((c.tc : Thread Cert.OutFfnSIdeal.nD Cert.OutFfnSIdeal.τ).loc Cert.OutFfnSIdeal.main_arg2)
          ∧ r.2.mem ((c.tc : Thread Cert.OutFfnSIdeal.nD Cert.OutFfnSIdeal.τ).loc Cert.OutFfnSIdeal.main_arg3) = m ((c.tc : Thread Cert.OutFfnSIdeal.nD Cert.OutFfnSIdeal.τ).loc Cert.OutFfnSIdeal.main_arg3)
          ∧ r.2.mem ((c.tc : Thread Cert.OutFfnSIdeal.nD Cert.OutFfnSIdeal.τ).loc Cert.OutFfnSIdeal.main_arg4) = m ((c.tc : Thread Cert.OutFfnSIdeal.nD Cert.OutFfnSIdeal.τ).loc Cert.OutFfnSIdeal.main_arg4)
          ∧ r.2.mem ((c.tc : Thread Cert.OutFfnSIdeal.nD Cert.OutFfnSIdeal.τ).loc Cert.OutFfnSIdeal.main_arg5) = m ((c.tc : Thread Cert.OutFfnSIdeal.nD Cert.OutFfnSIdeal.τ).loc Cert.OutFfnSIdeal.main_arg5)
          ∧ r.2.mem ((c.tc : Thread Cert.OutFfnSIdeal.nD Cert.OutFfnSIdeal.τ).loc Cert.OutFfnSIdeal.main_arg6) = m ((c.tc : Thread Cert.OutFfnSIdeal.nD Cert.OutFfnSIdeal.τ).loc Cert.OutFfnSIdeal.main_arg6)
          ∧ r.2.mem ((c.tc : Thread Cert.OutFfnSIdeal.nD Cert.OutFfnSIdeal.τ).loc Cert.OutFfnSIdeal.main_arg7) = m ((c.tc : Thread Cert.OutFfnSIdeal.nD Cert.OutFfnSIdeal.τ).loc Cert.OutFfnSIdeal.main_arg7)
          ∧ r.2.mem ((c.tc : Thread Cert.OutFfnSIdeal.nD Cert.OutFfnSIdeal.τ).loc Cert.OutFfnSIdeal.main_arg8) = m ((c.tc : Thread Cert.OutFfnSIdeal.nD Cert.OutFfnSIdeal.τ).loc Cert.OutFfnSIdeal.main_arg8))
      ∧ θ_run (Cert.OutFfnSRefIdeal.defs (F := Ideal)) (onTc (τ := Cert.OutFfnSRefIdeal.τ) (Cert.OutFfnSRefIdeal.main (F := Ideal))) ⟨m', fun _ => 0, g'⟩ (fun r => ∀ c : Dev Cert.OutFfnSRefIdeal.nD,
          r.2.mem ((c.tc : Thread Cert.OutFfnSRefIdeal.nD Cert.OutFfnSRefIdeal.τ).loc Cert.OutFfnSRefIdeal.main_v42) = v0 c
          ∧ r.2.mem ((c.tc : Thread Cert.OutFfnSRefIdeal.nD Cert.OutFfnSRefIdeal.τ).loc Cert.OutFfnSRefIdeal.main_arg0) = m' ((c.tc : Thread Cert.OutFfnSRefIdeal.nD Cert.OutFfnSRefIdeal.τ).loc Cert.OutFfnSRefIdeal.main_arg0)
          ∧ r.2.mem ((c.tc : Thread Cert.OutFfnSRefIdeal.nD Cert.OutFfnSRefIdeal.τ).loc Cert.OutFfnSRefIdeal.main_arg1) = m' ((c.tc : Thread Cert.OutFfnSRefIdeal.nD Cert.OutFfnSRefIdeal.τ).loc Cert.OutFfnSRefIdeal.main_arg1)
          ∧ r.2.mem ((c.tc : Thread Cert.OutFfnSRefIdeal.nD Cert.OutFfnSRefIdeal.τ).loc Cert.OutFfnSRefIdeal.main_arg2) = m' ((c.tc : Thread Cert.OutFfnSRefIdeal.nD Cert.OutFfnSRefIdeal.τ).loc Cert.OutFfnSRefIdeal.main_arg2)
          ∧ r.2.mem ((c.tc : Thread Cert.OutFfnSRefIdeal.nD Cert.OutFfnSRefIdeal.τ).loc Cert.OutFfnSRefIdeal.main_arg3) = m' ((c.tc : Thread Cert.OutFfnSRefIdeal.nD Cert.OutFfnSRefIdeal.τ).loc Cert.OutFfnSRefIdeal.main_arg3)
          ∧ r.2.mem ((c.tc : Thread Cert.OutFfnSRefIdeal.nD Cert.OutFfnSRefIdeal.τ).loc Cert.OutFfnSRefIdeal.main_arg4) = m' ((c.tc : Thread Cert.OutFfnSRefIdeal.nD Cert.OutFfnSRefIdeal.τ).loc Cert.OutFfnSRefIdeal.main_arg4)
          ∧ r.2.mem ((c.tc : Thread Cert.OutFfnSRefIdeal.nD Cert.OutFfnSRefIdeal.τ).loc Cert.OutFfnSRefIdeal.main_arg5) = m' ((c.tc : Thread Cert.OutFfnSRefIdeal.nD Cert.OutFfnSRefIdeal.τ).loc Cert.OutFfnSRefIdeal.main_arg5)
          ∧ r.2.mem ((c.tc : Thread Cert.OutFfnSRefIdeal.nD Cert.OutFfnSRefIdeal.τ).loc Cert.OutFfnSRefIdeal.main_arg6) = m' ((c.tc : Thread Cert.OutFfnSRefIdeal.nD Cert.OutFfnSRefIdeal.τ).loc Cert.OutFfnSRefIdeal.main_arg6)
          ∧ r.2.mem ((c.tc : Thread Cert.OutFfnSRefIdeal.nD Cert.OutFfnSRefIdeal.τ).loc Cert.OutFfnSRefIdeal.main_arg7) = m' ((c.tc : Thread Cert.OutFfnSRefIdeal.nD Cert.OutFfnSRefIdeal.τ).loc Cert.OutFfnSRefIdeal.main_arg7)
          ∧ r.2.mem ((c.tc : Thread Cert.OutFfnSRefIdeal.nD Cert.OutFfnSRefIdeal.τ).loc Cert.OutFfnSRefIdeal.main_arg8) = m' ((c.tc : Thread Cert.OutFfnSRefIdeal.nD Cert.OutFfnSRefIdeal.τ).loc Cert.OutFfnSRefIdeal.main_arg8))

def preserves_ProjP_ProjPIdeal : Prop :=
  True

def algebraic_ProjPIdeal_ProjPRefIdeal [hProjPIdeal : Cert.ProjPIdeal.Facts] [hProjPRefIdeal : Cert.ProjPRefIdeal.Facts] : Prop :=
  ∀ (m : (ℓ : Loc Cert.ProjPIdeal.nD Cert.ProjPIdeal.τ Cert.ProjPIdeal.sig) → Buf (Elt Ideal) ℓ) (g : Dev Cert.ProjPIdeal.nD → PrngReg)
    (m' : (ℓ : Loc Cert.ProjPRefIdeal.nD Cert.ProjPRefIdeal.τ Cert.ProjPRefIdeal.sig) → Buf (Elt Ideal) ℓ) (g' : Dev Cert.ProjPRefIdeal.nD → PrngReg), Pre_ProjPIdeal m →
    (∀ c : Dev Cert.ProjPIdeal.nD,
      m' ((c.tc : Thread Cert.ProjPRefIdeal.nD Cert.ProjPRefIdeal.τ).loc Cert.ProjPRefIdeal.main_arg0) = m ((c.tc : Thread Cert.ProjPIdeal.nD Cert.ProjPIdeal.τ).loc Cert.ProjPIdeal.main_arg0)
      ∧ m' ((c.tc : Thread Cert.ProjPRefIdeal.nD Cert.ProjPRefIdeal.τ).loc Cert.ProjPRefIdeal.main_arg1) = m ((c.tc : Thread Cert.ProjPIdeal.nD Cert.ProjPIdeal.τ).loc Cert.ProjPIdeal.main_arg1)
      ∧ m' ((c.tc : Thread Cert.ProjPRefIdeal.nD Cert.ProjPRefIdeal.τ).loc Cert.ProjPRefIdeal.main_arg2) = m ((c.tc : Thread Cert.ProjPIdeal.nD Cert.ProjPIdeal.τ).loc Cert.ProjPIdeal.main_arg2)
      ∧ m' ((c.tc : Thread Cert.ProjPRefIdeal.nD Cert.ProjPRefIdeal.τ).loc Cert.ProjPRefIdeal.main_arg3) = m ((c.tc : Thread Cert.ProjPIdeal.nD Cert.ProjPIdeal.τ).loc Cert.ProjPIdeal.main_arg3)
      ∧ m' ((c.tc : Thread Cert.ProjPRefIdeal.nD Cert.ProjPRefIdeal.τ).loc Cert.ProjPRefIdeal.main_arg4) = m ((c.tc : Thread Cert.ProjPIdeal.nD Cert.ProjPIdeal.τ).loc Cert.ProjPIdeal.main_arg4)
      ∧ m' ((c.tc : Thread Cert.ProjPRefIdeal.nD Cert.ProjPRefIdeal.τ).loc Cert.ProjPRefIdeal.main_arg5) = m ((c.tc : Thread Cert.ProjPIdeal.nD Cert.ProjPIdeal.τ).loc Cert.ProjPIdeal.main_arg5)
      ∧ m' ((c.tc : Thread Cert.ProjPRefIdeal.nD Cert.ProjPRefIdeal.τ).loc Cert.ProjPRefIdeal.main_arg6) = m ((c.tc : Thread Cert.ProjPIdeal.nD Cert.ProjPIdeal.τ).loc Cert.ProjPIdeal.main_arg6)) →
    ∃ (v0 : (c : Dev Cert.ProjPIdeal.nD) → Buf (Elt Ideal) ((c.tc : Thread Cert.ProjPIdeal.nD Cert.ProjPIdeal.τ).loc Cert.ProjPIdeal.main_v41_0)) (v1 : (c : Dev Cert.ProjPIdeal.nD) → Buf (Elt Ideal) ((c.tc : Thread Cert.ProjPIdeal.nD Cert.ProjPIdeal.τ).loc Cert.ProjPIdeal.main_v41_1)) (v2 : (c : Dev Cert.ProjPIdeal.nD) → Buf (Elt Ideal) ((c.tc : Thread Cert.ProjPIdeal.nD Cert.ProjPIdeal.τ).loc Cert.ProjPIdeal.main_v41_2)) (v3 : (c : Dev Cert.ProjPIdeal.nD) → Buf (Elt Ideal) ((c.tc : Thread Cert.ProjPIdeal.nD Cert.ProjPIdeal.τ).loc Cert.ProjPIdeal.main_v41_3)) (v4 : (c : Dev Cert.ProjPIdeal.nD) → Buf (Elt Ideal) ((c.tc : Thread Cert.ProjPIdeal.nD Cert.ProjPIdeal.τ).loc Cert.ProjPIdeal.main_v41_4)) (v5 : (c : Dev Cert.ProjPIdeal.nD) → Buf (Elt Ideal) ((c.tc : Thread Cert.ProjPIdeal.nD Cert.ProjPIdeal.τ).loc Cert.ProjPIdeal.main_v41_5)) (v6 : (c : Dev Cert.ProjPIdeal.nD) → Buf (Elt Ideal) ((c.tc : Thread Cert.ProjPIdeal.nD Cert.ProjPIdeal.τ).loc Cert.ProjPIdeal.main_v41_7)) (v7 : (c : Dev Cert.ProjPIdeal.nD) → Buf (Elt Ideal) ((c.tc : Thread Cert.ProjPIdeal.nD Cert.ProjPIdeal.τ).loc Cert.ProjPIdeal.main_v41_8)),
      θ_run (Cert.ProjPIdeal.defs (F := Ideal)) (onTc (τ := Cert.ProjPIdeal.τ) (Cert.ProjPIdeal.main (F := Ideal))) ⟨m, fun _ => 0, g⟩ (fun r => ∀ c : Dev Cert.ProjPIdeal.nD,
          r.2.mem ((c.tc : Thread Cert.ProjPIdeal.nD Cert.ProjPIdeal.τ).loc Cert.ProjPIdeal.main_v41_0) = v0 c
          ∧ r.2.mem ((c.tc : Thread Cert.ProjPIdeal.nD Cert.ProjPIdeal.τ).loc Cert.ProjPIdeal.main_v41_1) = v1 c
          ∧ r.2.mem ((c.tc : Thread Cert.ProjPIdeal.nD Cert.ProjPIdeal.τ).loc Cert.ProjPIdeal.main_v41_2) = v2 c
          ∧ r.2.mem ((c.tc : Thread Cert.ProjPIdeal.nD Cert.ProjPIdeal.τ).loc Cert.ProjPIdeal.main_v41_3) = v3 c
          ∧ r.2.mem ((c.tc : Thread Cert.ProjPIdeal.nD Cert.ProjPIdeal.τ).loc Cert.ProjPIdeal.main_v41_4) = v4 c
          ∧ r.2.mem ((c.tc : Thread Cert.ProjPIdeal.nD Cert.ProjPIdeal.τ).loc Cert.ProjPIdeal.main_v41_5) = v5 c
          ∧ r.2.mem ((c.tc : Thread Cert.ProjPIdeal.nD Cert.ProjPIdeal.τ).loc Cert.ProjPIdeal.main_v41_7) = v6 c
          ∧ r.2.mem ((c.tc : Thread Cert.ProjPIdeal.nD Cert.ProjPIdeal.τ).loc Cert.ProjPIdeal.main_v41_8) = v7 c
          ∧ r.2.mem ((c.tc : Thread Cert.ProjPIdeal.nD Cert.ProjPIdeal.τ).loc Cert.ProjPIdeal.main_arg0) = m ((c.tc : Thread Cert.ProjPIdeal.nD Cert.ProjPIdeal.τ).loc Cert.ProjPIdeal.main_arg0)
          ∧ r.2.mem ((c.tc : Thread Cert.ProjPIdeal.nD Cert.ProjPIdeal.τ).loc Cert.ProjPIdeal.main_arg1) = m ((c.tc : Thread Cert.ProjPIdeal.nD Cert.ProjPIdeal.τ).loc Cert.ProjPIdeal.main_arg1)
          ∧ r.2.mem ((c.tc : Thread Cert.ProjPIdeal.nD Cert.ProjPIdeal.τ).loc Cert.ProjPIdeal.main_arg2) = m ((c.tc : Thread Cert.ProjPIdeal.nD Cert.ProjPIdeal.τ).loc Cert.ProjPIdeal.main_arg2)
          ∧ r.2.mem ((c.tc : Thread Cert.ProjPIdeal.nD Cert.ProjPIdeal.τ).loc Cert.ProjPIdeal.main_arg3) = m ((c.tc : Thread Cert.ProjPIdeal.nD Cert.ProjPIdeal.τ).loc Cert.ProjPIdeal.main_arg3)
          ∧ r.2.mem ((c.tc : Thread Cert.ProjPIdeal.nD Cert.ProjPIdeal.τ).loc Cert.ProjPIdeal.main_arg4) = m ((c.tc : Thread Cert.ProjPIdeal.nD Cert.ProjPIdeal.τ).loc Cert.ProjPIdeal.main_arg4)
          ∧ r.2.mem ((c.tc : Thread Cert.ProjPIdeal.nD Cert.ProjPIdeal.τ).loc Cert.ProjPIdeal.main_arg5) = m ((c.tc : Thread Cert.ProjPIdeal.nD Cert.ProjPIdeal.τ).loc Cert.ProjPIdeal.main_arg5)
          ∧ r.2.mem ((c.tc : Thread Cert.ProjPIdeal.nD Cert.ProjPIdeal.τ).loc Cert.ProjPIdeal.main_arg6) = m ((c.tc : Thread Cert.ProjPIdeal.nD Cert.ProjPIdeal.τ).loc Cert.ProjPIdeal.main_arg6))
      ∧ θ_run (Cert.ProjPRefIdeal.defs (F := Ideal)) (onTc (τ := Cert.ProjPRefIdeal.τ) (Cert.ProjPRefIdeal.main (F := Ideal))) ⟨m', fun _ => 0, g'⟩ (fun r => ∀ c : Dev Cert.ProjPRefIdeal.nD,
          r.2.mem ((c.tc : Thread Cert.ProjPRefIdeal.nD Cert.ProjPRefIdeal.τ).loc Cert.ProjPRefIdeal.main_v140) = v0 c
          ∧ r.2.mem ((c.tc : Thread Cert.ProjPRefIdeal.nD Cert.ProjPRefIdeal.τ).loc Cert.ProjPRefIdeal.main_v21) = v1 c
          ∧ r.2.mem ((c.tc : Thread Cert.ProjPRefIdeal.nD Cert.ProjPRefIdeal.τ).loc Cert.ProjPRefIdeal.main_v22) = v2 c
          ∧ r.2.mem ((c.tc : Thread Cert.ProjPRefIdeal.nD Cert.ProjPRefIdeal.τ).loc Cert.ProjPRefIdeal.main_v55) = v3 c
          ∧ r.2.mem ((c.tc : Thread Cert.ProjPRefIdeal.nD Cert.ProjPRefIdeal.τ).loc Cert.ProjPRefIdeal.main_v141) = v4 c
          ∧ r.2.mem ((c.tc : Thread Cert.ProjPRefIdeal.nD Cert.ProjPRefIdeal.τ).loc Cert.ProjPRefIdeal.main_v144) = v5 c
          ∧ r.2.mem ((c.tc : Thread Cert.ProjPRefIdeal.nD Cert.ProjPRefIdeal.τ).loc Cert.ProjPRefIdeal.main_v146) = v6 c
          ∧ r.2.mem ((c.tc : Thread Cert.ProjPRefIdeal.nD Cert.ProjPRefIdeal.τ).loc Cert.ProjPRefIdeal.main_v148) = v7 c
          ∧ r.2.mem ((c.tc : Thread Cert.ProjPRefIdeal.nD Cert.ProjPRefIdeal.τ).loc Cert.ProjPRefIdeal.main_arg0) = m' ((c.tc : Thread Cert.ProjPRefIdeal.nD Cert.ProjPRefIdeal.τ).loc Cert.ProjPRefIdeal.main_arg0)
          ∧ r.2.mem ((c.tc : Thread Cert.ProjPRefIdeal.nD Cert.ProjPRefIdeal.τ).loc Cert.ProjPRefIdeal.main_arg1) = m' ((c.tc : Thread Cert.ProjPRefIdeal.nD Cert.ProjPRefIdeal.τ).loc Cert.ProjPRefIdeal.main_arg1)
          ∧ r.2.mem ((c.tc : Thread Cert.ProjPRefIdeal.nD Cert.ProjPRefIdeal.τ).loc Cert.ProjPRefIdeal.main_arg2) = m' ((c.tc : Thread Cert.ProjPRefIdeal.nD Cert.ProjPRefIdeal.τ).loc Cert.ProjPRefIdeal.main_arg2)
          ∧ r.2.mem ((c.tc : Thread Cert.ProjPRefIdeal.nD Cert.ProjPRefIdeal.τ).loc Cert.ProjPRefIdeal.main_arg3) = m' ((c.tc : Thread Cert.ProjPRefIdeal.nD Cert.ProjPRefIdeal.τ).loc Cert.ProjPRefIdeal.main_arg3)
          ∧ r.2.mem ((c.tc : Thread Cert.ProjPRefIdeal.nD Cert.ProjPRefIdeal.τ).loc Cert.ProjPRefIdeal.main_arg4) = m' ((c.tc : Thread Cert.ProjPRefIdeal.nD Cert.ProjPRefIdeal.τ).loc Cert.ProjPRefIdeal.main_arg4)
          ∧ r.2.mem ((c.tc : Thread Cert.ProjPRefIdeal.nD Cert.ProjPRefIdeal.τ).loc Cert.ProjPRefIdeal.main_arg5) = m' ((c.tc : Thread Cert.ProjPRefIdeal.nD Cert.ProjPRefIdeal.τ).loc Cert.ProjPRefIdeal.main_arg5)
          ∧ r.2.mem ((c.tc : Thread Cert.ProjPRefIdeal.nD Cert.ProjPRefIdeal.τ).loc Cert.ProjPRefIdeal.main_arg6) = m' ((c.tc : Thread Cert.ProjPRefIdeal.nD Cert.ProjPRefIdeal.τ).loc Cert.ProjPRefIdeal.main_arg6))

def Claim : Prop :=
  ∃ (hDecMla : Cert.DecMla.Facts) (hDecMlaIdeal : Cert.DecMlaIdeal.Facts) (hDecMlaRefIdeal : Cert.DecMlaRefIdeal.Facts) (hDecDiff : Cert.DecDiff.Facts) (hDecDiffIdeal : Cert.DecDiffIdeal.Facts) (hDecDiffRefIdeal : Cert.DecDiffRefIdeal.Facts) (hOutFfn : Cert.OutFfn.Facts) (hOutFfnIdeal : Cert.OutFfnIdeal.Facts) (hOutFfnRefIdeal : Cert.OutFfnRefIdeal.Facts) (hProj : Cert.Proj.Facts) (hProjIdeal : Cert.ProjIdeal.Facts) (hProjRefIdeal : Cert.ProjRefIdeal.Facts) (hOutFfnS : Cert.OutFfnS.Facts) (hOutFfnSIdeal : Cert.OutFfnSIdeal.Facts) (hOutFfnSRefIdeal : Cert.OutFfnSRefIdeal.Facts) (hProjP : Cert.ProjP.Facts) (hProjPIdeal : Cert.ProjPIdeal.Facts) (hProjPRefIdeal : Cert.ProjPRefIdeal.Facts) (hPre_finite_mla : Cert.Pre_finite_mla.Facts) (hPre_finite_diff : Cert.Pre_finite_diff.Facts),
    quiescent_DecMla (hDecMla := hDecMla)
    ∧ quiescent_DecMlaIdeal (hDecMlaIdeal := hDecMlaIdeal)
    ∧ quiescent_DecMlaIdeal_pre_finite_mla (hDecMlaIdeal := hDecMlaIdeal) (hPre_finite_mla := hPre_finite_mla)
    ∧ quiescent_DecMlaRefIdeal (hDecMlaRefIdeal := hDecMlaRefIdeal)
    ∧ quiescent_DecMlaRefIdeal_pre_finite_mla (hDecMlaRefIdeal := hDecMlaRefIdeal) (hPre_finite_mla := hPre_finite_mla)
    ∧ quiescent_DecDiff (hDecDiff := hDecDiff)
    ∧ quiescent_DecDiffIdeal (hDecDiffIdeal := hDecDiffIdeal)
    ∧ quiescent_DecDiffIdeal_pre_finite_diff (hDecDiffIdeal := hDecDiffIdeal) (hPre_finite_diff := hPre_finite_diff)
    ∧ quiescent_DecDiffRefIdeal (hDecDiffRefIdeal := hDecDiffRefIdeal)
    ∧ quiescent_DecDiffRefIdeal_pre_finite_diff (hDecDiffRefIdeal := hDecDiffRefIdeal) (hPre_finite_diff := hPre_finite_diff)
    ∧ quiescent_OutFfn (hOutFfn := hOutFfn)
    ∧ quiescent_OutFfnIdeal (hOutFfnIdeal := hOutFfnIdeal)
    ∧ quiescent_OutFfnRefIdeal (hOutFfnRefIdeal := hOutFfnRefIdeal)
    ∧ quiescent_Proj (hProj := hProj)
    ∧ quiescent_ProjIdeal (hProjIdeal := hProjIdeal)
    ∧ quiescent_ProjRefIdeal (hProjRefIdeal := hProjRefIdeal)
    ∧ quiescent_OutFfnS (hOutFfnS := hOutFfnS)
    ∧ quiescent_OutFfnSIdeal (hOutFfnSIdeal := hOutFfnSIdeal)
    ∧ quiescent_OutFfnSRefIdeal (hOutFfnSRefIdeal := hOutFfnSRefIdeal)
    ∧ quiescent_ProjP (hProjP := hProjP)
    ∧ quiescent_ProjPIdeal (hProjPIdeal := hProjPIdeal)
    ∧ quiescent_ProjPRefIdeal (hProjPRefIdeal := hProjPRefIdeal)
    ∧ preserves_DecMla_DecMlaIdeal
    ∧ algebraic_DecMlaIdeal_DecMlaRefIdeal_pre_finite_mla (hDecMlaIdeal := hDecMlaIdeal) (hDecMlaRefIdeal := hDecMlaRefIdeal) (hPre_finite_mla := hPre_finite_mla)
    ∧ preserves_DecDiff_DecDiffIdeal
    ∧ algebraic_DecDiffIdeal_DecDiffRefIdeal_pre_finite_diff (hDecDiffIdeal := hDecDiffIdeal) (hDecDiffRefIdeal := hDecDiffRefIdeal) (hPre_finite_diff := hPre_finite_diff)
    ∧ preserves_OutFfn_OutFfnIdeal
    ∧ algebraic_OutFfnIdeal_OutFfnRefIdeal (hOutFfnIdeal := hOutFfnIdeal) (hOutFfnRefIdeal := hOutFfnRefIdeal)
    ∧ preserves_Proj_ProjIdeal
    ∧ algebraic_ProjIdeal_ProjRefIdeal (hProjIdeal := hProjIdeal) (hProjRefIdeal := hProjRefIdeal)
    ∧ preserves_OutFfnS_OutFfnSIdeal
    ∧ algebraic_OutFfnSIdeal_OutFfnSRefIdeal (hOutFfnSIdeal := hOutFfnSIdeal) (hOutFfnSRefIdeal := hOutFfnSRefIdeal)
    ∧ preserves_ProjP_ProjPIdeal
    ∧ algebraic_ProjPIdeal_ProjPRefIdeal (hProjPIdeal := hProjPIdeal) (hProjPRefIdeal := hProjPRefIdeal)
-- ==== Pre_finite_diff.lean ====
abbrev S1x8x2x512x128 : Shape := ⟨5, ![1, 8, 2, 512, 128]⟩
abbrev S1x8x1024x8x2x64 : Shape := ⟨6, ![1, 8, 1024, 8, 2, 64]⟩
abbrev S1x8x1024x8x128 : Shape := ⟨5, ![1, 8, 1024, 8, 128]⟩
abbrev S1x8x512x128 : Shape := ⟨4, ![1, 8, 512, 128]⟩
abbrev S8x64x1024 : Shape := ⟨3, ![8, 64, 1024]⟩
abbrev S8x64x64 : Shape := ⟨3, ![8, 64, 64]⟩
abbrev S1x4x64 : Shape := ⟨3, ![1, 4, 64]⟩
abbrev S1x128 : Shape := ⟨2, ![1, 128]⟩
abbrev S_ : Shape := ⟨0, ![]⟩

class Facts : Prop where
  bcast_S_S1x8x1024x8x128 : S_.BroadcastsInDim S1x8x1024x8x128 (![] : Fin 0 → Fin S1x8x1024x8x128.rank)
  bitsLt_bf16_f32 : FTy.bits .bf16 < FTy.bits .f32
  bcast_S_S1x8x512x128 : S_.BroadcastsInDim S1x8x512x128 (![] : Fin 0 → Fin S1x8x512x128.rank)
  bcast_S_S1x4x64 : S_.BroadcastsInDim S1x4x64 (![] : Fin 0 → Fin S1x4x64.rank)

variable [Facts]

def fn {F : FTy → Type} [FloatOps F] (main_arg0 : FVec F S1x8x2x512x128 .bf16) (main_arg1 : FVec F S1x8x1024x8x2x64 .f32) (main_arg2 : FVec F S1x8x1024x8x128 .f32) (main_arg3 : FVec F S1x8x512x128 .bf16) (main_arg4 : FVec F S1x8x512x128 .bf16) (main_arg5 : FVec F S8x64x1024 .f32) (main_arg6 : FVec F S8x64x64 .f32) (main_arg7 : FVec F S1x4x64 .f32) (main_arg8 : FVec F S1x128 .f32) : IVec S1x8x1024x8x128 1 × IVec S1x8x512x128 1 × IVec S1x4x64 1 :=
  let main_v0 : FVec F S1x8x1024x8x128 .f32 := Host.absf main_arg2
  let main_cst : FVec F S_ .f32 := constant S_ .f32 0x7F800000#32
  let main_v1 : FVec F S1x8x1024x8x128 .f32 := broadcastInDim S1x8x1024x8x128 ![] bcast_S_S1x8x1024x8x128 main_cst
  let main_v2 : IVec S1x8x1024x8x128 1 := cmpf .olt main_v0 main_v1
  let main_v3 : FVec F S1x8x512x128 .f32 := (extf .f32 · bitsLt_bf16_f32) main_arg4
  let main_v4 : FVec F S1x8x512x128 .f32 := Host.absf main_v3
  let main_cst_0 : FVec F S_ .f32 := constant S_ .f32 0x7F800000#32
  let main_v5 : FVec F S1x8x512x128 .f32 := broadcastInDim S1x8x512x128 ![] bcast_S_S1x8x512x128 main_cst_0
  let main_v6 : IVec S1x8x512x128 1 := cmpf .olt main_v4 main_v5
  let main_v7 : FVec F S1x4x64 .f32 := Host.absf main_arg7
  let main_cst_1 : FVec F S_ .f32 := constant S_ .f32 0x7F800000#32
  let main_v8 : FVec F S1x4x64 .f32 := broadcastInDim S1x4x64 ![] bcast_S_S1x4x64 main_cst_1
  let main_v9 : IVec S1x4x64 1 := cmpf .olt main_v7 main_v8
  (main_v2, main_v6, main_v9)
-- ==== Pre_finite_mla.lean ====
abbrev S1x8x512x256 : Shape := ⟨4, ![1, 8, 512, 256]⟩
abbrev S1x8x1024x256 : Shape := ⟨4, ![1, 8, 1024, 256]⟩
abbrev S8x1024x128 : Shape := ⟨3, ![8, 1024, 128]⟩
abbrev S1x256x2048 : Shape := ⟨3, ![1, 256, 2048]⟩
abbrev S1x8x512x128 : Shape := ⟨4, ![1, 8, 512, 128]⟩
abbrev S_ : Shape := ⟨0, ![]⟩

class Facts : Prop where
  bitsLt_bf16_f32 : FTy.bits .bf16 < FTy.bits .f32
  bcast_S_S1x8x512x256 : S_.BroadcastsInDim S1x8x512x256 (![] : Fin 0 → Fin S1x8x512x256.rank)
  bcast_S_S1x8x1024x256 : S_.BroadcastsInDim S1x8x1024x256 (![] : Fin 0 → Fin S1x8x1024x256.rank)
  bcast_S_S8x1024x128 : S_.BroadcastsInDim S8x1024x128 (![] : Fin 0 → Fin S8x1024x128.rank)
  bcast_S_S1x256x2048 : S_.BroadcastsInDim S1x256x2048 (![] : Fin 0 → Fin S1x256x2048.rank)

variable [Facts]

def fn {F : FTy → Type} [FloatOps F] (main_arg0 : FVec F S1x8x512x256 .bf16) (main_arg1 : FVec F S1x8x1024x256 .f32) (main_arg2 : FVec F S8x1024x128 .f32) (main_arg3 : FVec F S1x256x2048 .f32) (main_arg4 : FVec F S1x8x512x256 .bf16) (main_arg5 : FVec F S1x8x512x128 .bf16) : IVec S1x8x512x256 1 × IVec S1x8x1024x256 1 × IVec S8x1024x128 1 × IVec S1x256x2048 1 × IVec S1x8x512x256 1 :=
  let main_v0 : FVec F S1x8x512x256 .f32 := (extf .f32 · bitsLt_bf16_f32) main_arg0
  let main_v1 : FVec F S1x8x512x256 .f32 := Host.absf main_v0
  let main_cst : FVec F S_ .f32 := constant S_ .f32 0x7F800000#32
  let main_v2 : FVec F S1x8x512x256 .f32 := broadcastInDim S1x8x512x256 ![] bcast_S_S1x8x512x256 main_cst
  let main_v3 : IVec S1x8x512x256 1 := cmpf .olt main_v1 main_v2
  let main_v4 : FVec F S1x8x1024x256 .f32 := Host.absf main_arg1
  let main_cst_0 : FVec F S_ .f32 := constant S_ .f32 0x7F800000#32
  let main_v5 : FVec F S1x8x1024x256 .f32 := broadcastInDim S1x8x1024x256 ![] bcast_S_S1x8x1024x256 main_cst_0
  let main_v6 : IVec S1x8x1024x256 1 := cmpf .olt main_v4 main_v5
  let main_v7 : FVec F S8x1024x128 .f32 := Host.absf main_arg2
  let main_cst_1 : FVec F S_ .f32 := constant S_ .f32 0x7F800000#32
  let main_v8 : FVec F S8x1024x128 .f32 := broadcastInDim S8x1024x128 ![] bcast_S_S8x1024x128 main_cst_1
  let main_v9 : IVec S8x1024x128 1 := cmpf .olt main_v7 main_v8
  let main_v10 : FVec F S1x256x2048 .f32 := Host.absf main_arg3
  let main_cst_2 : FVec F S_ .f32 := constant S_ .f32 0x7F800000#32
  let main_v11 : FVec F S1x256x2048 .f32 := broadcastInDim S1x256x2048 ![] bcast_S_S1x256x2048 main_cst_2
  let main_v12 : IVec S1x256x2048 1 := cmpf .olt main_v10 main_v11
  let main_v13 : FVec F S1x8x512x256 .f32 := (extf .f32 · bitsLt_bf16_f32) main_arg4
  let main_v14 : FVec F S1x8x512x256 .f32 := Host.absf main_v13
  let main_cst_3 : FVec F S_ .f32 := constant S_ .f32 0x7F800000#32
  let main_v15 : FVec F S1x8x512x256 .f32 := broadcastInDim S1x8x512x256 ![] bcast_S_S1x8x512x256 main_cst_3
  let main_v16 : IVec S1x8x512x256 1 := cmpf .olt main_v14 main_v15
  (main_v3, main_v6, main_v9, main_v12, main_v16)
-- ==== DecMla.lean ====
abbrev S1x8x512x256 : Shape := ⟨4, ![1, 8, 512, 256]⟩
abbrev S1x8x1024x256 : Shape := ⟨4, ![1, 8, 1024, 256]⟩
abbrev S8x1024x128 : Shape := ⟨3, ![8, 1024, 128]⟩
abbrev S1x256x2048 : Shape := ⟨3, ![1, 256, 2048]⟩
abbrev S1x8x512x128 : Shape := ⟨4, ![1, 8, 512, 128]⟩
abbrev S256x2048 : Shape := ⟨2, ![256, 2048]⟩
abbrev S8x1024x256 : Shape := ⟨3, ![8, 1024, 256]⟩
abbrev S8x64x1024 : Shape := ⟨3, ![8, 64, 1024]⟩
abbrev S1x8x64x256 : Shape := ⟨4, ![1, 8, 64, 256]⟩
abbrev S1x1024x256 : Shape := ⟨3, ![1, 1024, 256]⟩
abbrev S1x1024x128 : Shape := ⟨3, ![1, 1024, 128]⟩
abbrev S1x8x64x128 : Shape := ⟨4, ![1, 8, 64, 128]⟩
abbrev S1x64x1024 : Shape := ⟨3, ![1, 64, 1024]⟩
abbrev S1024x256 : Shape := ⟨2, ![1024, 256]⟩
abbrev S1024x128 : Shape := ⟨2, ![1024, 128]⟩
abbrev S256x256 : Shape := ⟨2, ![256, 256]⟩
abbrev S1x1x64x256 : Shape := ⟨4, ![1, 1, 64, 256]⟩
abbrev S64x256 : Shape := ⟨2, ![64, 256]⟩
abbrev S64x1024 : Shape := ⟨2, ![64, 1024]⟩
abbrev S64x64 : Shape := ⟨2, ![64, 64]⟩
abbrev S1x1x64x128 : Shape := ⟨4, ![1, 1, 64, 128]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 10
  | .vmem => 13
  | .smem => 0
  | _ => 0

abbrev bufTy : (tb : Table) → Fin (tcTables nBuf tb) → BufTy
  | .hbm, ⟨0, _⟩ => ⟨S1x8x512x256, .bf16⟩
  | .hbm, ⟨1, _⟩ => ⟨S1x8x1024x256, .f32⟩
  | .hbm, ⟨2, _⟩ => ⟨S8x1024x128, .f32⟩
  | .hbm, ⟨3, _⟩ => ⟨S1x256x2048, .f32⟩
  | .hbm, ⟨4, _⟩ => ⟨S1x8x512x256, .bf16⟩
  | .hbm, ⟨5, _⟩ => ⟨S1x8x512x128, .bf16⟩
  | .hbm, ⟨6, _⟩ => ⟨S256x2048, .f32⟩
  | .hbm, ⟨7, _⟩ => ⟨S256x2048, .bf16⟩
  | .hbm, ⟨8, _⟩ => ⟨S8x1024x256, .f32⟩
  | .hbm, ⟨9, _⟩ => ⟨S8x64x1024, .bf16⟩
  | .local _ .vmem, ⟨0, _⟩ => ⟨S1x8x64x256, .bf16⟩
  | .local _ .vmem, ⟨1, _⟩ => ⟨S1x8x64x256, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x128, .f32⟩
  | .local _ .vmem, ⟨5, _⟩ => ⟨S1x1024x128, .f32⟩
  | .local _ .vmem, ⟨6, _⟩ => ⟨S256x2048, .bf16⟩
  | .local _ .vmem, ⟨7, _⟩ => ⟨S1x8x64x256, .bf16⟩
  | .local _ .vmem, ⟨8, _⟩ => ⟨S1x8x64x256, .bf16⟩
  | .local _ .vmem, ⟨9, _⟩ => ⟨S1x8x64x128, .bf16⟩
  | .local _ .vmem, ⟨10, _⟩ => ⟨S1x8x64x128, .bf16⟩
  | .local _ .vmem, ⟨11, _⟩ => ⟨S1x64x1024, .bf16⟩
  | .local _ .vmem, ⟨12, _⟩ => ⟨S1x64x1024, .bf16⟩
  | _, _ => ⟨S1x8x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DecMlaRefIdeal.lean ====
abbrev S1x8x512x256 : Shape := ⟨4, ![1, 8, 512, 256]⟩
abbrev S1x8x1024x256 : Shape := ⟨4, ![1, 8, 1024, 256]⟩
abbrev S8x1024x128 : Shape := ⟨3, ![8, 1024, 128]⟩
abbrev S1x256x2048 : Shape := ⟨3, ![1, 256, 2048]⟩
abbrev S1x8x512x128 : Shape := ⟨4, ![1, 8, 512, 128]⟩
abbrev S8x512x256 : Shape := ⟨3, ![8, 512, 256]⟩
abbrev S8x8x64x256 : Shape := ⟨4, ![8, 8, 64, 256]⟩
abbrev S8x64x8x256 : Shape := ⟨4, ![8, 64, 8, 256]⟩
abbrev S8x512x128 : Shape := ⟨3, ![8, 512, 128]⟩
abbrev S8x8x64x128 : Shape := ⟨4, ![8, 8, 64, 128]⟩
abbrev S8x64x8x128 : Shape := ⟨4, ![8, 64, 8, 128]⟩
abbrev S8x1024x256 : Shape := ⟨3, ![8, 1024, 256]⟩
abbrev S256x2048 : Shape := ⟨2, ![256, 2048]⟩
abbrev S8x1024x2048 : Shape := ⟨3, ![8, 1024, 2048]⟩
abbrev S8x1024x8x256 : Shape := ⟨4, ![8, 1024, 8, 256]⟩
abbrev S8x1024x8x128 : Shape := ⟨4, ![8, 1024, 8, 128]⟩
abbrev S8x1088x8x128 : Shape := ⟨4, ![8, 1088, 8, 128]⟩
abbrev S8x1024x1x128 : Shape := ⟨4, ![8, 1024, 1, 128]⟩
abbrev S8x8x64x1088 : Shape := ⟨4, ![8, 8, 64, 1088]⟩
abbrev S_ : Shape := ⟨0, ![]⟩
abbrev S8x8x64 : Shape := ⟨3, ![8, 8, 64]⟩
abbrev S8x8x64x1 : Shape := ⟨4, ![8, 8, 64, 1]⟩
abbrev S8x8x128x64 : Shape := ⟨4, ![8, 8, 128, 64]⟩
abbrev S8x64x1024 : Shape := ⟨3, ![8, 64, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8x512x256, .bf16⟩
  | .hbm, ⟨1, _⟩ => ⟨S1x8x1024x256, .f32⟩
  | .hbm, ⟨2, _⟩ => ⟨S8x1024x128, .f32⟩
  | .hbm, ⟨3, _⟩ => ⟨S1x256x2048, .f32⟩
  | .hbm, ⟨4, _⟩ => ⟨S1x8x512x256, .bf16⟩
  | .hbm, ⟨5, _⟩ => ⟨S1x8x512x128, .bf16⟩
  | .hbm, ⟨6, _⟩ => ⟨S8x512x256, .bf16⟩
  | .hbm, ⟨7, _⟩ => ⟨S8x512x256, .f32⟩
  | .hbm, ⟨8, _⟩ => ⟨S8x8x64x256, .f32⟩
  | .hbm, ⟨9, _⟩ => ⟨S8x64x8x256, .f32⟩
  | .hbm, ⟨10, _⟩ => ⟨S8x512x256, .bf16⟩
  | .hbm, ⟨11, _⟩ => ⟨S8x512x256, .f32⟩
  | .hbm, ⟨12, _⟩ => ⟨S8x8x64x256, .f32⟩
  | .hbm, ⟨13, _⟩ => ⟨S8x64x8x256, .f32⟩
  | .hbm, ⟨14, _⟩ => ⟨S8x512x128, .bf16⟩
  | .hbm, ⟨15, _⟩ => ⟨S8x512x128, .f32⟩
  | .hbm, ⟨16, _⟩ => ⟨S8x8x64x128, .f32⟩
  | .hbm, ⟨17, _⟩ => ⟨S8x64x8x128, .f32⟩
  | .hbm, ⟨18, _⟩ => ⟨S8x1024x256, .f32⟩
  | .hbm, ⟨19, _⟩ => ⟨S256x2048, .f32⟩
  | .hbm, ⟨20, _⟩ => ⟨S8x1024x2048, .f32⟩
  | .hbm, ⟨21, _⟩ => ⟨S8x1024x8x256, .f32⟩
  | .hbm, ⟨22, _⟩ => ⟨S8x1024x8x128, .f32⟩
  | .hbm, ⟨23, _⟩ => ⟨S8x64x8x128, .f32⟩
  | .hbm, ⟨24, _⟩ => ⟨S8x1088x8x128, .f32⟩
  | .hbm, ⟨25, _⟩ => ⟨S8x1024x8x128, .f32⟩
  | .hbm, ⟨26, _⟩ => ⟨S8x1088x8x128, .f32⟩
  | .hbm, ⟨27, _⟩ => ⟨S8x1024x1x128, .f32⟩
  | .hbm, ⟨28, _⟩ => ⟨S8x1024x8x128, .f32⟩
  | .hbm, ⟨29, _⟩ => ⟨S8x64x8x128, .f32⟩
  | .hbm, ⟨30, _⟩ => ⟨S8x1088x8x128, .f32⟩
  | .hbm, ⟨31, _⟩ => ⟨S8x64x8x128, .f32⟩
  | .hbm, ⟨32, _⟩ => ⟨S8x8x64x1088, .f32⟩
  | .hbm, ⟨33, _⟩ => ⟨S8x64x8x128, .f32⟩
  | .hbm, ⟨34, _⟩ => ⟨S8x8x64x1088, .f32⟩
  | .hbm, ⟨35, _⟩ => ⟨S8x8x64x1088, .f32⟩
  | .hbm, ⟨36, _⟩ => ⟨S_, .f32⟩
  | .hbm, ⟨37, _⟩ => ⟨S_, .f32⟩
  | .hbm, ⟨38, _⟩ => ⟨S8x8x64x1088, .f32⟩
  | .hbm, ⟨39, _⟩ => ⟨S8x8x64x1088, .f32⟩
  | .hbm, ⟨40, _⟩ => ⟨S_, .f32⟩
  | .hbm, ⟨41, _⟩ => ⟨S8x8x64, .f32⟩
  | .hbm, ⟨42, _⟩ => ⟨S_, .f32⟩
  | .hbm, ⟨43, _⟩ => ⟨S8x8x64, .f32⟩
  | .hbm, ⟨44, _⟩ => ⟨S8x8x64, .f32⟩
  | .hbm, ⟨45, _⟩ => ⟨S8x8x64x1, .f32⟩
  | .hbm, ⟨46, _⟩ => ⟨S8x8x64x1088, .f32⟩
  | .hbm, ⟨47, _⟩ => ⟨S8x8x64x1088, .f32⟩
  | .hbm, ⟨48, _⟩ => ⟨S8x8x64x1088, .f32⟩
  | .hbm, ⟨49, _⟩ => ⟨S_, .f32⟩
  | .hbm, ⟨50, _⟩ => ⟨S8x8x64, .f32⟩
  | .hbm, ⟨51, _⟩ => ⟨S8x8x64x1, .f32⟩
  | .hbm, ⟨52, _⟩ => ⟨S8x8x64x1088, .f32⟩
  | .hbm, ⟨53, _⟩ => ⟨S8x8x64x1088, .f32⟩
  | .hbm, ⟨54, _⟩ => ⟨S8x8x128x64, .f32⟩
  | .hbm, ⟨55, _⟩ => ⟨S8x64x8x128, .f32⟩
  | .hbm, ⟨56, _⟩ => ⟨S8x64x1024, .f32⟩
  | .hbm, ⟨57, _⟩ => ⟨S8x64x1024, .bf16⟩
  | _, _ => ⟨S1x8x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_cst_1 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_2 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== DecDiff.lean ====
abbrev S1x8x2x512x128 : Shape := ⟨5, ![1, 8, 2, 512, 128]⟩
abbrev S1x8x1024x8x2x64 : Shape := ⟨6, ![1, 8, 1024, 8, 2, 64]⟩
abbrev S1x8x1024x8x128 : Shape := ⟨5, ![1, 8, 1024, 8, 128]⟩
abbrev S1x8x512x128 : Shape := ⟨4, ![1, 8, 512, 128]⟩
abbrev S8x64x1024 : Shape := ⟨3, ![8, 64, 1024]⟩
abbrev S8x64x64 : Shape := ⟨3, ![8, 64, 64]⟩
abbrev S1x4x64 : Shape := ⟨3, ![1, 4, 64]⟩
abbrev S1x128 : Shape := ⟨2, ![1, 128]⟩
abbrev S8x1024x8x2x64 : Shape := ⟨5, ![8, 1024, 8, 2, 64]⟩
abbrev S8x1024x1024 : Shape := ⟨3, ![8, 1024, 1024]⟩
abbrev S8x1024x8x128 : Shape := ⟨4, ![8, 1024, 8, 128]⟩
abbrev S8x8192x128 : Shape := ⟨3, ![8, 8192, 128]⟩
abbrev S128 : Shape := ⟨1, ![128]⟩
abbrev S4x64 : Shape := ⟨2, ![4, 64]⟩
abbrev S1x8x2x64x128 : Shape := ⟨5, ![1, 8, 2, 64, 128]⟩
abbrev S1x1024x1024 : Shape := ⟨3, ![1, 1024, 1024]⟩
abbrev S1x8192x128 : Shape := ⟨3, ![1, 8192, 128]⟩
abbrev S1x8x64x128 : Shape := ⟨4, ![1, 8, 64, 128]⟩
abbrev S1x64x1024 : Shape := ⟨3, ![1, 64, 1024]⟩
abbrev S1x64 : Shape := ⟨2, ![1, 64]⟩
abbrev S1 : Shape := ⟨1, ![1]⟩
abbrev S1x1 : Shape := ⟨2, ![1, 1]⟩
abbrev S1x1x2x64x128 : Shape := ⟨5, ![1, 1, 2, 64, 128]⟩
abbrev S2x64x128 : Shape := ⟨3, ![2, 64, 128]⟩
abbrev S128x128 : Shape := ⟨2, ![128, 128]⟩
abbrev S1x1024x128 : Shape := ⟨3, ![1, 1024, 128]⟩
abbrev S1024x128 : Shape := ⟨2, ![1024, 128]⟩
abbrev S1x1x64x128 : Shape := ⟨4, ![1, 1, 64, 128]⟩
abbrev S64x128 : Shape := ⟨2, ![64, 128]⟩
abbrev S64x1024 : Shape := ⟨2, ![64, 1024]⟩
abbrev S1x64x64 : Shape := ⟨3, ![1, 64, 64]⟩
abbrev S64x64 : Shape := ⟨2, ![64, 64]⟩
abbrev S128x1024 : Shape := ⟨2, ![128, 1024]⟩
abbrev S128x64 : Shape := ⟨2, ![128, 64]⟩
abbrev S2x64x1024 : Shape := ⟨3, ![2, 64, 1024]⟩
abbrev S2x64x64 : Shape := ⟨3, ![2, 64, 64]⟩
abbrev S128x1 : Shape := ⟨2, ![128, 1]⟩
abbrev S64 : Shape := ⟨1, ![64]⟩
abbrev S64x1 : Shape := ⟨2, ![64, 1]⟩
abbrev S1x64x128 : Shape := ⟨3, ![1, 64, 128]⟩

abbrev nBuf : Space → Nat
  | .hbm => 17
  | .vmem => 16
  | .smem => 0
  | _ => 0

abbrev bufTy : (tb : Table) → Fin (tcTables nBuf tb) → BufTy
  | .hbm, ⟨0, _⟩ => ⟨S1x8x2x512x128, .bf16⟩
  | .hbm, ⟨1, _⟩ => ⟨S1x8x1024x8x2x64, .f32⟩
  | .hbm, ⟨2, _⟩ => ⟨S1x8x1024x8x128, .f32⟩
  | .hbm, ⟨3, _⟩ => ⟨S1x8x512x128, .bf16⟩
  | .hbm, ⟨4, _⟩ => ⟨S1x8x512x128, .bf16⟩
  | .hbm, ⟨5, _⟩ => ⟨S8x64x1024, .f32⟩
  | .hbm, ⟨6, _⟩ => ⟨S8x64x64, .f32⟩
  | .hbm, ⟨7, _⟩ => ⟨S1x4x64, .f32⟩
  | .hbm, ⟨8, _⟩ => ⟨S1x128, .f32⟩
  | .hbm, ⟨9, _⟩ => ⟨S8x1024x8x2x64, .f32⟩
  | .hbm, ⟨10, _⟩ => ⟨S8x1024x1024, .f32⟩
  | .hbm, ⟨11, _⟩ => ⟨S8x1024x8x128, .f32⟩
  | .hbm, ⟨12, _⟩ => ⟨S8x8192x128, .f32⟩
  | .hbm, ⟨13, _⟩ => ⟨S128, .f32⟩
  | .hbm, ⟨14, _⟩ => ⟨S1x128, .f32⟩
  | .hbm, ⟨15, _⟩ => ⟨S4x64, .f32⟩
  | .hbm, ⟨16, _⟩ => ⟨S8x64x1024, .bf16⟩
  | .local _ .vmem, ⟨0, _⟩ => ⟨S1x8x2x64x128, .bf16⟩
  | .local _ .vmem, ⟨1, _⟩ => ⟨S1x8x2x64x128, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x8192x128, .f32⟩
  | .local _ .vmem, ⟨5, _⟩ => ⟨S1x8192x128, .f32⟩
  | .local _ .vmem, ⟨6, _⟩ => ⟨S1x8x64x128, .bf16⟩
  | .local _ .vmem, ⟨7, _⟩ => ⟨S1x8x64x128, .bf16⟩
  | .local _ .vmem, ⟨8, _⟩ => ⟨S1x8x64x128, .bf16⟩
  | .local _ .vmem, ⟨9, _⟩ => ⟨S1x8x64x128, .bf16⟩
  | .local _ .vmem, ⟨10, _⟩ => ⟨S8x64x1024, .f32⟩
  | .local _ .vmem, ⟨11, _⟩ => ⟨S8x64x64, .f32⟩
  | .local _ .vmem, ⟨12, _⟩ => ⟨S4x64, .f32⟩
  | .local _ .vmem, ⟨13, _⟩ => ⟨S1x128, .f32⟩
  | .local _ .vmem, ⟨14, _⟩ => ⟨S1x64x1024, .bf16⟩
  | .local _ .vmem, ⟨15, _⟩ => ⟨S1x64x1024, .bf16⟩
  | _, _ => ⟨S1x8x2x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, arg0.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x2x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DecDiffRefIdeal.lean ====
abbrev S1x8x2x512x128 : Shape := ⟨5, ![1, 8, 2, 512, 128]⟩
abbrev S1x8x1024x8x2x64 : Shape := ⟨6, ![1, 8, 1024, 8, 2, 64]⟩
abbrev S1x8x1024x8x128 : Shape := ⟨5, ![1, 8, 1024, 8, 128]⟩
abbrev S1x8x512x128 : Shape := ⟨4, ![1, 8, 512, 128]⟩
abbrev S8x64x1024 : Shape := ⟨3, ![8, 64, 1024]⟩
abbrev S8x64x64 : Shape := ⟨3, ![8, 64, 64]⟩
abbrev S1x4x64 : Shape := ⟨3, ![1, 4, 64]⟩
abbrev S1x128 : Shape := ⟨2, ![1, 128]⟩
abbrev S8x2x512x128 : Shape := ⟨4, ![8, 2, 512, 128]⟩
abbrev S8x2x8x64x128 : Shape := ⟨5, ![8, 2, 8, 64, 128]⟩
abbrev S8x64x8x2x128 : Shape := ⟨5, ![8, 64, 8, 2, 128]⟩
abbrev S8x512x128 : Shape := ⟨3, ![8, 512, 128]⟩
abbrev S8x8x64x128 : Shape := ⟨4, ![8, 8, 64, 128]⟩
abbrev S8x64x8x128 : Shape := ⟨4, ![8, 64, 8, 128]⟩
abbrev S8x1024x8x2x64 : Shape := ⟨5, ![8, 1024, 8, 2, 64]⟩
abbrev S8x1024x8x128 : Shape := ⟨4, ![8, 1024, 8, 128]⟩
abbrev S8x1088x8x128 : Shape := ⟨4, ![8, 1088, 8, 128]⟩
abbrev S8x64x1088 : Shape := ⟨3, ![8, 64, 1088]⟩
abbrev S4x64 : Shape := ⟨2, ![4, 64]⟩
abbrev S1x64 : Shape := ⟨2, ![1, 64]⟩
abbrev S64 : Shape := ⟨1, ![64]⟩
abbrev S_ : Shape := ⟨0, ![]⟩
abbrev S8x8x1088x64x2 : Shape := ⟨5, ![8, 8, 1088, 64, 2]⟩
abbrev S8x8x2x64x1088 : Shape := ⟨5, ![8, 8, 2, 64, 1088]⟩
abbrev S1x8x1x64x1088 : Shape := ⟨5, ![1, 8, 1, 64, 1088]⟩
abbrev S8x8x2x64 : Shape := ⟨4, ![8, 8, 2, 64]⟩
abbrev S8x8x2x64x1 : Shape := ⟨5, ![8, 8, 2, 64, 1]⟩
abbrev S8x8x1x64x1088 : Shape := ⟨5, ![8, 8, 1, 64, 1088]⟩
abbrev S8x8x64x1088 : Shape := ⟨4, ![8, 8, 64, 1088]⟩
abbrev S8x8x128x64 : Shape := ⟨4, ![8, 8, 128, 64]⟩
abbrev S8x64x8 : Shape := ⟨3, ![8, 64, 8]⟩
abbrev S8x64x8x1 : Shape := ⟨4, ![8, 64, 8, 1]⟩
abbrev S128 : Shape := ⟨1, ![128]⟩
abbrev S1x1x1x128 : Shape := ⟨4, ![1, 1, 1, 128]⟩

abbrev nBuf : Space → Nat
  | .hbm => 101
  | .vmem => 0
  | .smem => 0
  | _ => 0

abbrev bufTy : (tb : Table) → Fin (tcTables nBuf tb) → BufTy
  | .hbm, ⟨0, _⟩ => ⟨S1x8x2x512x128, .bf16⟩
  | .hbm, ⟨1, _⟩ => ⟨S1x8x1024x8x2x64, .f32⟩
  | .hbm, ⟨2, _⟩ => ⟨S1x8x1024x8x128, .f32⟩
  | .hbm, ⟨3, _⟩ => ⟨S1x8x512x128, .bf16⟩
  | .hbm, ⟨4, _⟩ => ⟨S1x8x512x128, .bf16⟩
  | .hbm, ⟨5, _⟩ => ⟨S8x64x1024, .f32⟩
  | .hbm, ⟨6, _⟩ => ⟨S8x64x64, .f32⟩
  | .hbm, ⟨7, _⟩ => ⟨S1x4x64, .f32⟩
  | .hbm, ⟨8, _⟩ => ⟨S1x128, .f32⟩
  | .hbm, ⟨9, _⟩ => ⟨S8x2x512x128, .bf16⟩
  | .hbm, ⟨10, _⟩ => ⟨S8x2x512x128, .f32⟩
  | .hbm, ⟨11, _⟩ => ⟨S8x2x8x64x128, .f32⟩
  | .hbm, ⟨12, _⟩ => ⟨S8x64x8x2x128, .f32⟩
  | .hbm, ⟨13, _⟩ => ⟨S8x512x128, .bf16⟩
  | .hbm, ⟨14, _⟩ => ⟨S8x512x128, .f32⟩
  | .hbm, ⟨15, _⟩ => ⟨S8x8x64x128, .f32⟩
  | .hbm, ⟨16, _⟩ => ⟨S8x64x8x128, .f32⟩
  | .hbm, ⟨17, _⟩ => ⟨S8x512x128, .bf16⟩
  | .hbm, ⟨18, _⟩ => ⟨S8x512x128, .f32⟩
  | .hbm, ⟨19, _⟩ => ⟨S8x8x64x128, .f32⟩
  | .hbm, ⟨20, _⟩ => ⟨S8x64x8x128, .f32⟩
  | .hbm, ⟨21, _⟩ => ⟨S8x1024x8x2x64, .f32⟩
  | .hbm, ⟨22, _⟩ => ⟨S8x1024x8x128, .f32⟩
  | .hbm, ⟨23, _⟩ => ⟨S8x1088x8x128, .f32⟩
  | .hbm, ⟨24, _⟩ => ⟨S8x1024x8x128, .f32⟩
  | .hbm, ⟨25, _⟩ => ⟨S8x1088x8x128, .f32⟩
  | .hbm, ⟨26, _⟩ => ⟨S8x64x1088, .f32⟩
  | .hbm, ⟨27, _⟩ => ⟨S4x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x64, .f32⟩
  | .hbm, ⟨37, _⟩ => ⟨S64, .f32⟩
  | .hbm, ⟨38, _⟩ => ⟨S1x64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x8x1088x64x2, .f32⟩
  | .hbm, ⟨48, _⟩ => ⟨S8x8x2x64x1088, .f32⟩
  | .hbm, ⟨49, _⟩ => ⟨S1x8x1x64x1088, .f32⟩
  | .hbm, ⟨50, _⟩ => ⟨S8x8x2x64x1088, .f32⟩
  | .hbm, ⟨51, _⟩ => ⟨S8x8x2x64x1088, .f32⟩
  | .hbm, ⟨52, _⟩ => ⟨S_, .f32⟩
  | .hbm, ⟨53, _⟩ => ⟨S_, .f32⟩
  | .hbm, ⟨54, _⟩ => ⟨S8x8x2x64x1088, .f32⟩
  | .hbm, ⟨55, _⟩ => ⟨S8x8x2x64x1088, .f32⟩
  | .hbm, ⟨56, _⟩ => ⟨S_, .f32⟩
  | .hbm, ⟨57, _⟩ => ⟨S8x8x2x64, .f32⟩
  | .hbm, ⟨58, _⟩ => ⟨S_, .f32⟩
  | .hbm, ⟨59, _⟩ => ⟨S8x8x2x64, .f32⟩
  | .hbm, ⟨60, _⟩ => ⟨S8x8x2x64, .f32⟩
  | .hbm, ⟨61, _⟩ => ⟨S8x8x2x64x1, .f32⟩
  | .hbm, ⟨62, _⟩ => ⟨S8x8x2x64x1088, .f32⟩
  | .hbm, ⟨63, _⟩ => ⟨S8x8x2x64x1088, .f32⟩
  | .hbm, ⟨64, _⟩ => ⟨S8x8x2x64x1088, .f32⟩
  | .hbm, ⟨65, _⟩ => ⟨S_, .f32⟩
  | .hbm, ⟨66, _⟩ => ⟨S8x8x2x64, .f32⟩
  | .hbm, ⟨67, _⟩ => ⟨S8x8x2x64x1, .f32⟩
  | .hbm, ⟨68, _⟩ => ⟨S8x8x2x64x1088, .f32⟩
  | .hbm, ⟨69, _⟩ => ⟨S8x8x2x64x1088, .f32⟩
  | .hbm, ⟨70, _⟩ => ⟨S8x8x1x64x1088, .f32⟩
  | .hbm, ⟨71, _⟩ => ⟨S8x8x64x1088, .f32⟩
  | .hbm, ⟨72, _⟩ => ⟨S8x8x1x64x1088, .f32⟩
  | .hbm, ⟨73, _⟩ => ⟨S8x8x64x1088, .f32⟩
  | .hbm, ⟨74, _⟩ => ⟨S8x8x64x1088, .f32⟩
  | .hbm, ⟨75, _⟩ => ⟨S8x8x64x1088, .f32⟩
  | .hbm, ⟨76, _⟩ => ⟨S8x8x64x1088, .f32⟩
  | .hbm, ⟨77, _⟩ => ⟨S8x8x128x64, .f32⟩
  | .hbm, ⟨78, _⟩ => ⟨S8x64x8x128, .f32⟩
  | .hbm, ⟨79, _⟩ => ⟨S8x64x8x128, .f32⟩
  | .hbm, ⟨80, _⟩ => ⟨S_, .f32⟩
  | .hbm, ⟨81, _⟩ => ⟨S8x64x8, .f32⟩
  | .hbm, ⟨82, _⟩ => ⟨S8x64x8x1, .f32⟩
  | .hbm, ⟨83, _⟩ => ⟨S_, .f32⟩
  | .hbm, ⟨84, _⟩ => ⟨S8x64x8x1, .f32⟩
  | .hbm, ⟨85, _⟩ => ⟨S8x64x8x1, .f32⟩
  | .hbm, ⟨86, _⟩ => ⟨S_, .f32⟩
  | .hbm, ⟨87, _⟩ => ⟨S8x64x8x1, .f32⟩
  | .hbm, ⟨88, _⟩ => ⟨S8x64x8x1, .f32⟩
  | .hbm, ⟨89, _⟩ => ⟨S8x64x8x1, .f32⟩
  | .hbm, ⟨90, _⟩ => ⟨S8x64x8x128, .f32⟩
  | .hbm, ⟨91, _⟩ => ⟨S8x64x8x128, .f32⟩
  | .hbm, ⟨92, _⟩ => ⟨S128, .f32⟩
  | .hbm, ⟨93, _⟩ => ⟨S1x1x1x128, .f32⟩
  | .hbm, ⟨94, _⟩ => ⟨S8x64x8x128, .f32⟩
  | .hbm, ⟨95, _⟩ => ⟨S8x64x8x128, .f32⟩
  | .hbm, ⟨96, _⟩ => ⟨S_, .f32⟩
  | .hbm, ⟨97, _⟩ => ⟨S8x64x8x128, .f32⟩
  | .hbm, ⟨98, _⟩ => ⟨S8x64x8x128, .f32⟩
  | .hbm, ⟨99, _⟩ => ⟨S8x64x1024, .f32⟩
  | .hbm, ⟨100, _⟩ => ⟨S8x64x1024, .bf16⟩
  | _, _ => ⟨S1x8x2x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_1 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_6 : Ref sig .tc := ⟨.hbm, 80, rfl⟩
abbrev main_v64 : Ref sig .tc := ⟨.hbm, 81, rfl⟩
abbrev main_v65 : Ref sig .tc := ⟨.hbm, 82, rfl⟩
abbrev main_cst_7 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩

abbrev nD : Nat := 1
abbrev τ : Topo := Topo.v7x

variable {F : FTy → Type} [FloatOps F]
-- ==== OutFfn.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048x5632, .f32⟩
  | .hbm, ⟨12, _⟩ => ⟨S2048x5632, .bf16⟩
  | .hbm, ⟨13, _⟩ => ⟨S2048x5632, .f32⟩
  | .hbm, ⟨14, _⟩ => ⟨S2048x5632, .bf16⟩
  | .hbm, ⟨15, _⟩ => ⟨S5632x2048, .f32⟩
  | .hbm, ⟨16, _⟩ => ⟨S5632x2048, .bf16⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x1024, .bf16⟩
  | .hbm, ⟨22, _⟩ => ⟨S16384x1024, .bf16⟩
  | .hbm, ⟨23, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutFfnIdeal.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S16384x2048 : Shape := ⟨2, ![16384, 2048]⟩
abbrev S16384x1024 : Shape := ⟨2, ![16384, 1024]⟩
abbrev S512x2048 : Shape := ⟨2, ![512, 2048]⟩
abbrev S512x1024 : Shape := ⟨2, ![512, 1024]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048x5632, .f32⟩
  | .hbm, ⟨12, _⟩ => ⟨S2048x5632, .bf16⟩
  | .hbm, ⟨13, _⟩ => ⟨S2048x5632, .f32⟩
  | .hbm, ⟨14, _⟩ => ⟨S2048x5632, .bf16⟩
  | .hbm, ⟨15, _⟩ => ⟨S5632x2048, .f32⟩
  | .hbm, ⟨16, _⟩ => ⟨S5632x2048, .bf16⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x1024, .bf16⟩
  | .hbm, ⟨22, _⟩ => ⟨S16384x1024, .bf16⟩
  | .hbm, ⟨23, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== OutFfnRefIdeal.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S4x4096x5632 : Shape := ⟨3, ![4, 4096, 5632]⟩
abbrev S5632x2048 : Shape := ⟨2, ![5632, 2048]⟩
abbrev S16384x2048 : Shape := ⟨2, ![16384, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .bf16⟩
  | .hbm, ⟨2, _⟩ => ⟨S4x4096x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S4x4096x1024, .f32⟩
  | .hbm, ⟨10, _⟩ => ⟨S4x4096x1024, .f32⟩
  | .hbm, ⟨11, _⟩ => ⟨S4x4096x2048, .f32⟩
  | .hbm, ⟨12, _⟩ => ⟨S2048x2048, .f32⟩
  | .hbm, ⟨13, _⟩ => ⟨S4x4096x2048, .f32⟩
  | .hbm, ⟨14, _⟩ => ⟨S4x4096x2048, .f32⟩
  | .hbm, ⟨15, _⟩ => ⟨S2048, .f32⟩
  | .hbm, ⟨16, _⟩ => ⟨S4x4096x2048, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x2048, .f32⟩
  | .hbm, ⟨28, _⟩ => ⟨S4x4096x2048, .f32⟩
  | .hbm, ⟨29, _⟩ => ⟨S1x1x2048, .f32⟩
  | .hbm, ⟨30, _⟩ => ⟨S4x4096x2048, .f32⟩
  | .hbm, ⟨31, _⟩ => ⟨S4x4096x2048, .f32⟩
  | .hbm, ⟨32, _⟩ => ⟨S2048x5632, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S_, .f32⟩
  | .hbm, ⟨37, _⟩ => ⟨S4x4096x5632, .f32⟩
  | .hbm, ⟨38, _⟩ => ⟨S4x4096x5632, .f32⟩
  | .hbm, ⟨39, _⟩ => ⟨S_, .f32⟩
  | .hbm, ⟨40, _⟩ => ⟨S4x4096x5632, .f32⟩
  | .hbm, ⟨41, _⟩ => ⟨S4x4096x5632, .f32⟩
  | .hbm, ⟨42, _⟩ => ⟨S4x4096x5632, .f32⟩
  | .hbm, ⟨43, _⟩ => ⟨S2048x5632, .f32⟩
  | .hbm, ⟨44, _⟩ => ⟨S4x4096x5632, .f32⟩
  | .hbm, ⟨45, _⟩ => ⟨S4x4096x5632, .f32⟩
  | .hbm, ⟨46, _⟩ => ⟨S5632x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x2048, .f32⟩
  | .hbm, ⟨61, _⟩ => ⟨S4x4096x2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proj.lean ====
abbrev S8x64x2048 : Shape := ⟨3, ![8, 64, 2048]⟩
abbrev S1x2048 : Shape := ⟨2, ![1, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048x3904 : Shape := ⟨2, ![2048, 3904]⟩
abbrev S_ : Shape := ⟨0, ![]⟩
abbrev S2048x3968 : Shape := ⟨2, ![2048, 3968]⟩
abbrev S512x1536 : Shape := ⟨2, ![512, 1536]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S256x2048 : Shape := ⟨2, ![256, 2048]⟩
abbrev S2048 : Shape := ⟨1, ![2048]⟩
abbrev S512 : Shape := ⟨1, ![512]⟩
abbrev S256 : Shape := ⟨1, ![256]⟩
abbrev S64 : Shape := ⟨1, ![64]⟩
abbrev S1x64 : Shape := ⟨2, ![1, 64]⟩
abbrev S8x64 : Shape := ⟨2, ![8, 64]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x128 : Shape := ⟨2, ![512, 128]⟩
abbrev S1x512x2048 : Shape := ⟨3, ![1, 512, 2048]⟩
abbrev S1x8x2x512x128 : Shape := ⟨5, ![1, 8, 2, 512, 128]⟩
abbrev S1x512x1024 : Shape := ⟨3, ![1, 512, 1024]⟩
abbrev S1x512x256 : Shape := ⟨3, ![1, 512, 256]⟩
abbrev S1x512x64 : Shape := ⟨3, ![1, 512, 64]⟩
abbrev S1x8x512x128 : Shape := ⟨4, ![1, 8, 512, 128]⟩
abbrev S1x8x512x256 : Shape := ⟨4, ![1, 8, 512, 256]⟩
abbrev S256x128 : Shape := ⟨2, ![256, 128]⟩
abbrev S1x8x2x256x128 : Shape := ⟨5, ![1, 8, 2, 256, 128]⟩
abbrev S1x256x1024 : Shape := ⟨3, ![1, 256, 1024]⟩
abbrev S1x256x256 : Shape := ⟨3, ![1, 256, 256]⟩
abbrev S1x256x64 : Shape := ⟨3, ![1, 256, 64]⟩
abbrev S1x8x256x128 : Shape := ⟨4, ![1, 8, 256, 128]⟩
abbrev S1x8x256x256 : Shape := ⟨4, ![1, 8, 256, 256]⟩
abbrev S256x1 : Shape := ⟨2, ![256, 1]⟩
abbrev S2048x512 : Shape := ⟨2, ![2048, 512]⟩
abbrev S256x512 : Shape := ⟨2, ![256, 512]⟩
abbrev S2048x384 : Shape := ⟨2, ![2048, 384]⟩
abbrev S256x384 : Shape := ⟨2, ![256, 384]⟩
abbrev S1x256x512 : Shape := ⟨3, ![1, 256, 512]⟩
abbrev S1x1x256x128 : Shape := ⟨4, ![1, 1, 256, 128]⟩
abbrev S256x256 : Shape := ⟨2, ![256, 256]⟩
abbrev S256x64 : Shape := ⟨2, ![256, 64]⟩
abbrev S1x1x1x256x128 : Shape := ⟨5, ![1, 1, 1, 256, 128]⟩

abbrev nBuf : Space → Nat
  | .hbm => 70
  | .vmem => 32
  | .smem => 0
  | _ => 0

abbrev bufTy : (tb : Table) → Fin (tcTables nBuf tb) → BufTy
  | .hbm, ⟨0, _⟩ => ⟨S8x64x2048, .f32⟩
  | .hbm, ⟨1, _⟩ => ⟨S1x2048, .f32⟩
  | .hbm, ⟨2, _⟩ => ⟨S1x2048x3904, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S2048x3904, .f32⟩
  | .hbm, ⟨8, _⟩ => ⟨S_, .i32⟩
  | .hbm, ⟨9, _⟩ => ⟨S_, .f32⟩
  | .hbm, ⟨10, _⟩ => ⟨S2048x3968, .f32⟩
  | .hbm, ⟨11, _⟩ => ⟨S2048x3968, .bf16⟩
  | .hbm, ⟨12, _⟩ => ⟨S512x1536, .f32⟩
  | .hbm, ⟨13, _⟩ => ⟨S512x8x192, .f32⟩
  | .hbm, ⟨14, _⟩ => ⟨S512x8x128, .f32⟩
  | .hbm, ⟨15, _⟩ => ⟨S512x1024, .f32⟩
  | .hbm, ⟨16, _⟩ => ⟨S512x8x64, .f32⟩
  | .hbm, ⟨17, _⟩ => ⟨S_, .i32⟩
  | .hbm, ⟨18, _⟩ => ⟨S_, .f32⟩
  | .hbm, ⟨19, _⟩ => ⟨S512x8x128, .f32⟩
  | .hbm, ⟨20, _⟩ => ⟨S512x1024, .f32⟩
  | .hbm, ⟨21, _⟩ => ⟨S512x2048, .f32⟩
  | .hbm, ⟨22, _⟩ => ⟨S512x2048, .bf16⟩
  | .hbm, ⟨23, _⟩ => ⟨S256x2048, .f32⟩
  | .hbm, ⟨24, _⟩ => ⟨S256x2048, .bf16⟩
  | .hbm, ⟨25, _⟩ => ⟨S2048, .f32⟩
  | .hbm, ⟨26, _⟩ => ⟨S1x2048, .f32⟩
  | .hbm, ⟨27, _⟩ => ⟨S512, .f32⟩
  | .hbm, ⟨28, _⟩ => ⟨S1x512, .f32⟩
  | .hbm, ⟨29, _⟩ => ⟨S256, .f32⟩
  | .hbm, ⟨30, _⟩ => ⟨S1x256, .f32⟩
  | .hbm, ⟨31, _⟩ => ⟨S64, .i32⟩
  | .hbm, ⟨32, _⟩ => ⟨S_, .i32⟩
  | .hbm, ⟨33, _⟩ => ⟨S64, .i32⟩
  | .hbm, ⟨34, _⟩ => ⟨S64, .i32⟩
  | .hbm, ⟨35, _⟩ => ⟨S1x64, .i32⟩
  | .hbm, ⟨36, _⟩ => ⟨S8x64, .i32⟩
  | .hbm, ⟨37, _⟩ => ⟨S512, .i32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S512, .f32⟩
  | .hbm, ⟨47, _⟩ => ⟨S512x1, .f32⟩
  | .hbm, ⟨48, _⟩ => ⟨S1x32, .f32⟩
  | .hbm, ⟨49, _⟩ => ⟨S512x32, .f32⟩
  | .hbm, ⟨50, _⟩ => ⟨S512x32, .f32⟩
  | .hbm, ⟨51, _⟩ => ⟨S512x32, .f32⟩
  | .hbm, ⟨52, _⟩ => ⟨S512x32, .f32⟩
  | .hbm, ⟨53, _⟩ => ⟨S512x32, .f32⟩
  | .hbm, ⟨54, _⟩ => ⟨S_, .f32⟩
  | .hbm, ⟨55, _⟩ => ⟨S512x32, .f32⟩
  | .hbm, ⟨56, _⟩ => ⟨S512x128, .f32⟩
  | .hbm, ⟨57, _⟩ => ⟨S512x32, .f32⟩
  | .hbm, ⟨58, _⟩ => ⟨S512x128, .f32⟩
  | .hbm, ⟨59, _⟩ => ⟨S1x512x2048, .f32⟩
  | .hbm, ⟨60, _⟩ => ⟨S1x8x2x512x128, .bf16⟩
  | .hbm, ⟨61, _⟩ => ⟨S1x512x1024, .f32⟩
  | .hbm, ⟨62, _⟩ => ⟨S1x512x1024, .f32⟩
  | .hbm, ⟨63, _⟩ => ⟨S1x512x256, .f32⟩
  | .hbm, ⟨64, _⟩ => ⟨S1x512x64, .f32⟩
  | .hbm, ⟨65, _⟩ => ⟨S1x8x512x128, .bf16⟩
  | .hbm, ⟨66, _⟩ => ⟨S1x8x512x128, .bf16⟩
  | .hbm, ⟨67, _⟩ => ⟨S1x8x512x256, .bf16⟩
  | .hbm, ⟨68, _⟩ => ⟨S1x8x512x256, .bf16⟩
  | .hbm, ⟨69, _⟩ => ⟨S1x8x512x128, .bf16⟩
  | .local _ .vmem, ⟨0, _⟩ => ⟨S1x256x2048, .f32⟩
  | .local _ .vmem, ⟨1, _⟩ => ⟨S1x256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S2048x3968, .bf16⟩
  | .local _ .vmem, ⟨8, _⟩ => ⟨S1x512, .f32⟩
  | .local _ .vmem, ⟨9, _⟩ => ⟨S512x2048, .bf16⟩
  | .local _ .vmem, ⟨10, _⟩ => ⟨S1x256, .f32⟩
  | .local _ .vmem, ⟨11, _⟩ => ⟨S256x2048, .bf16⟩
  | .local _ .vmem, ⟨12, _⟩ => ⟨S1x8x2x256x128, .bf16⟩
  | .local _ .vmem, ⟨13, _⟩ => ⟨S1x8x2x256x128, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x256, .f32⟩
  | .local _ .vmem, ⟨19, _⟩ => ⟨S1x256x256, .f32⟩
  | .local _ .vmem, ⟨20, _⟩ => ⟨S1x256x64, .f32⟩
  | .local _ .vmem, ⟨21, _⟩ => ⟨S1x256x64, .f32⟩
  | .local _ .vmem, ⟨22, _⟩ => ⟨S1x8x256x128, .bf16⟩
  | .local _ .vmem, ⟨23, _⟩ => ⟨S1x8x256x128, .bf16⟩
  | .local _ .vmem, ⟨24, _⟩ => ⟨S1x8x256x128, .bf16⟩
  | .local _ .vmem, ⟨25, _⟩ => ⟨S1x8x256x128, .bf16⟩
  | .local _ .vmem, ⟨26, _⟩ => ⟨S1x8x256x256, .bf16⟩
  | .local _ .vmem, ⟨27, _⟩ => ⟨S1x8x256x256, .bf16⟩
  | .local _ .vmem, ⟨28, _⟩ => ⟨S1x8x256x256, .bf16⟩
  | .local _ .vmem, ⟨29, _⟩ => ⟨S1x8x256x256, .bf16⟩
  | .local _ .vmem, ⟨30, _⟩ => ⟨S1x8x256x128, .bf16⟩
  | .local _ .vmem, ⟨31, _⟩ => ⟨S1x8x256x128, .bf16⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45_0 : Ref sig .tc := ⟨.hbm, 60, rfl⟩
abbrev main_v45_1 : Ref sig .tc := ⟨.hbm, 61, rfl⟩
abbrev main_v45_2 : Ref sig .tc := ⟨.hbm, 62, rfl⟩
abbrev main_v45_3 : Ref sig .tc := ⟨.hbm, 63, rfl⟩
abbrev main_v45_4 : Ref sig .tc := ⟨.hbm, 64, rfl⟩
abbrev main_v45_5 : Ref sig .tc := ⟨.hbm, 65, rfl⟩
abbrev main_v45_6 : Ref sig .tc := ⟨.hbm, 66, rfl⟩
abbrev main_v45_7 : Ref sig .tc := ⟨.hbm, 67, rfl⟩
abbrev main_v45_8 : Ref sig .tc := ⟨.hbm, 68, rfl⟩
abbrev main_v45_9 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x256x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjRefIdeal.lean ====
abbrev S8x64x2048 : Shape := ⟨3, ![8, 64, 2048]⟩
abbrev S1x2048 : Shape := ⟨2, ![1, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S64 : Shape := ⟨1, ![64]⟩
abbrev S_ : Shape := ⟨0, ![]⟩
abbrev S2048 : Shape := ⟨1, ![2048]⟩
abbrev S8x64 : Shape := ⟨2, ![8, 64]⟩
abbrev S8x64x1 : Shape := ⟨3, ![8, 64, 1]⟩
abbrev S1x1x2048 : Shape := ⟨3, ![1, 1, 2048]⟩
abbrev S2048x3904 : Shape := ⟨2, ![2048, 3904]⟩
abbrev S8x64x3904 : Shape := ⟨3, ![8, 64, 3904]⟩
abbrev S8x64x1024 : Shape := ⟨3, ![8, 64, 1024]⟩
abbrev S8x64x8x2x64 : Shape := ⟨5, ![8, 64, 8, 2, 64]⟩
abbrev S8x64x512 : Shape := ⟨3, ![8, 64, 512]⟩
abbrev S512 : Shape := ⟨1, ![512]⟩
abbrev S1x1x512 : Shape := ⟨3, ![1, 1, 512]⟩
abbrev S512x1536 : Shape := ⟨2, ![512, 1536]⟩
abbrev S8x64x1536 : Shape := ⟨3, ![8, 64, 1536]⟩
abbrev S8x64x8x192 : Shape := ⟨4, ![8, 64, 8, 192]⟩
abbrev S8x64x256 : Shape := ⟨3, ![8, 64, 256]⟩
abbrev S256 : Shape := ⟨1, ![256]⟩
abbrev S1x1x256 : Shape := ⟨3, ![1, 1, 256]⟩
abbrev S8x64x64 : Shape := ⟨3, ![8, 64, 64]⟩
abbrev S8x64x1x64 : Shape := ⟨4, ![8, 64, 1, 64]⟩
abbrev S32 : Shape := ⟨1, ![32]⟩
abbrev S64x1 : Shape := ⟨2, ![64, 1]⟩
abbrev S1x32 : Shape := ⟨2, ![1, 32]⟩
abbrev S64x32 : Shape := ⟨2, ![64, 32]⟩
abbrev S1x64x1x32 : Shape := ⟨4, ![1, 64, 1, 32]⟩
abbrev S8x64x1x32 : Shape := ⟨4, ![8, 64, 1, 32]⟩
abbrev S256x2048 : Shape := ⟨2, ![256, 2048]⟩
abbrev S8x64x8x256 : Shape := ⟨4, ![8, 64, 8, 256]⟩
abbrev S8x64x8x64 : Shape := ⟨4, ![8, 64, 8, 64]⟩
abbrev S8x64x8x1x64 : Shape := ⟨5, ![8, 64, 8, 1, 64]⟩
abbrev S8x64x8x128 : Shape := ⟨4, ![8, 64, 8, 128]⟩
abbrev S1x8x64x8x128 : Shape := ⟨5, ![1, 8, 64, 8, 128]⟩
abbrev S2x8x64x8x128 : Shape := ⟨5, ![2, 8, 64, 8, 128]⟩
abbrev S8x64x8x32 : Shape := ⟨4, ![8, 64, 8, 32]⟩
abbrev S2x512x8x128 : Shape := ⟨4, ![2, 512, 8, 128]⟩
abbrev S8x2x512x128 : Shape := ⟨4, ![8, 2, 512, 128]⟩
abbrev S1x8x2x512x128 : Shape := ⟨5, ![1, 8, 2, 512, 128]⟩
abbrev S1x512x1024 : Shape := ⟨3, ![1, 512, 1024]⟩
abbrev S1x512x256 : Shape := ⟨3, ![1, 512, 256]⟩
abbrev S1x512x64 : Shape := ⟨3, ![1, 512, 64]⟩
abbrev S512x8x128 : Shape := ⟨3, ![512, 8, 128]⟩
abbrev S8x512x128 : Shape := ⟨3, ![8, 512, 128]⟩
abbrev S1x8x512x128 : Shape := ⟨4, ![1, 8, 512, 128]⟩
abbrev S512x8x256 : Shape := ⟨3, ![512, 8, 256]⟩
abbrev S8x512x256 : Shape := ⟨3, ![8, 512, 256]⟩
abbrev S1x8x512x256 : Shape := ⟨4, ![1, 8, 512, 256]⟩

abbrev nBuf : Space → Nat
  | .hbm => 195
  | .vmem => 0
  | .smem => 0
  | _ => 0

abbrev hbmTy0_0 (i : Nat) : BufTy := match i % 128 with
  | 0 => ⟨S8x64x2048, .f32⟩
  | 1 => ⟨S1x2048, .f32⟩
  | 2 => ⟨S1x2048x3904, .f32⟩
  | 3 => ⟨S1x512, .f32⟩
  | 4 => ⟨S1x512x1536, .f32⟩
  | 5 => ⟨S1x256, .f32⟩
  | 6 => ⟨S1x256x2048, .f32⟩
  | 7 => ⟨S64, .i32⟩
  | 8 => ⟨S_, .i32⟩
  | 9 => ⟨S64, .i32⟩
  | 10 => ⟨S64, .i32⟩
  | 11 => ⟨S2048, .f32⟩
  | 12 => ⟨S8x64x2048, .f32⟩
  | 13 => ⟨S_, .f32⟩
  | 14 => ⟨S8x64, .f32⟩
  | 15 => ⟨S8x64x1, .f32⟩
  | 16 => ⟨S_, .f32⟩
  | 17 => ⟨S8x64x1, .f32⟩
  | 18 => ⟨S8x64x1, .f32⟩
  | 19 => ⟨S_, .f32⟩
  | 20 => ⟨S8x64x1, .f32⟩
  | 21 => ⟨S8x64x1, .f32⟩
  | 22 => ⟨S8x64x1, .f32⟩
  | 23 => ⟨S8x64x2048, .f32⟩
  | 24 => ⟨S8x64x2048, .f32⟩
  | 25 => ⟨S1x1x2048, .f32⟩
  | 26 => ⟨S8x64x2048, .f32⟩
  | 27 => ⟨S8x64x2048, .f32⟩
  | 28 => ⟨S2048x3904, .f32⟩
  | 29 => ⟨S8x64x3904, .f32⟩
  | 30 => ⟨S8x64x1024, .f32⟩
  | 31 => ⟨S8x64x8x2x64, .f32⟩
  | 32 => ⟨S8x64x1024, .f32⟩
  | 33 => ⟨S8x64x1024, .f32⟩
  | 34 => ⟨S8x64x512, .f32⟩
  | 35 => ⟨S512, .f32⟩
  | 36 => ⟨S8x64x512, .f32⟩
  | 37 => ⟨S_, .f32⟩
  | 38 => ⟨S8x64, .f32⟩
  | 39 => ⟨S8x64x1, .f32⟩
  | 40 => ⟨S_, .f32⟩
  | 41 => ⟨S8x64x1, .f32⟩
  | 42 => ⟨S8x64x1, .f32⟩
  | 43 => ⟨S_, .f32⟩
  | 44 => ⟨S8x64x1, .f32⟩
  | 45 => ⟨S8x64x1, .f32⟩
  | 46 => ⟨S8x64x1, .f32⟩
  | 47 => ⟨S8x64x512, .f32⟩
  | 48 => ⟨S8x64x512, .f32⟩
  | 49 => ⟨S1x1x512, .f32⟩
  | 50 => ⟨S8x64x512, .f32⟩
  | 51 => ⟨S8x64x512, .f32⟩
  | 52 => ⟨S512x1536, .f32⟩
  | 53 => ⟨S8x64x1536, .f32⟩
  | 54 => ⟨S8x64x8x192, .f32⟩
  | 55 => ⟨S8x64x256, .f32⟩
  | 56 => ⟨S256, .f32⟩
  | 57 => ⟨S8x64x256, .f32⟩
  | 58 => ⟨S_, .f32⟩
  | 59 => ⟨S8x64, .f32⟩
  | 60 => ⟨S8x64x1, .f32⟩
  | 61 => ⟨S_, .f32⟩
  | 62 => ⟨S8x64x1, .f32⟩
  | 63 => ⟨S8x64x1, .f32⟩
  | 64 => ⟨S_, .f32⟩
  | 65 => ⟨S8x64x1, .f32⟩
  | 66 => ⟨S8x64x1, .f32⟩
  | 67 => ⟨S8x64x1, .f32⟩
  | 68 => ⟨S8x64x256, .f32⟩
  | 69 => ⟨S8x64x256, .f32⟩
  | 70 => ⟨S1x1x256, .f32⟩
  | 71 => ⟨S8x64x256, .f32⟩
  | 72 => ⟨S8x64x256, .f32⟩
  | 73 => ⟨S8x64x64, .f32⟩
  | 74 => ⟨S8x64x1x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S64, .f32⟩
  | 84 => ⟨S64x1, .f32⟩
  | 85 => ⟨S1x32, .f32⟩
  | 86 => ⟨S64x32, .f32⟩
  | 87 => ⟨S64x32, .f32⟩
  | 88 => ⟨S64x32, .f32⟩
  | 89 => ⟨S64x32, .f32⟩
  | 90 => ⟨S1x64x1x32, .f32⟩
  | 91 => ⟨S64x32, .f32⟩
  | 92 => ⟨S1x64x1x32, .f32⟩
  | 93 => ⟨S8x64x1x32, .f32⟩
  | 94 => ⟨S8x64x1x32, .f32⟩
  | 95 => ⟨S8x64x1x32, .f32⟩
  | 96 => ⟨S8x64x1x32, .f32⟩
  | 97 => ⟨S8x64x1x32, .f32⟩
  | 98 => ⟨S8x64x1x32, .f32⟩
  | 99 => ⟨S8x64x1x32, .f32⟩
  | 100 => ⟨S8x64x1x32, .f32⟩
  | 101 => ⟨S8x64x1x32, .f32⟩
  | 102 => ⟨S8x64x1x32, .f32⟩
  | 103 => ⟨S8x64x1x32, .f32⟩
  | 104 => ⟨S8x64x1x32, .f32⟩
  | 105 => ⟨S8x64x1x64, .f32⟩
  | 106 => ⟨S256x2048, .f32⟩
  | 107 => ⟨S8x64x2048, .f32⟩
  | 108 => ⟨S8x64x8x256, .f32⟩
  | 109 => ⟨S_, .f32⟩
  | 110 => ⟨S8x64x8x64, .f32⟩
  | 111 => ⟨S_, .f32⟩
  | 112 => ⟨S8x64x8x2x64, .f32⟩
  | 113 => ⟨S8x64x8x2x64, .f32⟩
  | 114 => ⟨S8x64x8x1x64, .f32⟩
  | 115 => ⟨S8x64x8x64, .f32⟩
  | 116 => ⟨S8x64x8x128, .f32⟩
  | 117 => ⟨S8x64x8x1x64, .f32⟩
  | 118 => ⟨S8x64x8x64, .f32⟩
  | 119 => ⟨S8x64x8x128, .f32⟩
  | 120 => ⟨S1x8x64x8x128, .f32⟩
  | 121 => ⟨S1x8x64x8x128, .f32⟩
  | 122 => ⟨S2x8x64x8x128, .f32⟩
  | 123 => ⟨S8x64x8x128, .f32⟩
  | 124 => ⟨S8x64x8x64, .f32⟩
  | 125 => ⟨S32, .f32⟩
  | 126 => ⟨S32, .f32⟩
  | 127 => ⟨S_, .f32⟩
  | _ => ⟨S8x64x2048, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S64, .f32⟩
  | 6 => ⟨S64x1, .f32⟩
  | 7 => ⟨S1x32, .f32⟩
  | 8 => ⟨S64x32, .f32⟩
  | 9 => ⟨S64x32, .f32⟩
  | 10 => ⟨S64x32, .f32⟩
  | 11 => ⟨S64x32, .f32⟩
  | 12 => ⟨S1x64x1x32, .f32⟩
  | 13 => ⟨S64x32, .f32⟩
  | 14 => ⟨S1x64x1x32, .f32⟩
  | 15 => ⟨S8x64x8x32, .f32⟩
  | 16 => ⟨S8x64x8x32, .f32⟩
  | 17 => ⟨S8x64x8x32, .f32⟩
  | 18 => ⟨S8x64x8x32, .f32⟩
  | 19 => ⟨S8x64x8x32, .f32⟩
  | 20 => ⟨S8x64x8x32, .f32⟩
  | 21 => ⟨S8x64x8x32, .f32⟩
  | 22 => ⟨S8x64x8x32, .f32⟩
  | 23 => ⟨S8x64x8x32, .f32⟩
  | 24 => ⟨S8x64x8x32, .f32⟩
  | 25 => ⟨S8x64x8x32, .f32⟩
  | 26 => ⟨S8x64x8x32, .f32⟩
  | 27 => ⟨S8x64x8x64, .f32⟩
  | 28 => ⟨S8x64x8x256, .f32⟩
  | 29 => ⟨S_, .f32⟩
  | 30 => ⟨S8x64x8x256, .f32⟩
  | 31 => ⟨S8x64x8x256, .f32⟩
  | 32 => ⟨S8x64x8x128, .f32⟩
  | 33 => ⟨S8x64x8x64, .f32⟩
  | 34 => ⟨S8x64x8x256, .f32⟩
  | 35 => ⟨S2x512x8x128, .f32⟩
  | 36 => ⟨S8x2x512x128, .f32⟩
  | 37 => ⟨S1x8x2x512x128, .f32⟩
  | 38 => ⟨S1x8x2x512x128, .bf16⟩
  | 39 => ⟨S1x512x1024, .f32⟩
  | 40 => ⟨S1x512x1024, .f32⟩
  | 41 => ⟨S1x512x256, .f32⟩
  | 42 => ⟨S8x64x64, .f32⟩
  | 43 => ⟨S1x512x64, .f32⟩
  | 44 => ⟨S8x64x8x128, .f32⟩
  | 45 => ⟨S512x8x128, .f32⟩
  | 46 => ⟨S8x512x128, .f32⟩
  | 47 => ⟨S1x8x512x128, .f32⟩
  | 48 => ⟨S1x8x512x128, .bf16⟩
  | 49 => ⟨S8x64x8x128, .f32⟩
  | 50 => ⟨S512x8x128, .f32⟩
  | 51 => ⟨S8x512x128, .f32⟩
  | 52 => ⟨S1x8x512x128, .f32⟩
  | 53 => ⟨S1x8x512x128, .bf16⟩
  | 54 => ⟨S512x8x256, .f32⟩
  | 55 => ⟨S8x512x256, .f32⟩
  | 56 => ⟨S1x8x512x256, .f32⟩
  | 57 => ⟨S1x8x512x256, .bf16⟩
  | 58 => ⟨S512x8x256, .f32⟩
  | 59 => ⟨S8x512x256, .f32⟩
  | 60 => ⟨S1x8x512x256, .f32⟩
  | 61 => ⟨S1x8x512x256, .bf16⟩
  | 62 => ⟨S8x64x8x128, .f32⟩
  | 63 => ⟨S512x8x128, .f32⟩
  | 64 => ⟨S8x512x128, .f32⟩
  | 65 => ⟨S1x8x512x128, .f32⟩
  | 66 => ⟨S1x8x512x128, .bf16⟩
  | _ => ⟨S8x64x2048, .f32⟩

abbrev hbmTy (i : Nat) : BufTy := match i / 128 with
  | 0 => hbmTy0_0 i
  | 1 => hbmTy0_1 i
  | _ => ⟨S8x64x2048, .f32⟩

abbrev bufTy : (tb : Table) → Fin (tcTables nBuf tb) → BufTy
  | .hbm, ⟨i, _⟩ => hbmTy i
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_cst_11 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_14 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩

abbrev nD : Nat := 1
abbrev τ : Topo := Topo.v7x

variable {F : FTy → Type} [FloatOps F]
-- ==== OutFfnS.lean ====
abbrev S8x64x2048 : Shape := ⟨3, ![8, 64, 2048]⟩
abbrev S8x64x1024 : Shape := ⟨3, ![8, 64, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S2048x5632 : Shape := ⟨2, ![2048, 5632]⟩
abbrev S5632x2048 : Shape := ⟨2, ![5632, 2048]⟩
abbrev S512x2048 : Shape := ⟨2, ![512, 2048]⟩
abbrev S512x1024 : Shape := ⟨2, ![512, 1024]⟩
abbrev S2048x512 : Shape := ⟨2, ![2048, 512]⟩
abbrev S1024x2048 : Shape := ⟨2, ![1024, 2048]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 15
  | .smem => 0
  | _ => 0

abbrev bufTy : (tb : Table) → Fin (tcTables nBuf tb) → BufTy
  | .hbm, ⟨0, _⟩ => ⟨S8x64x2048, .f32⟩
  | .hbm, ⟨1, _⟩ => ⟨S8x64x1024, .bf16⟩
  | .hbm, ⟨2, _⟩ => ⟨S8x64x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S2048x2048, .f32⟩
  | .hbm, ⟨10, _⟩ => ⟨S2048x2048, .bf16⟩
  | .hbm, ⟨11, _⟩ => ⟨S2048x5632, .f32⟩
  | .hbm, ⟨12, _⟩ => ⟨S2048x5632, .bf16⟩
  | .hbm, ⟨13, _⟩ => ⟨S2048x5632, .f32⟩
  | .hbm, ⟨14, _⟩ => ⟨S2048x5632, .bf16⟩
  | .hbm, ⟨15, _⟩ => ⟨S5632x2048, .f32⟩
  | .hbm, ⟨16, _⟩ => ⟨S5632x2048, .bf16⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S512x2048, .f32⟩
  | .hbm, ⟨21, _⟩ => ⟨S512x1024, .bf16⟩
  | .hbm, ⟨22, _⟩ => ⟨S512x1024, .bf16⟩
  | .hbm, ⟨23, _⟩ => ⟨S512x2048, .f32⟩
  | .local _ .vmem, ⟨0, _⟩ => ⟨S512x2048, .f32⟩
  | .local _ .vmem, ⟨1, _⟩ => ⟨S512x1024, .bf16⟩
  | .local _ .vmem, ⟨2, _⟩ => ⟨S512x1024, .bf16⟩
  | .local _ .vmem, ⟨3, _⟩ => ⟨S2048x2048, .bf16⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S8x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== OutFfnSRefIdeal.lean ====
abbrev S8x64x2048 : Shape := ⟨3, ![8, 64, 2048]⟩
abbrev S8x64x1024 : Shape := ⟨3, ![8, 64, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S_ : Shape := ⟨0, ![]⟩
abbrev S8x64 : Shape := ⟨2, ![8, 64]⟩
abbrev S8x64x1 : Shape := ⟨3, ![8, 64, 1]⟩
abbrev S1x1x2048 : Shape := ⟨3, ![1, 1, 2048]⟩
abbrev S2048x5632 : Shape := ⟨2, ![2048, 5632]⟩
abbrev S8x64x5632 : Shape := ⟨3, ![8, 64, 5632]⟩
abbrev S5632x2048 : Shape := ⟨2, ![5632, 2048]⟩
abbrev S512x2048 : Shape := ⟨2, ![512, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x64x2048, .f32⟩
  | .hbm, ⟨1, _⟩ => ⟨S8x64x1024, .bf16⟩
  | .hbm, ⟨2, _⟩ => ⟨S8x64x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S8x64x1024, .f32⟩
  | .hbm, ⟨10, _⟩ => ⟨S8x64x1024, .f32⟩
  | .hbm, ⟨11, _⟩ => ⟨S8x64x2048, .f32⟩
  | .hbm, ⟨12, _⟩ => ⟨S2048x2048, .f32⟩
  | .hbm, ⟨13, _⟩ => ⟨S8x64x2048, .f32⟩
  | .hbm, ⟨14, _⟩ => ⟨S8x64x2048, .f32⟩
  | .hbm, ⟨15, _⟩ => ⟨S2048, .f32⟩
  | .hbm, ⟨16, _⟩ => ⟨S8x64x2048, .f32⟩
  | .hbm, ⟨17, _⟩ => ⟨S_, .f32⟩
  | .hbm, ⟨18, _⟩ => ⟨S8x64, .f32⟩
  | .hbm, ⟨19, _⟩ => ⟨S8x64x1, .f32⟩
  | .hbm, ⟨20, _⟩ => ⟨S_, .f32⟩
  | .hbm, ⟨21, _⟩ => ⟨S8x64x1, .f32⟩
  | .hbm, ⟨22, _⟩ => ⟨S8x64x1, .f32⟩
  | .hbm, ⟨23, _⟩ => ⟨S_, .f32⟩
  | .hbm, ⟨24, _⟩ => ⟨S8x64x1, .f32⟩
  | .hbm, ⟨25, _⟩ => ⟨S8x64x1, .f32⟩
  | .hbm, ⟨26, _⟩ => ⟨S8x64x1, .f32⟩
  | .hbm, ⟨27, _⟩ => ⟨S8x64x2048, .f32⟩
  | .hbm, ⟨28, _⟩ => ⟨S8x64x2048, .f32⟩
  | .hbm, ⟨29, _⟩ => ⟨S1x1x2048, .f32⟩
  | .hbm, ⟨30, _⟩ => ⟨S8x64x2048, .f32⟩
  | .hbm, ⟨31, _⟩ => ⟨S8x64x2048, .f32⟩
  | .hbm, ⟨32, _⟩ => ⟨S2048x5632, .f32⟩
  | .hbm, ⟨33, _⟩ => ⟨S8x64x5632, .f32⟩
  | .hbm, ⟨34, _⟩ => ⟨S8x64x5632, .f32⟩
  | .hbm, ⟨35, _⟩ => ⟨S8x64x5632, .f32⟩
  | .hbm, ⟨36, _⟩ => ⟨S_, .f32⟩
  | .hbm, ⟨37, _⟩ => ⟨S8x64x5632, .f32⟩
  | .hbm, ⟨38, _⟩ => ⟨S8x64x5632, .f32⟩
  | .hbm, ⟨39, _⟩ => ⟨S_, .f32⟩
  | .hbm, ⟨40, _⟩ => ⟨S8x64x5632, .f32⟩
  | .hbm, ⟨41, _⟩ => ⟨S8x64x5632, .f32⟩
  | .hbm, ⟨42, _⟩ => ⟨S8x64x5632, .f32⟩
  | .hbm, ⟨43, _⟩ => ⟨S2048x5632, .f32⟩
  | .hbm, ⟨44, _⟩ => ⟨S8x64x5632, .f32⟩
  | .hbm, ⟨45, _⟩ => ⟨S8x64x5632, .f32⟩
  | .hbm, ⟨46, _⟩ => ⟨S5632x2048, .f32⟩
  | .hbm, ⟨47, _⟩ => ⟨S8x64x2048, .f32⟩
  | .hbm, ⟨48, _⟩ => ⟨S8x64x2048, .f32⟩
  | .hbm, ⟨49, _⟩ => ⟨S8x64x2048, .f32⟩
  | .hbm, ⟨50, _⟩ => ⟨S_, .f32⟩
  | .hbm, ⟨51, _⟩ => ⟨S8x64, .f32⟩
  | .hbm, ⟨52, _⟩ => ⟨S8x64x1, .f32⟩
  | .hbm, ⟨53, _⟩ => ⟨S_, .f32⟩
  | .hbm, ⟨54, _⟩ => ⟨S8x64x1, .f32⟩
  | .hbm, ⟨55, _⟩ => ⟨S8x64x1, .f32⟩
  | .hbm, ⟨56, _⟩ => ⟨S_, .f32⟩
  | .hbm, ⟨57, _⟩ => ⟨S8x64x1, .f32⟩
  | .hbm, ⟨58, _⟩ => ⟨S8x64x1, .f32⟩
  | .hbm, ⟨59, _⟩ => ⟨S8x64x1, .f32⟩
  | .hbm, ⟨60, _⟩ => ⟨S8x64x2048, .f32⟩
  | .hbm, ⟨61, _⟩ => ⟨S8x64x2048, .f32⟩
  | .hbm, ⟨62, _⟩ => ⟨S1x1x2048, .f32⟩
  | .hbm, ⟨63, _⟩ => ⟨S8x64x2048, .f32⟩
  | .hbm, ⟨64, _⟩ => ⟨S8x64x2048, .f32⟩
  | .hbm, ⟨65, _⟩ => ⟨S512x2048, .f32⟩
  | _, _ => ⟨S8x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== ProjP.lean ====
abbrev S4x4096x2048 : Shape := ⟨3, ![4, 4096, 2048]⟩
abbrev S1x2048 : Shape := ⟨2, ![1, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S2048x3904 : Shape := ⟨2, ![2048, 3904]⟩
abbrev S_ : Shape := ⟨0, ![]⟩
abbrev S2048x3968 : Shape := ⟨2, ![2048, 3968]⟩
abbrev S512x1536 : Shape := ⟨2, ![512, 1536]⟩
abbrev S512x8x192 : Shape := ⟨3, ![512, 8, 192]⟩
abbrev S512x8x128 : Shape := ⟨3, ![512, 8, 128]⟩
abbrev S512x1024 : Shape := ⟨2, ![512, 1024]⟩
abbrev S512x8x64 : Shape := ⟨3, ![512, 8, 64]⟩
abbrev S512x2048 : Shape := ⟨2, ![512, 2048]⟩
abbrev S256x2048 : Shape := ⟨2, ![256, 2048]⟩
abbrev S2048 : Shape := ⟨1, ![2048]⟩
abbrev S512 : Shape := ⟨1, ![512]⟩
abbrev S256 : Shape := ⟨1, ![256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S4x8x2x4096x128 : Shape := ⟨5, ![4, 8, 2, 4096, 128]⟩
abbrev S4x4096x1024 : Shape := ⟨3, ![4, 4096, 1024]⟩
abbrev S4x4096x256 : Shape := ⟨3, ![4, 4096, 256]⟩
abbrev S4x4096x64 : Shape := ⟨3, ![4, 4096, 64]⟩
abbrev S4x8x4096x128 : Shape := ⟨4, ![4, 8, 4096, 128]⟩
abbrev S4x8x16x144x256 : Shape := ⟨5, ![4, 8, 16, 144, 256]⟩
abbrev S4x8x4096x256 : Shape := ⟨4, ![4, 8, 4096, 256]⟩
abbrev S256x128 : Shape := ⟨2, ![256, 128]⟩
abbrev S1x8x2x256x128 : Shape := ⟨5, ![1, 8, 2, 256, 128]⟩
abbrev S1x256x1024 : Shape := ⟨3, ![1, 256, 1024]⟩
abbrev S1x256x256 : Shape := ⟨3, ![1, 256, 256]⟩
abbrev S1x256x64 : Shape := ⟨3, ![1, 256, 64]⟩
abbrev S1x8x256x128 : Shape := ⟨4, ![1, 8, 256, 128]⟩
abbrev S1x8x1x144x256 : Shape := ⟨5, ![1, 8, 1, 144, 256]⟩
abbrev S1x8x256x256 : Shape := ⟨4, ![1, 8, 256, 256]⟩
abbrev S256x1 : Shape := ⟨2, ![256, 1]⟩
abbrev S2048x512 : Shape := ⟨2, ![2048, 512]⟩
abbrev S256x512 : Shape := ⟨2, ![256, 512]⟩
abbrev S2048x384 : Shape := ⟨2, ![2048, 384]⟩
abbrev S256x384 : Shape := ⟨2, ![256, 384]⟩
abbrev S1x256x512 : Shape := ⟨3, ![1, 256, 512]⟩
abbrev S128x256 : Shape := ⟨2, ![128, 256]⟩
abbrev S16x256 : Shape := ⟨2, ![16, 256]⟩
abbrev S144x256 : Shape := ⟨2, ![144, 256]⟩
abbrev S1x1x1x144x256 : Shape := ⟨5, ![1, 1, 1, 144, 256]⟩
abbrev S256x256 : Shape := ⟨2, ![256, 256]⟩
abbrev S256x64 : Shape := ⟨2, ![256, 64]⟩
abbrev S1x1x256x128 : Shape := ⟨4, ![1, 1, 256, 128]⟩
abbrev S1x1x1x256x128 : Shape := ⟨5, ![1, 1, 1, 256, 128]⟩

abbrev nBuf : Space → Nat
  | .hbm => 66
  | .vmem => 32
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x3904, .f32⟩
  | .hbm, ⟨3, _⟩ => ⟨S1x512, .f32⟩
  | .hbm, ⟨4, _⟩ => ⟨S1x512x1536, .f32⟩
  | .hbm, ⟨5, _⟩ => ⟨S1x256, .f32⟩
  | .hbm, ⟨6, _⟩ => ⟨S1x256x2048, .f32⟩
  | .hbm, ⟨7, _⟩ => ⟨S2048x3904, .f32⟩
  | .hbm, ⟨8, _⟩ => ⟨S_, .i32⟩
  | .hbm, ⟨9, _⟩ => ⟨S_, .f32⟩
  | .hbm, ⟨10, _⟩ => ⟨S2048x3968, .f32⟩
  | .hbm, ⟨11, _⟩ => ⟨S2048x3968, .bf16⟩
  | .hbm, ⟨12, _⟩ => ⟨S512x1536, .f32⟩
  | .hbm, ⟨13, _⟩ => ⟨S512x8x192, .f32⟩
  | .hbm, ⟨14, _⟩ => ⟨S512x8x128, .f32⟩
  | .hbm, ⟨15, _⟩ => ⟨S512x1024, .f32⟩
  | .hbm, ⟨16, _⟩ => ⟨S512x8x64, .f32⟩
  | .hbm, ⟨17, _⟩ => ⟨S_, .i32⟩
  | .hbm, ⟨18, _⟩ => ⟨S_, .f32⟩
  | .hbm, ⟨19, _⟩ => ⟨S512x8x128, .f32⟩
  | .hbm, ⟨20, _⟩ => ⟨S512x1024, .f32⟩
  | .hbm, ⟨21, _⟩ => ⟨S512x2048, .f32⟩
  | .hbm, ⟨22, _⟩ => ⟨S512x2048, .bf16⟩
  | .hbm, ⟨23, _⟩ => ⟨S256x2048, .f32⟩
  | .hbm, ⟨24, _⟩ => ⟨S256x2048, .bf16⟩
  | .hbm, ⟨25, _⟩ => ⟨S2048, .f32⟩
  | .hbm, ⟨26, _⟩ => ⟨S1x2048, .f32⟩
  | .hbm, ⟨27, _⟩ => ⟨S512, .f32⟩
  | .hbm, ⟨28, _⟩ => ⟨S1x512, .f32⟩
  | .hbm, ⟨29, _⟩ => ⟨S256, .f32⟩
  | .hbm, ⟨30, _⟩ => ⟨S1x256, .f32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S4096, .f32⟩
  | .hbm, ⟨44, _⟩ => ⟨S4096x1, .f32⟩
  | .hbm, ⟨45, _⟩ => ⟨S1x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x128, .f32⟩
  | .hbm, ⟨54, _⟩ => ⟨S4096x32, .f32⟩
  | .hbm, ⟨55, _⟩ => ⟨S4096x128, .f32⟩
  | .hbm, ⟨56, _⟩ => ⟨S4x8x2x4096x128, .bf16⟩
  | .hbm, ⟨57, _⟩ => ⟨S4x4096x1024, .f32⟩
  | .hbm, ⟨58, _⟩ => ⟨S4x4096x1024, .f32⟩
  | .hbm, ⟨59, _⟩ => ⟨S4x4096x256, .f32⟩
  | .hbm, ⟨60, _⟩ => ⟨S4x4096x64, .f32⟩
  | .hbm, ⟨61, _⟩ => ⟨S4x8x4096x128, .bf16⟩
  | .hbm, ⟨62, _⟩ => ⟨S4x8x16x144x256, .bf16⟩
  | .hbm, ⟨63, _⟩ => ⟨S4x8x4096x256, .bf16⟩
  | .hbm, ⟨64, _⟩ => ⟨S4x8x4096x256, .bf16⟩
  | .hbm, ⟨65, _⟩ => ⟨S4x8x16x144x256, .bf16⟩
  | .local _ .vmem, ⟨0, _⟩ => ⟨S1x256x2048, .f32⟩
  | .local _ .vmem, ⟨1, _⟩ => ⟨S1x256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x2048, .f32⟩
  | .local _ .vmem, ⟨7, _⟩ => ⟨S2048x3968, .bf16⟩
  | .local _ .vmem, ⟨8, _⟩ => ⟨S1x512, .f32⟩
  | .local _ .vmem, ⟨9, _⟩ => ⟨S512x2048, .bf16⟩
  | .local _ .vmem, ⟨10, _⟩ => ⟨S1x256, .f32⟩
  | .local _ .vmem, ⟨11, _⟩ => ⟨S256x2048, .bf16⟩
  | .local _ .vmem, ⟨12, _⟩ => ⟨S1x8x2x256x128, .bf16⟩
  | .local _ .vmem, ⟨13, _⟩ => ⟨S1x8x2x256x128, .bf16⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x256, .f32⟩
  | .local _ .vmem, ⟨19, _⟩ => ⟨S1x256x256, .f32⟩
  | .local _ .vmem, ⟨20, _⟩ => ⟨S1x256x64, .f32⟩
  | .local _ .vmem, ⟨21, _⟩ => ⟨S1x256x64, .f32⟩
  | .local _ .vmem, ⟨22, _⟩ => ⟨S1x8x256x128, .bf16⟩
  | .local _ .vmem, ⟨23, _⟩ => ⟨S1x8x256x128, .bf16⟩
  | .local _ .vmem, ⟨24, _⟩ => ⟨S1x8x1x144x256, .bf16⟩
  | .local _ .vmem, ⟨25, _⟩ => ⟨S1x8x1x144x256, .bf16⟩
  | .local _ .vmem, ⟨26, _⟩ => ⟨S1x8x256x256, .bf16⟩
  | .local _ .vmem, ⟨27, _⟩ => ⟨S1x8x256x256, .bf16⟩
  | .local _ .vmem, ⟨28, _⟩ => ⟨S1x8x256x256, .bf16⟩
  | .local _ .vmem, ⟨29, _⟩ => ⟨S1x8x256x256, .bf16⟩
  | .local _ .vmem, ⟨30, _⟩ => ⟨S1x8x1x144x256, .bf16⟩
  | .local _ .vmem, ⟨31, _⟩ => ⟨S1x8x1x144x256, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev main_v41_5 : Ref sig .tc := ⟨.hbm, 61, rfl⟩
abbrev main_v41_6 : Ref sig .tc := ⟨.hbm, 62, rfl⟩
abbrev main_v41_7 : Ref sig .tc := ⟨.hbm, 63, rfl⟩
abbrev main_v41_8 : Ref sig .tc := ⟨.hbm, 64, rfl⟩
abbrev main_v41_9 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x1x144x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x1x144x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ProjPRefIdeal.lean ====
abbrev S4x4096x2048 : Shape := ⟨3, ![4, 4096, 2048]⟩
abbrev S1x2048 : Shape := ⟨2, ![1, 2048]⟩
abbrev S1x2048x3904 : Shape := ⟨3, ![1, 2048, 3904]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S4096 : Shape := ⟨1, ![4096]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x3904 : Shape := ⟨2, ![2048, 3904]⟩
abbrev S4x4096x3904 : Shape := ⟨3, ![4, 4096, 3904]⟩
abbrev S4x4096x1024 : Shape := ⟨3, ![4, 4096, 1024]⟩
abbrev S4x4096x8x2x64 : Shape := ⟨5, ![4, 4096, 8, 2, 64]⟩
abbrev S4x4096x512 : Shape := ⟨3, ![4, 4096, 512]⟩
abbrev S512 : Shape := ⟨1, ![512]⟩
abbrev S1x1x512 : Shape := ⟨3, ![1, 1, 512]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S4x4096x256 : Shape := ⟨3, ![4, 4096, 256]⟩
abbrev S256 : Shape := ⟨1, ![256]⟩
abbrev S1x1x256 : Shape := ⟨3, ![1, 1, 256]⟩
abbrev S4x4096x64 : Shape := ⟨3, ![4, 4096, 64]⟩
abbrev S4x4096x1x64 : Shape := ⟨4, ![4, 4096, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x1x32 : Shape := ⟨4, ![4, 4096, 1, 32]⟩
abbrev S256x2048 : Shape := ⟨2, ![256, 2048]⟩
abbrev S4x4096x8x256 : Shape := ⟨4, ![4, 4096, 8, 256]⟩
abbrev S4x4096x8x64 : Shape := ⟨4, ![4, 4096, 8, 64]⟩
abbrev S4x4096x8x1x64 : Shape := ⟨5, ![4, 4096, 8, 1, 64]⟩
abbrev S4x4096x8x128 : Shape := ⟨4, ![4, 4096, 8, 128]⟩
abbrev S1x4x4096x8x128 : Shape := ⟨5, ![1, 4, 4096, 8, 128]⟩
abbrev S2x4x4096x8x128 : Shape := ⟨5, ![2, 4, 4096, 8, 128]⟩
abbrev S4x4096x8x32 : Shape := ⟨4, ![4, 4096, 8, 32]⟩
abbrev S4x8x2x4096x128 : Shape := ⟨5, ![4, 8, 2, 4096, 128]⟩
abbrev S4x8x4096x128 : Shape := ⟨4, ![4, 8, 4096, 128]⟩
abbrev S4x8x4096x256 : Shape := ⟨4, ![4, 8, 4096, 256]⟩

abbrev nBuf : Space → Nat
  | .hbm => 173
  | .vmem => 0
  | .smem => 0
  | _ => 0

abbrev hbmTy0_0 (i : Nat) : BufTy := match i % 128 with
  | 0 => ⟨S4x4096x2048, .f32⟩
  | 1 => ⟨S1x2048, .f32⟩
  | 2 => ⟨S1x2048x3904, .f32⟩
  | 3 => ⟨S1x512, .f32⟩
  | 4 => ⟨S1x512x1536, .f32⟩
  | 5 => ⟨S1x256, .f32⟩
  | 6 => ⟨S1x256x2048, .f32⟩
  | 7 => ⟨S4096, .i32⟩
  | 8 => ⟨S_, .i32⟩
  | 9 => ⟨S4096, .i32⟩
  | 10 => ⟨S4096, .i32⟩
  | 11 => ⟨S2048, .f32⟩
  | 12 => ⟨S4x4096x2048, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x2048, .f32⟩
  | 24 => ⟨S4x4096x2048, .f32⟩
  | 25 => ⟨S1x1x2048, .f32⟩
  | 26 => ⟨S4x4096x2048, .f32⟩
  | 27 => ⟨S4x4096x2048, .f32⟩
  | 28 => ⟨S2048x3904, .f32⟩
  | 29 => ⟨S4x4096x3904, .f32⟩
  | 30 => ⟨S4x4096x1024, .f32⟩
  | 31 => ⟨S4x4096x8x2x64, .f32⟩
  | 32 => ⟨S4x4096x1024, .f32⟩
  | 33 => ⟨S4x4096x1024, .f32⟩
  | 34 => ⟨S4x4096x512, .f32⟩
  | 35 => ⟨S512, .f32⟩
  | 36 => ⟨S4x4096x512, .f32⟩
  | 37 => ⟨S_, .f32⟩
  | 38 => ⟨S4x4096, .f32⟩
  | 39 => ⟨S4x4096x1, .f32⟩
  | 40 => ⟨S_, .f32⟩
  | 41 => ⟨S4x4096x1, .f32⟩
  | 42 => ⟨S4x4096x1, .f32⟩
  | 43 => ⟨S_, .f32⟩
  | 44 => ⟨S4x4096x1, .f32⟩
  | 45 => ⟨S4x4096x1, .f32⟩
  | 46 => ⟨S4x4096x1, .f32⟩
  | 47 => ⟨S4x4096x512, .f32⟩
  | 48 => ⟨S4x4096x512, .f32⟩
  | 49 => ⟨S1x1x512, .f32⟩
  | 50 => ⟨S4x4096x512, .f32⟩
  | 51 => ⟨S4x4096x512, .f32⟩
  | 52 => ⟨S512x1536, .f32⟩
  | 53 => ⟨S4x4096x1536, .f32⟩
  | 54 => ⟨S4x4096x8x192, .f32⟩
  | 55 => ⟨S4x4096x256, .f32⟩
  | 56 => ⟨S256, .f32⟩
  | 57 => ⟨S4x4096x256, .f32⟩
  | 58 => ⟨S_, .f32⟩
  | 59 => ⟨S4x4096, .f32⟩
  | 60 => ⟨S4x4096x1, .f32⟩
  | 61 => ⟨S_, .f32⟩
  | 62 => ⟨S4x4096x1, .f32⟩
  | 63 => ⟨S4x4096x1, .f32⟩
  | 64 => ⟨S_, .f32⟩
  | 65 => ⟨S4x4096x1, .f32⟩
  | 66 => ⟨S4x4096x1, .f32⟩
  | 67 => ⟨S4x4096x1, .f32⟩
  | 68 => ⟨S4x4096x256, .f32⟩
  | 69 => ⟨S4x4096x256, .f32⟩
  | 70 => ⟨S1x1x256, .f32⟩
  | 71 => ⟨S4x4096x256, .f32⟩
  | 72 => ⟨S4x4096x256, .f32⟩
  | 73 => ⟨S4x4096x64, .f32⟩
  | 74 => ⟨S4x4096x1x64, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S4096, .f32⟩
  | 84 => ⟨S4096x1, .f32⟩
  | 85 => ⟨S1x32, .f32⟩
  | 86 => ⟨S4096x32, .f32⟩
  | 87 => ⟨S4096x32, .f32⟩
  | 88 => ⟨S4096x32, .f32⟩
  | 89 => ⟨S4096x32, .f32⟩
  | 90 => ⟨S1x4096x1x32, .f32⟩
  | 91 => ⟨S4096x32, .f32⟩
  | 92 => ⟨S1x4096x1x32, .f32⟩
  | 93 => ⟨S4x4096x1x32, .f32⟩
  | 94 => ⟨S4x4096x1x32, .f32⟩
  | 95 => ⟨S4x4096x1x32, .f32⟩
  | 96 => ⟨S4x4096x1x32, .f32⟩
  | 97 => ⟨S4x4096x1x32, .f32⟩
  | 98 => ⟨S4x4096x1x32, .f32⟩
  | 99 => ⟨S4x4096x1x32, .f32⟩
  | 100 => ⟨S4x4096x1x32, .f32⟩
  | 101 => ⟨S4x4096x1x32, .f32⟩
  | 102 => ⟨S4x4096x1x32, .f32⟩
  | 103 => ⟨S4x4096x1x32, .f32⟩
  | 104 => ⟨S4x4096x1x32, .f32⟩
  | 105 => ⟨S4x4096x1x64, .f32⟩
  | 106 => ⟨S256x2048, .f32⟩
  | 107 => ⟨S4x4096x2048, .f32⟩
  | 108 => ⟨S4x4096x8x256, .f32⟩
  | 109 => ⟨S_, .f32⟩
  | 110 => ⟨S4x4096x8x64, .f32⟩
  | 111 => ⟨S_, .f32⟩
  | 112 => ⟨S4x4096x8x2x64, .f32⟩
  | 113 => ⟨S4x4096x8x2x64, .f32⟩
  | 114 => ⟨S4x4096x8x1x64, .f32⟩
  | 115 => ⟨S4x4096x8x64, .f32⟩
  | 116 => ⟨S4x4096x8x128, .f32⟩
  | 117 => ⟨S4x4096x8x1x64, .f32⟩
  | 118 => ⟨S4x4096x8x64, .f32⟩
  | 119 => ⟨S4x4096x8x128, .f32⟩
  | 120 => ⟨S1x4x4096x8x128, .f32⟩
  | 121 => ⟨S1x4x4096x8x128, .f32⟩
  | 122 => ⟨S2x4x4096x8x128, .f32⟩
  | 123 => ⟨S4x4096x8x128, .f32⟩
  | 124 => ⟨S4x4096x8x64, .f32⟩
  | 125 => ⟨S32, .f32⟩
  | 126 => ⟨S32, .f32⟩
  | 127 => ⟨S_, .f32⟩
  | _ => ⟨S4x4096x2048, .f32⟩

abbrev hbmTy0_1 (i : Nat) : BufTy := match i % 128 with
  | 0 => ⟨S32, .f32⟩
  | 1 => ⟨S32, .f32⟩
  | 2 => ⟨S_, .f32⟩
  | 3 => ⟨S32, .f32⟩
  | 4 => ⟨S32, .f32⟩
  | 5 => ⟨S4096, .f32⟩
  | 6 => ⟨S4096x1, .f32⟩
  | 7 => ⟨S1x32, .f32⟩
  | 8 => ⟨S4096x32, .f32⟩
  | 9 => ⟨S4096x32, .f32⟩
  | 10 => ⟨S4096x32, .f32⟩
  | 11 => ⟨S4096x32, .f32⟩
  | 12 => ⟨S1x4096x1x32, .f32⟩
  | 13 => ⟨S4096x32, .f32⟩
  | 14 => ⟨S1x4096x1x32, .f32⟩
  | 15 => ⟨S4x4096x8x32, .f32⟩
  | 16 => ⟨S4x4096x8x32, .f32⟩
  | 17 => ⟨S4x4096x8x32, .f32⟩
  | 18 => ⟨S4x4096x8x32, .f32⟩
  | 19 => ⟨S4x4096x8x32, .f32⟩
  | 20 => ⟨S4x4096x8x32, .f32⟩
  | 21 => ⟨S4x4096x8x32, .f32⟩
  | 22 => ⟨S4x4096x8x32, .f32⟩
  | 23 => ⟨S4x4096x8x32, .f32⟩
  | 24 => ⟨S4x4096x8x32, .f32⟩
  | 25 => ⟨S4x4096x8x32, .f32⟩
  | 26 => ⟨S4x4096x8x32, .f32⟩
  | 27 => ⟨S4x4096x8x64, .f32⟩
  | 28 => ⟨S4x4096x8x256, .f32⟩
  | 29 => ⟨S_, .f32⟩
  | 30 => ⟨S4x4096x8x256, .f32⟩
  | 31 => ⟨S4x4096x8x256, .f32⟩
  | 32 => ⟨S4x4096x8x128, .f32⟩
  | 33 => ⟨S4x4096x8x64, .f32⟩
  | 34 => ⟨S4x4096x8x256, .f32⟩
  | 35 => ⟨S4x8x2x4096x128, .f32⟩
  | 36 => ⟨S4x8x2x4096x128, .bf16⟩
  | 37 => ⟨S4x4096x64, .f32⟩
  | 38 => ⟨S4x4096x8x128, .f32⟩
  | 39 => ⟨S4x8x4096x128, .f32⟩
  | 40 => ⟨S4x8x4096x128, .bf16⟩
  | 41 => ⟨S4x8x4096x256, .f32⟩
  | 42 => ⟨S4x8x4096x256, .bf16⟩
  | 43 => ⟨S4x8x4096x256, .f32⟩
  | 44 => ⟨S4x8x4096x256, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_cst_11 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_12 : Ref sig .tc := ⟨.hbm, 127, rfl⟩
abbrev main_v106 : Ref sig .tc := ⟨.hbm, 128, rfl⟩
abbrev main_v107 : Ref sig .tc := ⟨.hbm, 129, rfl⟩
abbrev main_cst_13 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_cst_14 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩

abbrev nD : Nat := 1
abbrev τ : Topo := Topo.v7x

variable {F : FTy → Type} [FloatOps F]
-- ==== Proof.Softmax.lean ====
module

public import Idealize.ShloMosaic.Lib.Pipeline.ValueKit

@[expose] public section

noncomputable section

/-! A softmax-weighted sum over extended reals: the form with base-2 exponentials, any finite shift and one division
    at the end equals the form with natural exponentials, its own shift and a division per weight. -/

namespace Cert.Softmax

open Idealize.ShloMosaic

/-- Being a real number. -/
def Fin' (x : EReal) : Prop := ∃ r : ℝ, x = (r : EReal)

theorem Fin'.coe (r : ℝ) : Fin' (r : EReal) := ⟨r, rfl⟩

theorem Fin'.zero : Fin' (0 : EReal) := ⟨0, by simp⟩

theorem Fin'.add {x y : EReal} : Fin' x → Fin' y → Fin' (x + y) := by
  rintro ⟨a, rfl⟩ ⟨b, rfl⟩; exact ⟨a + b, by simp⟩

theorem Fin'.sub {x y : EReal} : Fin' x → Fin' y → Fin' (x - y) := by
  rintro ⟨a, rfl⟩ ⟨b, rfl⟩; exact ⟨a - b, by simp⟩

theorem Fin'.mul {x y : EReal} : Fin' x → Fin' y → Fin' (x * y) := by
  rintro ⟨a, rfl⟩ ⟨b, rfl⟩; exact ⟨a * b, by simp⟩

theorem Fin'.max {x y : EReal} : Fin' x → Fin' y → Fin' (max x y) := by
  rintro ⟨a, rfl⟩ ⟨b, rfl⟩
  rcases le_total (a : EReal) b with h | h
  · exact ⟨b, max_eq_right h⟩
  · exact ⟨a, max_eq_left h⟩

theorem Fin'.sum {ι : Type*} (s : Finset ι) {f : ι → EReal} (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self ..)).add (ih fun i hi => h i (Finset.mem_insert_of_mem hi))

theorem Fin'.exp {x : EReal} : Fin' x → Fin' (Ideal.exp x) := by
  rintro ⟨a, rfl⟩; exact ⟨Real.exp a, rfl⟩

/-- The pattern of minus infinity. -/
theorem ninf : Ideal.ofBits .f32 0xFF800000#32 = ⊥ := by simp [Ideal.ofBits, Ideal.ieee]

/-- The pattern of plus infinity. -/
theorem pinf : Ideal.ofBits .f32 0x7F800000#32 = ⊤ := by simp [Ideal.ofBits, Ideal.ieee]

/-- The natural logarithm of the literal two. -/
theorem log_two : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]
    norm_num
  rw [this, Ideal.log_coe, if_neg (by norm_num)]

/-- A value whose absolute value lies below plus infinity is real. -/
theorem fin_of_abs_lt {x : EReal} (h : max x (-x) < ⊤) : Fin' x := by
  induction x using EReal.rec with
  | bot => simp at h
  | top => simp at h
  | coe r => exact ⟨r, rfl⟩

/-- The test "absolute value below plus infinity" answering one says that the value is real. -/
theorem fin_of_cmp {x : EReal} (h : Ideal.cmp .olt (max x (-x)) (Ideal.ofBits .f32 0x7F800000#32) = 1#1) : Fin' x := by
  rw [pinf] at h
  by_cases hx : max x (-x) < ⊤
  · exact fin_of_abs_lt hx
  · simp [Ideal.cmp, hx] at h

/-- A maximum over a nonempty range of real numbers is real. -/
theorem fold_max_fin {n : ℕ} (hn : 0 < n) {f : Fin n → EReal} (h : ∀ i, Fin' (f i)) :
    Fin' (Finset.univ.fold max (Ideal.ofBits .f32 0xFF800000#32) f) := by
  classical
  rw [ninf]
  have key : ∀ s : Finset (Fin n), s = ∅ ∨ Fin' (s.fold max ⊥ f) := by
    intro s
    induction s using Finset.induction_on with
    | empty => exact .inl rfl
    | insert a s ha ih =>
      right
      rw [Finset.fold_insert ha]
      rcases ih with rfl | ih
      · simpa using h a
      · exact (h a).max ih
  rcases key Finset.univ with h0 | h0
  · exact absurd (Finset.mem_univ (⟨0, hn⟩ : Fin n)) (by rw [h0]; simp)
  · exact h0

/-- A finite sum may be multiplied by a positive real number term by term. -/
theorem sum_mul_pos {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE WEIGHTED MEAN: base-2 weights with one division equal natural weights divided one by one, whatever the two
    finite shifts. -/
theorem mean_eq {ι : Type*} [Fintype ι] [Nonempty ι] (s S v : ι → EReal) (M N : EReal) (hs : ∀ k, Fin' (s k))
    (hS : ∀ k, S k = s k * ((Real.log 2 : ℝ) : EReal)) (hM : Fin' M) (hN : Fin' N) :
    Ideal.div (∑ k, Ideal.exp2 (s k - M) * v k) (∑ k, Ideal.exp2 (s k - M))
      = ∑ k, v k * Ideal.div (Ideal.exp (S k - N)) (∑ k, Ideal.exp (S k - N)) := by
  classical
  choose r hr using hs
  obtain ⟨a, rfl⟩ := hM
  obtain ⟨b, rfl⟩ := hN
  have e2 : ∀ k, Ideal.exp2 (s k - a) = ((Real.exp (r k * Real.log 2 - b) * Real.exp (b - a * Real.log 2) : ℝ) : EReal) := by
    intro k
    rw [hr, ← EReal.coe_sub, Ideal.exp2_coe, ← Real.exp_add]
    congr 1
    show (2 : ℝ) ^ (r k - a) = _
    rw [Real.rpow_def_of_pos (by norm_num)]
    congr 1; ring
  have e1 : ∀ k, Ideal.exp (S k - b) = ((Real.exp (r k * Real.log 2 - b) : ℝ) : EReal) := by
    intro k
    rw [hS, hr, ← EReal.coe_mul, ← EReal.coe_sub, Ideal.exp_coe]
  simp only [e2, e1]
  rw [← coe_sum, ← coe_sum]
  have hP : 0 < ∑ k, Real.exp (r k * Real.log 2 - b) :=
    Finset.sum_pos (fun k _ => Real.exp_pos _) Finset.univ_nonempty
  have hK : 0 < Real.exp (b - a * Real.log 2) := Real.exp_pos _
  rw [← Finset.sum_mul, Ideal.div_coe (mul_pos hP hK).ne', sum_mul_pos _ _ (by positivity)]
  refine Finset.sum_congr rfl fun k _ => ?_
  rw [Ideal.div_coe hP.ne', mul_comm _ (v k), mul_assoc, ← EReal.coe_mul, ← EReal.coe_mul]
  congr 2
  field_simp

/-- Each weight of a softmax of real logits is real. -/
theorem weight_fin {ι : Type*} [Fintype ι] [Nonempty ι] (S : ι → EReal) (N : EReal) (hS : ∀ k, Fin' (S k))
    (hN : Fin' N) (k : ι) : Fin' (Ideal.div (Ideal.exp (S k - N)) (∑ k, Ideal.exp (S k - N))) := by
  choose r hr using hS
  obtain ⟨b, rfl⟩ := hN
  have e1 : ∀ k, Ideal.exp (S k - b) = ((Real.exp (r k - b) : ℝ) : EReal) := by
    intro k
    rw [hr, ← EReal.coe_sub, Ideal.exp_coe]
  simp only [e1]
  rw [← coe_sum]
  have hP : 0 < ∑ k, Real.exp (r k - b) := Finset.sum_pos (fun k _ => Real.exp_pos _) Finset.univ_nonempty
  rw [Ideal.div_coe hP.ne', ← EReal.coe_mul]
  exact Fin'.coe _

/-- The same with the keys in two ranges, as a row of cached keys followed by new ones. -/
theorem mean_pair {m n N : ℕ} (hN : N = m + n) (hm : 0 < m) (hn : 0 < n) (s₁ v₁ : Fin m → EReal) (s₂ v₂ : Fin n → EReal)
    (S V : Fin N → EReal) (h₁ : ∀ x, Fin' (s₁ x)) (h₂ : ∀ x, Fin' (s₂ x))
    (hS₁ : ∀ x : Fin m, S ⟨x, by omega⟩ = s₁ x * ((Real.log 2 : ℝ) : EReal))
    (hS₂ : ∀ x : Fin n, S ⟨m + x, by omega⟩ = s₂ x * ((Real.log 2 : ℝ) : EReal))
    (hV₁ : ∀ x : Fin m, V ⟨x, by omega⟩ = v₁ x) (hV₂ : ∀ x : Fin n, V ⟨m + x, by omega⟩ = v₂ x) (M : EReal)
    (hM : M = max (Finset.univ.fold max (Ideal.ofBits .f32 0xFF800000#32) s₁)
      (Finset.univ.fold max (Ideal.ofBits .f32 0xFF800000#32) s₂)) :
    Ideal.div (∑ x, Ideal.exp2 (s₁ x - M) * v₁ x + ∑ x, Ideal.exp2 (s₂ x - M) * v₂ x)
        (∑ x, Ideal.exp2 (s₁ x - M) + ∑ x, Ideal.exp2 (s₂ x - M))
      = ∑ k, V k * Ideal.div (Ideal.exp (S k - max (Ideal.ofBits .f32 0xFF800000#32)
            (Finset.univ.fold max (Ideal.ofBits .f32 0xFF800000#32) S)))
          (∑ k, Ideal.exp (S k - max (Ideal.ofBits .f32 0xFF800000#32)
            (Finset.univ.fold max (Ideal.ofBits .f32 0xFF800000#32) S))) := by
  subst hN
  have hMf : Fin' M := hM ▸ (fold_max_fin hm h₁).max (fold_max_fin hn h₂)
  have hSf : ∀ k, Fin' (S k) := by
    intro k
    rcases lt_or_ge k.val m with h | h
    · have := hS₁ ⟨k, h⟩
      rw [show S k = _ from this]; exact (h₁ _).mul (Fin'.coe _)
    · have := hS₂ ⟨k - m, by omega⟩
      have e : (⟨m + (k.val - m), by omega⟩ : Fin (m + n)) = k := Fin.ext (by simp; omega)
      rw [e] at this
      rw [this]; exact (h₂ _).mul (Fin'.coe _)
  have hNf : Fin' (max (Ideal.ofBits .f32 0xFF800000#32) (Finset.univ.fold max (Ideal.ofBits .f32 0xFF800000#32) S)) := by
    rw [show max (Ideal.ofBits .f32 0xFF800000#32) (Finset.univ.fold max (Ideal.ofBits .f32 0xFF800000#32) S)
      = Finset.univ.fold max (Ideal.ofBits .f32 0xFF800000#32) S by
        rw [show Ideal.ofBits .f32 0xFF800000#32 = (⊥ : EReal) from ninf]; exact max_eq_right bot_le]
    exact fold_max_fin (by omega) hSf
  haveI : Nonempty (Fin (m + n)) := ⟨⟨0, by omega⟩⟩
  have key := mean_eq (fun k : Fin (m + n) => Fin.addCases (motive := fun _ => EReal) s₁ s₂ k) S V M _ (by
      intro k; refine Fin.addCases (fun x => ?_) (fun x => ?_) k
      · simpa using h₁ x
      · simpa using h₂ x) (by
      intro k; refine Fin.addCases (fun x => ?_) (fun x => ?_) k
      · simp only [Fin.addCases_left]; exact hS₁ x
      · simp only [Fin.addCases_right]; exact hS₂ x) hMf hNf
  rw [← key, Fin.sum_univ_add, Fin.sum_univ_add]
  simp only [Fin.addCases_left, Fin.addCases_right]
  have a₁ : ∀ x : Fin m, V (Fin.castAdd n x) = v₁ x := hV₁
  have a₂ : ∀ x : Fin n, V (Fin.natAdd m x) = v₂ x := hV₂
  simp only [a₁, a₂]

end Cert.Softmax

end
-- ==== Proof.MlaHead.lean ====
module

public import Idealize.ShloMosaic.Lib.Pipeline.ValueKit
public import proofs.«01_k».proof.Proof.Gen.DecMlaIdeal.Value

@[expose] public section

set_option maxRecDepth 16384

noncomputable section

namespace Cert.MlaDec

open Cert.DecMlaIdeal Cert.DecMlaIdeal.Gen Idealize.ShloMosaic Idealize.ShloMosaic.TcCoe Idealize.SL.Sem

/-- One head of the latent attention kernel: what it stores from the row's cached latents, the rotary key rows,
    the head's expansion columns, its queries and the new rows' keys and values. -/
def head (ckv : Vec Ideal S1x1024x256 .f32) (kr : Vec Ideal S1x1024x128 .f32) (w : Vec Ideal S256x256 .bf16)
    (q kn : Vec Ideal S1x1x64x256 .bf16) (vn : Vec Ideal S1x1x64x128 .bf16) : Vec Ideal S1x64x128 .bf16 :=
  k0_pay15 (F := Ideal) (k0_pay6 (F := Ideal) ckv kr w q) (k0_pay7 (F := Ideal) q kn) (k0_pay8 (F := Ideal) ckv w) vn

/-- Softmax-weighted values over cached and new keys, base two, with one division. -/
def att (s₁ v₁ : Fin 1024 → EReal) (s₂ v₂ : Fin 64 → EReal) (M : EReal) : EReal :=
  Ideal.div (∑ x, Ideal.exp2 (s₁ x - M) * v₁ x + ∑ x, Ideal.exp2 (s₂ x - M) * v₂ x)
        (∑ x, Ideal.exp2 (s₁ x - M) + ∑ x, Ideal.exp2 (s₂ x - M))

/-- The larger of the two ranges' largest scores. -/
def top (s₁ : Fin 1024 → EReal) (s₂ : Fin 64 → EReal) : EReal :=
  max (Finset.univ.fold max (Ideal.ofBits .f32 0xFF800000#32) s₁)
      (Finset.univ.fold max (Ideal.ofBits .f32 0xFF800000#32) s₂)

theorem pay15_at (s : FVec Ideal S64x1024 .f32) (t : FVec Ideal S64x64 .f32) (v : FVec Ideal S1024x128 .bf16) (vn : FVec Ideal S1x1x64x128 .bf16) (i : Fin 64) (e : Fin 128) :
    k0_pay15 (F := Ideal) s t v vn (ix3 0 i e)
      = att (fun x => s (ix2 i x)) (fun x => v (ix2 x e)) (fun x => t (ix2 i x)) (fun x => vn (ix4 0 0 x e))
         (top (fun x => s (ix2 i x)) (fun x => t (ix2 i x))) := by
  pointwise [k0_pay15, att, top]
  rfl

theorem pay6_at (ckv : FVec Ideal S1x1024x256 .f32) (kr : FVec Ideal S1x1024x128 .f32) (w : FVec Ideal S256x256 .bf16)
    (q : FVec Ideal S1x1x64x256 .bf16) (i : Fin 64) (e : Fin 1024) :
    k0_pay6 (F := Ideal) ckv kr w q (ix2 i e)
      = ∑ x:Fin 128, q (ix4 0 0 i ⟨x, by omega⟩) * ∑ y, ckv (ix3 0 e y) * w (ix2 y ⟨x, by omega⟩)
        + ∑ x:Fin 128, q (ix4 0 0 i ⟨128+x, by omega⟩) * kr (ix3 0 e x) := by
  pointwise [k0_pay6, k0_pay4, k0_pay5, k0_pay3, k0_pay2]

theorem pay8_at (ckv : FVec Ideal S1x1024x256 .f32) (w : FVec Ideal S256x256 .bf16) (x : Fin 1024) (e : Fin 128) :
    k0_pay8 (F := Ideal) ckv w (ix2 x e) = ∑ y, ckv (ix3 0 x y) * w (ix2 y ⟨128 + e, by omega⟩) := by
  pointwise [k0_pay8, k0_pay4, k0_pay5, k0_pay3, k0_pay2]

theorem pay7_at (q kn : FVec Ideal S1x1x64x256 .bf16) (i x : Fin 64) :
    k0_pay7 (F := Ideal) q kn (ix2 i x)
      = ∑ y : Fin 256, q (ix4 0 0 i y) * kn (ix4 0 0 x y) := by
  pointwise [k0_pay7, k0_pay5]

theorem out_heads (x0 : Vec Ideal S1x8x64x256 .bf16) (x1 : Vec Ideal S1x1024x256 .f32) (x2 : Vec Ideal S1x1024x128 .f32) (x3 : Vec Ideal S256x2048 .bf16) (x4 : Vec Ideal S1x8x64x256 .bf16) (x5 : Vec Ideal S1x8x64x128 .bf16) :
   out0_6 (F := Ideal) x0 x1 x2 x3 x4 x5 = View.canon [⟨r0_33, head (View.ld x1 r0_0) (View.ld x2 r0_1) (View.ld x3 r0_28) (View.ld x0 r0_29) (View.ld x4 r0_29) (View.ld x5 r0_32)⟩,
    ⟨r0_31, head (View.ld x1 r0_0) (View.ld x2 r0_1) (View.ld x3 r0_24) (View.ld x0 r0_25) (View.ld x4 r0_25) (View.ld x5 r0_30)⟩,
    ⟨r0_27, head (View.ld x1 r0_0) (View.ld x2 r0_1) (View.ld x3 r0_20) (View.ld x0 r0_21) (View.ld x4 r0_21) (View.ld x5 r0_26)⟩,
    ⟨r0_23, head (View.ld x1 r0_0) (View.ld x2 r0_1) (View.ld x3 r0_16) (View.ld x0 r0_17) (View.ld x4 r0_17) (View.ld x5 r0_22)⟩,
    ⟨r0_19, head (View.ld x1 r0_0) (View.ld x2 r0_1) (View.ld x3 r0_12) (View.ld x0 r0_13) (View.ld x4 r0_13) (View.ld x5 r0_18)⟩,
    ⟨r0_15, head (View.ld x1 r0_0) (View.ld x2 r0_1) (View.ld x3 r0_8) (View.ld x0 r0_9) (View.ld x4 r0_9) (View.ld x5 r0_14)⟩,
    ⟨r0_11, head (View.ld x1 r0_0) (View.ld x2 r0_1) (View.ld x3 r0_4) (View.ld x0 r0_5) (View.ld x4 r0_5) (View.ld x5 r0_10)⟩,
    ⟨r0_7, head (View.ld x1 r0_0) (View.ld x2 r0_1) (View.ld x3 r0_2) (View.ld x0 r0_3) (View.ld x4 r0_3) (View.ld x5 r0_6)⟩] := by
  rfl

/-- Scores of a cached key: the expanded part and the shared rotary part. -/
def sOld (x0 : Vec Ideal S1x8x64x256 .bf16) (x1 : Vec Ideal S1x1024x256 .f32) (x2 : Vec Ideal S1x1024x128 .f32)
    (x3 : Vec Ideal S256x2048 .bf16) (h : Fin 8) (i : Fin 64) (x : Fin 1024) : EReal :=
  ∑ d : Fin 128, (x0 (ix4 0 h i ⟨d, by omega⟩) : EReal) * ∑ y, (x1 (ix3 0 x y) : EReal) * x3 (ix2 y ⟨h * 256 + d, by omega⟩)
    + ∑ d : Fin 128, (x0 (ix4 0 h i ⟨128 + d, by omega⟩) : EReal) * x2 (ix3 0 x d)

/-- Scores of a new key. -/
def sNew (x0 x4 : Vec Ideal S1x8x64x256 .bf16) (h : Fin 8) (i x : Fin 64) : EReal :=
  ∑ d : Fin 256, (x0 (ix4 0 h i d) : EReal) * x4 (ix4 0 h x d)

/-- Values of a cached key. -/
def vOld (x1 : Vec Ideal S1x1024x256 .f32) (x3 : Vec Ideal S256x2048 .bf16) (h : Fin 8) (e : Fin 128) (x : Fin 1024) : EReal :=
  ∑ y, (x1 (ix3 0 x y) : EReal) * x3 (ix2 y ⟨h * 256 + (128 + e), by omega⟩)

/-- One block of the attention: head `h`, row `i`, lane `e`. -/
def attn (x0 : Vec Ideal S1x8x64x256 .bf16) (x1 : Vec Ideal S1x1024x256 .f32) (x2 : Vec Ideal S1x1024x128 .f32)
    (x3 : Vec Ideal S256x2048 .bf16) (x4 : Vec Ideal S1x8x64x256 .bf16) (x5 : Vec Ideal S1x8x64x128 .bf16)
    (h : Fin 8) (i : Fin 64) (e : Fin 128) : EReal :=
  att (sOld x0 x1 x2 x3 h i) (vOld x1 x3 h e) (sNew x0 x4 h i) (fun x => x5 (ix4 0 h x e))
    (top (sOld x0 x1 x2 x3 h i) (sNew x0 x4 h i))

theorem head_attn (x0 : Vec Ideal S1x8x64x256 .bf16) (x1 : Vec Ideal S1x1024x256 .f32) (x2 : Vec Ideal S1x1024x128 .f32)
    (x3 : Vec Ideal S256x2048 .bf16) (x4 : Vec Ideal S1x8x64x256 .bf16) (x5 : Vec Ideal S1x8x64x128 .bf16)
    (ckv : Vec Ideal S1x1024x256 .f32) (kr : Vec Ideal S1x1024x128 .f32) (w : Vec Ideal S256x256 .bf16)
    (q kn : Vec Ideal S1x1x64x256 .bf16) (vn : Vec Ideal S1x1x64x128 .bf16) (h : Fin 8)
    (h1 : ∀ a b, ckv (ix3 0 a b) = x1 (ix3 0 a b)) (h2 : ∀ a b, kr (ix3 0 a b) = x2 (ix3 0 a b)) (h3 : ∀ a b, w (ix2 a b) = x3 (ix2 a ⟨h * 256 + b, by omega⟩))
    (h0 : ∀ a b, q (ix4 0 0 a b) = x0 (ix4 0 h a b)) (h4 : ∀ a b, kn (ix4 0 0 a b) = x4 (ix4 0 h a b))
    (h5 : ∀ a b, vn (ix4 0 0 a b) = x5 (ix4 0 h a b)) (i : Fin 64) (e : Fin 128) :
    head ckv kr w q kn vn (ix3 0 i e) = attn x0 x1 x2 x3 x4 x5 h i e := by
  unfold head attn
  rw [pay15_at]
  have a1 : ∀ x, k0_pay6 (F := Ideal) ckv kr w q (ix2 i x) = sOld x0 x1 x2 x3 h i x := fun x => by
    rw [pay6_at]; simp only [h0, h1, h2, h3]; rfl
  have a2 : ∀ x, k0_pay7 (F := Ideal) q kn (ix2 i x) = sNew x0 x4 h i x := fun x => by
    rw [pay7_at]; simp only [h0, h4]; rfl
  have a3 : ∀ x, k0_pay8 (F := Ideal) ckv w (ix2 x e) = vOld x1 x3 h e x := fun x => by
    rw [pay8_at]; simp only [h1, h3]; rfl
  simp only [a1, a2, a3, h5]

theorem point (x0 : Vec Ideal S1x8x64x256 .bf16) (x1 : Vec Ideal S1x1024x256 .f32) (x2 : Vec Ideal S1x1024x128 .f32)
    (x3 : Vec Ideal S256x2048 .bf16) (x4 : Vec Ideal S1x8x64x256 .bf16) (x5 : Vec Ideal S1x8x64x128 .bf16)
    (i : Fin 64) (k : Fin 1024) :
    out0_6 (F := Ideal) x0 x1 x2 x3 x4 x5 (ix3 0 i k) = attn x0 x1 x2 x3 x4 x5 ⟨k / 128, by omega⟩ i ⟨k % 128, by omega⟩ := by
  refine (congrFun (out_heads x0 x1 x2 x3 x4 x5) _).trans ?_
  canon_tiles x h
  all_goals
    have hk : (k : ℕ) < 1024 := k.isLt
    change (i : ℕ) = _ at h1
    change (k : ℕ) = _ at h2
    have hx : x = ix3 0 i ⟨k % 128, by omega⟩ := by blk_ext <;> omega
    rw [hx]
    refine head_attn x0 x1 x2 x3 x4 x5 _ _ _ _ _ _ ⟨k / 128, by omega⟩ ?_ ?_ ?_ ?_ ?_ ?_ i _
    · intro a b; pointwise
    · intro a b; pointwise
    · intro a b; pointwise; try blk_ext
    · intro a b; pointwise; try blk_ext
    · intro a b; pointwise; try blk_ext
    · intro a b; pointwise; try blk_ext
end Cert.MlaDec
-- ==== Proof.MlaRef.lean ====
module

public import Idealize.ShloMosaic.Lib.Pipeline.ValueKit
public import proofs.«01_k».proof.Proof.Gen.DecMlaRefIdeal.Run

@[expose] public section

set_option maxRecDepth 16384

noncomputable section

/-! The reference of the latent attention, stage by stage, read at an index. -/

namespace Cert.MlaDecRef

open Cert.DecMlaRefIdeal Cert.DecMlaRefIdeal.Gen Idealize.ShloMosaic Idealize.ShloMosaic.TcCoe Idealize.SL.Sem

/-- The logits of every new row against the cached and the new keys. -/
def logits (x0 : FVec Ideal S1x8x512x256 .bf16) (x1 : FVec Ideal S1x8x1024x256 .f32) (x2 : FVec Ideal S8x1024x128 .f32)
    (x3 : FVec Ideal S1x256x2048 .f32) (x4 : FVec Ideal S1x8x512x256 .bf16) : FVec Ideal S8x8x64x1088 .f32 :=
  mulf (addf (Host.dotGeneral dot_S8x64x8x128_S8x1088x8x128_S8x8x64x1088_3_3_1_1_02_02 none (extractStridedSlice S8x64x8x128 ![0, 0, 0, 0] (transpose S8x64x8x256 [1, 2, 0, 3] (shapeCast _ (extf .f32 (shapeCast _ x0 shapeCasts_S1x8x512x256_S8x512x256) bitsLt_bf16_f32) shapeCasts_S8x512x256_S8x8x64x256) transposes_S8x8x64x256_S8x64x8x256_1_2_0_3) slices_S8x64x8x256_S8x64x8x128_0_0_0_0) (concatenate S8x1088x8x128 1 [⟨S8x1024x8x128, (extractStridedSlice S8x1024x8x128 ![0, 0, 0, 0] (shapeCast _ (Host.dotGeneral dot_S8x1024x256_S256x2048_S8x1024x2048_2_0_01_1_n_n none (shapeCast _ x1 shapeCasts_S1x8x1024x256_S8x1024x256) (shapeCast _ x3 shapeCasts_S1x256x2048_S256x2048)) shapeCasts_S8x1024x2048_S8x1024x8x256) slices_S8x1024x8x256_S8x1024x8x128_0_0_0_0)⟩, ⟨S8x64x8x128, (extractStridedSlice S8x64x8x128 ![0, 0, 0, 0] (transpose S8x64x8x256 [1, 2, 0, 3] (shapeCast _ (extf .f32 (shapeCast _ x4 shapeCasts_S1x8x512x256_S8x512x256) bitsLt_bf16_f32) shapeCasts_S8x512x256_S8x8x64x256) transposes_S8x8x64x256_S8x64x8x256_1_2_0_3) slices_S8x64x8x256_S8x64x8x128_0_0_0_0)⟩] concatenates_S8x1024x8x128_S8x64x8x128_S8x1088x8x128_d1)) (Host.dotGeneral dot_S8x64x8x128_S8x1088x8x128_S8x8x64x1088_3_3_1_1_02_02 none (extractStridedSlice S8x64x8x128 ![0, 0, 0, 128] (transpose S8x64x8x256 [1, 2, 0, 3] (shapeCast _ (extf .f32 (shapeCast _ x0 shapeCasts_S1x8x512x256_S8x512x256) bitsLt_bf16_f32) shapeCasts_S8x512x256_S8x8x64x256) transposes_S8x8x64x256_S8x64x8x256_1_2_0_3) slices_S8x64x8x256_S8x64x8x128_0_0_0_128) (concatenate S8x1088x8x128 1 [⟨S8x1024x8x128, (broadcastInDim S8x1024x8x128 ![0, 1, 2, 3] bcast_S8x1024x1x128_S8x1024x8x128_0_1_2_3 (broadcastInDim S8x1024x1x128 ![0, 1, 3] bcast_S8x1024x128_S8x1024x1x128_0_1_3 x2))⟩, ⟨S8x64x8x128, (extractStridedSlice S8x64x8x128 ![0, 0, 0, 128] (transpose S8x64x8x256 [1, 2, 0, 3] (shapeCast _ (extf .f32 (shapeCast _ x4 shapeCasts_S1x8x512x256_S8x512x256) bitsLt_bf16_f32) shapeCasts_S8x512x256_S8x8x64x256) transposes_S8x8x64x256_S8x64x8x256_1_2_0_3) slices_S8x64x8x256_S8x64x8x128_0_0_0_128)⟩] concatenates_S8x1024x8x128_S8x64x8x128_S8x1088x8x128_d1))) (broadcastInDim S8x8x64x1088 ![] bcast_S_S8x8x64x1088 (Host.log (constant S_ .f32 0x40000000#32)))

/-- The largest logit of each row. -/
def rowmax (s : FVec Ideal S8x8x64x1088 .f32) : FVec Ideal S8x8x64 .f32 :=
  Host.reduce FloatOps.maximumf s (constant S_ .f32 0xFF800000#32) reducesTo_S8x8x64x1088_S8x8x64_d3 h_S_

/-- The exponentials of the logits, each row less the row maximum `r`. -/
def exps (s : FVec Ideal S8x8x64x1088 .f32) (r : FVec Ideal S8x8x64 .f32) : FVec Ideal S8x8x64x1088 .f32 :=
  Host.exp (subf s (broadcastInDim S8x8x64x1088 ![0, 1, 2, 3] bcast_S8x8x64x1_S8x8x64x1088_0_1_2_3 (broadcastInDim S8x8x64x1 ![0, 1, 2] bcast_S8x8x64_S8x8x64x1_0_1_2 (maximumf (broadcastInDim S8x8x64 ![] bcast_S_S8x8x64 (constant S_ .f32 0xFF800000#32)) r))))

/-- The exponentials `e` divided by their sum along the keys. -/
def probs (s : FVec Ideal S8x8x64x1088 .f32) : FVec Ideal S8x8x64x1088 .f32 :=
  Host.divf (s) (broadcastInDim S8x8x64x1088 ![0, 1, 2, 3] bcast_S8x8x64x1_S8x8x64x1088_0_1_2_3 (broadcastInDim S8x8x64x1 ![0, 1, 2] bcast_S8x8x64_S8x8x64x1_0_1_2 (Host.reduceAdd (s) (constant S_ .f32 0x00000000#32) reducesTo_S8x8x64x1088_S8x8x64_d3 h_S_)))

/-- The values of the cached rows, expanded from the latents, with the new rows' values after them. -/
def vals (x1 : FVec Ideal S1x8x1024x256 .f32) (x3 : FVec Ideal S1x256x2048 .f32) (x5 : FVec Ideal S1x8x512x128 .bf16) :
    FVec Ideal S8x1088x8x128 .f32 :=
  concatenate S8x1088x8x128 1 [⟨S8x1024x8x128, (extractStridedSlice S8x1024x8x128 ![0, 0, 0, 128] (shapeCast _ (Host.dotGeneral dot_S8x1024x256_S256x2048_S8x1024x2048_2_0_01_1_n_n none (shapeCast _ x1 shapeCasts_S1x8x1024x256_S8x1024x256) (shapeCast _ x3 shapeCasts_S1x256x2048_S256x2048)) shapeCasts_S8x1024x2048_S8x1024x8x256) slices_S8x1024x8x256_S8x1024x8x128_0_0_0_128)⟩, ⟨S8x64x8x128, (transpose S8x64x8x128 [1, 2, 0, 3] (shapeCast _ (extf .f32 (shapeCast _ x5 shapeCasts_S1x8x512x128_S8x512x128) bitsLt_bf16_f32) shapeCasts_S8x512x128_S8x8x64x128) transposes_S8x8x64x128_S8x64x8x128_1_2_0_3)⟩] concatenates_S8x1024x8x128_S8x64x8x128_S8x1088x8x128_d1

/-- The weighted values, heads side by side. -/
def mix (v : FVec Ideal S8x1088x8x128 .f32) (p : FVec Ideal S8x8x64x1088 .f32) : FVec Ideal S8x64x1024 .bf16 :=
  truncf .bf16 (shapeCast _ (transpose S8x64x8x128 [0, 3, 1, 2] (Host.dotGeneral dot_S8x1088x8x128_S8x8x64x1088_S8x8x128x64_1_3_3_2_02_01 none v p) transposes_S8x8x128x64_S8x64x8x128_0_3_1_2) shapeCasts_S8x64x8x128_S8x64x1024) bitsLt_bf16_f32

/-- The reference's result as a function of the arguments. -/
def ref (x0 : FVec Ideal S1x8x512x256 .bf16) (x1 : FVec Ideal S1x8x1024x256 .f32) (x2 : FVec Ideal S8x1024x128 .f32)
    (x3 : FVec Ideal S1x256x2048 .f32) (x4 : FVec Ideal S1x8x512x256 .bf16) (x5 : FVec Ideal S1x8x512x128 .bf16) :
    FVec Ideal S8x64x1024 .bf16 :=
  mix (vals x1 x3 x5) (probs (exps (logits x0 x1 x2 x3 x4) (rowmax (logits x0 x1 x2 x3 x4))))

/-- The run's result is `ref` of the arguments. -/
theorem res_eq (m : (ℓ : Loc nD τ sig) → Buf (Elt Ideal) ℓ) (c : Dev nD) :
    Value.res_out0 (F := Ideal) m c = ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

theorem rowmax_at (s : FVec Ideal S8x8x64x1088 .f32) (b h : Fin 8) (i : Fin 64) :
    rowmax s (ix3 b h i) = Finset.univ.fold max (Ideal.ofBits .f32 0xFF800000#32) (fun x => s (ix4 b h i x)) := by
  pointwise [rowmax]

theorem exps_at (s : FVec Ideal S8x8x64x1088 .f32) (r : FVec Ideal S8x8x64 .f32) (b h : Fin 8) (i : Fin 64) (k : Fin 1088) :
    exps s r (ix4 b h i k) = Ideal.exp (s (ix4 b h i k) - max (Ideal.ofBits .f32 0xFF800000#32) (r (ix3 b h i))) := by
  pointwise [exps]

theorem probs_at (e : FVec Ideal S8x8x64x1088 .f32) (b h : Fin 8) (i : Fin 64) (k : Fin 1088) :
    probs e (ix4 b h i k) = Ideal.div (e (ix4 b h i k)) (∑ x, e (ix4 b h i x)) := by
  pointwise [probs]

theorem mix_at (v : FVec Ideal S8x1088x8x128 .f32) (p : FVec Ideal S8x8x64x1088 .f32) (b : Fin 8) (i : Fin 64)
    (k : Fin 1024) :
    mix v p (ix3 b i k) = ∑ x : Fin 1088, v (ix4 b x ⟨k / 128, by omega⟩ ⟨k % 128, by omega⟩)
      * p (ix4 b ⟨k / 128, by omega⟩ i x) := by
  pointwise [mix]

theorem vals_old (x1 : FVec Ideal S1x8x1024x256 .f32) (x3 : FVec Ideal S1x256x2048 .f32)
    (x5 : FVec Ideal S1x8x512x128 .bf16) (b h : Fin 8) (x : Fin 1024) (e : Fin 128) :
    vals x1 x3 x5 (ix4 b ⟨x, by omega⟩ h e)
      = ∑ y, x1 (ix4 0 b x y) * x3 (ix3 0 y ⟨h * 256 + (128 + e), by omega⟩) := by
  pointwise [vals]

theorem vals_new (x1 : FVec Ideal S1x8x1024x256 .f32) (x3 : FVec Ideal S1x256x2048 .f32)
    (x5 : FVec Ideal S1x8x512x128 .bf16) (b h : Fin 8) (x : Fin 64) (e : Fin 128) :
    vals x1 x3 x5 (ix4 b ⟨1024 + x, by omega⟩ h e) = x5 (ix4 0 h ⟨b * 64 + x, by omega⟩ e) := by
  pointwise [vals]

theorem logits_old (x0 : FVec Ideal S1x8x512x256 .bf16) (x1 : FVec Ideal S1x8x1024x256 .f32)
    (x2 : FVec Ideal S8x1024x128 .f32) (x3 : FVec Ideal S1x256x2048 .f32) (x4 : FVec Ideal S1x8x512x256 .bf16)
    (b h : Fin 8) (i : Fin 64) (k : Fin 1024) :
    logits x0 x1 x2 x3 x4 (ix4 b h i ⟨k, by omega⟩)
      = ((∑ x : Fin 128, x0 (ix4 0 h ⟨b * 64 + i, by omega⟩ ⟨x, by omega⟩)
            * ∑ y, x1 (ix4 0 b k y) * x3 (ix3 0 y ⟨h * 256 + x, by omega⟩))
          + ∑ x : Fin 128, x0 (ix4 0 h ⟨b * 64 + i, by omega⟩ ⟨128 + x, by omega⟩) * x2 (ix3 b k x))
        * Ideal.log (Ideal.ofBits .f32 0x40000000#32) := by
  pointwise [logits]

theorem logits_new (x0 : FVec Ideal S1x8x512x256 .bf16) (x1 : FVec Ideal S1x8x1024x256 .f32)
    (x2 : FVec Ideal S8x1024x128 .f32) (x3 : FVec Ideal S1x256x2048 .f32) (x4 : FVec Ideal S1x8x512x256 .bf16)
    (b h : Fin 8) (i k : Fin 64) :
    logits x0 x1 x2 x3 x4 (ix4 b h i ⟨1024 + k, by omega⟩)
      = ((∑ x : Fin 128, x0 (ix4 0 h ⟨b * 64 + i, by omega⟩ ⟨x, by omega⟩)
            * x4 (ix4 0 h ⟨b * 64 + k, by omega⟩ ⟨x, by omega⟩))
          + ∑ x : Fin 128, x0 (ix4 0 h ⟨b * 64 + i, by omega⟩ ⟨128 + x, by omega⟩)
            * x4 (ix4 0 h ⟨b * 64 + k, by omega⟩ ⟨128 + x, by omega⟩))
        * Ideal.log (Ideal.ofBits .f32 0x40000000#32) := by
  pointwise [logits]

end Cert.MlaDecRef
-- ==== Proof.MlaValue.lean ====
module

public import Idealize.ShloMosaic.Lib.Pipeline.ValueKit
public import proofs.«01_k».proof.Proof.Softmax
public import proofs.«01_k».proof.Proof.MlaHead
public import proofs.«01_k».proof.Proof.MlaRef

@[expose] public section

set_option maxRecDepth 16384

noncomputable section

/-! The latent attention over a cache: the array the kernel leaves is the reference's. -/

namespace Cert.MlaDec

open Cert.DecMlaIdeal Cert.DecMlaIdeal.Gen Idealize.ShloMosaic Idealize.ShloMosaic.TcCoe Idealize.SL.Sem Cert.Softmax

/-- The reference at an index is the kernel's form of the attention over the arrays, where the logits are real. -/
theorem ref_eq (x0 : FVec Ideal S1x8x512x256 .bf16) (x1 : FVec Ideal S1x8x1024x256 .f32) (x2 : FVec Ideal S8x1024x128 .f32)
    (x3 : FVec Ideal S1x256x2048 .f32) (x4 : FVec Ideal S1x8x512x256 .bf16) (x5 : FVec Ideal S1x8x512x128 .bf16)
    (f0 : ∀ i, Fin' (x0 i)) (f1 : ∀ i, Fin' (x1 i)) (f2 : ∀ i, Fin' (x2 i)) (f3 : ∀ i, Fin' (x3 i)) (f4 : ∀ i, Fin' (x4 i))
    (b : Fin 8) (i : Fin 64) (k : Fin 1024) (s₁ v₁ : Fin 1024 → EReal) (s₂ v₂ : Fin 64 → EReal)
    (hs₁ : ∀ x, s₁ x = (∑ d : Fin 128, x0 (ix4 0 ⟨k / 128, by omega⟩ ⟨b * 64 + i, by omega⟩ ⟨d, by omega⟩)
            * ∑ y, x1 (ix4 0 b x y) * x3 (ix3 0 y ⟨k / 128 * 256 + d, by omega⟩))
          + ∑ d : Fin 128, x0 (ix4 0 ⟨k / 128, by omega⟩ ⟨b * 64 + i, by omega⟩ ⟨128 + d, by omega⟩) * x2 (ix3 b x d))
    (hs₂ : ∀ x : Fin 64, s₂ x = ∑ d : Fin 256, x0 (ix4 0 ⟨k / 128, by omega⟩ ⟨b * 64 + i, by omega⟩ d)
            * x4 (ix4 0 ⟨k / 128, by omega⟩ ⟨b * 64 + x, by omega⟩ d))
    (hv₁ : ∀ x, v₁ x = ∑ y, x1 (ix4 0 b x y) * x3 (ix3 0 y ⟨k / 128 * 256 + (128 + k % 128), by omega⟩))
    (hv₂ : ∀ x : Fin 64, v₂ x = x5 (ix4 0 ⟨k / 128, by omega⟩ ⟨b * 64 + x, by omega⟩ ⟨k % 128, by omega⟩)) :
    att s₁ v₁ s₂ v₂ (top s₁ s₂) = MlaDecRef.ref x0 x1 x2 x3 x4 x5 (ix3 b i k) := by
  have g₁ : ∀ x, Fin' (s₁ x) := fun x => by
    rw [hs₁]
    exact (Fin'.sum _ fun d _ => (f0 _).mul (Fin'.sum _ fun y _ => (f1 _).mul (f3 _))).add
      (Fin'.sum _ fun d _ => (f0 _).mul (f2 _))
  have g₂ : ∀ x, Fin' (s₂ x) := fun x => by
    rw [hs₂]
    exact Fin'.sum _ fun d _ => (f0 _).mul (f4 _)
  unfold MlaDecRef.ref
  rw [MlaDecRef.mix_at]
  simp only [MlaDecRef.probs_at, MlaDecRef.exps_at, MlaDecRef.rowmax_at]
  refine mean_pair (m := 1024) (n := 64) rfl (by norm_num) (by norm_num) s₁ v₁ s₂ v₂
    (fun x => MlaDecRef.logits x0 x1 x2 x3 x4 (ix4 b ⟨k / 128, by omega⟩ i x))
    (fun x => MlaDecRef.vals x1 x3 x5 (ix4 b x ⟨k / 128, by omega⟩ ⟨k % 128, by omega⟩)) g₁ g₂ ?_ ?_ ?_ ?_ _ rfl
  · intro x
    rw [hs₁, ← log_two]
    exact MlaDecRef.logits_old x0 x1 x2 x3 x4 b _ i x
  · intro x
    rw [hs₂, ← log_two]
    refine (MlaDecRef.logits_new x0 x1 x2 x3 x4 b _ i x).trans ?_
    congr 1
    exact (Fin.sum_univ_add (a := 128) (b := 128) (fun d => (x0 (ix4 0 ⟨k / 128, by omega⟩ ⟨b * 64 + i, by omega⟩ d) : EReal)
            * x4 (ix4 0 ⟨k / 128, by omega⟩ ⟨b * 64 + x, by omega⟩ d))).symm
  · intro x
    rw [hv₁]
    exact MlaDecRef.vals_old x1 x3 x5 b _ x _
  · intro x
    rw [hv₂]
    exact MlaDecRef.vals_new x1 x3 x5 b _ x _

variable (m : (ℓ : Loc nD τ sig) → Buf (Elt Ideal) ℓ)

/-- Where each window stands at grid point `t`. -/
theorem idx : ∀ t : Fin cfg0.N, win0_0.index t = ![0, 0, t.val, 0] ∧ win0_1.index t = ![t.val, 0, 0]
    ∧ win0_2.index t = ![t.val, 0, 0] ∧ win0_3.index t = ![0, 0] ∧ win0_4.index t = ![0, 0, t.val, 0]
    ∧ win0_5.index t = ![0, 0, t.val, 0] ∧ win0_6.index t = ![t.val, 0, 0] :=
  (by decide +kernel : ∀ t : Fin grid0.N, _)

theorem read0 (c : Dev nD) (t : Fin cfg0.N) (h : Fin 8) (i : Fin 64) (d : Fin 256) (b : Fin 8) (hb : t.val = b) :
    iblk m c 0 t (ix4 0 h i d) = m ((c.tc : Thread nD τ).loc main_arg0) (ix4 0 h ⟨b * 64 + i, by omega⟩ d) := by
  blk_point [iblk, V, idx t]

theorem read2 (c : Dev nD) (t : Fin cfg0.N) (x : Fin 1024) (d : Fin 128) (b : Fin 8) (hb : t.val = b) :
    iblk m c 2 t (ix3 0 x d) = m ((c.tc : Thread nD τ).loc main_arg2) (ix3 b x d) := by
  blk_point [iblk, V, idx t]

theorem read4 (c : Dev nD) (t : Fin cfg0.N) (h : Fin 8) (i : Fin 64) (d : Fin 256) (b : Fin 8) (hb : t.val = b) :
    iblk m c 4 t (ix4 0 h i d) = m ((c.tc : Thread nD τ).loc main_arg4) (ix4 0 h ⟨b * 64 + i, by omega⟩ d) := by
  blk_point [iblk, V, idx t]

theorem read5 (c : Dev nD) (t : Fin cfg0.N) (h : Fin 8) (i : Fin 64) (d : Fin 128) (b : Fin 8) (hb : t.val = b) :
    iblk m c 5 t (ix4 0 h i d) = m ((c.tc : Thread nD τ).loc main_arg5) (ix4 0 h ⟨b * 64 + i, by omega⟩ d) := by
  blk_point [iblk, V, idx t]

theorem read1 (c : Dev nD) (t : Fin cfg0.N) (x : Fin 1024) (y : Fin 256) (b : Fin 8) (hb : t.val = b) :
    iblk m c 1 t (ix3 0 x y) = m ((c.tc : Thread nD τ).loc main_arg1) (ix4 0 b x y) := by
  blk_point [iblk, V, idx t]

theorem read3 (c : Dev nD) (t : Fin cfg0.N) (x : Fin 256) (y : Fin 2048) :
    iblk m c 3 t (ix2 x y) = m ((c.tc : Thread nD τ).loc main_arg3) (ix3 0 x y) := by
  blk_point [iblk, V, idx t]

theorem final (c : Dev nD)
    (f0 : ∀ i, Fin' ((m ((c.tc : Thread nD τ).loc main_arg0) : FVec Ideal S1x8x512x256 .bf16) i))
    (f1 : ∀ i, Fin' ((m ((c.tc : Thread nD τ).loc main_arg1) : FVec Ideal S1x8x1024x256 .f32) i))
    (f2 : ∀ i, Fin' ((m ((c.tc : Thread nD τ).loc main_arg2) : FVec Ideal S8x1024x128 .f32) i))
    (f3 : ∀ i, Fin' ((m ((c.tc : Thread nD τ).loc main_arg3) : FVec Ideal S1x256x2048 .f32) i))
    (f4 : ∀ i, Fin' ((m ((c.tc : Thread nD τ).loc main_arg4) : FVec Ideal S1x8x512x256 .bf16) i)) :
    (dats m 0 c).arrAt 6 cfg0.N = MlaDecRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  refine (dats m 0 c).arrAt_eq_of_covers 6 _ (by decide +kernel) fun t hf y => ?_
  blk_simp
  rw [after0_6]
  obtain ⟨i, k, rfl⟩ : ∃ (i : Fin 64) (k : Fin 1024), y = ix3 0 i k := ⟨y 1, y 2, by blk_ext⟩
  have ht : t.val < 8 := t.isLt
  have e : (win0_6.blk t).view.emb (ix3 0 i k) = ix3 ⟨t, ht⟩ i k := by blk_ext [idx t]
  rw [e]
  refine (point _ _ _ _ _ _ i k).trans ?_
  refine ref_eq _ _ _ _ _ _ f0 f1 f2 f3 f4 ⟨t, ht⟩ i k _ _ _ _ ?_ ?_ ?_ ?_
  · intro x
    simp only [sOld, read0 m c t _ _ _ ⟨t, ht⟩ rfl, read1 m c t _ _ ⟨t, ht⟩ rfl, read2 m c t _ _ ⟨t, ht⟩ rfl, read3]
  · intro x
    simp only [sNew, read0 m c t _ _ _ ⟨t, ht⟩ rfl, read4 m c t _ _ _ ⟨t, ht⟩ rfl]
  · intro x
    simp only [vOld, read1 m c t _ _ ⟨t, ht⟩ rfl, read3]
  · intro x
    exact read5 m c t _ _ _ ⟨t, ht⟩ rfl

end Cert.MlaDec
end
-- ==== Proof.MlaClaim.lean ====
module

public import proofs.«01_k».proof.Defs
public import proofs.«01_k».proof.Proof.MlaValue

@[expose] public section

set_option maxRecDepth 16384

noncomputable section

/-! The value claim of the latent attention over a cache. -/

namespace Cert.MlaDec

open Cert.DecMlaIdeal Cert.DecMlaIdeal.Gen Idealize.ShloMosaic Idealize.ShloMosaic.TcCoe Idealize.SL.Sem Cert.Softmax

/-- The side conditions of the precondition's operations. -/
theorem preFacts : Cert.Pre_finite_mla.Facts where
  bitsLt_bf16_f32 := by decide
  bcast_S_S1x8x512x256 := by decide
  bcast_S_S1x8x1024x256 := by decide
  bcast_S_S8x1024x128 := by decide
  bcast_S_S1x256x2048 := by decide

/-- Kernel and reference end with the same array wherever the arguments named by the precondition are finite. -/
theorem algebraic : Cert.algebraic_DecMlaIdeal_DecMlaRefIdeal_pre_finite_mla (hPre_finite_mla := preFacts) := by
  intro m g m' g' hpre hagree
  refine ⟨fun c => MlaDecRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)), ?_, ?_⟩
  · refine (θ_run _ _ _).mono (fun r h c => ⟨(h c).1.trans ?_, (h c).2⟩) (Cert.DecMlaIdeal.Value.run_blocks m g)
    obtain ⟨p0, p1, p2, p3, p4⟩ := hpre c
    exact final m c (fun i => fin_of_cmp (congrFun p0 i)) (fun i => fin_of_cmp (congrFun p1 i))
      (fun i => fin_of_cmp (congrFun p2 i)) (fun i => fin_of_cmp (congrFun p3 i)) (fun i => fin_of_cmp (congrFun p4 i))
  · refine (θ_run _ _ _).mono (fun r h c => ⟨(h c).1.trans ?_, (h c).2⟩) (Cert.DecMlaRefIdeal.Value.run m' g')
    obtain ⟨e0, e1, e2, e3, e4, e5⟩ := hagree c
    refine (MlaDecRef.res_eq m' c).trans ?_
    rw [e0, e1, e2, e3, e4, e5]

end Cert.MlaDec
end
-- ==== Proof.SoftmaxInf.lean ====
module

public import proofs.«01_k».proof.Proof.Softmax

@[expose] public section

noncomputable section

/-! The softmax-weighted sum where logits may be infinite: with a real maximum the two forms agree as before; with an
    infinite maximum every weight, and the attended value, is minus infinity. A norm of a row of such values is zero. -/

namespace Cert.Softmax

open Idealize.ShloMosaic

theorem le_fold {ι : Type*} [Fintype ι] (f : ι → EReal) (k : ι) :
    f k ≤ Finset.univ.fold max (Ideal.ofBits .f32 0xFF800000#32) f :=
  (Finset.le_fold_max _).2 (.inr ⟨k, Finset.mem_univ _, le_rfl⟩)

theorem fold_mem {ι : Type*} [Fintype ι] [Nonempty ι] (f : ι → EReal) :
    ∃ k, f k = Finset.univ.fold max (Ideal.ofBits .f32 0xFF800000#32) f := by
  rcases (Finset.le_fold_max (Finset.univ.fold max (Ideal.ofBits .f32 0xFF800000#32) f)).1 le_rfl with h | ⟨k, _, h⟩
  · obtain ⟨k⟩ := ‹Nonempty ι›
    refine ⟨k, le_antisymm (le_fold f k) (h.trans ?_)⟩
    rw [show Ideal.ofBits .f32 0xFF800000#32 = (⊥ : EReal) from ninf]
    exact bot_le
  · exact ⟨k, le_antisymm (le_fold f k) h⟩

theorem log_two_pos : (0 : EReal) < ((Real.log 2 : ℝ) : EReal) := by
  exact_mod_cast Real.log_pos (by norm_num)

/-- The maximum of the scaled logits is real where that of the logits is. -/
theorem max_scaled {ι : Type*} (s S : ι → EReal) (M N : EReal) (hle : ∀ k, s k ≤ M) (hex : ∃ k, s k = M)
    (hLe : ∀ k, S k ≤ N) (hEx : ∃ k, S k = N) (hS : ∀ k, S k = s k * ((Real.log 2 : ℝ) : EReal)) :
    (Fin' M → Fin' N) ∧ (M = ⊤ → N = ⊤) ∧ (M = ⊥ → N = ⊥) := by
  obtain ⟨i, hi⟩ := hex
  obtain ⟨j, hj⟩ := hEx
  refine ⟨?_, ?_, ?_⟩
  · rintro ⟨a, rfl⟩
    have h1 := hLe i
    have h2 := hle j
    rw [hS, hi, ← EReal.coe_mul] at h1
    rw [hS] at hj
    generalize s j = x at hj h2
    induction x using EReal.rec with
    | bot => rw [EReal.bot_mul_of_pos log_two_pos] at hj; rw [← hj] at h1; exact absurd h1 (not_le.2 (EReal.bot_lt_coe _))
    | top => exact absurd h2 (by simp)
    | coe r => exact ⟨r * Real.log 2, by rw [← hj, EReal.coe_mul]⟩
  · rintro rfl
    have h1 := hLe i
    rw [hS, hi, EReal.top_mul_of_pos log_two_pos] at h1
    exact top_le_iff.1 h1
  · rintro rfl
    rw [← hj, hS, le_bot_iff.1 (hle j), EReal.bot_mul_of_pos log_two_pos]

/-- With a real maximum, each weight is real, and one division after the sum equals a division per weight. -/
theorem mean_real {ι : Type*} [Fintype ι] (s S : ι → EReal) (M N : EReal) (hle : ∀ k, s k ≤ M) (hex : ∃ k, s k = M)
    (hS : ∀ k, S k = s k * ((Real.log 2 : ℝ) : EReal)) (hM : Fin' M) (hN : Fin' N) :
    (∀ k, Fin' (Ideal.div (Ideal.exp (S k - N)) (∑ k, Ideal.exp (S k - N))))
    ∧ ∀ v : ι → EReal, Ideal.div (∑ k, Ideal.exp2 (s k - M) * v k) (∑ k, Ideal.exp2 (s k - M))
      = ∑ k, v k * Ideal.div (Ideal.exp (S k - N)) (∑ k, Ideal.exp (S k - N)) := by
  classical
  obtain ⟨a, rfl⟩ := hM
  obtain ⟨b, rfl⟩ := hN
  obtain ⟨i, hi⟩ := hex
  have hK : 0 < Real.exp (b - a * Real.log 2) := Real.exp_pos _
  have key : ∀ k, ∃ p : ℝ, 0 ≤ p ∧ (s k ≠ ⊥ → 0 < p) ∧ Ideal.exp (S k - b) = (p : EReal)
      ∧ Ideal.exp2 (s k - a) = ((p * Real.exp (b - a * Real.log 2) : ℝ) : EReal) := by
    intro k
    have h := hle k
    have hk := hS k
    generalize s k = x at h hk
    induction x using EReal.rec with
    | bot =>
      refine ⟨0, le_rfl, fun h => absurd rfl h, ?_, ?_⟩
      · rw [hk, EReal.bot_mul_of_pos log_two_pos, EReal.bot_sub]; rfl
      · rw [EReal.bot_sub, zero_mul]; rfl
    | top => exact absurd h (by simp)
    | coe r =>
      refine ⟨Real.exp (r * Real.log 2 - b), (Real.exp_pos _).le, fun _ => Real.exp_pos _, ?_, ?_⟩
      · rw [hk, ← EReal.coe_mul, ← EReal.coe_sub, Ideal.exp_coe]
      · rw [← EReal.coe_sub, Ideal.exp2_coe, ← Real.exp_add]
        congr 1
        show (2 : ℝ) ^ (r - a) = _
        rw [Real.rpow_def_of_pos (by norm_num)]
        congr 1; ring
  choose p hp0 hp1 e1 e2 using key
  have hP : 0 < ∑ k, p k :=
    Finset.sum_pos' (fun k _ => hp0 k) ⟨i, Finset.mem_univ _, hp1 i (by rw [hi]; exact EReal.coe_ne_bot a)⟩
  simp only [e1, e2]
  rw [← coe_sum, ← coe_sum]
  refine ⟨fun k => ?_, fun v => ?_⟩
  · rw [Ideal.div_coe hP.ne', ← EReal.coe_mul]
    exact Fin'.coe _
  · rw [← Finset.sum_mul, Ideal.div_coe (mul_pos hP hK).ne', sum_mul_pos _ _ (by positivity)]
    refine Finset.sum_congr rfl fun k _ => ?_
    rw [Ideal.div_coe hP.ne', mul_comm _ (v k), mul_assoc, ← EReal.coe_mul, ← EReal.coe_mul]
    congr 2
    field_simp

theorem sub_inf {x M : EReal} (h : x ≤ M) (hM : M = ⊤ ∨ M = ⊥) : x - M = ⊥ := by
  rcases hM with rfl | rfl
  · exact EReal.sub_top x
  · rw [le_bot_iff.1 h, EReal.bot_sub]

/-- With an infinite maximum every weight is minus infinity, and so is the attended value. -/
theorem mean_inf {ι : Type*} [Fintype ι] (s S : ι → EReal) (M N : EReal) (hle : ∀ k, s k ≤ M) (hLe : ∀ k, S k ≤ N)
    (hM : M = ⊤ ∨ M = ⊥) (hN : N = ⊤ ∨ N = ⊥) :
    (∀ k, Ideal.div (Ideal.exp (S k - N)) (∑ k, Ideal.exp (S k - N)) = ⊥)
    ∧ ∀ v : ι → EReal, Ideal.div (∑ k, Ideal.exp2 (s k - M) * v k) (∑ k, Ideal.exp2 (s k - M)) = ⊥ := by
  have e1 : ∀ k, Ideal.exp (S k - N) = 0 := fun k => by rw [sub_inf (hLe k) hN]; rfl
  have e2 : ∀ k, Ideal.exp2 (s k - M) = 0 := fun k => by rw [sub_inf (hle k) hM]; rfl
  simp [e1, e2, Ideal.div]

/-- Two ranges of keys, as a row of cached keys followed by new ones: either every weight is real and the two forms of
    the weighted sum agree, or every weight and the kernel's form are minus infinity. -/
theorem mean_pair_any {m n N : ℕ} (hN : N = m + n) (hm : 0 < m) (s₁ : Fin m → EReal)
    (s₂ : Fin n → EReal) (S : Fin N → EReal)
    (hS₁ : ∀ x : Fin m, S ⟨x, by omega⟩ = s₁ x * ((Real.log 2 : ℝ) : EReal))
    (hS₂ : ∀ x : Fin n, S ⟨m + x, by omega⟩ = s₂ x * ((Real.log 2 : ℝ) : EReal)) (M : EReal)
    (hM : M = max (Finset.univ.fold max (Ideal.ofBits .f32 0xFF800000#32) s₁)
      (Finset.univ.fold max (Ideal.ofBits .f32 0xFF800000#32) s₂)) (hn : 0 < n) (w : Fin N → EReal)
    (hw : ∀ k, w k = Ideal.div (Ideal.exp (S k - max (Ideal.ofBits .f32 0xFF800000#32)
            (Finset.univ.fold max (Ideal.ofBits .f32 0xFF800000#32) S)))
          (∑ k, Ideal.exp (S k - max (Ideal.ofBits .f32 0xFF800000#32)
            (Finset.univ.fold max (Ideal.ofBits .f32 0xFF800000#32) S)))) :
    ((∀ k, Fin' (w k)) ∧ ∀ (v₁ : Fin m → EReal) (v₂ : Fin n → EReal) (V : Fin N → EReal),
        (∀ x : Fin m, V ⟨x, by omega⟩ = v₁ x) → (∀ x : Fin n, V ⟨m + x, by omega⟩ = v₂ x) →
        Ideal.div (∑ x, Ideal.exp2 (s₁ x - M) * v₁ x + ∑ x, Ideal.exp2 (s₂ x - M) * v₂ x)
          (∑ x, Ideal.exp2 (s₁ x - M) + ∑ x, Ideal.exp2 (s₂ x - M)) = ∑ k, V k * w k)
    ∨ ((∀ k, w k = ⊥) ∧ ∀ (v₁ : Fin m → EReal) (v₂ : Fin n → EReal),
        Ideal.div (∑ x, Ideal.exp2 (s₁ x - M) * v₁ x + ∑ x, Ideal.exp2 (s₂ x - M) * v₂ x)
          (∑ x, Ideal.exp2 (s₁ x - M) + ∑ x, Ideal.exp2 (s₂ x - M)) = ⊥) := by
  subst hN
  haveI : Nonempty (Fin (m + n)) := ⟨⟨0, by omega⟩⟩
  haveI : Nonempty (Fin m) := ⟨⟨0, hm⟩⟩
  haveI : Nonempty (Fin n) := ⟨⟨0, hn⟩⟩
  rw [show max (Ideal.ofBits .f32 0xFF800000#32) (Finset.univ.fold max (Ideal.ofBits .f32 0xFF800000#32) S)
    = Finset.univ.fold max (Ideal.ofBits .f32 0xFF800000#32) S by
      rw [show Ideal.ofBits .f32 0xFF800000#32 = (⊥ : EReal) from ninf]; exact max_eq_right bot_le] at hw
  obtain ⟨s, hs⟩ : ∃ s : Fin (m + n) → EReal, s = fun k => Fin.addCases (motive := fun _ => EReal) s₁ s₂ k := ⟨_, rfl⟩
  have l : ∀ x : Fin m, s (Fin.castAdd n x) = s₁ x := fun x => by rw [hs]; exact Fin.addCases_left x
  have r : ∀ x : Fin n, s (Fin.natAdd m x) = s₂ x := fun x => by rw [hs]; exact Fin.addCases_right x
  have hS : ∀ k, S k = s k * ((Real.log 2 : ℝ) : EReal) := fun k => by
    refine Fin.addCases (fun x => ?_) (fun x => ?_) k
    · rw [l]; exact hS₁ x
    · rw [r]; exact hS₂ x
  have hle : ∀ k, s k ≤ M := fun k => by
    rw [hM]
    refine Fin.addCases (fun x => ?_) (fun x => ?_) k
    · rw [l]; exact (le_fold s₁ x).trans (le_max_left _ _)
    · rw [r]; exact (le_fold s₂ x).trans (le_max_right _ _)
  have hex : ∃ k, s k = M := by
    obtain ⟨i, hi⟩ := fold_mem s₁
    obtain ⟨j, hj⟩ := fold_mem s₂
    rw [hM]
    rcases max_choice (Finset.univ.fold max (Ideal.ofBits .f32 0xFF800000#32) s₁)
      (Finset.univ.fold max (Ideal.ofBits .f32 0xFF800000#32) s₂) with h | h
    · exact ⟨Fin.castAdd n i, by rw [l, h]; exact hi⟩
    · exact ⟨Fin.natAdd m j, by rw [r, h]; exact hj⟩
  obtain ⟨m1, m2, m3⟩ := max_scaled s S M _ hle hex (le_fold S) (fold_mem S) hS
  have num : ∀ (v₁ : Fin m → EReal) (v₂ : Fin n → EReal),
      ∑ x, Ideal.exp2 (s₁ x - M) * v₁ x + ∑ x, Ideal.exp2 (s₂ x - M) * v₂ x
        = ∑ k, Ideal.exp2 (s k - M) * Fin.addCases (motive := fun _ => EReal) v₁ v₂ k := fun v₁ v₂ => by
    rw [Fin.sum_univ_add]
    simp only [l, r, Fin.addCases_left, Fin.addCases_right]
  have den : ∑ x, Ideal.exp2 (s₁ x - M) + ∑ x, Ideal.exp2 (s₂ x - M) = ∑ k, Ideal.exp2 (s k - M) := by
    rw [Fin.sum_univ_add]
    simp only [l, r]
  have inf : (M = ⊤ ∨ M = ⊥) → (∀ k, w k = ⊥) ∧ ∀ (v₁ : Fin m → EReal) (v₂ : Fin n → EReal),
        Ideal.div (∑ x, Ideal.exp2 (s₁ x - M) * v₁ x + ∑ x, Ideal.exp2 (s₂ x - M) * v₂ x)
          (∑ x, Ideal.exp2 (s₁ x - M) + ∑ x, Ideal.exp2 (s₂ x - M)) = ⊥ := fun h => by
    obtain ⟨a, b⟩ := mean_inf s S M _ hle (le_fold S) h (h.imp m2 m3)
    exact ⟨fun k => (hw k).trans (a k), fun v₁ v₂ => by rw [num, den]; exact b _⟩
  have cases : M = ⊥ ∨ M = ⊤ ∨ Fin' M := by
    induction M using EReal.rec with
    | bot => exact .inl rfl
    | top => exact .inr (.inl rfl)
    | coe r => exact .inr (.inr ⟨r, rfl⟩)
  rcases cases with h | h | h
  · exact .inr (inf (.inr h))
  · exact .inr (inf (.inl h))
  · left
    obtain ⟨a, b⟩ := mean_real s S M _ hle hex hS h (m1 h)
    refine ⟨fun k => (hw k).symm ▸ a k, fun v₁ v₂ V hV₁ hV₂ => ?_⟩
    rw [num, den, b]
    refine Finset.sum_congr rfl fun k _ => ?_
    rw [hw]
    congr 1
    refine Fin.addCases (fun x => ?_) (fun x => ?_) k
    · rw [Fin.addCases_left]; exact (hV₁ x).symm
    · rw [Fin.addCases_right]; exact (hV₂ x).symm

/-- Being zero or infinite. -/
def Flat (x : EReal) : Prop := x = 0 ∨ x = ⊤ ∨ x = ⊥

theorem Flat.add {x y : EReal} : Flat x → Flat y → Flat (x + y) := by
  rintro (rfl | rfl | rfl) (rfl | rfl | rfl) <;> simp [Flat]

theorem Flat.sum {ι : Type*} (s : Finset ι) {f : ι → EReal} (h : ∀ i ∈ s, Flat (f i)) : Flat (∑ i ∈ s, f i) := by
  classical
  induction s using Finset.induction_on with
  | empty => exact .inl (by simp)
  | insert a s ha ih =>
    rw [Finset.sum_insert ha]
    exact (h a (Finset.mem_insert_self ..)).add (ih fun i hi => h i (Finset.mem_insert_of_mem hi))

/-- A real number times an infinity is zero or infinite. -/
theorem Flat.mul {v c : EReal} (hv : Fin' v) (hc : c = ⊤ ∨ c = ⊥) : Flat (v * c) := by
  obtain ⟨r, rfl⟩ := hv
  rcases lt_trichotomy r 0 with h | rfl | h
  · rcases hc with rfl | rfl
    · exact .inr (.inr (EReal.coe_mul_top_of_neg h))
    · exact .inr (.inl (EReal.coe_mul_bot_of_neg h))
  · exact .inl (by simp)
  · rcases hc with rfl | rfl
    · exact .inr (.inl (EReal.coe_mul_top_of_pos h))
    · exact .inr (.inr (EReal.coe_mul_bot_of_pos h))

/-- The norm of a row whose entries are zero or infinite is zero. -/
theorem norm_flat {n : ℕ} (o : Fin n → EReal) (h : ∀ y, Flat (o y)) (e : Fin n) :
    o e * Ideal.rsqrt (Ideal.div (∑ y, o y * o y) (Ideal.ofBits .f32 0x43000000#32) + Ideal.ofBits .f32 0x358637BD#32) = 0 := by
  have nn : ∀ y, 0 ≤ o y * o y := fun y => by rcases h y with e | e | e <;> simp [e]
  have top : o e * o e = ⊤ → ∑ y, o y * o y = ⊤ := fun he =>
    top_le_iff.1 (he ▸ Finset.single_le_sum (f := fun y => o y * o y) (fun y _ => nn y) (Finset.mem_univ e))
  have c1 : Ideal.ofBits .f32 0x43000000#32 = ((128 : ℝ) : EReal) := by
    simp [Ideal.ofBits, Ideal.ieee, -EReal.coe_mul]
    norm_num
  have c2 : Fin' (Ideal.ofBits .f32 0x358637BD#32) := by
    simp only [Ideal.ofBits, Ideal.ieee]
    norm_num
    exact ⟨_, rfl⟩
  have inf : o e * o e = ⊤ → o e * Ideal.rsqrt (Ideal.div (∑ y, o y * o y) (Ideal.ofBits .f32 0x43000000#32)
      + Ideal.ofBits .f32 0x358637BD#32) = 0 := fun he => by
    obtain ⟨r, hr⟩ := c2
    rw [top he, c1, hr, Ideal.div_coe (by norm_num), EReal.top_mul_of_pos (by exact_mod_cast (by norm_num)),
      EReal.top_add_coe]
    exact mul_zero _
  rcases h e with he | he | he
  · rw [he, zero_mul]
  · exact inf (by simp [he])
  · exact inf (by simp [he])

end Cert.Softmax

end
-- ==== Proof.DiffHead.lean ====
module

public import Idealize.ShloMosaic.Lib.Pipeline.ValueKit
public import proofs.«01_k».proof.Proof.Gen.DecDiffIdeal.Value

@[expose] public section

set_option maxRecDepth 16384

noncomputable section

/-! The differential attention kernel: what one grid point leaves in its block, read at an index. -/

namespace Cert.DiffDec

open Cert.DecDiffIdeal Cert.DecDiffIdeal.Gen Idealize.ShloMosaic Idealize.ShloMosaic.TcCoe Idealize.SL.Sem

/-- The scores of both components' queries against the cached keys, bias added. -/
def oldS (q : Vec Ideal S1x1x2x64x128 .bf16) (pk : Vec Ideal S1x1024x128 .f32) (bp : Vec Ideal S1x64x1024 .f32) :
    FVec Ideal S128x1024 .f32 :=
  k0_pay8 (F := Ideal) (k0_pay6 (F := Ideal) q pk) (k0_pay7 (F := Ideal) bp)

/-- The scores against the new keys, bias added. -/
def newS (q : Vec Ideal S1x1x2x64x128 .bf16) (kn : Vec Ideal S1x1x64x128 .bf16) (bn : Vec Ideal S1x64x64 .f32) :
    FVec Ideal S128x64 .f32 :=
  k0_pay9 (F := Ideal) (k0_pay4 (F := Ideal) bn) (k0_pay5 (F := Ideal) q kn)

/-- Both components' softmax-weighted values, base two, divided once. -/
def quot (s : FVec Ideal S128x1024 .f32) (t : FVec Ideal S128x64 .f32) (v : FVec Ideal S1024x128 .f32)
    (vn : FVec Ideal S1x1x64x128 .bf16) : FVec Ideal S128x128 .f32 :=
  divf (addf (matmul dot_S128x1024_S1024x128_S128x128_1_0_0_1_n_n none (exp2 (subf s (broadcastTo S128x1024 (maximumf (shapeCast S128x1 (multiReduction .maximumf [1] S128 s 0xFF800000#32 reduces_S128x1024_S128 (.inl rfl) rfl) shapeCasts_S128_S128x1) (shapeCast S128x1 (multiReduction .maximumf [1] S128 t 0xFF800000#32 reduces_S128x64_S128 (.inl rfl) rfl) shapeCasts_S128_S128x1)) broadcasts_S128x1_S128x1024))) v (constant S128x128 .f32 0x00000000#32))
    (matmul dot_S128x64_S64x128_S128x128_1_0_0_1_n_n none (truncf .bf16 (exp2 (subf t (broadcastTo S128x64 (maximumf (shapeCast S128x1 (multiReduction .maximumf [1] S128 s 0xFF800000#32 reduces_S128x1024_S128 (.inl rfl) rfl) shapeCasts_S128_S128x1) (shapeCast S128x1 (multiReduction .maximumf [1] S128 t 0xFF800000#32 reduces_S128x64_S128 (.inl rfl) rfl) shapeCasts_S128_S128x1)) broadcasts_S128x1_S128x64))) bitsLt_bf16_f32) (shapeCast S64x128 vn shapeCasts_S1x1x64x128_S64x128) (constant S128x128 .f32 0x00000000#32)))
    (broadcastTo S128x128 (addf
      (shapeCast S128x1 (multiReduction .add [1] S128 (exp2 (subf s (broadcastTo S128x1024 (maximumf (shapeCast S128x1 (multiReduction .maximumf [1] S128 s 0xFF800000#32 reduces_S128x1024_S128 (.inl rfl) rfl) shapeCasts_S128_S128x1) (shapeCast S128x1 (multiReduction .maximumf [1] S128 t 0xFF800000#32 reduces_S128x64_S128 (.inl rfl) rfl) shapeCasts_S128_S128x1)) broadcasts_S128x1_S128x1024))) 0x00000000#32 reduces_S128x1024_S128 (.inl rfl) rfl) shapeCasts_S128_S128x1)
      (shapeCast S128x1 (multiReduction .add [1] S128 (exp2 (subf t (broadcastTo S128x64 (maximumf (shapeCast S128x1 (multiReduction .maximumf [1] S128 s 0xFF800000#32 reduces_S128x1024_S128 (.inl rfl) rfl) shapeCasts_S128_S128x1) (shapeCast S128x1 (multiReduction .maximumf [1] S128 t 0xFF800000#32 reduces_S128x64_S128 (.inl rfl) rfl) shapeCasts_S128_S128x1)) broadcasts_S128x1_S128x64))) 0x00000000#32 reduces_S128x64_S128 (.inl rfl) rfl) shapeCasts_S128_S128x1)) broadcasts_S128x1_S128x128)

/-- The first component's values less `l` times the second's. -/
def dif (l : FVec Ideal S1x1 .f32) (o : FVec Ideal S128x128 .f32) : FVec Ideal S64x128 .f32 :=
  subf (extractStridedSlice S64x128 ![0, 0] o slices_S128x128_o0_0_S64x128)
    (mulf (broadcastTo S64x128 l broadcasts_S1x1_S64x128) (extractStridedSlice S64x128 ![64, 0] o slices_S128x128_o64_0_S64x128))

/-- The root-mean-square normalisation of every row, scaled by the gains and the constant. -/
def nrm (o : FVec Ideal S64x128 .f32) (g : FVec Ideal S1x128 .f32) : FVec Ideal S1x64x128 .bf16 :=
  shapeCast S1x64x128 (truncf .bf16 (mulf (mulf (mulf o (broadcastTo S64x128 (rsqrt (addf (divf (shapeCast S64x1 (multiReduction .add [1] S64 (mulf o o) 0x00000000#32 reduces_S64x128_S64 (.inl rfl) rfl) shapeCasts_S64_S64x1) (broadcast S64x1 (Scalar.ofBits .f32 0x43000000#32))) (broadcast S64x1 (Scalar.ofBits .f32 0x358637BD#32)))) broadcasts_S64x1_S64x128)) (broadcastTo S64x128 (shapeCast S1x128 g shapeCasts_S1x128_S1x128) broadcasts_S1x128_S64x128)) (broadcast S64x128 (Scalar.ofBits .f32 0x3F4CCCCD#32))) bitsLt_bf16_f32) shapeCasts_S64x128_S1x64x128

/-- One head of the kernel: what it stores, from what it loads. -/
def head (lam : Vec Ideal S4x64 .f32) (q : Vec Ideal S1x1x2x64x128 .bf16)
    (pk : Vec Ideal S1x1024x128 .f32) (kn : Vec Ideal S1x1x64x128 .bf16) (bp : Vec Ideal S1x64x1024 .f32)
    (bn : Vec Ideal S1x64x64 .f32) (v : Vec Ideal S1x1024x128 .f32) (vn : Vec Ideal S1x1x64x128 .bf16)
    (g : Vec Ideal S1x128 .f32) : Vec Ideal S1x64x128 .bf16 :=
  nrm (dif (k0_pay2 (F := Ideal) lam) (quot (oldS q pk bp) (newS q kn bn) (k0_pay13 (F := Ideal) v) vn)) g

theorem out_heads (c : Dev nD) (i : grid0.Coords) (arg1 : Memref sig .tc .vmem S1x8x2x64x128 .bf16) (harg1 : arg1.IsWhole) (arg2 : Memref sig .tc .vmem S1x1024x1024 .f32) (harg2 : arg2.IsWhole) (arg3 : Memref sig .tc .vmem S1x8192x128 .f32) (harg3 : arg3.IsWhole) (arg4 : Memref sig .tc .vmem S1x8x64x128 .bf16) (harg4 : arg4.IsWhole) (arg5 : Memref sig .tc .vmem S1x8x64x128 .bf16) (harg5 : arg5.IsWhole) (arg6 : Memref sig .tc .vmem S8x64x1024 .f32) (harg6 : arg6.IsWhole) (arg7 : Memref sig .tc .vmem S8x64x64 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x64x1024 .bf16) (harg10 : arg10.IsWhole)
    (x0 : Vec Ideal S1x8x2x64x128 .bf16) (x1 : Vec Ideal S1x1024x1024 .f32) (x2 : Vec Ideal S1x8192x128 .f32) (x3 : Vec Ideal S1x8x64x128 .bf16) (x4 : Vec Ideal S1x8x64x128 .bf16) (x5 : Vec Ideal S8x64x1024 .f32) (x6 : Vec Ideal S8x64x64 .f32) (x7 : Vec Ideal S4x64 .f32) (x8 : Vec Ideal S1x128 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8
      = View.canon [
      ⟨Rect.unit (s := S1x64x1024) ![0, 0, 896] S1x64x128.size inb_S1x64x1024_S1x64x128_0_0_896,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 7, 0, 0, 0] S1x1x2x64x128.size inb_S1x8x2x64x128_S1x1x2x64x128_0_7_0_0_0).toLoadRect (harg1.unread x0))
          (View.readAt (Elt Ideal) arg2.view (Rect.unit (s := S1x1024x1024) ![0, 0, 896] S1x1024x128.size inb_S1x1024x1024_S1x1024x128_0_0_896).toLoadRect (harg2.unread x1))
          (View.readAt (Elt Ideal) arg4.view (Rect.unit (s := S1x8x64x128) ![0, 7, 0, 0] S1x1x64x128.size inb_S1x8x64x128_S1x1x64x128_0_7_0_0).toLoadRect (harg4.unread x3))
          (View.readAt (Elt Ideal) arg6.view (Rect.unit (s := S8x64x1024) ![7, 0, 0] S1x64x1024.size inb_S8x64x1024_S1x64x1024_7_0_0).toLoadRect (harg6.unread x5))
          (View.readAt (Elt Ideal) arg7.view (Rect.unit (s := S8x64x64) ![7, 0, 0] S1x64x64.size inb_S8x64x64_S1x64x64_7_0_0).toLoadRect (harg7.unread x6))
          (View.readAt (Elt Ideal) arg3.view (⟨![0, 7, 0], S1x1024x128.size, ![1, 8, 1], inb_S1x8192x128_S1x1024x128_0_7_0_s_1_8_1⟩ : LoadRect S1x8192x128) (harg3.unread x2))
          (View.readAt (Elt Ideal) arg5.view (Rect.unit (s := S1x8x64x128) ![0, 7, 0, 0] S1x1x64x128.size inb_S1x8x64x128_S1x1x64x128_0_7_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 768] S1x64x128.size inb_S1x64x1024_S1x64x128_0_0_768,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 6, 0, 0, 0] S1x1x2x64x128.size inb_S1x8x2x64x128_S1x1x2x64x128_0_6_0_0_0).toLoadRect (harg1.unread x0))
          (View.readAt (Elt Ideal) arg2.view (Rect.unit (s := S1x1024x1024) ![0, 0, 768] S1x1024x128.size inb_S1x1024x1024_S1x1024x128_0_0_768).toLoadRect (harg2.unread x1))
          (View.readAt (Elt Ideal) arg4.view (Rect.unit (s := S1x8x64x128) ![0, 6, 0, 0] S1x1x64x128.size inb_S1x8x64x128_S1x1x64x128_0_6_0_0).toLoadRect (harg4.unread x3))
          (View.readAt (Elt Ideal) arg6.view (Rect.unit (s := S8x64x1024) ![6, 0, 0] S1x64x1024.size inb_S8x64x1024_S1x64x1024_6_0_0).toLoadRect (harg6.unread x5))
          (View.readAt (Elt Ideal) arg7.view (Rect.unit (s := S8x64x64) ![6, 0, 0] S1x64x64.size inb_S8x64x64_S1x64x64_6_0_0).toLoadRect (harg7.unread x6))
          (View.readAt (Elt Ideal) arg3.view (⟨![0, 6, 0], S1x1024x128.size, ![1, 8, 1], inb_S1x8192x128_S1x1024x128_0_6_0_s_1_8_1⟩ : LoadRect S1x8192x128) (harg3.unread x2))
          (View.readAt (Elt Ideal) arg5.view (Rect.unit (s := S1x8x64x128) ![0, 6, 0, 0] S1x1x64x128.size inb_S1x8x64x128_S1x1x64x128_0_6_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 640] S1x64x128.size inb_S1x64x1024_S1x64x128_0_0_640,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 5, 0, 0, 0] S1x1x2x64x128.size inb_S1x8x2x64x128_S1x1x2x64x128_0_5_0_0_0).toLoadRect (harg1.unread x0))
          (View.readAt (Elt Ideal) arg2.view (Rect.unit (s := S1x1024x1024) ![0, 0, 640] S1x1024x128.size inb_S1x1024x1024_S1x1024x128_0_0_640).toLoadRect (harg2.unread x1))
          (View.readAt (Elt Ideal) arg4.view (Rect.unit (s := S1x8x64x128) ![0, 5, 0, 0] S1x1x64x128.size inb_S1x8x64x128_S1x1x64x128_0_5_0_0).toLoadRect (harg4.unread x3))
          (View.readAt (Elt Ideal) arg6.view (Rect.unit (s := S8x64x1024) ![5, 0, 0] S1x64x1024.size inb_S8x64x1024_S1x64x1024_5_0_0).toLoadRect (harg6.unread x5))
          (View.readAt (Elt Ideal) arg7.view (Rect.unit (s := S8x64x64) ![5, 0, 0] S1x64x64.size inb_S8x64x64_S1x64x64_5_0_0).toLoadRect (harg7.unread x6))
          (View.readAt (Elt Ideal) arg3.view (⟨![0, 5, 0], S1x1024x128.size, ![1, 8, 1], inb_S1x8192x128_S1x1024x128_0_5_0_s_1_8_1⟩ : LoadRect S1x8192x128) (harg3.unread x2))
          (View.readAt (Elt Ideal) arg5.view (Rect.unit (s := S1x8x64x128) ![0, 5, 0, 0] S1x1x64x128.size inb_S1x8x64x128_S1x1x64x128_0_5_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 512] S1x64x128.size inb_S1x64x1024_S1x64x128_0_0_512,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 4, 0, 0, 0] S1x1x2x64x128.size inb_S1x8x2x64x128_S1x1x2x64x128_0_4_0_0_0).toLoadRect (harg1.unread x0))
          (View.readAt (Elt Ideal) arg2.view (Rect.unit (s := S1x1024x1024) ![0, 0, 512] S1x1024x128.size inb_S1x1024x1024_S1x1024x128_0_0_512).toLoadRect (harg2.unread x1))
          (View.readAt (Elt Ideal) arg4.view (Rect.unit (s := S1x8x64x128) ![0, 4, 0, 0] S1x1x64x128.size inb_S1x8x64x128_S1x1x64x128_0_4_0_0).toLoadRect (harg4.unread x3))
          (View.readAt (Elt Ideal) arg6.view (Rect.unit (s := S8x64x1024) ![4, 0, 0] S1x64x1024.size inb_S8x64x1024_S1x64x1024_4_0_0).toLoadRect (harg6.unread x5))
          (View.readAt (Elt Ideal) arg7.view (Rect.unit (s := S8x64x64) ![4, 0, 0] S1x64x64.size inb_S8x64x64_S1x64x64_4_0_0).toLoadRect (harg7.unread x6))
          (View.readAt (Elt Ideal) arg3.view (⟨![0, 4, 0], S1x1024x128.size, ![1, 8, 1], inb_S1x8192x128_S1x1024x128_0_4_0_s_1_8_1⟩ : LoadRect S1x8192x128) (harg3.unread x2))
          (View.readAt (Elt Ideal) arg5.view (Rect.unit (s := S1x8x64x128) ![0, 4, 0, 0] S1x1x64x128.size inb_S1x8x64x128_S1x1x64x128_0_4_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 384] S1x64x128.size inb_S1x64x1024_S1x64x128_0_0_384,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 3, 0, 0, 0] S1x1x2x64x128.size inb_S1x8x2x64x128_S1x1x2x64x128_0_3_0_0_0).toLoadRect (harg1.unread x0))
          (View.readAt (Elt Ideal) arg2.view (Rect.unit (s := S1x1024x1024) ![0, 0, 384] S1x1024x128.size inb_S1x1024x1024_S1x1024x128_0_0_384).toLoadRect (harg2.unread x1))
          (View.readAt (Elt Ideal) arg4.view (Rect.unit (s := S1x8x64x128) ![0, 3, 0, 0] S1x1x64x128.size inb_S1x8x64x128_S1x1x64x128_0_3_0_0).toLoadRect (harg4.unread x3))
          (View.readAt (Elt Ideal) arg6.view (Rect.unit (s := S8x64x1024) ![3, 0, 0] S1x64x1024.size inb_S8x64x1024_S1x64x1024_3_0_0).toLoadRect (harg6.unread x5))
          (View.readAt (Elt Ideal) arg7.view (Rect.unit (s := S8x64x64) ![3, 0, 0] S1x64x64.size inb_S8x64x64_S1x64x64_3_0_0).toLoadRect (harg7.unread x6))
          (View.readAt (Elt Ideal) arg3.view (⟨![0, 3, 0], S1x1024x128.size, ![1, 8, 1], inb_S1x8192x128_S1x1024x128_0_3_0_s_1_8_1⟩ : LoadRect S1x8192x128) (harg3.unread x2))
          (View.readAt (Elt Ideal) arg5.view (Rect.unit (s := S1x8x64x128) ![0, 3, 0, 0] S1x1x64x128.size inb_S1x8x64x128_S1x1x64x128_0_3_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 256] S1x64x128.size inb_S1x64x1024_S1x64x128_0_0_256,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 2, 0, 0, 0] S1x1x2x64x128.size inb_S1x8x2x64x128_S1x1x2x64x128_0_2_0_0_0).toLoadRect (harg1.unread x0))
          (View.readAt (Elt Ideal) arg2.view (Rect.unit (s := S1x1024x1024) ![0, 0, 256] S1x1024x128.size inb_S1x1024x1024_S1x1024x128_0_0_256).toLoadRect (harg2.unread x1))
          (View.readAt (Elt Ideal) arg4.view (Rect.unit (s := S1x8x64x128) ![0, 2, 0, 0] S1x1x64x128.size inb_S1x8x64x128_S1x1x64x128_0_2_0_0).toLoadRect (harg4.unread x3))
          (View.readAt (Elt Ideal) arg6.view (Rect.unit (s := S8x64x1024) ![2, 0, 0] S1x64x1024.size inb_S8x64x1024_S1x64x1024_2_0_0).toLoadRect (harg6.unread x5))
          (View.readAt (Elt Ideal) arg7.view (Rect.unit (s := S8x64x64) ![2, 0, 0] S1x64x64.size inb_S8x64x64_S1x64x64_2_0_0).toLoadRect (harg7.unread x6))
          (View.readAt (Elt Ideal) arg3.view (⟨![0, 2, 0], S1x1024x128.size, ![1, 8, 1], inb_S1x8192x128_S1x1024x128_0_2_0_s_1_8_1⟩ : LoadRect S1x8192x128) (harg3.unread x2))
          (View.readAt (Elt Ideal) arg5.view (Rect.unit (s := S1x8x64x128) ![0, 2, 0, 0] S1x1x64x128.size inb_S1x8x64x128_S1x1x64x128_0_2_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 128] S1x64x128.size inb_S1x64x1024_S1x64x128_0_0_128,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 1, 0, 0, 0] S1x1x2x64x128.size inb_S1x8x2x64x128_S1x1x2x64x128_0_1_0_0_0).toLoadRect (harg1.unread x0))
          (View.readAt (Elt Ideal) arg2.view (Rect.unit (s := S1x1024x1024) ![0, 0, 128] S1x1024x128.size inb_S1x1024x1024_S1x1024x128_0_0_128).toLoadRect (harg2.unread x1))
          (View.readAt (Elt Ideal) arg4.view (Rect.unit (s := S1x8x64x128) ![0, 1, 0, 0] S1x1x64x128.size inb_S1x8x64x128_S1x1x64x128_0_1_0_0).toLoadRect (harg4.unread x3))
          (View.readAt (Elt Ideal) arg6.view (Rect.unit (s := S8x64x1024) ![1, 0, 0] S1x64x1024.size inb_S8x64x1024_S1x64x1024_1_0_0).toLoadRect (harg6.unread x5))
          (View.readAt (Elt Ideal) arg7.view (Rect.unit (s := S8x64x64) ![1, 0, 0] S1x64x64.size inb_S8x64x64_S1x64x64_1_0_0).toLoadRect (harg7.unread x6))
          (View.readAt (Elt Ideal) arg3.view (⟨![0, 1, 0], S1x1024x128.size, ![1, 8, 1], inb_S1x8192x128_S1x1024x128_0_1_0_s_1_8_1⟩ : LoadRect S1x8192x128) (harg3.unread x2))
          (View.readAt (Elt Ideal) arg5.view (Rect.unit (s := S1x8x64x128) ![0, 1, 0, 0] S1x1x64x128.size inb_S1x8x64x128_S1x1x64x128_0_1_0_0).toLoadRect (harg5.unread x4))
          (View.readAt (Elt Ideal) arg9.view (Rect.unit (s := S1x128) ![0, 0] S1x128.size inb_S1x128_S1x128_0_0).toLoadRect (harg9.unread x8))⟩,
      ⟨Rect.unit (s := S1x64x1024) ![0, 0, 0] S1x64x128.size inb_S1x64x1024_S1x64x128_0_0_0,
        head (View.readAt (Elt Ideal) arg8.view (Rect.unit (s := S4x64) ![0, 0] S4x64.size inb_S4x64_S4x64_0_0).toLoadRect (harg8.unread x7))
          (View.readAt (Elt Ideal) arg1.view (Rect.unit (s := S1x8x2x64x128) ![0, 0, 0, 0, 0] S1x1x2x64x128.size inb_S1x8x2x64x128_S1x1x2x64x128_0_0_0_0_0).toLoadRect (harg1.unread x0))
          (View.readAt (Elt Ideal) arg2.view (Rect.unit (s := S1x1024x1024) ![0, 0, 0] S1x1024x128.size inb_S1x1024x1024_S1x1024x128_0_0_0).toLoadRect (harg2.unread x1))
          (View.readAt (Elt Ideal) arg4.view (Rect.unit (s := S1x8x64x128) ![0, 0, 0, 0] S1x1x64x128.size inb_S1x8x64x128_S1x1x64x128_0_0_0_0).toLoadRect (harg4.unread x3))
          (View.readAt (Elt Ideal) arg6.view (Rect.unit (s := S8x64x1024) ![0, 0, 0] S1x64x1024.size inb_S8x64x1024_S1x64x1024_0_0_0).toLoadRect (harg6.unread x5))
          (View.readAt (Elt Ideal) arg7.view (Rect.unit (s := S8x64x64) ![0, 0, 0] S1x64x64.size inb_S8x64x64_S1x64x64_0_0_0).toLoadRect (harg7.unread x6))
          (View.readAt (Elt Ideal) arg3.view (⟨![0, 0, 0], S1x1024x128.size, ![1, 8, 1], inb_S1x8192x128_S1x1024x128_0_0_0_s_1_8_1⟩ : LoadRect S1x8192x128) (harg3.unread x2))
          (View.readAt (Elt Ideal) arg5.view (Rect.unit (s := S1x8x64x128) ![0, 0, 0, 0] S1x1x64x128.size inb_S1x8x64x128_S1x1x64x128_0_0_0_0).toLoadRect (harg5.unread x4))
          (View.readAt (Elt Ideal) arg9.view (Rect.unit (s := S1x128) ![0, 0] S1x128.size inb_S1x128_S1x128_0_0).toLoadRect (harg9.unread x8))⟩] :=
  View.read_writes_junk_eq_canon VO0_9 _

/-- Softmax-weighted values over cached and new keys, base two, with one division. -/
def att (s₁ v₁ : Fin 1024 → EReal) (s₂ v₂ : Fin 64 → EReal) : EReal :=
  Ideal.div (∑ x, Ideal.exp2 (s₁ x - max (Finset.univ.fold max (Ideal.ofBits .f32 0xFF800000#32) s₁)
      (Finset.univ.fold max (Ideal.ofBits .f32 0xFF800000#32) s₂)) * v₁ x
      + ∑ x, Ideal.exp2 (s₂ x - max (Finset.univ.fold max (Ideal.ofBits .f32 0xFF800000#32) s₁)
      (Finset.univ.fold max (Ideal.ofBits .f32 0xFF800000#32) s₂)) * v₂ x)
    (∑ x, Ideal.exp2 (s₁ x - max (Finset.univ.fold max (Ideal.ofBits .f32 0xFF800000#32) s₁)
      (Finset.univ.fold max (Ideal.ofBits .f32 0xFF800000#32) s₂))
      + ∑ x, Ideal.exp2 (s₂ x - max (Finset.univ.fold max (Ideal.ofBits .f32 0xFF800000#32) s₁)
      (Finset.univ.fold max (Ideal.ofBits .f32 0xFF800000#32) s₂)))

/-- The weight of the second map: two exponentials' difference and a constant. -/
def lamv (a b c d : Fin 64 → EReal) : EReal :=
  Ideal.exp (∑ x, a x * b x) - Ideal.exp (∑ x, c x * d x) + Ideal.ofBits .f32 0x3E4CCCCD#32

/-- A row's normalised lane `e`, with gain `g`. -/
def rmsv (o : Fin 128 → EReal) (g : EReal) (e : Fin 128) : EReal :=
  o e * Ideal.rsqrt (Ideal.div (∑ y, o y * o y) (Ideal.ofBits .f32 0x43000000#32) + Ideal.ofBits .f32 0x358637BD#32)
    * g * Ideal.ofBits .f32 0x3F4CCCCD#32

theorem oldS_at (q : FVec Ideal S1x1x2x64x128 .bf16) (pk : FVec Ideal S1x1024x128 .f32) (bp : FVec Ideal S1x64x1024 .f32)
    (p : Fin 2) (i : Fin 64) (x : Fin 1024) :
    oldS q pk bp (ix2 ⟨p * 64 + i, by omega⟩ x) = ∑ d : Fin 128, q (ix5 0 0 p i d) * pk (ix3 0 x d) + bp (ix3 0 i x) := by
  pointwise [oldS, k0_pay8, k0_pay6, k0_pay7, k0_pay3]

theorem newS_at (q : FVec Ideal S1x1x2x64x128 .bf16) (kn : FVec Ideal S1x1x64x128 .bf16) (bn : FVec Ideal S1x64x64 .f32)
    (p : Fin 2) (i x : Fin 64) :
    newS q kn bn (ix2 ⟨p * 64 + i, by omega⟩ x) = ∑ d : Fin 128, q (ix5 0 0 p i d) * kn (ix4 0 0 x d) + bn (ix3 0 i x) := by
  pointwise [newS, k0_pay9, k0_pay4, k0_pay5, k0_pay3]

theorem quot_at (s : FVec Ideal S128x1024 .f32) (t : FVec Ideal S128x64 .f32) (v : FVec Ideal S1024x128 .f32)
    (vn : FVec Ideal S1x1x64x128 .bf16) (i e : Fin 128) :
    quot s t v vn (ix2 i e)
      = att (fun x => s (ix2 i x)) (fun x => v (ix2 x e)) (fun x => t (ix2 i x)) (fun x => vn (ix4 0 0 x e)) := by
  pointwise [quot, att]
  rfl

theorem dif_at (l : FVec Ideal S1x1 .f32) (o : FVec Ideal S128x128 .f32) (i : Fin 64) (e : Fin 128) :
    dif l o (ix2 i e) = o (ix2 ⟨i, by omega⟩ e) - l (ix2 0 0) * o (ix2 ⟨64 + i, by omega⟩ e) := by
  pointwise [dif]

theorem nrm_at (o : FVec Ideal S64x128 .f32) (g : FVec Ideal S1x128 .f32) (i : Fin 64) (e : Fin 128) :
    nrm o g (ix3 0 i e) = rmsv (fun y => o (ix2 i y)) (g (ix2 0 e)) e := by
  pointwise [nrm, rmsv]

theorem pay2_at (l : FVec Ideal S4x64 .f32) :
    k0_pay2 (F := Ideal) l (ix2 0 0) = lamv (fun d => l (ix2 0 d)) (fun d => l (ix2 1 d)) (fun d => l (ix2 2 d)) (fun d => l (ix2 3 d)) := by
  pointwise [k0_pay2, lamv]

theorem pay13_at (v : FVec Ideal S1x1024x128 .f32) (x : Fin 1024) (e : Fin 128) :
    k0_pay13 (F := Ideal) v (ix2 x e) = v (ix3 0 x e) := by
  pointwise [k0_pay13]

/-- Scores of the cached keys: head `h`, component `p`, row `i`. -/
def sOld (x0 : Vec Ideal S1x8x2x64x128 .bf16) (x1 : Vec Ideal S1x1024x1024 .f32) (x5 : Vec Ideal S8x64x1024 .f32)
    (h : Fin 8) (i : Fin 64) (p : Fin 2) (x : Fin 1024) : EReal :=
  ∑ d : Fin 128, (x0 (ix5 0 h p i d) : EReal) * x1 (ix3 0 x ⟨h * 128 + d, by omega⟩) + x5 (ix3 h i x)

/-- Scores of the new keys. -/
def sNew (x0 : Vec Ideal S1x8x2x64x128 .bf16) (x3 : Vec Ideal S1x8x64x128 .bf16) (x6 : Vec Ideal S8x64x64 .f32)
    (h : Fin 8) (i : Fin 64) (p : Fin 2) (x : Fin 64) : EReal :=
  ∑ d : Fin 128, (x0 (ix5 0 h p i d) : EReal) * x3 (ix4 0 h x d) + x6 (ix3 h i x)

/-- The kernel's lane from its scores, values, weight of the second map and gain. -/
def lane (s₁ : Fin 2 → Fin 1024 → EReal) (s₂ : Fin 2 → Fin 64 → EReal) (v₁ : Fin 128 → Fin 1024 → EReal)
    (v₂ : Fin 128 → Fin 64 → EReal) (l g : EReal) (e : Fin 128) : EReal :=
  rmsv (fun y => att (s₁ 0) (v₁ y) (s₂ 0) (v₂ y) - l * att (s₁ 1) (v₁ y) (s₂ 1) (v₂ y)) g e

theorem head_lane (lam : Vec Ideal S4x64 .f32) (q : Vec Ideal S1x1x2x64x128 .bf16)
    (pk : Vec Ideal S1x1024x128 .f32) (kn : Vec Ideal S1x1x64x128 .bf16) (bp : Vec Ideal S1x64x1024 .f32)
    (bn : Vec Ideal S1x64x64 .f32) (v : Vec Ideal S1x1024x128 .f32) (vn : Vec Ideal S1x1x64x128 .bf16)
    (g : Vec Ideal S1x128 .f32)
    (i : Fin 64) (e : Fin 128) (s₁ : Fin 2 → Fin 1024 → EReal) (s₂ : Fin 2 → Fin 64 → EReal) (v₁ : Fin 128 → Fin 1024 → EReal)
    (v₂ : Fin 128 → Fin 64 → EReal) (l w : EReal)
    (h₁ : ∀ p x, (∑ d : Fin 128, (q (ix5 0 0 p i d) : EReal) * pk (ix3 0 x d) + bp (ix3 0 i x)) = s₁ p x)
    (h₂ : ∀ p x, (∑ d : Fin 128, (q (ix5 0 0 p i d) : EReal) * kn (ix4 0 0 x d) + bn (ix3 0 i x)) = s₂ p x)
    (h₃ : ∀ y x, (v (ix3 0 x y) : EReal) = v₁ y x) (h₄ : ∀ y x, (vn (ix4 0 0 x y) : EReal) = v₂ y x)
    (h₅ : lamv (fun d => lam (ix2 0 d)) (fun d => lam (ix2 1 d)) (fun d => lam (ix2 2 d)) (fun d => lam (ix2 3 d)) = l)
    (h₆ : (g (ix2 0 e) : EReal) = w) :
    head lam q pk kn bp bn v vn g (ix3 0 i e) = lane s₁ s₂ v₁ v₂ l w e := by
  unfold head lane
  rw [nrm_at]
  simp only [dif_at, pay2_at, quot_at, pay13_at, h₃, h₄, h₅, h₆]
  have a : ∀ x, oldS q pk bp (ix2 ⟨i, by omega⟩ x) = s₁ 0 x := fun x => by
    rw [← h₁, ← oldS_at q pk bp 0 i x]; congr 2; apply Fin.ext; simp
  have b : ∀ x, oldS q pk bp (ix2 ⟨64 + i, by omega⟩ x) = s₁ 1 x := fun x => by
    rw [← h₁, ← oldS_at q pk bp 1 i x]; congr 2
  have c : ∀ x, newS q kn bn (ix2 ⟨i, by omega⟩ x) = s₂ 0 x := fun x => by
    rw [← h₂, ← newS_at q kn bn 0 i x]; congr 2; apply Fin.ext; simp
  have d : ∀ x, newS q kn bn (ix2 ⟨64 + i, by omega⟩ x) = s₂ 1 x := fun x => by
    rw [← h₂, ← newS_at q kn bn 1 i x]; congr 2
  simp only [a, b, c, d]

/-- Where lane `y` of cached row `z` of head `n` stands among the rows of the value buffer, read with stride eight. -/
theorem strided (n : ℕ) (hn : n < 8) (inb) (z : Fin 1024) (y : Fin 128) :
    (⟨![0, n, 0], S1x1024x128.size, ![1, 8, 1], inb⟩ : LoadRect S1x8192x128).idx (ix3 0 z y)
      = ix3 0 ⟨z * 8 + n, by omega⟩ y := by
  funext a
  apply Fin.ext
  match a with
  | ⟨0, _⟩ => show 0 + 1 * 0 = 0; rfl
  | ⟨1, _⟩ => show n + 8 * (z : ℕ) = z * 8 + n; omega
  | ⟨2, _⟩ => show 0 + 1 * (y : ℕ) = y; omega

theorem point (c : Dev nD) (i : grid0.Coords) (arg1 : Memref sig .tc .vmem S1x8x2x64x128 .bf16) (harg1 : arg1.IsWhole) (arg2 : Memref sig .tc .vmem S1x1024x1024 .f32) (harg2 : arg2.IsWhole) (arg3 : Memref sig .tc .vmem S1x8192x128 .f32) (harg3 : arg3.IsWhole) (arg4 : Memref sig .tc .vmem S1x8x64x128 .bf16) (harg4 : arg4.IsWhole) (arg5 : Memref sig .tc .vmem S1x8x64x128 .bf16) (harg5 : arg5.IsWhole) (arg6 : Memref sig .tc .vmem S8x64x1024 .f32) (harg6 : arg6.IsWhole) (arg7 : Memref sig .tc .vmem S8x64x64 .f32) (harg7 : arg7.IsWhole) (arg8 : Memref sig .tc .vmem S4x64 .f32) (harg8 : arg8.IsWhole) (arg9 : Memref sig .tc .vmem S1x128 .f32) (harg9 : arg9.IsWhole) (arg10 : Memref sig .tc .vmem S1x64x1024 .bf16) (harg10 : arg10.IsWhole)
    (x0 : Vec Ideal S1x8x2x64x128 .bf16) (x1 : Vec Ideal S1x1024x1024 .f32) (x2 : Vec Ideal S1x8192x128 .f32) (x3 : Vec Ideal S1x8x64x128 .bf16) (x4 : Vec Ideal S1x8x64x128 .bf16) (x5 : Vec Ideal S8x64x1024 .f32) (x6 : Vec Ideal S8x64x64 .f32) (x7 : Vec Ideal S4x64 .f32) (x8 : Vec Ideal S1x128 .f32) (r : Fin 64) (n : Fin 8) (e : Fin 128) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 x8 (ix3 0 r ⟨n * 128 + e, by omega⟩)
      = lane (sOld x0 x1 x5 n r) (sNew x0 x3 x6 n r)
          (fun y x => x2 (ix3 0 ⟨x * 8 + n, by omega⟩ y)) (fun y x => x4 (ix4 0 n x y))
          (lamv (fun d => x7 (ix2 0 d)) (fun d => x7 (ix2 1 d)) (fun d => x7 (ix2 2 d)) (fun d => x7 (ix2 3 d)))
          (x8 (ix2 0 e)) e := by
  refine (congrFun (out_heads c i arg1 harg1 arg2 harg2 arg3 harg3 arg4 harg4 arg5 harg5 arg6 harg6 arg7 harg7 arg8 harg8 arg9 harg9 arg10 harg10 x0 x1 x2 x3 x4 x5 x6 x7 x8) _).trans ?_
  canon_tiles x h
  · obtain rfl : n = 7 := Fin.ext (by change (n : ℕ) * 128 + e = _ at h2; show (n : ℕ) = 7; omega)
    change (r : ℕ) = _ at h1
    change 7 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 7 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 6 := Fin.ext (by change (n : ℕ) * 128 + e = _ at h2; show (n : ℕ) = 6; omega)
    change (r : ℕ) = _ at h1
    change 6 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 6 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 5 := Fin.ext (by change (n : ℕ) * 128 + e = _ at h2; show (n : ℕ) = 5; omega)
    change (r : ℕ) = _ at h1
    change 5 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 5 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 4 := Fin.ext (by change (n : ℕ) * 128 + e = _ at h2; show (n : ℕ) = 4; omega)
    change (r : ℕ) = _ at h1
    change 4 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 4 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 3 := Fin.ext (by change (n : ℕ) * 128 + e = _ at h2; show (n : ℕ) = 3; omega)
    change (r : ℕ) = _ at h1
    change 3 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 3 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 2 := Fin.ext (by change (n : ℕ) * 128 + e = _ at h2; show (n : ℕ) = 2; omega)
    change (r : ℕ) = _ at h1
    change 2 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 2 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 1 := Fin.ext (by change (n : ℕ) * 128 + e = _ at h2; show (n : ℕ) = 1; omega)
    change (r : ℕ) = _ at h1
    change 1 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 1 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise
  · obtain rfl : n = 0 := Fin.ext (by change (n : ℕ) * 128 + e = _ at h2; show (n : ℕ) = 0; omega)
    change (r : ℕ) = _ at h1
    change 0 * 128 + (e : ℕ) = _ at h2
    have hx : x = ix3 0 r e := by blk_ext <;> omega
    rw [hx]
    refine head_lane _ _ _ _ _ _ _ _ _ r _ _ _ _ _ _ _ ?_ ?_ ?_ ?_ ?_ ?_
    · intro p y
      simp only [View.readAt_eq_ld, Memref.IsWhole.read_unread]
      pointwise [sOld]
    · intro p y
      simp only [View.readAt_eq_ld, Memref.IsWhole.read_unread]
      pointwise [sNew]
    · intro y z
      show arg3.view.read _ (harg3.unread x2) _ = _
      rw [harg3.read_unread]
      exact congrArg x2 (strided 0 (by omega) _ z y)
    · intro y z
      simp only [View.readAt_eq_ld, Memref.IsWhole.read_unread]
      pointwise
    · simp only [View.readAt_eq_ld, Memref.IsWhole.read_unread]
      pointwise
    · simp only [View.readAt_eq_ld, Memref.IsWhole.read_unread]
      pointwise

end Cert.DiffDec
-- ==== Proof.DiffRef.lean ====
module

public import Idealize.ShloMosaic.Lib.Pipeline.ValueKit
public import proofs.«01_k».proof.Proof.Gen.DecDiffRefIdeal.Run

@[expose] public section

set_option maxRecDepth 16384

noncomputable section

/-! The reference of the differential attention, stage by stage, read at an index. -/

namespace Cert.DiffDecRef

open Cert.DecDiffRefIdeal Cert.DecDiffRefIdeal.Gen Idealize.ShloMosaic Idealize.ShloMosaic.TcCoe Idealize.SL.Sem

/-- The logits of every new row's two components against the cached and the new keys. -/
def logits (x0 : FVec Ideal S1x8x2x512x128 .bf16) (x1 : FVec Ideal S1x8x1024x8x2x64 .f32) (x3 : FVec Ideal S1x8x512x128 .bf16)
    (x5 : FVec Ideal S8x64x1024 .f32) (x6 : FVec Ideal S8x64x64 .f32) : FVec Ideal S8x8x2x64x1088 .f32 :=
  mulf (addf (transpose S8x8x2x64x1088 [0, 1, 4, 3, 2] (Host.dotGeneral dot_S8x1088x8x128_S8x64x8x2x128_S8x8x1088x64x2_3_4_1_13_02_02 none (concatenate S8x1088x8x128 1 [⟨S8x1024x8x128, (shapeCast _ (shapeCast _ x1 shapeCasts_S1x8x1024x8x2x64_S8x1024x8x2x64) shapeCasts_S8x1024x8x2x64_S8x1024x8x128)⟩, ⟨S8x64x8x128, (transpose S8x64x8x128 [1, 2, 0, 3] (shapeCast _ (extf .f32 (shapeCast _ x3 shapeCasts_S1x8x512x128_S8x512x128) bitsLt_bf16_f32) shapeCasts_S8x512x128_S8x8x64x128) transposes_S8x8x64x128_S8x64x8x128_1_2_0_3)⟩] concatenates_S8x1024x8x128_S8x64x8x128_S8x1088x8x128_d1) (transpose S8x64x8x2x128 [2, 3, 0, 1, 4] (shapeCast _ (extf .f32 (shapeCast _ x0 shapeCasts_S1x8x2x512x128_S8x2x512x128) bitsLt_bf16_f32) shapeCasts_S8x2x512x128_S8x2x8x64x128) transposes_S8x2x8x64x128_S8x64x8x2x128_2_3_0_1_4)) transposes_S8x8x1088x64x2_S8x8x2x64x1088_0_1_4_3_2) (broadcastInDim S8x8x2x64x1088 ![0, 1, 2, 3, 4] bcast_S1x8x1x64x1088_S8x8x2x64x1088_0_1_2_3_4 (broadcastInDim S1x8x1x64x1088 ![1, 3, 4] bcast_S8x64x1088_S1x8x1x64x1088_1_3_4 (concatenate S8x64x1088 2 [⟨S8x64x1024, x5⟩, ⟨S8x64x64, x6⟩] concatenates_S8x64x1024_S8x64x64_S8x64x1088_d2)))) (broadcastInDim S8x8x2x64x1088 ![] bcast_S_S8x8x2x64x1088 (Host.log (constant S_ .f32 0x40000000#32)))

/-- The values of the cached rows with the new rows' values after them. -/
def vals (x2 : FVec Ideal S1x8x1024x8x128 .f32) (x4 : FVec Ideal S1x8x512x128 .bf16) : FVec Ideal S8x1088x8x128 .f32 :=
  concatenate S8x1088x8x128 1 [⟨S8x1024x8x128, (shapeCast _ x2 shapeCasts_S1x8x1024x8x128_S8x1024x8x128)⟩, ⟨S8x64x8x128, (transpose S8x64x8x128 [1, 2, 0, 3] (shapeCast _ (extf .f32 (shapeCast _ x4 shapeCasts_S1x8x512x128_S8x512x128) bitsLt_bf16_f32) shapeCasts_S8x512x128_S8x8x64x128) transposes_S8x8x64x128_S8x64x8x128_1_2_0_3)⟩] concatenates_S8x1024x8x128_S8x64x8x128_S8x1088x8x128_d1

/-- The largest logit of each row. -/
def rowmax (s : FVec Ideal S8x8x2x64x1088 .f32) : FVec Ideal S8x8x2x64 .f32 :=
  Host.reduce FloatOps.maximumf s (constant S_ .f32 0xFF800000#32) reducesTo_S8x8x2x64x1088_S8x8x2x64_d4 h_S_

/-- The exponentials of the logits, each row less the row maximum `r`. -/
def exps (s : FVec Ideal S8x8x2x64x1088 .f32) (r : FVec Ideal S8x8x2x64 .f32) : FVec Ideal S8x8x2x64x1088 .f32 :=
  Host.exp (subf s (broadcastInDim S8x8x2x64x1088 ![0, 1, 2, 3, 4] bcast_S8x8x2x64x1_S8x8x2x64x1088_0_1_2_3_4 (broadcastInDim S8x8x2x64x1 ![0, 1, 2, 3] bcast_S8x8x2x64_S8x8x2x64x1_0_1_2_3 (maximumf (broadcastInDim S8x8x2x64 ![] bcast_S_S8x8x2x64 (constant S_ .f32 0xFF800000#32)) r))))

/-- The exponentials divided by their sum along the keys. -/
def probs (s : FVec Ideal S8x8x2x64x1088 .f32) : FVec Ideal S8x8x2x64x1088 .f32 :=
  Host.divf s (broadcastInDim S8x8x2x64x1088 ![0, 1, 2, 3, 4] bcast_S8x8x2x64x1_S8x8x2x64x1088_0_1_2_3_4 (broadcastInDim S8x8x2x64x1 ![0, 1, 2, 3] bcast_S8x8x2x64_S8x8x2x64x1_0_1_2_3 (Host.reduceAdd s (constant S_ .f32 0x00000000#32) reducesTo_S8x8x2x64x1088_S8x8x2x64_d4 h_S_)))

/-- The weight of the second map. -/
def lam (x7 : FVec Ideal S1x4x64 .f32) : FVec Ideal S_ .f32 :=
  addf (subf (Host.exp (Host.reduceAdd (mulf (shapeCast _ (extractStridedSlice S1x64 ![0, 0] (shapeCast _ x7 shapeCasts_S1x4x64_S4x64) slices_S4x64_S1x64_0_0) shapeCasts_S1x64_S64) (shapeCast _ (extractStridedSlice S1x64 ![1, 0] (shapeCast _ x7 shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ x7 shapeCasts_S1x4x64_S4x64) slices_S4x64_S1x64_2_0) shapeCasts_S1x64_S64) (shapeCast _ (extractStridedSlice S1x64 ![3, 0] (shapeCast _ x7 shapeCasts_S1x4x64_S4x64) slices_S4x64_S1x64_3_0) shapeCasts_S1x64_S64)) (constant S_ .f32 0x00000000#32) reducesTo_S64_S_d0 h_S_))) (constant S_ .f32 0x3E4CCCCD#32)

/-- The first map less `l` times the second. -/
def maps (p : FVec Ideal S8x8x2x64x1088 .f32) (l : FVec Ideal S_ .f32) : FVec Ideal S8x8x64x1088 .f32 :=
  subf (shapeCast _ (extractStridedSlice S8x8x1x64x1088 ![0, 0, 0, 0, 0] p slices_S8x8x2x64x1088_S8x8x1x64x1088_0_0_0_0_0) shapeCasts_S8x8x1x64x1088_S8x8x64x1088) (mulf (broadcastInDim S8x8x64x1088 ![] bcast_S_S8x8x64x1088 l) (shapeCast _ (extractStridedSlice S8x8x1x64x1088 ![0, 0, 1, 0, 0] p slices_S8x8x2x64x1088_S8x8x1x64x1088_0_0_1_0_0) shapeCasts_S8x8x1x64x1088_S8x8x64x1088))

/-- The values weighted by the difference of the maps. -/
def mix (v : FVec Ideal S8x1088x8x128 .f32) (p : FVec Ideal S8x8x64x1088 .f32) : FVec Ideal S8x64x8x128 .f32 :=
  transpose S8x64x8x128 [0, 3, 1, 2] (Host.dotGeneral dot_S8x1088x8x128_S8x8x64x1088_S8x8x128x64_1_3_3_2_02_01 none v p) transposes_S8x8x128x64_S8x64x8x128_0_3_1_2

/-- The normalised heads side by side. -/
def norm (o : FVec Ideal S8x64x8x128 .f32) (x8 : FVec Ideal S1x128 .f32) : FVec Ideal S8x64x1024 .bf16 :=
  truncf .bf16 (shapeCast _ (mulf (mulf (mulf o (broadcastInDim S8x64x8x128 ![0, 1, 2, 3] bcast_S8x64x8x1_S8x64x8x128_0_1_2_3 (Host.rsqrt (addf (Host.divf (broadcastInDim S8x64x8x1 ![0, 1, 2] bcast_S8x64x8_S8x64x8x1_0_1_2 (Host.reduceAdd (mulf o o) (constant S_ .f32 0x00000000#32) reducesTo_S8x64x8x128_S8x64x8_d3 h_S_)) (broadcastInDim S8x64x8x1 ![] bcast_S_S8x64x8x1 (constant S_ .f32 0x43000000#32))) (broadcastInDim S8x64x8x1 ![] bcast_S_S8x64x8x1 (constant S_ .f32 0x358637BD#32)))))) (broadcastInDim S8x64x8x128 ![0, 1, 2, 3] bcast_S1x1x1x128_S8x64x8x128_0_1_2_3 (broadcastInDim S1x1x1x128 ![3] bcast_S128_S1x1x1x128_3 (shapeCast _ x8 shapeCasts_S1x128_S128)))) (broadcastInDim S8x64x8x128 ![] bcast_S_S8x64x8x128 (constant S_ .f32 0x3F4CCCCD#32))) shapeCasts_S8x64x8x128_S8x64x1024) bitsLt_bf16_f32

/-- The reference's result as a function of the arguments. -/
def ref (x0 : FVec Ideal S1x8x2x512x128 .bf16) (x1 : FVec Ideal S1x8x1024x8x2x64 .f32) (x2 : FVec Ideal S1x8x1024x8x128 .f32)
    (x3 x4 : FVec Ideal S1x8x512x128 .bf16) (x5 : FVec Ideal S8x64x1024 .f32) (x6 : FVec Ideal S8x64x64 .f32)
    (x7 : FVec Ideal S1x4x64 .f32) (x8 : FVec Ideal S1x128 .f32) : FVec Ideal S8x64x1024 .bf16 :=
  norm (mix (vals x2 x4) (maps (probs (exps (logits x0 x1 x3 x5 x6) (rowmax (logits x0 x1 x3 x5 x6)))) (lam x7))) x8

/-- The run's result is `ref` of the arguments. -/
theorem res_eq (m : (ℓ : Loc nD τ sig) → Buf (Elt Ideal) ℓ) (c : Dev nD) :
    Value.res_out0 (F := Ideal) m c = ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := rfl

theorem rowmax_at (s : FVec Ideal S8x8x2x64x1088 .f32) (b h : Fin 8) (p : Fin 2) (i : Fin 64) :
    rowmax s (ix4 b h p i) = Finset.univ.fold max (Ideal.ofBits .f32 0xFF800000#32) (fun x => s (ix5 b h p i x)) := by
  pointwise [rowmax]

theorem exps_at (s : FVec Ideal S8x8x2x64x1088 .f32) (r : FVec Ideal S8x8x2x64 .f32) (b h : Fin 8) (p : Fin 2) (i : Fin 64)
    (k : Fin 1088) :
    exps s r (ix5 b h p i k) = Ideal.exp (s (ix5 b h p i k) - max (Ideal.ofBits .f32 0xFF800000#32) (r (ix4 b h p i))) := by
  pointwise [exps]

theorem probs_at (e : FVec Ideal S8x8x2x64x1088 .f32) (b h : Fin 8) (p : Fin 2) (i : Fin 64) (k : Fin 1088) :
    probs e (ix5 b h p i k) = Ideal.div (e (ix5 b h p i k)) (∑ x, e (ix5 b h p i x)) := by
  pointwise [probs]

theorem lam_at (x7 : FVec Ideal S1x4x64 .f32) :
    lam x7 ix0 = Ideal.exp (∑ d, x7 (ix3 0 0 d) * x7 (ix3 0 1 d)) - Ideal.exp (∑ d, x7 (ix3 0 2 d) * x7 (ix3 0 3 d))
      + Ideal.ofBits .f32 0x3E4CCCCD#32 := by
  pointwise [lam]

theorem maps_at (p : FVec Ideal S8x8x2x64x1088 .f32) (l : FVec Ideal S_ .f32) (b h : Fin 8) (i : Fin 64) (k : Fin 1088) :
    maps p l (ix4 b h i k) = p (ix5 b h 0 i k) - l ix0 * p (ix5 b h 1 i k) := by
  pointwise [maps]

theorem mix_at (v : FVec Ideal S8x1088x8x128 .f32) (p : FVec Ideal S8x8x64x1088 .f32) (b : Fin 8) (i : Fin 64) (h : Fin 8)
    (e : Fin 128) : mix v p (ix4 b i h e) = ∑ x : Fin 1088, v (ix4 b x h e) * p (ix4 b h i x) := by
  pointwise [mix]

theorem norm_at (o : FVec Ideal S8x64x8x128 .f32) (x8 : FVec Ideal S1x128 .f32) (b : Fin 8) (i : Fin 64) (h : Fin 8)
    (e : Fin 128) :
    norm o x8 (ix3 b i ⟨h * 128 + e, by omega⟩)
      = o (ix4 b i h e) * Ideal.rsqrt (Ideal.div (∑ y, o (ix4 b i h y) * o (ix4 b i h y)) (Ideal.ofBits .f32 0x43000000#32)
          + Ideal.ofBits .f32 0x358637BD#32) * x8 (ix2 0 e) * Ideal.ofBits .f32 0x3F4CCCCD#32 := by
  pointwise [norm]

theorem vals_old (x2 : FVec Ideal S1x8x1024x8x128 .f32) (x4 : FVec Ideal S1x8x512x128 .bf16) (b h : Fin 8) (x : Fin 1024)
    (e : Fin 128) : vals x2 x4 (ix4 b ⟨x, by omega⟩ h e) = x2 (ix5 0 b x h e) := by
  pointwise [vals]

theorem vals_new (x2 : FVec Ideal S1x8x1024x8x128 .f32) (x4 : FVec Ideal S1x8x512x128 .bf16) (b h : Fin 8) (x : Fin 64)
    (e : Fin 128) : vals x2 x4 (ix4 b ⟨1024 + x, by omega⟩ h e) = x4 (ix4 0 h ⟨b * 64 + x, by omega⟩ e) := by
  pointwise [vals]

theorem logits_old (x0 : FVec Ideal S1x8x2x512x128 .bf16) (x1 : FVec Ideal S1x8x1024x8x2x64 .f32)
    (x3 : FVec Ideal S1x8x512x128 .bf16) (x5 : FVec Ideal S8x64x1024 .f32) (x6 : FVec Ideal S8x64x64 .f32)
    (b h : Fin 8) (p : Fin 2) (i : Fin 64) (k : Fin 1024) :
    logits x0 x1 x3 x5 x6 (ix5 b h p i ⟨k, by omega⟩)
      = ((∑ d : Fin 128, x1 (ix6 0 b k h ⟨d / 64, by omega⟩ ⟨d % 64, by omega⟩) * x0 (ix5 0 h p ⟨b * 64 + i, by omega⟩ d))
          + x5 (ix3 h i k)) * Ideal.log (Ideal.ofBits .f32 0x40000000#32) := by
  pointwise [logits]

theorem logits_new (x0 : FVec Ideal S1x8x2x512x128 .bf16) (x1 : FVec Ideal S1x8x1024x8x2x64 .f32)
    (x3 : FVec Ideal S1x8x512x128 .bf16) (x5 : FVec Ideal S8x64x1024 .f32) (x6 : FVec Ideal S8x64x64 .f32)
    (b h : Fin 8) (p : Fin 2) (i k : Fin 64) :
    logits x0 x1 x3 x5 x6 (ix5 b h p i ⟨1024 + k, by omega⟩)
      = ((∑ d : Fin 128, x3 (ix4 0 h ⟨b * 64 + k, by omega⟩ d) * x0 (ix5 0 h p ⟨b * 64 + i, by omega⟩ d))
          + x6 (ix3 h i k)) * Ideal.log (Ideal.ofBits .f32 0x40000000#32) := by
  pointwise [logits]

end Cert.DiffDecRef
-- ==== Proof.DiffValue.lean ====
module

public import Idealize.ShloMosaic.Lib.Pipeline.ValueKit
public import proofs.«01_k».proof.Proof.SoftmaxInf
public import proofs.«01_k».proof.Proof.DiffHead
public import proofs.«01_k».proof.Proof.DiffRef

@[expose] public section

set_option maxRecDepth 16384

noncomputable section

/-! The differential attention over a cache: the array the kernel leaves is the reference's. -/

namespace Cert.DiffDec

open Cert.DecDiffIdeal Cert.DecDiffIdeal.Gen Idealize.ShloMosaic Idealize.ShloMosaic.TcCoe Idealize.SL.Sem Cert.Softmax

/-- Real values weighted by a difference of real maps are the difference of the weighted values. -/
theorem sum_diff {ι : Type*} [Fintype ι] (V a b : ι → EReal) (l : EReal) (hV : ∀ k, Fin' (V k)) (ha : ∀ k, Fin' (a k))
    (hb : ∀ k, Fin' (b k)) (hl : Fin' l) :
    ∑ k, V k * a k - l * ∑ k, V k * b k = ∑ k, V k * (a k - l * b k) := by
  choose v hv using hV
  choose p hp using ha
  choose q hq using hb
  obtain ⟨r, rfl⟩ := hl
  simp only [hv, hp, hq, ← EReal.coe_mul, ← EReal.coe_sub, ← coe_sum]
  congr 1
  rw [Finset.mul_sum, ← Finset.sum_sub_distrib]
  exact Finset.sum_congr rfl fun k _ => by ring

/-- THE DIFFERENCE OF TWO ATTENDED ROWS, NORMED: the same whether it is taken of the maps or of the attended values, where
    each map is either real or minus infinity throughout. -/
theorem rows_eq {ι : Type*} [Fintype ι] {n : ℕ} (V : Fin n → ι → EReal) (p q : ι → EReal) (l : EReal) (hl : Fin' l)
    (hV : ∀ y k, Fin' (V y k)) (a b : Fin n → EReal)
    (ha : ((∀ k, Fin' (p k)) ∧ ∀ y, a y = ∑ k, V y k * p k) ∨ ((∀ k, p k = ⊥) ∧ ∀ y, a y = ⊥))
    (hb : ((∀ k, Fin' (q k)) ∧ ∀ y, b y = ∑ k, V y k * q k) ∨ ((∀ k, q k = ⊥) ∧ ∀ y, b y = ⊥)) (e : Fin n) :
    (a e - l * b e) * Ideal.rsqrt (Ideal.div (∑ y, (a y - l * b y) * (a y - l * b y)) (Ideal.ofBits .f32 0x43000000#32)
        + Ideal.ofBits .f32 0x358637BD#32)
      = (∑ k, V e k * (p k - l * q k)) * Ideal.rsqrt (Ideal.div (∑ y, (∑ k, V y k * (p k - l * q k))
          * ∑ k, V y k * (p k - l * q k)) (Ideal.ofBits .f32 0x43000000#32) + Ideal.ofBits .f32 0x358637BD#32) := by
  have flat : ∀ c : EReal, (c = ⊤ ∨ c = ⊥) → (∀ y, a y - l * b y = c) → (∀ k, p k - l * q k = c) →
      (a e - l * b e) * Ideal.rsqrt (Ideal.div (∑ y, (a y - l * b y) * (a y - l * b y)) (Ideal.ofBits .f32 0x43000000#32)
        + Ideal.ofBits .f32 0x358637BD#32)
      = (∑ k, V e k * (p k - l * q k)) * Ideal.rsqrt (Ideal.div (∑ y, (∑ k, V y k * (p k - l * q k))
          * ∑ k, V y k * (p k - l * q k)) (Ideal.ofBits .f32 0x43000000#32) + Ideal.ofBits .f32 0x358637BD#32) := by
    intro c hc h1 h2
    refine (norm_flat (fun y => a y - l * b y) (fun y => .inr ((h1 y).symm ▸ hc)) e).trans
      (norm_flat (fun y => ∑ k, V y k * (p k - l * q k)) (fun y => Flat.sum _ fun k _ => ?_) e).symm
    rw [h2]
    exact Flat.mul (hV y k) hc
  rcases ha with ⟨pr, pa⟩ | ⟨pr, pa⟩
  · rcases hb with ⟨qr, qb⟩ | ⟨qr, qb⟩
    · have k : ∀ y, a y - l * b y = ∑ k, V y k * (p k - l * q k) := fun y => by
        rw [pa, qb]; exact sum_diff _ _ _ l (hV y) pr qr hl
      simp only [k]
    · have fa : ∀ y, Fin' (a y) := fun y => (pa y).symm ▸ Fin'.sum _ fun k _ => (hV y k).mul (pr k)
      obtain ⟨r, rfl⟩ := hl
      rcases lt_trichotomy r 0 with h | rfl | h
      · refine flat ⊥ (.inr rfl) (fun y => ?_) (fun k => ?_)
        · rw [qb, EReal.coe_mul_bot_of_neg h]; exact EReal.sub_top _
        · rw [qr, EReal.coe_mul_bot_of_neg h]; exact EReal.sub_top _
      · have k : ∀ y, a y - ((0 : ℝ) : EReal) * b y = ∑ k, V y k * (p k - ((0 : ℝ) : EReal) * q k) := fun y => by
          simp [pa]
        simp only [k]
      · refine flat ⊤ (.inl rfl) (fun y => ?_) (fun k => ?_)
        · obtain ⟨x, hx⟩ := fa y
          rw [qb, EReal.coe_mul_bot_of_pos h, hx]; rfl
        · obtain ⟨x, hx⟩ := pr k
          rw [qr, EReal.coe_mul_bot_of_pos h, hx]; rfl
  · refine flat ⊥ (.inr rfl) (fun y => ?_) (fun k => ?_)
    · rw [pa]; exact EReal.bot_sub _
    · rw [pr]; exact EReal.bot_sub _

/-- The pattern of the constant part of the second map's weight is a real number. -/
theorem lam_const : Fin' (Ideal.ofBits .f32 0x3E4CCCCD#32) := by
  simp only [Ideal.ofBits, Ideal.ieee]
  norm_num
  exact ⟨_, rfl⟩

theorem lamv_fin {a b c d : Fin 64 → EReal} (ha : ∀ x, Fin' (a x)) (hb : ∀ x, Fin' (b x)) (hc : ∀ x, Fin' (c x))
    (hd : ∀ x, Fin' (d x)) : Fin' (lamv a b c d) :=
  ((Fin'.sum _ fun x _ => (ha x).mul (hb x)).exp.sub (Fin'.sum _ fun x _ => (hc x).mul (hd x)).exp).add lam_const

/-- The reference at an index is the kernel's form of the attention over the arrays, where the values and the weight of
    the second map are real. Where a map has an infinite maximum, both forms are rows of zeros. -/
theorem ref_eq (x0 : FVec Ideal S1x8x2x512x128 .bf16) (x1 : FVec Ideal S1x8x1024x8x2x64 .f32)
    (x2 : FVec Ideal S1x8x1024x8x128 .f32) (x3 x4 : FVec Ideal S1x8x512x128 .bf16) (x5 : FVec Ideal S8x64x1024 .f32)
    (x6 : FVec Ideal S8x64x64 .f32) (x7 : FVec Ideal S1x4x64 .f32) (x8 : FVec Ideal S1x128 .f32)
    (f2 : ∀ i, Fin' (x2 i)) (f4 : ∀ i, Fin' (x4 i)) (f7 : ∀ i, Fin' (x7 i))
    (b h : Fin 8) (i : Fin 64) (e : Fin 128) (s₁ : Fin 2 → Fin 1024 → EReal) (s₂ : Fin 2 → Fin 64 → EReal)
    (v₁ : Fin 128 → Fin 1024 → EReal) (v₂ : Fin 128 → Fin 64 → EReal) (l g : EReal)
    (hs₁ : ∀ p x, s₁ p x = (∑ d : Fin 128, x0 (ix5 0 h p ⟨b * 64 + i, by omega⟩ d)
        * x1 (ix6 0 b x h ⟨d / 64, by omega⟩ ⟨d % 64, by omega⟩)) + x5 (ix3 h i x))
    (hs₂ : ∀ p (x : Fin 64), s₂ p x = (∑ d : Fin 128, x0 (ix5 0 h p ⟨b * 64 + i, by omega⟩ d)
        * x3 (ix4 0 h ⟨b * 64 + x, by omega⟩ d)) + x6 (ix3 h i x))
    (hv₁ : ∀ y x, v₁ y x = x2 (ix5 0 b x h y)) (hv₂ : ∀ y (x : Fin 64), v₂ y x = x4 (ix4 0 h ⟨b * 64 + x, by omega⟩ y))
    (hl : l = lamv (fun d => x7 (ix3 0 0 d)) (fun d => x7 (ix3 0 1 d)) (fun d => x7 (ix3 0 2 d)) (fun d => x7 (ix3 0 3 d)))
    (hg : g = x8 (ix2 0 e)) :
    lane s₁ s₂ v₁ v₂ l g e = DiffDecRef.ref x0 x1 x2 x3 x4 x5 x6 x7 x8 (ix3 b i ⟨h * 128 + e, by omega⟩) := by
  have gl : Fin' l := hl ▸ lamv_fin (fun _ => f7 _) (fun _ => f7 _) (fun _ => f7 _) (fun _ => f7 _)
  have old : ∀ (p : Fin 2) (x : Fin 1024), DiffDecRef.logits x0 x1 x3 x5 x6 (ix5 b h p i ⟨x, by omega⟩)
      = s₁ p x * ((Real.log 2 : ℝ) : EReal) := fun p x => by
    rw [hs₁, ← log_two]
    refine (DiffDecRef.logits_old x0 x1 x3 x5 x6 b h p i x).trans ?_
    congr 2
    exact Finset.sum_congr rfl fun d _ => mul_comm _ _
  have new : ∀ (p : Fin 2) (x : Fin 64), DiffDecRef.logits x0 x1 x3 x5 x6 (ix5 b h p i ⟨1024 + x, by omega⟩)
      = s₂ p x * ((Real.log 2 : ℝ) : EReal) := fun p x => by
    rw [hs₂, ← log_two]
    refine (DiffDecRef.logits_new x0 x1 x3 x5 x6 b h p i x).trans ?_
    congr 2
    exact Finset.sum_congr rfl fun d _ => mul_comm _ _
  have fV : ∀ (y : Fin 128) (k : Fin 1088), Fin' (DiffDecRef.vals x2 x4 (ix4 b k h y)) := fun y k => by
    rcases lt_or_ge k.val 1024 with hk | hk
    · exact (DiffDecRef.vals_old x2 x4 b h ⟨k, hk⟩ y).symm ▸ f2 _
    · have e1 : (⟨1024 + (k.val - 1024), by omega⟩ : Fin 1088) = k := Fin.ext (by simp; omega)
      have := DiffDecRef.vals_new x2 x4 b h ⟨k - 1024, by omega⟩ y
      rw [e1] at this
      rw [this]; exact f4 _
  have pr : ∀ (p : Fin 2) (k : Fin 1088), DiffDecRef.probs (DiffDecRef.exps (DiffDecRef.logits x0 x1 x3 x5 x6)
      (DiffDecRef.rowmax (DiffDecRef.logits x0 x1 x3 x5 x6))) (ix5 b h p i k)
      = Ideal.div (Ideal.exp (DiffDecRef.logits x0 x1 x3 x5 x6 (ix5 b h p i k) - max (Ideal.ofBits .f32 0xFF800000#32)
            (Finset.univ.fold max (Ideal.ofBits .f32 0xFF800000#32) (fun x => DiffDecRef.logits x0 x1 x3 x5 x6 (ix5 b h p i x)))))
          (∑ k, Ideal.exp (DiffDecRef.logits x0 x1 x3 x5 x6 (ix5 b h p i k) - max (Ideal.ofBits .f32 0xFF800000#32)
            (Finset.univ.fold max (Ideal.ofBits .f32 0xFF800000#32) (fun x => DiffDecRef.logits x0 x1 x3 x5 x6 (ix5 b h p i x))))) :=
    fun p k => by simp only [DiffDecRef.probs_at, DiffDecRef.exps_at, DiffDecRef.rowmax_at]
  have hv1 : ∀ y (x : Fin 1024), DiffDecRef.vals x2 x4 (ix4 b ⟨x, by omega⟩ h y) = v₁ y x := fun y x => by
    rw [hv₁]; exact DiffDecRef.vals_old x2 x4 b h x y
  have hv2 : ∀ y (x : Fin 64), DiffDecRef.vals x2 x4 (ix4 b ⟨1024 + x, by omega⟩ h y) = v₂ y x := fun y x => by
    rw [hv₂]; exact DiffDecRef.vals_new x2 x4 b h x y
  have both := fun p : Fin 2 => mean_pair_any (m := 1024) (n := 64) rfl (by norm_num) (s₁ p) (s₂ p)
    (fun x => DiffDecRef.logits x0 x1 x3 x5 x6 (ix5 b h p i x)) (old p) (new p) _ rfl (by norm_num) _ (pr p)
  have ll : DiffDecRef.lam x7 ix0 = l := (DiffDecRef.lam_at x7).trans hl.symm
  have mx : ∀ y, DiffDecRef.mix (DiffDecRef.vals x2 x4) (DiffDecRef.maps (DiffDecRef.probs (DiffDecRef.exps
      (DiffDecRef.logits x0 x1 x3 x5 x6) (DiffDecRef.rowmax (DiffDecRef.logits x0 x1 x3 x5 x6)))) (DiffDecRef.lam x7)) (ix4 b i h y)
      = ∑ k, DiffDecRef.vals x2 x4 (ix4 b k h y) * (DiffDecRef.probs (DiffDecRef.exps (DiffDecRef.logits x0 x1 x3 x5 x6)
          (DiffDecRef.rowmax (DiffDecRef.logits x0 x1 x3 x5 x6))) (ix5 b h 0 i k)
        - l * DiffDecRef.probs (DiffDecRef.exps (DiffDecRef.logits x0 x1 x3 x5 x6)
          (DiffDecRef.rowmax (DiffDecRef.logits x0 x1 x3 x5 x6))) (ix5 b h 1 i k)) := fun y => by
    rw [DiffDecRef.mix_at]
    simp only [DiffDecRef.maps_at, ll]
  unfold DiffDecRef.ref lane
  rw [DiffDecRef.norm_at]
  simp only [mx, hg]
  unfold rmsv
  refine congrArg (· * x8 (ix2 0 e) * Ideal.ofBits .f32 0x3F4CCCCD#32) ?_
  exact rows_eq _ _ _ l gl (fun y k => fV y k) (fun y => att (s₁ 0) (v₁ y) (s₂ 0) (v₂ y))
    (fun y => att (s₁ 1) (v₁ y) (s₂ 1) (v₂ y)) ((both 0).imp (fun h => ⟨h.1, fun y => h.2 _ _ _ (hv1 y) (hv2 y)⟩)
      (fun h => ⟨h.1, fun y => h.2 _ _⟩)) ((both 1).imp (fun h => ⟨h.1, fun y => h.2 _ _ _ (hv1 y) (hv2 y)⟩)
      (fun h => ⟨h.1, fun y => h.2 _ _⟩)) e

variable (m : (ℓ : Loc nD τ sig) → Buf (Elt Ideal) ℓ)

/-- Where each window stands at grid point `t`. -/
theorem idx : ∀ t : Fin cfg0.N, win0_0.index t = ![0, 0, 0, t.val, 0] ∧ win0_1.index t = ![t.val, 0, 0]
    ∧ win0_2.index t = ![t.val, 0, 0] ∧ win0_3.index t = ![0, 0, t.val, 0] ∧ win0_4.index t = ![0, 0, t.val, 0]
    ∧ win0_5.index t = ![0, 0, 0] ∧ win0_6.index t = ![0, 0, 0] ∧ win0_7.index t = ![0, 0] ∧ win0_8.index t = ![0, 0]
    ∧ win0_9.index t = ![t.val, 0, 0] :=
  (by decide +kernel : ∀ t : Fin grid0.N, _)

theorem read0 (c : Dev nD) (t : Fin cfg0.N) (h : Fin 8) (p : Fin 2) (i : Fin 64) (d : Fin 128) (b : Fin 8) (hb : t.val = b) :
    iblk m c 0 t (ix5 0 h p i d) = m ((c.tc : Thread nD τ).loc main_arg0) (ix5 0 h p ⟨b * 64 + i, by omega⟩ d) := by
  blk_point [iblk, V, idx t]

theorem read3 (c : Dev nD) (t : Fin cfg0.N) (h : Fin 8) (i : Fin 64) (d : Fin 128) (b : Fin 8) (hb : t.val = b) :
    iblk m c 3 t (ix4 0 h i d) = m ((c.tc : Thread nD τ).loc main_arg3) (ix4 0 h ⟨b * 64 + i, by omega⟩ d) := by
  blk_point [iblk, V, idx t]

theorem read4 (c : Dev nD) (t : Fin cfg0.N) (h : Fin 8) (i : Fin 64) (d : Fin 128) (b : Fin 8) (hb : t.val = b) :
    iblk m c 4 t (ix4 0 h i d) = m ((c.tc : Thread nD τ).loc main_arg4) (ix4 0 h ⟨b * 64 + i, by omega⟩ d) := by
  blk_point [iblk, V, idx t]

theorem read5 (c : Dev nD) (t : Fin cfg0.N) (h : Fin 8) (i : Fin 64) (x : Fin 1024) :
    iblk m c 5 t (ix3 h i x) = m ((c.tc : Thread nD τ).loc main_arg5) (ix3 h i x) := by
  blk_point [iblk, V, idx t]

theorem read6 (c : Dev nD) (t : Fin cfg0.N) (h : Fin 8) (i x : Fin 64) :
    iblk m c 6 t (ix3 h i x) = m ((c.tc : Thread nD τ).loc main_arg6) (ix3 h i x) := by
  blk_point [iblk, V, idx t]

theorem read1 (c : Dev nD) (t : Fin cfg0.N) (x : Fin 1024) (h : Fin 8) (d : Fin 128) (b : Fin 8) (hb : t.val = b) :
    iblk m c 1 t (ix3 0 x ⟨h * 128 + d, by omega⟩)
      = m ((c.tc : Thread nD τ).loc main_arg1) (ix6 0 b x h ⟨d / 64, by omega⟩ ⟨d % 64, by omega⟩) := by
  blk_point [iblk, V, idx t]

theorem read2 (c : Dev nD) (t : Fin cfg0.N) (x : Fin 1024) (h : Fin 8) (d : Fin 128) (b : Fin 8) (hb : t.val = b) :
    iblk m c 2 t (ix3 0 ⟨x * 8 + h, by omega⟩ d) = m ((c.tc : Thread nD τ).loc main_arg2) (ix5 0 b x h d) := by
  blk_point [iblk, V, idx t]

theorem read7 (c : Dev nD) (t : Fin cfg0.N) (x : Fin 4) (y : Fin 64) :
    iblk m c 7 t (ix2 x y) = m ((c.tc : Thread nD τ).loc main_arg7) (ix3 0 x y) := by
  blk_point [iblk, V, idx t]

theorem read8 (c : Dev nD) (t : Fin cfg0.N) (y : Fin 128) :
    iblk m c 8 t (ix2 0 y) = m ((c.tc : Thread nD τ).loc main_arg8) (ix2 0 y) := by
  blk_point [iblk, V, idx t]

theorem final (c : Dev nD)
    (f2 : ∀ i, Fin' ((m ((c.tc : Thread nD τ).loc main_arg2) : FVec Ideal S1x8x1024x8x128 .f32) i))
    (f4 : ∀ i, Fin' ((m ((c.tc : Thread nD τ).loc main_arg4) : FVec Ideal S1x8x512x128 .bf16) i))
    (f7 : ∀ i, Fin' ((m ((c.tc : Thread nD τ).loc main_arg7) : FVec Ideal S1x4x64 .f32) i)) :
    (dats m 0 c).arrAt 9 cfg0.N = DiffDecRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  refine (dats m 0 c).arrAt_eq_of_covers 9 _ (by decide +kernel) fun t hf y => ?_
  blk_simp
  rw [after0_9]
  obtain ⟨i, k, rfl⟩ : ∃ (i : Fin 64) (k : Fin 1024), y = ix3 0 i k := ⟨y 1, y 2, by blk_ext⟩
  obtain ⟨h, e, rfl⟩ : ∃ (h : Fin 8) (e : Fin 128), k = ⟨h * 128 + e, by omega⟩ :=
    ⟨⟨k / 128, by omega⟩, ⟨k % 128, by omega⟩, Fin.ext (by show (k : ℕ) = k / 128 * 128 + k % 128; omega)⟩
  have ht : t.val < 8 := t.isLt
  have e9 : (win0_9.blk t).view.emb (ix3 0 i ⟨h * 128 + e, by omega⟩) = ix3 ⟨t, ht⟩ i ⟨h * 128 + e, by omega⟩ := by
    blk_ext [idx t]
  rw [e9]
  unfold outsAt0
  rw [point]
  refine ref_eq _ _ _ _ _ _ _ _ _ f2 f4 f7 ⟨t, ht⟩ h i e _ _ _ _ _ _ ?_ ?_ ?_ ?_ ?_ ?_
  · intro p x
    simp only [sOld, read0 m c t _ _ _ _ ⟨t, ht⟩ rfl, read1 m c t _ _ _ ⟨t, ht⟩ rfl, read5]
  · intro p x
    simp only [sNew, read0 m c t _ _ _ _ ⟨t, ht⟩ rfl, read3 m c t _ _ _ ⟨t, ht⟩ rfl, read6]
  · intro y x
    exact read2 m c t _ _ _ ⟨t, ht⟩ rfl
  · intro y x
    exact read4 m c t _ _ _ ⟨t, ht⟩ rfl
  · simp only [read7]
  · exact read8 m c t _

end Cert.DiffDec
end
-- ==== Proof.DiffClaim.lean ====
module

public import proofs.«01_k».proof.Defs
public import proofs.«01_k».proof.Proof.DiffValue

@[expose] public section

set_option maxRecDepth 16384

noncomputable section

/-! The value claim of the differential attention over a cache. -/

namespace Cert.DiffDec

open Cert.DecDiffIdeal Cert.DecDiffIdeal.Gen Idealize.ShloMosaic Idealize.ShloMosaic.TcCoe Idealize.SL.Sem Cert.Softmax

/-- The side conditions of the precondition's operations. -/
theorem preFacts : Cert.Pre_finite_diff.Facts where
  bitsLt_bf16_f32 := by decide
  bcast_S_S1x8x1024x8x128 := by decide
  bcast_S_S1x8x512x128 := by decide
  bcast_S_S1x4x64 := by decide

/-- Kernel and reference end with the same array wherever the arguments named by the precondition are finite. -/
theorem algebraic : Cert.algebraic_DecDiffIdeal_DecDiffRefIdeal_pre_finite_diff (hPre_finite_diff := preFacts) := by
  intro m g m' g' hpre hagree
  refine ⟨fun c => DiffDecRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)), ?_, ?_⟩
  · refine (θ_run _ _ _).mono (fun r h c => ⟨(h c).1.trans ?_, (h c).2⟩) (Cert.DecDiffIdeal.Value.run_blocks m g)
    obtain ⟨p2, p4, p7⟩ := hpre c
    exact final m c (fun i => fin_of_cmp (congrFun p2 i)) (fun i => fin_of_cmp (congrFun p4 i))
      (fun i => fin_of_cmp (congrFun p7 i))
  · refine (θ_run _ _ _).mono (fun r h c => ⟨(h c).1.trans ?_, (h c).2⟩) (Cert.DecDiffRefIdeal.Value.run m' g')
    obtain ⟨e0, e1, e2, e3, e4, e5, e6, e7, e8⟩ := hagree c
    refine (DiffDecRef.res_eq m' c).trans ?_
    rw [e0, e1, e2, e3, e4, e5, e6, e7, e8]

end Cert.DiffDec
end
-- ==== Proof.FfnPoint.lean ====
module

public import Idealize.ShloMosaic.Lib.Pipeline.ValueKit
public import proofs.«01_k».proof.Proof.Gen.OutFfnIdeal.Value

@[expose] public section

set_option maxRecDepth 16384

noncomputable section

/-! The output projection and feed-forward kernel, one grid point at a time. -/

namespace Cert.Ffn

open Cert.OutFfnIdeal Cert.OutFfnIdeal.Gen Idealize.ShloMosaic Idealize.ShloMosaic.TcCoe Idealize.SL.Sem

/-- Root-mean-square normalization of a row. -/
def rms (y g : Fin 2048 → EReal) (k : Fin 2048) : EReal :=
  y k * Ideal.rsqrt (Ideal.div (∑ x, y x * y x) (Ideal.ofBits .f32 0x45000000#32) + Ideal.ofBits .f32 0x358637BD#32) * g k

/-- A row after the output projection: residual plus the two halves of the mixed heads. -/
def resid (x : Fin 2048 → EReal) (a b : Fin 1024 → EReal) (w : Fin 2048 → Fin 2048 → EReal) (k : Fin 2048) : EReal :=
  x k + ∑ d : Fin 1024, a d * w ⟨d, by omega⟩ k + ∑ d : Fin 1024, b d * w ⟨1024 + d, by omega⟩ k

/-- One hidden unit of the gated feed-forward part. -/
def unit (h wg wu : Fin 2048 → EReal) : EReal :=
  (∑ k, h k * wg k) * Ideal.logistic (∑ k, h k * wg k) * ∑ k, h k * wu k

theorem pay1_at (x : FVec Ideal S512x2048 .f32) (a b : FVec Ideal S512x1024 .bf16) (w w' : FVec Ideal S1024x2048 .bf16)
    (i : Fin 512) (k : Fin 2048) :
    k0_pay1 (F := Ideal) x a w b w' (ix2 i k)
      = x (ix2 i k) + ∑ d : Fin 1024, a (ix2 i d) * w (ix2 d k) + ∑ d : Fin 1024, b (ix2 i d) * w' (ix2 d k) := by
  pointwise [k0_pay1]

theorem pay2_at (x : FVec Ideal S512x2048 .f32) (a b : FVec Ideal S512x1024 .bf16) (w w' : FVec Ideal S1024x2048 .bf16)
    (i : Fin 512) (k : Fin 2048) :
    k0_pay2 (F := Ideal) x a w b w' (ix2 i k) = k0_pay1 (F := Ideal) x a w b w' (ix2 i k) := by
  pointwise [k0_pay2]

theorem pay3_at (x : FVec Ideal S512x2048 .f32) (a b : FVec Ideal S512x1024 .bf16) (w w' : FVec Ideal S1024x2048 .bf16)
    (g : FVec Ideal S1x2048 .f32) (i : Fin 512) (k : Fin 2048) :
    k0_pay3 (F := Ideal) x a w b w' g (ix2 i k)
      = rms (fun k => k0_pay1 (F := Ideal) x a w b w' (ix2 i k)) (fun k => g (ix2 0 k)) k := by
  pointwise [k0_pay3, rms]

theorem pay5_at (y : FVec Ideal S512x2048 .f32) (g : FVec Ideal S1x2048 .f32) (i : Fin 512) (k : Fin 2048) :
    k0_pay5 (F := Ideal) y g (ix2 i k) = rms (fun k => y (ix2 i k)) (fun k => g (ix2 0 k)) k := by
  pointwise [k0_pay5, rms]

theorem pay4_at (h : FVec Ideal S512x2048 .bf16) (wg wu : FVec Ideal S2048x512 .bf16) (y : FVec Ideal S512x2048 .f32)
    (wd : FVec Ideal S512x2048 .bf16) (i : Fin 512) (k : Fin 2048) :
    k0_pay4 (F := Ideal) h wg wu y wd (ix2 i k)
      = y (ix2 i k) + ∑ f : Fin 512, unit (fun k => h (ix2 i k)) (fun k => wg (ix2 k f)) (fun k => wu (ix2 k f)) * wd (ix2 f k) := by
  pointwise [k0_pay4, unit]

variable (m : (ℓ : Loc nD τ sig) → Buf (Elt Ideal) ℓ)

/-- Where each window stands at grid point `t`. -/
theorem idx : ∀ t : Fin cfg0.N, win0_0.index t = ![t.val / 11, 0] ∧ win0_1.index t = ![t.val / 11, 0]
    ∧ win0_2.index t = ![t.val / 11, 0] ∧ win0_3.index t = ![0, 0] ∧ win0_4.index t = ![0, 0]
    ∧ win0_5.index t = ![0, t.val % 11] ∧ win0_6.index t = ![0, t.val % 11] ∧ win0_7.index t = ![t.val % 11, 0]
    ∧ win0_8.index t = ![0, 0] ∧ win0_9.index t = ![t.val / 11, 0] :=
  (by decide +kernel : ∀ t : Fin grid0.N, _)

theorem read0 (c : Dev nD) (t : Fin cfg0.N) (i : Fin 512) (k : Fin 2048) (r : Fin 16384) (hr : r.val = t.val / 11 * 512 + i) :
    iblk m c 0 t (ix2 i k) = m ((c.tc : Thread nD τ).loc main_arg0) (ix3 ⟨r / 4096, by omega⟩ ⟨r % 4096, by omega⟩ k) := by
  blk_point [iblk, V, idx t]

theorem read1 (c : Dev nD) (t : Fin cfg0.N) (i : Fin 512) (k : Fin 1024) (r : Fin 16384) (hr : r.val = t.val / 11 * 512 + i) :
    iblk m c 1 t (ix2 i k) = m ((c.tc : Thread nD τ).loc main_arg1) (ix3 ⟨r / 4096, by omega⟩ ⟨r % 4096, by omega⟩ k) := by
  blk_point [iblk, V, idx t]

theorem read2 (c : Dev nD) (t : Fin cfg0.N) (i : Fin 512) (k : Fin 1024) (r : Fin 16384) (hr : r.val = t.val / 11 * 512 + i) :
    iblk m c 2 t (ix2 i k) = m ((c.tc : Thread nD τ).loc main_arg2) (ix3 ⟨r / 4096, by omega⟩ ⟨r % 4096, by omega⟩ k) := by
  blk_point [iblk, V, idx t]

theorem read3 (c : Dev nD) (t : Fin cfg0.N) (d k : Fin 2048) :
    iblk m c 3 t (ix2 d k) = m ((c.tc : Thread nD τ).loc main_arg3) (ix3 0 d k) := by
  blk_point [iblk, V, idx t]

theorem read4 (c : Dev nD) (t : Fin cfg0.N) (k : Fin 2048) :
    iblk m c 4 t (ix2 0 k) = m ((c.tc : Thread nD τ).loc main_arg4) (ix2 0 k) := by
  blk_point [iblk, V, idx t]

theorem read5 (c : Dev nD) (t : Fin cfg0.N) (k : Fin 2048) (f : Fin 512) (e : Fin 5632) (he : e.val = t.val % 11 * 512 + f) :
    iblk m c 5 t (ix2 k f) = m ((c.tc : Thread nD τ).loc main_arg5) (ix3 0 k e) := by
  blk_point [iblk, V, idx t]

theorem read6 (c : Dev nD) (t : Fin cfg0.N) (k : Fin 2048) (f : Fin 512) (e : Fin 5632) (he : e.val = t.val % 11 * 512 + f) :
    iblk m c 6 t (ix2 k f) = m ((c.tc : Thread nD τ).loc main_arg6) (ix3 0 k e) := by
  blk_point [iblk, V, idx t]

theorem read7 (c : Dev nD) (t : Fin cfg0.N) (k : Fin 2048) (f : Fin 512) (e : Fin 5632) (he : e.val = t.val % 11 * 512 + f) :
    iblk m c 7 t (ix2 f k) = m ((c.tc : Thread nD τ).loc main_arg7) (ix3 0 e k) := by
  blk_point [iblk, V, idx t]

theorem read8 (c : Dev nD) (t : Fin cfg0.N) (k : Fin 2048) :
    iblk m c 8 t (ix2 0 k) = m ((c.tc : Thread nD τ).loc main_arg8) (ix1 k) := by
  blk_point [iblk, V, idx t]

end Cert.Ffn
-- ==== Proof.FfnRef.lean ====
module

public import Idealize.ShloMosaic.Lib.Pipeline.ValueKit
public import proofs.«01_k».proof.Proof.Gen.OutFfnRefIdeal.Run
public import proofs.«01_k».proof.Proof.FfnPoint

@[expose] public section

set_option maxRecDepth 16384

noncomputable section

/-! The reference of the output projection and the feed-forward part, stage by stage. -/

namespace Cert.FfnRef

open Cert.OutFfnRefIdeal Cert.OutFfnRefIdeal.Gen Idealize.ShloMosaic Idealize.ShloMosaic.TcCoe Idealize.SL.Sem

/-- The residual stream after the output projection. -/
def resid (x0 : FVec Ideal S4x4096x2048 .f32) (x1 x2 : FVec Ideal S4x4096x1024 .bf16) (x3 : FVec Ideal S1x2048x2048 .f32) :
    FVec Ideal S4x4096x2048 .f32 :=
  addf x0 (Host.dotGeneral dot_S4x4096x2048_S2048x2048_S4x4096x2048_2_0_01_1_n_n none (concatenate S4x4096x2048 2 [⟨S4x4096x1024, (extf .f32 x1 bitsLt_bf16_f32)⟩, ⟨S4x4096x1024, (extf .f32 x2 bitsLt_bf16_f32)⟩] concatenates_S4x4096x1024_S4x4096x1024_S4x4096x2048_d2) (shapeCast _ x3 shapeCasts_S1x2048x2048_S2048x2048))

/-- Root-mean-square normalization of every row of `y` with gain `g`. -/
def norm (y : FVec Ideal S4x4096x2048 .f32) (g : FVec Ideal S2048 .f32) : FVec Ideal S4x4096x2048 .f32 :=
  mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))

/-- A row times a weight of the feed-forward part's first layer. -/
def first (h : FVec Ideal S4x4096x2048 .f32) (w : FVec Ideal S1x2048x5632 .f32) : FVec Ideal S4x4096x5632 .f32 :=
  Host.dotGeneral dot_S4x4096x2048_S2048x5632_S4x4096x5632_2_0_01_1_n_n none h (shapeCast _ w shapeCasts_S1x2048x5632_S2048x5632)

/-- The gated hidden units. -/
def hidden (a b : FVec Ideal S4x4096x5632 .f32) : FVec Ideal S4x4096x5632 .f32 :=
  mulf (mulf a (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf a))))) b

/-- The residual stream after the feed-forward part. -/
def second (y : FVec Ideal S4x4096x2048 .f32) (u : FVec Ideal S4x4096x5632 .f32) (w : FVec Ideal S1x5632x2048 .f32) :
    FVec Ideal S4x4096x2048 .f32 :=
  addf y (Host.dotGeneral dot_S4x4096x5632_S5632x2048_S4x4096x2048_2_0_01_1_n_n none u (shapeCast _ w shapeCasts_S1x5632x2048_S5632x2048))

/-- Batch and position as one axis. -/
def flat (y : FVec Ideal S4x4096x2048 .f32) : FVec Ideal S16384x2048 .f32 := shapeCast _ y shapeCasts_S4x4096x2048_S16384x2048

/-- The gain as a vector. -/
def gain (g : FVec Ideal S1x2048 .f32) : FVec Ideal S2048 .f32 := shapeCast _ g shapeCasts_S1x2048_S2048

/-- The feed-forward part over the residual stream `y`. -/
def ffn (y : FVec Ideal S4x4096x2048 .f32) (x4 : FVec Ideal S1x2048 .f32) (x5 x6 : FVec Ideal S1x2048x5632 .f32)
    (x7 : FVec Ideal S1x5632x2048 .f32) : FVec Ideal S4x4096x2048 .f32 :=
  second y (hidden (first (norm y (gain x4)) x5) (first (norm y (gain x4)) x6)) x7

/-- The reference's result as a function of the arguments. -/
def ref (x0 : FVec Ideal S4x4096x2048 .f32) (x1 x2 : FVec Ideal S4x4096x1024 .bf16) (x3 : FVec Ideal S1x2048x2048 .f32)
    (x4 : FVec Ideal S1x2048 .f32) (x5 x6 : FVec Ideal S1x2048x5632 .f32) (x7 : FVec Ideal S1x5632x2048 .f32)
    (x8 : FVec Ideal S2048 .f32) : FVec Ideal S16384x2048 .f32 :=
  flat (norm (ffn (resid x0 x1 x2 x3) x4 x5 x6 x7) x8)

/-- The run's result is `ref` of the arguments. -/
theorem res_eq (m : (ℓ : Loc nD τ sig) → Buf (Elt Ideal) ℓ) (c : Dev nD) :
    Value.res_out0 (F := Ideal) m c = ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := rfl

theorem resid_at (x0 : FVec Ideal S4x4096x2048 .f32) (x1 x2 : FVec Ideal S4x4096x1024 .bf16) (x3 : FVec Ideal S1x2048x2048 .f32)
    (b : Fin 4) (i : Fin 4096) (k : Fin 2048) :
    resid x0 x1 x2 x3 (ix3 b i k) = Ffn.resid (fun k => x0 (ix3 b i k)) (fun d => x1 (ix3 b i d)) (fun d => x2 (ix3 b i d))
      (fun d k => x3 (ix3 0 d k)) k := by
  pointwise [resid, Ffn.resid]
  exact (add_assoc _ _ _).symm

theorem norm_at (y : FVec Ideal S4x4096x2048 .f32) (g : FVec Ideal S2048 .f32) (b : Fin 4) (i : Fin 4096) (k : Fin 2048) :
    norm y g (ix3 b i k) = Ffn.rms (fun k => y (ix3 b i k)) (fun k => g (ix1 k)) k := by
  pointwise [norm, Ffn.rms]

theorem first_at (h : FVec Ideal S4x4096x2048 .f32) (w : FVec Ideal S1x2048x5632 .f32) (b : Fin 4) (i : Fin 4096) (f : Fin 5632) :
    first h w (ix3 b i f) = ∑ k : Fin 2048, h (ix3 b i k) * w (ix3 0 k f) := by
  pointwise [first]

theorem hidden_at (x y : FVec Ideal S4x4096x5632 .f32) (b : Fin 4) (i : Fin 4096) (f : Fin 5632) :
    hidden x y (ix3 b i f) = x (ix3 b i f) * Ideal.logistic (x (ix3 b i f)) * y (ix3 b i f) := by
  pointwise [hidden]
  rfl

theorem second_at (y : FVec Ideal S4x4096x2048 .f32) (u : FVec Ideal S4x4096x5632 .f32) (w : FVec Ideal S1x5632x2048 .f32)
    (b : Fin 4) (i : Fin 4096) (k : Fin 2048) :
    second y u w (ix3 b i k) = y (ix3 b i k) + ∑ f : Fin 5632, u (ix3 b i f) * w (ix3 0 f k) := by
  pointwise [second]

theorem flat_at (y : FVec Ideal S4x4096x2048 .f32) (r : Fin 16384) (k : Fin 2048) :
    flat y (ix2 r k) = y (ix3 ⟨r / 4096, by omega⟩ ⟨r % 4096, by omega⟩ k) := by
  pointwise [flat]

theorem gain_at (g : FVec Ideal S1x2048 .f32) (k : Fin 2048) : gain g (ix1 k) = g (ix2 0 k) := by
  pointwise [gain]

end Cert.FfnRef
-- ==== Proof.FfnValue.lean ====
module

public import Idealize.ShloMosaic.Lib.Pipeline.ValueKit
public import Idealize.ShloMosaic.Lib.Pipeline.ReadBack
public import proofs.«01_k».proof.Proof.FfnPoint
public import proofs.«01_k».proof.Proof.FfnRef

@[expose] public section

set_option maxRecDepth 16384

noncomputable section

/-! The output projection and feed-forward kernel: the array it leaves is the reference's. -/

namespace Cert.Ffn

open Cert.OutFfnIdeal Cert.OutFfnIdeal.Gen Idealize.ShloMosaic Idealize.ShloMosaic.TcCoe Idealize.SL.Sem

variable (m : (ℓ : Loc nD τ sig) → Buf (Elt Ideal) ℓ)

/-- The array row that row `i` of the block at grid point `n` is. -/
def row (n : ℕ) (i : Fin 512) : Fin 16384 := ⟨(n / 11 * 512 + i) % 16384, by omega⟩

/-- Hidden unit `f` of block `s`. -/
def col (s : ℕ) (f : Fin 512) : Fin 5632 := ⟨(s * 512 + f) % 5632, by omega⟩

theorem row_val (n : ℕ) (hn : n < cfg0.N) (i : Fin 512) : (row n i).val = n / 11 * 512 + i := by
  have h : n < 352 := hn
  unfold row; dsimp only; omega

theorem col_val (n : ℕ) (f : Fin 512) : (col (n % 11) f).val = n % 11 * 512 + f := by
  unfold col; dsimp only; omega

/-- Row `r` of the residual stream after the output projection. -/
def xrow (c : Dev nD) (r : Fin 16384) : Fin 2048 → EReal :=
  resid (fun k => m ((c.tc : Thread nD τ).loc main_arg0) (ix3 ⟨r / 4096, by omega⟩ ⟨r % 4096, by omega⟩ k))
    (fun k => m ((c.tc : Thread nD τ).loc main_arg1) (ix3 ⟨r / 4096, by omega⟩ ⟨r % 4096, by omega⟩ k))
    (fun k => m ((c.tc : Thread nD τ).loc main_arg2) (ix3 ⟨r / 4096, by omega⟩ ⟨r % 4096, by omega⟩ k))
    (fun d k => m ((c.tc : Thread nD τ).loc main_arg3) (ix3 0 d k))

/-- Row `r` normalized. -/
def hrow (c : Dev nD) (r : Fin 16384) : Fin 2048 → EReal :=
  rms (xrow m c r) (fun k => m ((c.tc : Thread nD τ).loc main_arg4) (ix2 0 k))

/-- Hidden unit `e` of row `r`, times its weight to lane `k`. -/
def term (c : Dev nD) (r : Fin 16384) (k : Fin 2048) (e : Fin 5632) : EReal :=
  unit (hrow m c r) (fun k => m ((c.tc : Thread nD τ).loc main_arg5) (ix3 0 k e))
    (fun k => m ((c.tc : Thread nD τ).loc main_arg6) (ix3 0 k e)) * m ((c.tc : Thread nD τ).loc main_arg7) (ix3 0 e k)

/-- What the first point of a run computes from the residual stream. -/
theorem start (c : Dev nD) (t : Fin cfg0.N) (i : Fin 512) (k : Fin 2048) :
    k0_pay1 (F := Ideal) (iblk m c 0 t) (iblk m c 1 t)
      (View.ld (iblk m c 3 t) (Rect.unit ![0, 0] ![1024, 2048] inb_S2048x2048_S1024x2048_0_0)) (iblk m c 2 t)
      (View.ld (iblk m c 3 t) (Rect.unit ![1024, 0] ![1024, 2048] inb_S2048x2048_S1024x2048_1024_0)) (ix2 i k)
      = xrow m c (row t i) k := by
  have hr := row_val t.val t.isLt i
  rw [pay1_at]
  unfold xrow resid
  have e1 : ∀ d : Fin 1024, View.ld (iblk m c 3 t) (Rect.unit ![0, 0] ![1024, 2048] inb_S2048x2048_S1024x2048_0_0) (ix2 d k)
      = m ((c.tc : Thread nD τ).loc main_arg3) (ix3 0 ⟨d, by omega⟩ k) := fun d => by
    rw [← read3 m c t]; pointwise; try blk_ext
  have e2 : ∀ d : Fin 1024, View.ld (iblk m c 3 t) (Rect.unit ![1024, 0] ![1024, 2048] inb_S2048x2048_S1024x2048_1024_0) (ix2 d k)
      = m ((c.tc : Thread nD τ).loc main_arg3) (ix3 0 ⟨1024 + d, by omega⟩ k) := fun d => by
    rw [← read3 m c t]; pointwise; try blk_ext
  simp only [e1, e2, read0 m c t i _ _ hr, read1 m c t i _ _ hr, read2 m c t i _ _ hr]

/-- The row the first point of a run normalizes. -/
theorem startH (c : Dev nD) (t : Fin cfg0.N) (i : Fin 512) (k : Fin 2048) :
    k0_pay3 (F := Ideal) (iblk m c 0 t) (iblk m c 1 t)
      (View.ld (iblk m c 3 t) (Rect.unit ![0, 0] ![1024, 2048] inb_S2048x2048_S1024x2048_0_0)) (iblk m c 2 t)
      (View.ld (iblk m c 3 t) (Rect.unit ![1024, 0] ![1024, 2048] inb_S2048x2048_S1024x2048_1024_0)) (iblk m c 4 t) (ix2 i k)
      = hrow m c (row t i) k :=
  (pay3_at _ _ _ _ _ _ i k).trans
    (congrArg₂ (fun a b => rms a b k) (funext fun k => start m c t i k) (funext fun k => read4 m c t k))

/-- What every point adds. -/
theorem part (c : Dev nD) (t : Fin cfg0.N) (h : FVec Ideal S512x2048 .bf16) (y : FVec Ideal S512x2048 .f32) (i : Fin 512)
    (hh : ∀ k, h (ix2 i k) = hrow m c (row t i) k) (k : Fin 2048) :
    k0_pay4 (F := Ideal) h (iblk m c 5 t) (iblk m c 6 t) y (iblk m c 7 t) (ix2 i k)
      = y (ix2 i k) + ∑ f : Fin 512, term m c (row t i) k (col (t % 11) f) := by
  rw [pay4_at]
  unfold term
  simp only [hh, read5 m c t _ _ _ (col_val t _), read6 m c t _ _ _ (col_val t _), read7 m c t _ _ _ (col_val t _)]

/-- The buffers carried from a run's first point. -/
theorem stateA (c : Dev nD) (t : Fin cfg0.N) (h0 : t.val % 11 = 0) (i : Fin 512) (k : Fin 2048) :
    (outsAt0 m c t.val t.isLt).2.1 (ix2 i k) = hrow m c (row t i) k
    ∧ (outsAt0 m c t.val t.isLt).2.2 (ix2 i k)
        = xrow m c (row t i) k + ∑ f : Fin 512, term m c (row t i) k (col (t % 11) f) := by
  rw [outsAt0_A m c t h0 (by omega)]
  constructor
  · frame_out
    exact startH m c t i k
  · frame_out
    refine (part m c t _ _ i (fun k => startH m c t i k) k).trans ?_
    exact congrArg (· + _) ((pay2_at _ _ _ _ _ i k).trans (start m c t i k))

/-- The buffers carried from a later point. -/
theorem stateB (c : Dev nD) (t : Fin cfg0.N) (h0 : ¬ t.val % 11 = 0) (i : Fin 512)
    (hh : ∀ k, (outsAt0 m c (t.val - 1) (Nat.lt_of_le_of_lt (Nat.sub_le _ _) t.isLt)).2.1 (ix2 i k) = hrow m c (row t i) k)
    (k : Fin 2048) :
    (outsAt0 m c t.val t.isLt).2.1 (ix2 i k) = hrow m c (row t i) k
    ∧ (outsAt0 m c t.val t.isLt).2.2 (ix2 i k)
        = (outsAt0 m c (t.val - 1) (Nat.lt_of_le_of_lt (Nat.sub_le _ _) t.isLt)).2.2 (ix2 i k)
          + ∑ f : Fin 512, term m c (row t i) k (col (t % 11) f) := by
  by_cases h1 : t.val % 11 = 10
  · rw [outsAt0_C m c t h0 h1]
    constructor
    · unfold sout0_C_0
      exact hh k
    · frame_out
      rw [read_unread_whole, read_unread_whole]
      exact part m c t _ _ i hh k
  · rw [outsAt0_B m c t h0 h1]
    constructor
    · unfold sout0_B_0
      exact hh k
    · frame_out
      rw [read_unread_whole, read_unread_whole]
      exact part m c t _ _ i hh k

/-- What the last point of a run writes back. -/
theorem stateC (c : Dev nD) (t : Fin cfg0.N) (h1 : t.val % 11 = 10) (i : Fin 512) (k : Fin 2048) :
    (outsAt0 m c t.val t.isLt).1 (ix2 i k) = rms (fun k => (outsAt0 m c t.val t.isLt).2.2 (ix2 i k))
      (fun k => m ((c.tc : Thread nD τ).loc main_arg8) (ix1 k)) k := by
  have h0 : ¬ t.val % 11 = 0 := by omega
  have e : (outsAt0 m c t.val t.isLt).1 = k0_pay5 (F := Ideal) (outsAt0 m c t.val t.isLt).2.2 (iblk m c 8 t) := by
    funext j
    rw [outsAt0_C m c t h0 h1]
    frame_out
  rw [e]
  exact (pay5_at _ _ i k).trans (congrArg (fun b => rms _ b k) (funext fun k => read8 m c t k))

/-- The carried buffers after every grid point: the normalized row, and the row's residual plus the hidden blocks so far. -/
theorem state (c : Dev nD) (n : ℕ) : ∀ (hn : n < cfg0.N) (i : Fin 512), (∀ k, (outsAt0 m c n hn).2.1 (ix2 i k) = hrow m c (row n i) k)
    ∧ ∀ k, (outsAt0 m c n hn).2.2 (ix2 i k) = xrow m c (row n i) k
        + ∑ s ∈ Finset.range (n % 11 + 1), ∑ f : Fin 512, term m c (row n i) k (col s f) := by
  induction n with
  | zero =>
    intro hn i
    refine ⟨fun k => (stateA m c ⟨0, hn⟩ rfl i k).1, fun k => ?_⟩
    refine (stateA m c ⟨0, hn⟩ rfl i k).2.trans ?_
    rw [Nat.zero_mod, zero_add, Finset.sum_range_one]
  | succ n ih =>
    intro hn i
    by_cases h0 : (n + 1) % 11 = 0
    · refine ⟨fun k => (stateA m c ⟨n + 1, hn⟩ h0 i k).1, fun k => ?_⟩
      refine (stateA m c ⟨n + 1, hn⟩ h0 i k).2.trans ?_
      dsimp only
      rw [h0, zero_add, Finset.sum_range_one]
    · have er : row n i = row (n + 1) i := by
        unfold row; ext; dsimp only; omega
      have em : n % 11 + 1 = (n + 1) % 11 := by omega
      obtain ⟨ih0, ih1⟩ := ih (Nat.lt_of_succ_lt hn) i
      rw [er] at ih0 ih1
      refine ⟨fun k => (stateB m c ⟨n + 1, hn⟩ h0 i ih0 k).1, fun k => ?_⟩
      refine (stateB m c ⟨n + 1, hn⟩ h0 i ih0 k).2.trans ?_
      refine (congrArg (· + _) (ih1 k)).trans ?_
      dsimp only
      rw [em, Finset.sum_range_succ, add_assoc]

/-- The reference at row `r` is the normalized row: its residual plus all its hidden units. -/
theorem ref_at (c : Dev nD) (r : Fin 16384) (k : Fin 2048) :
    FfnRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (ix2 r k)
      = rms (fun k => xrow m c r k + ∑ e, term m c r k e) (fun k => m ((c.tc : Thread nD τ).loc main_arg8) (ix1 k)) k := by
  unfold FfnRef.ref FfnRef.ffn
  rw [FfnRef.flat_at, FfnRef.norm_at]
  simp only [FfnRef.second_at, FfnRef.hidden_at, FfnRef.first_at, FfnRef.norm_at, FfnRef.resid_at, FfnRef.gain_at]
  rfl

theorem final (c : Dev nD) : (dats m 0 c).arrAt 9 cfg0.N
    = FfnRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  refine (dats m 0 c).arrAt_eq_of_covers 9 _ (by decide +kernel) fun t hf y => ?_
  blk_simp
  rw [after0_9]
  obtain ⟨i, k, rfl⟩ : ∃ (i : Fin 512) (k : Fin 2048), y = ix2 i k := ⟨y 0, y 1, by blk_ext⟩
  have hl : t.val % 11 = 10 := (flush0_9 t).mp hf
  have hr := row_val t.val t.isLt i
  have e : (win0_9.blk t).view.emb (ix2 i k) = ix2 (row t i) k := by blk_ext [idx t]
  rw [e, ref_at]
  refine (stateC m c t hl i k).trans (congrArg (fun b => rms b _ k) (funext fun k => ?_))
  refine ((state m c t t.isLt i).2 k).trans (congrArg (fun z => xrow m c (row t i) k + z) ?_)
  rw [hl, Finset.sum_range]
  refine Fin.sum_mul_add_congr fun s f hl => ?_
  congr 1
  unfold col; ext; dsimp only; omega

end Cert.Ffn
-- ==== Proof.FfnClaim.lean ====
module

public import proofs.«01_k».proof.Defs
public import proofs.«01_k».proof.Proof.FfnValue

@[expose] public section

set_option maxRecDepth 16384

noncomputable section

/-! The value claim of the output projection and the feed-forward part. -/

namespace Cert.Ffn

open Cert.OutFfnIdeal Cert.OutFfnIdeal.Gen Idealize.ShloMosaic Idealize.ShloMosaic.TcCoe Idealize.SL.Sem

/-- Kernel and reference end with the same array. -/
theorem algebraic : Cert.algebraic_OutFfnIdeal_OutFfnRefIdeal := by
  intro m g m' g' _ hagree
  refine ⟨fun c => FfnRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)), ?_, ?_⟩
  · refine (θ_run _ _ _).mono (fun r h c => ⟨(h c).1.trans ?_, (h c).2⟩) (Cert.OutFfnIdeal.Value.run_blocks m g)
    exact final m c
  · refine (θ_run _ _ _).mono (fun r h c => ⟨(h c).1.trans ?_, (h c).2⟩) (Cert.OutFfnRefIdeal.Value.run m' g')
    obtain ⟨e0, e1, e2, e3, e4, e5, e6, e7, e8⟩ := hagree c
    refine (FfnRef.res_eq m' c).trans ?_
    rw [e0, e1, e2, e3, e4, e5, e6, e7, e8]

end Cert.Ffn
end
-- ==== Proof.ProjHost.lean ====
module

public import Idealize.ShloMosaic.Lib.Pipeline.ValueKit
public import Idealize.ShloMosaic.Lib.StableHlo.RunRead
public import Idealize.ShloMosaic.Lib.StableHlo.RunClose
public import proofs.«01_k».proof.Proof.Gen.ProjIdeal.Frame

@[expose] public section

set_option maxRecDepth 16384

noncomputable section

/-! The arrays that the host lines before the projection kernel leave: padded and reordered weights, rotation tables. -/

namespace Cert.Proj

open Cert.ProjIdeal Cert.ProjIdeal.Gen Idealize.ShloMosaic Idealize.ShloMosaic.TcCoe Idealize.SL.Sem

variable (m : (ℓ : Loc nD τ sig) → Buf (Elt Ideal) ℓ)

/-- The rotation angles by row. -/
def angles : FVec Ideal S512x32 .f32 :=
  mulf (broadcastInDim S512x32 ![0, 1] bcast_S512x1_S512x32_0_1 (broadcastInDim S512x1 ![0] bcast_S512_S512x1_0
      (sitofp .f32 (shapeCast _ (broadcastInDim S8x64 ![0, 1] bcast_S1x64_S8x64_0_1 (shapeCast _ (addi
        (broadcastInDim S64 ![] bcast_S_S64 (constantI S_ 32 1024#32)) (iotaInDim S64 32 0)) shapeCasts_S64_S1x64))
        shapeCasts_S8x64_S512))))
    (broadcastInDim S512x32 ![0, 1] bcast_S1x32_S512x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Zeros for the unused lanes. -/
def blank : FVec Ideal S512x32 .f32 := broadcastInDim S512x32 ![] bcast_S_S512x32 (constant S_ .f32 0x00000000#32)

/-- The query weights, by head. -/
def perHead (x : FVec Ideal S1x512x1536 .f32) : FVec Ideal S512x8x192 .f32 :=
  shapeCast S512x8x192 (shapeCast S512x1536 x shapeCasts_S1x512x1536_S512x1536 : FVec Ideal S512x1536 .f32) shapeCasts_S512x1536_S512x8x192

theorem v44_eq (c : Dev nD) : V m c main_v44 = (shapeCast S1x512x2048 (m ((c.tc : Thread nD τ).loc main_arg0)) shapeCasts_S8x64x2048_S1x512x2048 : FVec Ideal S1x512x2048 .f32) := by
  unfold V
  simp only [List.flatten_cons, List.flatten_nil]
  after_reads_simp
  rfl

theorem v2_eq (c : Dev nD) : V m c main_v2 = (truncf .bf16 (pad S2048x3968 ![0, 0] ![0, 64] ![0, 0] (shapeCast S2048x3904 (m ((c.tc : Thread nD τ).loc main_arg2)) shapeCasts_S1x2048x3904_S2048x3904) (sitofp (F := Ideal) .f32 (constantI S_ 32 0#32)) pads_S2048x3904_S2048x3968_000_0640 h_S_ : FVec Ideal S2048x3968 .f32) bitsLt_bf16_f32 : FVec Ideal S2048x3968 .bf16) := by
  unfold V
  simp only [List.flatten_cons, List.flatten_nil]
  after_reads_simp
  rfl

theorem v11_eq (c : Dev nD) : V m c main_v11 = (truncf .bf16 (concatenate S512x2048 1 [⟨S512x1024, shapeCast S512x1024 (extractStridedSlice S512x8x128 ![0, 0, 0] (perHead (m ((c.tc : Thread nD τ).loc main_arg4))) slices_S512x8x192_S512x8x128_0_0_0) shapeCasts_S512x8x128_S512x1024⟩, ⟨S512x1024, shapeCast S512x1024 (pad S512x8x128 ![0, 0, 0] ![0, 0, 64] ![0, 0, 0] (extractStridedSlice S512x8x64 ![0, 0, 128] (perHead (m ((c.tc : Thread nD τ).loc main_arg4))) slices_S512x8x192_S512x8x64_0_0_128) (sitofp (F := Ideal) .f32 (constantI S_ 32 0#32)) pads_S512x8x64_S512x8x128_000_000_0640 h_S_ : FVec Ideal S512x8x128 .f32) shapeCasts_S512x8x128_S512x1024⟩] concatenates_S512x1024_S512x1024_S512x2048_d1 : FVec Ideal S512x2048 .f32) bitsLt_bf16_f32 : FVec Ideal S512x2048 .bf16) := by
  unfold V
  simp only [List.flatten_cons, List.flatten_nil]
  after_reads_simp
  rfl

theorem v13_eq (c : Dev nD) : V m c main_v13 = (truncf .bf16 (shapeCast S256x2048 (m ((c.tc : Thread nD τ).loc main_arg6)) shapeCasts_S1x256x2048_S256x2048) bitsLt_bf16_f32 : FVec Ideal S256x2048 .bf16) := by
  unfold V
  simp only [List.flatten_cons, List.flatten_nil]
  after_reads_simp
  rfl

theorem v15_eq (c : Dev nD) : V m c main_v15 = (broadcastInDim S1x2048 ![1] bcast_S2048_S1x2048_1 (shapeCast S2048 (m ((c.tc : Thread nD τ).loc main_arg1)) shapeCasts_S1x2048_S2048) : FVec Ideal S1x2048 .f32) := by
  unfold V
  simp only [List.flatten_cons, List.flatten_nil]
  after_reads_simp
  rfl

theorem v17_eq (c : Dev nD) : V m c main_v17 = (broadcastInDim S1x512 ![1] bcast_S512_S1x512_1 (shapeCast S512 (m ((c.tc : Thread nD τ).loc main_arg3)) shapeCasts_S1x512_S512) : FVec Ideal S1x512 .f32) := by
  unfold V
  simp only [List.flatten_cons, List.flatten_nil]
  after_reads_simp
  rfl

theorem v19_eq (c : Dev nD) : V m c main_v19 = (broadcastInDim S1x256 ![1] bcast_S256_S1x256_1 (shapeCast S256 (m ((c.tc : Thread nD τ).loc main_arg5)) shapeCasts_S1x256_S256) : FVec Ideal S1x256 .f32) := by
  unfold V
  simp only [List.flatten_cons, List.flatten_nil]
  after_reads_simp
  rfl

theorem v41_eq (c : Dev nD) : V m c main_v41 = (concatenate S512x128 1 [⟨S512x32, Host.cos angles⟩, ⟨S512x32, Host.cos angles⟩, ⟨S512x32, blank⟩, ⟨S512x32, blank⟩] concatenates_S512x32_S512x32_S512x32_S512x32_S512x128_d1 : FVec Ideal S512x128 .f32) := by
  unfold V
  simp only [List.flatten_cons, List.flatten_nil]
  after_reads_simp
  rfl

theorem v43_eq (c : Dev nD) : V m c main_v43 = (concatenate S512x128 1 [⟨S512x32, Host.negf (Host.sin angles)⟩, ⟨S512x32, Host.sin angles⟩, ⟨S512x32, blank⟩, ⟨S512x32, blank⟩] concatenates_S512x32_S512x32_S512x32_S512x32_S512x128_d1 : FVec Ideal S512x128 .f32) := by
  unfold V
  simp only [List.flatten_cons, List.flatten_nil]
  after_reads_simp
  rfl

end Cert.Proj
-- ==== Proof.ProjPoint.lean ====
module

public import Idealize.ShloMosaic.Lib.Pipeline.ValueKit
public import proofs.«01_k».proof.Proof.Gen.ProjIdeal.Frame

@[expose] public section

set_option maxRecDepth 16384

noncomputable section

/-! The projection kernel, one grid point at a time: what each of its steps computes, row by row. -/

namespace Cert.Proj

open Cert.ProjIdeal Cert.ProjIdeal.Gen Idealize.ShloMosaic Idealize.ShloMosaic.TcCoe Idealize.SL.Sem

/-- Root-mean-square normalization of a row of `n` lanes, `N` the lane count as a number. -/
def rms {n : ℕ} (N : EReal) (y g : Fin n → EReal) (k : Fin n) : EReal :=
  y k * Ideal.rsqrt (Ideal.div (∑ x, y x * y x) N + Ideal.ofBits .f32 0x358637BD#32) * g k

/-- The rotary step on 128 lanes as the kernel takes it: each half of a 64-lane group meets the other half. -/
def rot (y ct st : Fin 128 → EReal) (l : Fin 128) : EReal :=
  y l * ct l + (if l.val % 64 < 32 then y ⟨(l + 128 - 96) % 128, by omega⟩ else y ⟨(l + 128 - 32) % 128, by omega⟩) * st l

theorem pay2_at (x : FVec Ideal S1x256x2048 .f32) (g : FVec Ideal S1x2048 .f32) (i : Fin 256) (k : Fin 2048) :
    k0_pay2 (F := Ideal) x g (ix2 i k)
      = rms (Ideal.ofBits .f32 0x45000000#32) (fun k => x (ix3 0 i k)) (fun k => g (ix2 0 k)) k := by
  pointwise [k0_pay2, rms]

/-- The lanes of the first half of each 64-lane group. -/
theorem mask_at (i : Fin 256) (l : Fin 128) : k0_pay20 (ix2 i l) = if l.val % 64 < 32 then 1#1 else 0#1 := by
  pointwise [k0_pay20]
  revert l
  decide +kernel

/-- The first 64 lanes. -/
theorem low_at (i : Fin 256) (l : Fin 128) : k0_pay3 (ix2 i l) = if l.val < 64 then 1#1 else 0#1 := by
  pointwise [k0_pay3]
  revert l
  decide +kernel

/-- The rotary step on a 128-lane block. -/
def turn (ct st r : FVec Ideal S256x128 .f32) : FVec Ideal S256x128 .f32 :=
  addf (mulf r ct) (mulf (select k0_pay20 (dynamicRotate 1 96#32 none r rotates_S256x128_d1)
    (dynamicRotate 1 32#32 none r rotates_S256x128_d1)) st)

theorem turn_at (ct st r : FVec Ideal S256x128 .f32) (i : Fin 256) (l : Fin 128) :
    turn ct st r (ix2 i l) = rot (fun l => r (ix2 i l)) (fun l => ct (ix2 i l)) (fun l => st (ix2 i l)) l := by
  pointwise [turn, rot, mask_at]
  by_cases hl : l.val % 64 < 32
  · rw [if_pos hl, if_pos hl]; rfl
  · rw [if_neg hl, if_neg hl]; rfl

/-- A head's rotated query lanes, scaled and given the shape of the store. -/
def qturn (ct st r : FVec Ideal S256x128 .f32) : FVec Ideal S1x1x256x128 .bf16 :=
  shapeCast S1x1x256x128 (truncf .bf16 (mulf (turn ct st r)
    (broadcast S256x128 (Scalar.ofBits (F := Ideal) .f32 0x3DD53B95#32))) bitsLt_bf16_f32) shapeCasts_S256x128_S1x1x256x128

theorem qturn_at (ct st r : FVec Ideal S256x128 .f32) (i : Fin 256) (l : Fin 128) :
    qturn ct st r (ix4 0 0 i l) = rot (fun l => r (ix2 i l)) (fun l => ct (ix2 i l)) (fun l => st (ix2 i l)) l
      * Ideal.ofBits .f32 0x3DD53B95#32 := by
  pointwise [qturn, turn_at]

theorem turn39 (ct st : FVec Ideal S256x128 .f32) (q : FVec Ideal S256x2048 .f32) :
    k0_pay39 (F := Ideal) ct st q = qturn ct st (extractStridedSlice S256x128 ![0, 1152] q slices_S256x2048_o0_1152_S256x128) := rfl

theorem turn55 (ct st : FVec Ideal S256x128 .f32) (q : FVec Ideal S256x2048 .f32) :
    k0_pay55 (F := Ideal) ct st q = qturn ct st (extractStridedSlice S256x128 ![0, 1408] q slices_S256x2048_o0_1408_S256x128) := rfl

theorem turn68 (ct st : FVec Ideal S256x128 .f32) (q : FVec Ideal S256x2048 .f32) :
    k0_pay68 (F := Ideal) ct st q = qturn ct st (extractStridedSlice S256x128 ![0, 1664] q slices_S256x2048_o0_1664_S256x128) := rfl

theorem turn33 (ct st r : FVec Ideal S256x128 .f32) :
    k0_pay33 (F := Ideal) ct st r (Scalar.select (Scalar.cmpi .eq 64#32 0#32) 1#32 64#32) k0_pay29 k0_pay30 k0_pay31 k0_pay32
      = qturn ct st r := rfl

theorem turn49 (ct st r : FVec Ideal S256x128 .f32) :
    k0_pay49 (F := Ideal) ct st r k0_pay46 k0_pay47 k0_pay48 = qturn ct st r := rfl

theorem turn63 (ct st r : FVec Ideal S256x128 .f32) : k0_pay63 (F := Ideal) ct st r k0_pay62 = qturn ct st r := rfl

theorem turn77 (ct st : FVec Ideal S256x128 .f32) (q : FVec Ideal S256x2048 .f32) :
    k0_pay77 (F := Ideal) ct st (k0_pay73 q) k0_pay74 (k0_pay75 q) (k0_pay76 q) = qturn ct st (k0_pay73 q) := rfl

theorem turn83 (ct st r : FVec Ideal S256x128 .f32) :
    k0_pay83 (F := Ideal) ct st r (iota .tc S256x128 32 [1] iota_S256x128_d1_w32) 64#32 = qturn ct st r := rfl

theorem turn22 (ct st : FVec Ideal S256x128 .f32) (z : FVec Ideal S256x384 .f32) :
    k0_pay22 (F := Ideal) ct st (k0_pay19 z) k0_pay20 (k0_pay21 z) = turn ct st (k0_pay19 z) := rfl

variable (x0 : Vec Ideal S1x256x2048 .f32) (x1 x2 : Vec Ideal S256x128 .f32) (x3 : Vec Ideal S1x2048 .f32) (x4 : Vec Ideal S2048x3968 .bf16) (x5 : Vec Ideal S1x512 .f32) (x6 : Vec Ideal S512x2048 .bf16) (x7 : Vec Ideal S1x256 .f32) (x8 : Vec Ideal S256x2048 .bf16)

/-- Row `i` of the normalized block. -/
def hB (i : Fin 256) (k : Fin 2048) : EReal :=
  rms (Ideal.ofBits .f32 0x45000000#32) (fun k => x0 (ix3 0 i k)) (fun k => x3 (ix2 0 k)) k

/-- Row `i` of the input projection, column `j`. -/
def zB (i : Fin 256) (j : Fin 3968) : EReal := ∑ k, hB x0 x3 i k * x4 (ix2 k j)

/-- The normalized query latent of row `i`. -/
def cqB (i : Fin 256) (k : Fin 512) : EReal :=
  rms (Ideal.ofBits .f32 0x44000000#32) (fun k : Fin 512 => zB x0 x3 x4 i ⟨3072 + k.val, by omega⟩) (fun k => x5 (ix2 0 k)) k

/-- The latent queries of row `i`. -/
def qB (i : Fin 256) (j : Fin 2048) : EReal := ∑ k, cqB x0 x3 x4 x5 i k * x6 (ix2 k j)

/-- The normalized key-value latent of row `i`. -/
def ckvB (i : Fin 256) (k : Fin 256) : EReal :=
  rms (Ideal.ofBits .f32 0x43800000#32) (fun k : Fin 256 => zB x0 x3 x4 i ⟨3584 + k.val, by omega⟩) (fun k => x7 (ix2 0 k)) k

/-- The latent keys and values of row `i`. -/
def kvB (i : Fin 256) (j : Fin 2048) : EReal := ∑ k, ckvB x0 x3 x4 x7 i k * x8 (ix2 k j)

/-- The rotated shared key of row `i`. -/
def krB (i : Fin 256) (l : Fin 128) : EReal :=
  rot (fun l : Fin 128 => zB x0 x3 x4 i ⟨3840 + l.val, by omega⟩) (fun l => x1 (ix2 i l)) (fun l => x2 (ix2 i l)) l

theorem st128 (i : Fin 256) (k : Fin 2048) : k0_pay128 x0 x1 x2 x3 x4 x5 x6 x7 x8 (ix2 i k) = hB x0 x3 i k := by
  pointwise [k0_pay128, pay2_at, hB]

theorem st132 (i : Fin 256) (k : Fin 512) : k0_pay132 x0 x1 x2 x3 x4 x5 x6 x7 x8 (ix2 i k) = zB x0 x3 x4 i ⟨3072 + k.val, by omega⟩ := by
  pointwise [k0_pay132, k0_pay6, pay2_at, zB, hB]

theorem st133 (i : Fin 256) (k : Fin 384) : k0_pay133 x0 x1 x2 x3 x4 x5 x6 x7 x8 (ix2 i k) = zB x0 x3 x4 i ⟨3584 + k.val, by omega⟩ := by
  pointwise [k0_pay133, k0_pay7, pay2_at, zB, hB]

theorem st134 (i : Fin 256) (k : Fin 512) : k0_pay134 x0 x1 x2 x3 x4 x5 x6 x7 x8 (ix2 i k) = zB x0 x3 x4 i ⟨2048 + k.val, by omega⟩ := by
  pointwise [k0_pay134, k0_pay8, pay2_at, zB, hB]

/-- A product of the normalized rows with 512 columns of the weights, scaled. -/
theorem pay106_at (h : FVec Ideal S256x2048 .bf16) (w : Vec Ideal S2048x512 .bf16) (i : Fin 256) (k : Fin 512) :
    k0_pay106 (F := Ideal) h w (ix2 i k) = (∑ x, h (ix2 i x) * w (ix2 x k)) * Ideal.ofBits .f32 0x3E38AA3B#32 := by
  pointwise [k0_pay106]

theorem pay116_at (h : FVec Ideal S256x2048 .bf16) (w : Vec Ideal S2048x512 .bf16) (i : Fin 256) (k : Fin 512) :
    k0_pay116 (F := Ideal) h w (ix2 i k) = ∑ x, h (ix2 i x) * w (ix2 x k) := by
  pointwise [k0_pay116]

theorem cq_at (z : FVec Ideal S256x512 .f32) (g : FVec Ideal S1x512 .f32) (i : Fin 256) (k : Fin 512) :
    k0_pay16 (F := Ideal) z (k0_pay14 g) (k0_pay15 z) (ix2 i k)
      = rms (Ideal.ofBits .f32 0x44000000#32) (fun k => z (ix2 i k)) (fun k => g (ix2 0 k)) k := by
  pointwise [k0_pay16, k0_pay14, k0_pay15, rms]

theorem ckv_at (z : FVec Ideal S256x384 .f32) (g : FVec Ideal S1x256 .f32) (i : Fin 256) (k : Fin 256) :
    k0_pay17 (F := Ideal) z g (ix2 i k)
      = rms (Ideal.ofBits .f32 0x43800000#32) (fun k : Fin 256 => z (ix2 i ⟨k.val, by omega⟩)) (fun k => g (ix2 0 k)) k := by
  pointwise [k0_pay17, rms]

theorem pay25_at (c : FVec Ideal S256x512 .bf16) (w : Vec Ideal S512x2048 .bf16) (i : Fin 256) (k : Fin 2048) :
    k0_pay25 (F := Ideal) c w (ix2 i k) = ∑ x, c (ix2 i x) * w (ix2 x k) := by
  pointwise [k0_pay25]

theorem pay26_at (c : FVec Ideal S256x256 .f32) (w : Vec Ideal S256x2048 .bf16) (i : Fin 256) (k : Fin 2048) :
    k0_pay26 (F := Ideal) c w (ix2 i k) = ∑ x, c (ix2 i x) * w (ix2 x k) := by
  pointwise [k0_pay26]

theorem st142 (i : Fin 256) (k : Fin 512) : k0_pay142 x0 x1 x2 x3 x4 x5 x6 x7 x8 (ix2 i k) = zB x0 x3 x4 i ⟨k.val, by omega⟩ * Ideal.ofBits .f32 0x3E38AA3B#32 := by
  pointwise [k0_pay142, pay106_at, st128, zB]

theorem st143 (i : Fin 256) (k : Fin 512) : k0_pay143 x0 x1 x2 x3 x4 x5 x6 x7 x8 (ix2 i k) = zB x0 x3 x4 i ⟨512 + k.val, by omega⟩ := by
  pointwise [k0_pay143, pay116_at, st128, zB]

theorem st145 (i : Fin 256) (k : Fin 512) : k0_pay145 x0 x1 x2 x3 x4 x5 x6 x7 x8 (ix2 i k) = zB x0 x3 x4 i ⟨512 + k.val, by omega⟩ * Ideal.ofBits .f32 0x3E38AA3B#32 := by
  pointwise [k0_pay145, k0_pay118, k0_pay144, k0_pay117, st143]

theorem st135 (i : Fin 256) (k : Fin 512) : k0_pay135 x0 x1 x2 x3 x4 x5 x6 x7 x8 (ix2 i k) = cqB x0 x3 x4 x5 i k := by
  pointwise [k0_pay135, cq_at, st132, cqB]

theorem st140 (i : Fin 256) (k : Fin 2048) : k0_pay140 x0 x1 x2 x3 x4 x5 x6 x7 x8 (ix2 i k) = qB x0 x3 x4 x5 x6 i k := by
  pointwise [k0_pay140, pay25_at, st135, qB]

theorem st141 (i : Fin 256) (k : Fin 2048) : k0_pay141 x0 x1 x2 x3 x4 x5 x6 x7 x8 (ix2 i k) = kvB x0 x3 x4 x7 x8 i k := by
  pointwise [k0_pay141, pay26_at, ckv_at, st133, kvB, ckvB]

theorem st19 (i : Fin 256) (l : Fin 128) :
    k0_pay19 (F := Ideal) (k0_pay133 x0 x1 x2 x3 x4 x5 x6 x7 x8) (ix2 i l) = zB x0 x3 x4 i ⟨3840 + l.val, by omega⟩ := by
  pointwise [k0_pay19, st133]
  exact congrArg (zB x0 x3 x4 i) (Fin.ext (by change 3584 + (256 + l.val) = 3840 + l.val; omega))

theorem st130 (i : Fin 256) (l : Fin 128) : k0_pay130 x0 x1 x2 x3 x4 x5 x6 x7 x8 (ix2 i l) = x1 (ix2 i l) := by
  pointwise [k0_pay130, k0_pay4]

theorem st131 (i : Fin 256) (l : Fin 128) : k0_pay131 x0 x1 x2 x3 x4 x5 x6 x7 x8 (ix2 i l) = x2 (ix2 i l) := by
  pointwise [k0_pay131, k0_pay5]

theorem kr_eq : k0_pay22 (F := Ideal) (k0_pay130 x0 x1 x2 x3 x4 x5 x6 x7 x8) (k0_pay131 x0 x1 x2 x3 x4 x5 x6 x7 x8) (k0_pay136 x0 x1 x2 x3 x4 x5 x6 x7 x8) (k0_pay137 x0 x1 x2 x3 x4 x5 x6 x7 x8) (k0_pay138 x0 x1 x2 x3 x4 x5 x6 x7 x8)
    = turn (k0_pay130 x0 x1 x2 x3 x4 x5 x6 x7 x8) (k0_pay131 x0 x1 x2 x3 x4 x5 x6 x7 x8) (k0_pay19 (k0_pay133 x0 x1 x2 x3 x4 x5 x6 x7 x8)) := by
  unfold k0_pay136 k0_pay137 k0_pay138
  exact turn22 _ _ _

theorem kr_at (i : Fin 256) (l : Fin 128) :
    k0_pay22 (F := Ideal) (k0_pay130 x0 x1 x2 x3 x4 x5 x6 x7 x8) (k0_pay131 x0 x1 x2 x3 x4 x5 x6 x7 x8) (k0_pay136 x0 x1 x2 x3 x4 x5 x6 x7 x8) (k0_pay137 x0 x1 x2 x3 x4 x5 x6 x7 x8) (k0_pay138 x0 x1 x2 x3 x4 x5 x6 x7 x8) (ix2 i l)
      = krB x0 x1 x2 x3 x4 i l := by
  rw [kr_eq, turn_at]
  simp only [st130, st131, st19, krB]

end Cert.Proj
-- ==== Proof.ProjBlock.lean ====
module

public import Idealize.ShloMosaic.Lib.Pipeline.ValueKit
public import proofs.«01_k».proof.Proof.ProjPoint

@[expose] public section

set_option maxRecDepth 16384

noncomputable section

/-! The blocks that one grid point of the projection kernel writes, entry by entry. -/

namespace Cert.Proj

open Cert.ProjIdeal Cert.ProjIdeal.Gen Idealize.ShloMosaic Idealize.ShloMosaic.TcCoe Idealize.SL.Sem

variable (x0 : Vec Ideal S1x256x2048 .f32) (x1 x2 : Vec Ideal S256x128 .f32) (x3 : Vec Ideal S1x2048 .f32) (x4 : Vec Ideal S2048x3968 .bf16) (x5 : Vec Ideal S1x512 .f32) (x6 : Vec Ideal S512x2048 .bf16) (x7 : Vec Ideal S1x256 .f32) (x8 : Vec Ideal S256x2048 .bf16)

theorem z_congr (i : Fin 256) {a b : Fin 3968} (h : a.val = b.val) : zB x0 x3 x4 i a = zB x0 x3 x4 i b :=
  congrArg _ (Fin.ext h)

theorem q_congr (i : Fin 256) {a b : Fin 2048} (h : a.val = b.val) : qB x0 x3 x4 x5 x6 i a = qB x0 x3 x4 x5 x6 i b :=
  congrArg _ (Fin.ext h)

theorem kv_congr (i : Fin 256) {a b : Fin 2048} (h : a.val = b.val) : kvB x0 x3 x4 x7 x8 i a = kvB x0 x3 x4 x7 x8 i b :=
  congrArg _ (Fin.ext h)

/-- A value kept where `p` holds, in a place where `q` holds. -/
theorem pick_low (p q : Prop) [Decidable p] [Decidable q] (a b : EReal) (hq : q) (h : a = b) :
    Scalar.select (if p then 1#1 else 0#1) a 0 = if (p ↔ q) then b else 0 := by
  by_cases hp : p
  · rw [if_pos hp, if_pos (by tauto)]; exact h
  · rw [if_neg hp, if_neg (by tauto)]; rfl

/-- A value dropped where `p` holds, in a place where `q` fails. -/
theorem pick_high (p q : Prop) [Decidable p] [Decidable q] (a b : EReal) (hq : ¬ q) (h : a = b) :
    Scalar.select (if p then 1#1 else 0#1) 0 a = if (p ↔ q) then b else 0 := by
  by_cases hp : p
  · rw [if_pos hp, if_neg (by tauto)]; rfl
  · rw [if_neg hp, if_pos (by tauto)]; exact h

/-- The queries: head `h`, component `c`; the other component's lanes are zero. -/
theorem blk9 (h : Fin 8) (c : Fin 2) (i : Fin 256) (l : Fin 128) :
    out0_9 x0 x1 x2 x3 x4 x5 x6 x7 x8 (ix5 0 h c i l)
      = if (l.val < 64 ↔ c.val = 0) then zB x0 x3 x4 i ⟨128 * h.val + l.val, by omega⟩ * Ideal.ofBits .f32 0x3E38AA3B#32
        else 0 := by
  unfold out0_9
  canon_tiles x e
  all_goals
    change (h : ℕ) = _ at e1
    change (c : ℕ) = _ at e2
    change (i : ℕ) = _ at e3
    change (l : ℕ) = _ at e4
    have hx : x = ix5 0 0 0 i l := by blk_ext <;> omega
    rw [hx]
  all_goals pointwise [k0_pay1, k0_pay107, k0_pay108, k0_pay109, k0_pay110, k0_pay111, k0_pay112, k0_pay113, k0_pay114, k0_pay115, k0_pay119, k0_pay120, k0_pay121, k0_pay122, k0_pay123, k0_pay124, k0_pay125, k0_pay126, k0_pay127, k0_pay129, low_at, k0_pay118, k0_pay144, k0_pay117, st142, st143, st145]
  all_goals
    first
    | exact pick_low _ _ _ _ (by omega) (congrArg (fun z => z * _) (z_congr x0 x3 x4 i (by dsimp only; omega)))
    | exact pick_high _ _ _ _ (by omega) (congrArg (fun z => z * _) (z_congr x0 x3 x4 i (by dsimp only; omega)))

/-- A product of the normalized rows with 512 columns of the weights, stored as it is. -/
theorem pay94_at (h : FVec Ideal S256x2048 .bf16) (w : Vec Ideal S2048x512 .bf16) (i : Fin 256) (k : Fin 512) :
    k0_pay94 (F := Ideal) h w (ix2 i k) = ∑ x, h (ix2 i x) * w (ix2 x k) := by
  pointwise [k0_pay94]

theorem pay100_at (h : FVec Ideal S256x2048 .bf16) (w : Vec Ideal S2048x512 .bf16) (i : Fin 256) (k : Fin 512) :
    k0_pay100 (F := Ideal) h w (ix2 i k) = ∑ x, h (ix2 i x) * w (ix2 x k) := by
  pointwise [k0_pay100]

theorem pay87_at (h : FVec Ideal S256x2048 .bf16) (w : Vec Ideal S2048x512 .bf16) (i : Fin 256) (k : Fin 512) :
    k0_pay87 (F := Ideal) h w (ix2 i k) = ∑ x, h (ix2 i x) * w (ix2 x k) := by
  pointwise [k0_pay87]

theorem st_k (i : Fin 256) (k : Fin 512) :
    k0_pay94 (F := Ideal) (k0_pay128 x0 x1 x2 x3 x4 x5 x6 x7 x8) (View.ld x4 r0_39) (ix2 i k) = zB x0 x3 x4 i ⟨1024 + k.val, by omega⟩ := by
  pointwise [pay94_at, st128, zB]

theorem st_k2 (i : Fin 256) (k : Fin 512) :
    k0_pay100 (F := Ideal) (k0_pay128 x0 x1 x2 x3 x4 x5 x6 x7 x8) (View.ld x4 r0_40) (ix2 i k) = zB x0 x3 x4 i ⟨1536 + k.val, by omega⟩ := by
  pointwise [pay100_at, st128, zB]

theorem st_v2 (i : Fin 256) (k : Fin 512) :
    k0_pay87 (F := Ideal) (k0_pay128 x0 x1 x2 x3 x4 x5 x6 x7 x8) (View.ld x4 r0_37) (ix2 i k) = zB x0 x3 x4 i ⟨2560 + k.val, by omega⟩ := by
  pointwise [pay87_at, st128, zB]

/-- The keys. -/
theorem blk10 (i : Fin 256) (j : Fin 1024) :
    out0_10 x0 x1 x2 x3 x4 x5 x6 x7 x8 (ix3 0 i j) = zB x0 x3 x4 i ⟨1024 + j.val, by omega⟩ := by
  unfold out0_10
  canon_tiles x e
  · change (i : ℕ) = _ at e1
    change (j : ℕ) = _ at e2
    have hx : x = ix3 0 i ⟨j.val - 512, by omega⟩ := by blk_ext <;> omega
    rw [hx]
    pointwise [k0_pay101, k0_pay95, st_k, st_k2]
    exact z_congr x0 x3 x4 i (by dsimp only; omega)
  · change (i : ℕ) = _ at e1
    change (j : ℕ) = _ at e2
    have hx : x = ix3 0 i ⟨j.val, by omega⟩ := by blk_ext <;> omega
    rw [hx]
    pointwise [k0_pay101, k0_pay95, st_k, st_k2]
    try exact z_congr x0 x3 x4 i (by dsimp only; omega)

/-- The values. -/
theorem blk11 (i : Fin 256) (j : Fin 1024) :
    out0_11 x0 x1 x2 x3 x4 x5 x6 x7 x8 (ix3 0 i j) = zB x0 x3 x4 i ⟨2048 + j.val, by omega⟩ := by
  unfold out0_11
  canon_tiles x e
  · change (i : ℕ) = _ at e1
    change (j : ℕ) = _ at e2
    have hx : x = ix3 0 i ⟨j.val - 512, by omega⟩ := by blk_ext <;> omega
    rw [hx]
    pointwise [k0_pay88, k0_pay9, st134, st_v2]
    exact z_congr x0 x3 x4 i (by dsimp only; omega)
  · change (i : ℕ) = _ at e1
    change (j : ℕ) = _ at e2
    have hx : x = ix3 0 i ⟨j.val, by omega⟩ := by blk_ext <;> omega
    rw [hx]
    pointwise [k0_pay88, k0_pay9, st134, st_v2]
    try exact z_congr x0 x3 x4 i (by dsimp only; omega)

/-- The normalized latent. -/
theorem blk12 (i : Fin 256) (k : Fin 256) : out0_12 x0 x1 x2 x3 x4 x5 x6 x7 x8 (ix3 0 i k) = ckvB x0 x3 x4 x7 i k := by
  unfold out0_12
  canon_tiles x e
  change (i : ℕ) = _ at e1
  change (k : ℕ) = _ at e2
  have hx : x = ix3 0 i k := by blk_ext <;> omega
  rw [hx]
  pointwise [k0_pay18, ckv_at, st133, ckvB]

/-- The rotated shared key. -/
theorem blk13 (i : Fin 256) (l : Fin 64) :
    out0_13 x0 x1 x2 x3 x4 x5 x6 x7 x8 (ix3 0 i l) = krB x0 x1 x2 x3 x4 i ⟨l.val, by omega⟩ := by
  unfold out0_13
  canon_tiles x e
  change (i : ℕ) = _ at e1
  change (l : ℕ) = _ at e2
  have hx : x = ix3 0 i l := by blk_ext <;> omega
  rw [hx]
  pointwise [k0_pay23, kr_at]

/-- The keys by head. -/
theorem blk14 (h : Fin 8) (i : Fin 256) (l : Fin 128) :
    out0_14 x0 x1 x2 x3 x4 x5 x6 x7 x8 (ix4 0 h i l) = zB x0 x3 x4 i ⟨1024 + (128 * h.val + l.val), by omega⟩ := by
  unfold out0_14
  canon_tiles x e
  all_goals
    change (h : ℕ) = _ at e1
    change (i : ℕ) = _ at e2
    change (l : ℕ) = _ at e3
    have hx : x = ix4 0 0 i l := by blk_ext <;> omega
    rw [hx]
  all_goals pointwise [k0_pay96, k0_pay97, k0_pay98, k0_pay99, k0_pay102, k0_pay103, k0_pay104, k0_pay105, st_k, st_k2]
  all_goals exact z_congr x0 x3 x4 i (by dsimp only; omega)

/-- The values by head. -/
theorem blk15 (h : Fin 8) (i : Fin 256) (l : Fin 128) :
    out0_15 x0 x1 x2 x3 x4 x5 x6 x7 x8 (ix4 0 h i l) = zB x0 x3 x4 i ⟨2048 + (128 * h.val + l.val), by omega⟩ := by
  unfold out0_15
  canon_tiles x e
  all_goals
    change (h : ℕ) = _ at e1
    change (i : ℕ) = _ at e2
    change (l : ℕ) = _ at e3
    have hx : x = ix4 0 0 i l := by blk_ext <;> omega
    rw [hx]
  all_goals pointwise [k0_pay10, k0_pay11, k0_pay12, k0_pay13, k0_pay89, k0_pay90, k0_pay91, k0_pay92, k0_pay93, st134, st_v2]
  all_goals exact z_congr x0 x3 x4 i (by dsimp only; omega)

/-- The latent values by head. -/
theorem blk18 (h : Fin 8) (i : Fin 256) (l : Fin 128) :
    out0_18 x0 x1 x2 x3 x4 x5 x6 x7 x8 (ix4 0 h i l) = kvB x0 x3 x4 x7 x8 i ⟨256 * h.val + 128 + l.val, by omega⟩ := by
  unfold out0_18
  canon_tiles x e
  all_goals
    change (h : ℕ) = _ at e1
    change (i : ℕ) = _ at e2
    change (l : ℕ) = _ at e3
    have hx : x = ix4 0 0 i l := by blk_ext <;> omega
    rw [hx]
  all_goals pointwise [k0_pay36, k0_pay43, k0_pay52, k0_pay59, k0_pay66, k0_pay71, k0_pay80, k0_pay86, st141]
  all_goals exact kv_congr x0 x3 x4 x7 x8 i (by dsimp only; omega)

theorem st28 (i : Fin 256) (l : Fin 128) :
    k0_pay28 (F := Ideal) (k0_pay135 x0 x1 x2 x3 x4 x5 x6 x7 x8) (View.ld x6 r0_15) (ix2 i l) = qB x0 x3 x4 x5 x6 i ⟨1024 + l.val, by omega⟩ := by
  pointwise [k0_pay28, pay25_at, st135, qB]

theorem st27 (i : Fin 256) (l : Fin 128) :
    k0_pay27 (F := Ideal) (k0_pay135 x0 x1 x2 x3 x4 x5 x6 x7 x8) (View.ld x6 r0_15) (ix4 0 0 i l)
      = qB x0 x3 x4 x5 x6 i ⟨l.val, by omega⟩ * Ideal.ofBits .f32 0x3DD53B95#32 := by
  pointwise [k0_pay27, pay25_at, st135, qB]

/-- The latent queries: 128 lanes of content, then 128 rotated lanes, both scaled. -/
theorem blk16 (h : Fin 8) (i : Fin 256) (l : Fin 256) :
    out0_16 x0 x1 x2 x3 x4 x5 x6 x7 x8 (ix4 0 h i l)
      = (if hl : l.val < 128 then qB x0 x3 x4 x5 x6 i ⟨128 * h.val + l.val, by omega⟩
        else rot (fun l : Fin 128 => qB x0 x3 x4 x5 x6 i ⟨1024 + (128 * h.val + l.val), by omega⟩)
          (fun l => x1 (ix2 i l)) (fun l => x2 (ix2 i l)) ⟨l.val - 128, by omega⟩) * Ideal.ofBits .f32 0x3DD53B95#32 := by
  unfold out0_16
  canon_tiles x e
  all_goals
    change (h : ℕ) = _ at e1
    change (i : ℕ) = _ at e2
    change (l : ℕ) = _ at e3
  all_goals
    first
    | have hx : x = ix4 0 0 i ⟨l.val - 128, by omega⟩ := by blk_ext <;> omega
      rw [hx, dif_neg (by omega : ¬ l.val < 128)]
    | have hx : x = ix4 0 0 i ⟨l.val, by omega⟩ := by blk_ext <;> omega
      rw [hx, dif_pos (by omega : l.val < 128)]
  all_goals try simp only [turn33, turn39, turn49, turn55, turn63, turn68, turn77]
  all_goals try rw [turn83]
  all_goals pointwise [qturn_at, st130, st131, st27, st28, st140, k0_pay37, k0_pay38, k0_pay44, k0_pay45, k0_pay53, k0_pay54, k0_pay60, k0_pay61, k0_pay67, k0_pay72, k0_pay73, k0_pay81, k0_pay82]
  all_goals
    first
    | exact congrArg (fun z => z * _) (q_congr x0 x3 x4 x5 x6 i (by dsimp only; omega))
    | refine congrArg (fun z => z * _) (congrArg (fun y => rot y _ _ _) (funext fun l => q_congr x0 x3 x4 x5 x6 i ?_))
      dsimp only
      omega

theorem st139 (i : Fin 256) (l : Fin 128) : k0_pay139 x0 x1 x2 x3 x4 x5 x6 x7 x8 (ix2 i l) = krB x0 x1 x2 x3 x4 i l := by
  unfold k0_pay139 k0_pay24
  exact kr_at x0 x1 x2 x3 x4 x5 x6 x7 x8 i l

/-- The latent keys: 128 lanes of content, then the shared rotated key. -/
theorem blk17 (h : Fin 8) (i : Fin 256) (l : Fin 256) :
    out0_17 x0 x1 x2 x3 x4 x5 x6 x7 x8 (ix4 0 h i l)
      = if hl : l.val < 128 then kvB x0 x3 x4 x7 x8 i ⟨256 * h.val + l.val, by omega⟩
        else krB x0 x1 x2 x3 x4 i ⟨l.val - 128, by omega⟩ := by
  unfold out0_17
  canon_tiles x e
  all_goals
    change (h : ℕ) = _ at e1
    change (i : ℕ) = _ at e2
    change (l : ℕ) = _ at e3
  all_goals
    first
    | have hx : x = ix4 0 0 i ⟨l.val - 128, by omega⟩ := by blk_ext <;> omega
      rw [hx, dif_neg (by omega : ¬ l.val < 128)]
    | have hx : x = ix4 0 0 i ⟨l.val, by omega⟩ := by blk_ext <;> omega
      rw [hx, dif_pos (by omega : l.val < 128)]
  all_goals pointwise [k0_pay34, k0_pay35, k0_pay40, k0_pay41, k0_pay42, k0_pay50, k0_pay51, k0_pay56, k0_pay57, k0_pay58, k0_pay64, k0_pay65, k0_pay69, k0_pay70, k0_pay78, k0_pay79, k0_pay84, k0_pay85, st139, st141]
  all_goals exact kv_congr x0 x3 x4 x7 x8 i (by dsimp only; omega)

end Cert.Proj
-- ==== Proof.ProjRef.lean ====
module

public import Idealize.ShloMosaic.Lib.Pipeline.ValueKit
public import proofs.«01_k».proof.Proof.Gen.ProjRefIdeal.Run
public import proofs.«01_k».proof.Proof.ProjPoint

@[expose] public section

set_option maxRecDepth 16384

noncomputable section

/-! The reference of the projections, stage by stage, row by row. -/

namespace Cert.ProjRef

open Cert.ProjRefIdeal Cert.ProjRefIdeal.Gen Cert.ProjRefIdeal.Value Idealize.ShloMosaic Idealize.ShloMosaic.TcCoe Idealize.SL.Sem
open Cert.Proj (rms)

variable (a0 : FVec Ideal S8x64x2048 .f32) (a1 : FVec Ideal S1x2048 .f32) (a2 : FVec Ideal S1x2048x3904 .f32) (a3 : FVec Ideal S1x512 .f32) (a4 : FVec Ideal S1x512x1536 .f32) (a5 : FVec Ideal S1x256 .f32) (a6 : FVec Ideal S1x256x2048 .f32)

/-- The normalized frame of batch `b`, position `p`. -/
def hR (b : Fin 8) (p : Fin 64) (k : Fin 2048) : EReal :=
  rms (Ideal.ofBits .f32 0x45000000#32) (fun k => a0 (ix3 b p k)) (fun k => a1 (ix2 0 k)) k

/-- Its input projection. -/
def zR (b : Fin 8) (p : Fin 64) (j : Fin 3904) : EReal := ∑ k, hR a0 a1 b p k * a2 (ix3 0 k j)

/-- Its normalized query latent. -/
def cqR (b : Fin 8) (p : Fin 64) (k : Fin 512) : EReal :=
  rms (Ideal.ofBits .f32 0x44000000#32) (fun k : Fin 512 => zR a0 a1 a2 b p ⟨3072 + k.val, by omega⟩) (fun k => a3 (ix2 0 k)) k

/-- Its latent queries. -/
def qR (b : Fin 8) (p : Fin 64) (j : Fin 1536) : EReal := ∑ k, cqR a0 a1 a2 a3 b p k * a4 (ix3 0 k j)

/-- Its normalized key-value latent. -/
def ckvR (b : Fin 8) (p : Fin 64) (k : Fin 256) : EReal :=
  rms (Ideal.ofBits .f32 0x43800000#32) (fun k : Fin 256 => zR a0 a1 a2 b p ⟨3584 + k.val, by omega⟩) (fun k => a5 (ix2 0 k)) k

/-- Its latent keys and values. -/
def kvR (b : Fin 8) (p : Fin 64) (j : Fin 2048) : EReal := ∑ k, ckvR a0 a1 a2 a5 b p k * a6 (ix3 0 k j)

/-- The rotation angle of position `p` at frequency `f`. -/
def ang (p : Fin 64) (f : Fin 32) : EReal :=
  FloatOps.sitofp (F := Ideal) FTy.f32 (IntOp.addi (1024#32) (BitVec.ofNat 32 p.val)) *
    Ideal.pow (Ideal.ofBits FTy.f32 0x461C4000#32)
      (Ideal.div (-FloatOps.sitofp (F := Ideal) FTy.f32 (BitVec.ofNat 32 f.val)) (Ideal.ofBits FTy.f32 0x42000000#32))

/-- The rotary step of the reference: the first half minus, the second half plus. -/
def rope (y : Fin 64 → EReal) (p : Fin 64) (l : Fin 64) : EReal :=
  if h : l.val < 32 then y l * Ideal.cos (ang p ⟨l.val, h⟩) - y ⟨32 + l.val, by omega⟩ * Ideal.sin (ang p ⟨l.val, h⟩)
  else y ⟨l.val - 32, by omega⟩ * Ideal.sin (ang p ⟨l.val - 32, by omega⟩)
    + y ⟨32 + (l.val - 32), by omega⟩ * Ideal.cos (ang p ⟨l.val - 32, by omega⟩)

/-- The rotated shared key. -/
def krR (b : Fin 8) (p : Fin 64) (l : Fin 64) : EReal :=
  rope (fun l : Fin 64 => zR a0 a1 a2 b p ⟨3840 + l.val, by omega⟩) p l

/-- The queries by head and component, with zeros in the other component's lanes. -/
def outQd : FVec Ideal S1x8x2x512x128 .bf16 := fun y =>
  have hh : (y 1).val < 8 := (y 1).isLt
  have hr : (y 3).val < 512 := (y 3).isLt
  have hl : (y 4).val < 128 := (y 4).isLt
  if ((y 4).val < 64 ↔ (y 2).val = 0) then
    zR a0 a1 a2 ⟨(y 3).val / 64, by omega⟩ ⟨(y 3).val % 64, by omega⟩ ⟨(y 1).val * 128 + (y 4).val, by omega⟩
      * Ideal.ofBits .f32 0x3E38AA3B#32
  else 0

/-- `1024` columns of the input projection from column `o` on, row by row. -/
def outRows (o : ℕ) (ho : o + 1024 ≤ 3904) : FVec Ideal S1x512x1024 .f32 := fun y =>
  have hr : (y 1).val < 512 := (y 1).isLt
  have hj : (y 2).val < 1024 := (y 2).isLt
  zR a0 a1 a2 ⟨(y 1).val / 64, by omega⟩ ⟨(y 1).val % 64, by omega⟩ ⟨o + (y 2).val, by omega⟩

/-- The normalized key-value latents, row by row. -/
def outCkv : FVec Ideal S1x512x256 .f32 := fun y =>
  have hr : (y 1).val < 512 := (y 1).isLt
  ckvR a0 a1 a2 a5 ⟨(y 1).val / 64, by omega⟩ ⟨(y 1).val % 64, by omega⟩ ⟨(y 2).val, (y 2).isLt⟩

/-- The rotated shared keys, row by row. -/
def outKr : FVec Ideal S1x512x64 .f32 := fun y =>
  have hr : (y 1).val < 512 := (y 1).isLt
  krR a0 a1 a2 ⟨(y 1).val / 64, by omega⟩ ⟨(y 1).val % 64, by omega⟩ ⟨(y 2).val, (y 2).isLt⟩

/-- `1024` columns of the input projection from column `o` on, by head. -/
def outHeads (o : ℕ) (ho : o + 1024 ≤ 3904) : FVec Ideal S1x8x512x128 .bf16 := fun y =>
  have hh : (y 1).val < 8 := (y 1).isLt
  have hr : (y 2).val < 512 := (y 2).isLt
  have hl : (y 3).val < 128 := (y 3).isLt
  zR a0 a1 a2 ⟨(y 2).val / 64, by omega⟩ ⟨(y 2).val % 64, by omega⟩ ⟨o + ((y 1).val * 128 + (y 3).val), by omega⟩

/-- The latent queries by head: 128 lanes of content, 64 rotated lanes, 64 zeros; scaled. -/
def outQm : FVec Ideal S1x8x512x256 .bf16 := fun y =>
  have hh : (y 1).val < 8 := (y 1).isLt
  have hr : (y 2).val < 512 := (y 2).isLt
  have hl : (y 3).val < 256 := (y 3).isLt
  (if h : (y 3).val < 128 then
    qR a0 a1 a2 a3 a4 ⟨(y 2).val / 64, by omega⟩ ⟨(y 2).val % 64, by omega⟩ ⟨(y 1).val * 192 + (y 3).val, by omega⟩
  else if h' : (y 3).val - 128 < 64 then
    rope (fun l => qR a0 a1 a2 a3 a4 ⟨(y 2).val / 64, by omega⟩ ⟨(y 2).val % 64, by omega⟩
      ⟨(y 1).val * 192 + (128 + l.val), by omega⟩) ⟨(y 2).val % 64, by omega⟩ ⟨(y 3).val - 128, by omega⟩
  else 0) * Ideal.ofBits .f32 0x3DD53B95#32

/-- The latent keys by head: 128 lanes of content, the shared rotated key, 64 zeros. -/
def outKm : FVec Ideal S1x8x512x256 .bf16 := fun y =>
  have hh : (y 1).val < 8 := (y 1).isLt
  have hr : (y 2).val < 512 := (y 2).isLt
  have hl : (y 3).val < 256 := (y 3).isLt
  if h : (y 3).val < 128 then
    kvR a0 a1 a2 a5 a6 ⟨(y 2).val / 64, by omega⟩ ⟨(y 2).val % 64, by omega⟩ ⟨(y 1).val * 256 + (y 3).val, by omega⟩
  else if h' : (y 3).val - 128 < 64 then
    krR a0 a1 a2 ⟨(y 2).val / 64, by omega⟩ ⟨(y 2).val % 64, by omega⟩ ⟨(y 3).val - 128, by omega⟩
  else 0

/-- The latent values by head. -/
def outVm : FVec Ideal S1x8x512x128 .bf16 := fun y =>
  have hh : (y 1).val < 8 := (y 1).isLt
  have hr : (y 2).val < 512 := (y 2).isLt
  have hl : (y 3).val < 128 := (y 3).isLt
  kvR a0 a1 a2 a5 a6 ⟨(y 2).val / 64, by omega⟩ ⟨(y 2).val % 64, by omega⟩ ⟨(y 1).val * 256 + (128 + (y 3).val), by omega⟩

variable (V0 : Valuation τ sig (Elt Ideal))

theorem v18_at (b : Fin 8) (p : Fin 64) (j : Fin 3904) : res_main_v18 V0 (ix3 b p j) = zR (V0 (Proc.devRef .tc main_arg0)) (V0 (Proc.devRef .tc main_arg1)) (V0 (Proc.devRef .tc main_arg2)) b p j := by
  pointwise [res_main_v18, zR, hR, rms]

theorem v23_at (b : Fin 8) (p : Fin 64) (j : Fin 512) :
    res_main_v23 V0 (ix3 b p j) = zR (V0 (Proc.devRef .tc main_arg0)) (V0 (Proc.devRef .tc main_arg1)) (V0 (Proc.devRef .tc main_arg2)) b p ⟨3072 + j.val, by omega⟩ := by
  pointwise [res_main_v23, v18_at]

theorem v40_at (b : Fin 8) (p : Fin 64) (h : Fin 8) (d : Fin 192) :
    res_main_v40 V0 (ix4 b p h d) = qR (V0 (Proc.devRef .tc main_arg0)) (V0 (Proc.devRef .tc main_arg1)) (V0 (Proc.devRef .tc main_arg2)) (V0 (Proc.devRef .tc main_arg3)) (V0 (Proc.devRef .tc main_arg4)) b p ⟨h.val * 192 + d.val, by omega⟩ := by
  pointwise [res_main_v40, v23_at, qR, cqR, rms]

theorem v55_at (b : Fin 8) (p : Fin 64) (k : Fin 256) : res_main_v55 V0 (ix3 b p k) = ckvR (V0 (Proc.devRef .tc main_arg0)) (V0 (Proc.devRef .tc main_arg1)) (V0 (Proc.devRef .tc main_arg2)) (V0 (Proc.devRef .tc main_arg5)) b p k := by
  pointwise [res_main_v55, res_main_v41, v18_at, ckvR, rms]

theorem v89_at (b : Fin 8) (p : Fin 64) (h : Fin 8) (d : Fin 256) :
    res_main_v89 V0 (ix4 b p h d) = kvR (V0 (Proc.devRef .tc main_arg0)) (V0 (Proc.devRef .tc main_arg1)) (V0 (Proc.devRef .tc main_arg2)) (V0 (Proc.devRef .tc main_arg5)) (V0 (Proc.devRef .tc main_arg6)) b p ⟨h.val * 256 + d.val, by omega⟩ := by
  pointwise [res_main_v89, v55_at, kvR]

theorem v69_at (p : Fin 64) (f : Fin 32) : res_main_v69 V0 (ix2 p f) = ang p f := by
  pointwise [ang, res_main_v69, res_main_v2]

theorem v115_at (p : Fin 64) (f : Fin 32) : res_main_v115 V0 (ix2 p f) = ang p f := by
  pointwise [ang, res_main_v115, res_main_v2]

theorem v86_at (b : Fin 8) (p : Fin 64) (l : Fin 64) : res_main_v86 V0 (ix4 b p 0 l) = krR (V0 (Proc.devRef .tc main_arg0)) (V0 (Proc.devRef .tc main_arg1)) (V0 (Proc.devRef .tc main_arg2)) b p l := by
  pointwise [res_main_v86, res_main_v74, res_main_v75, res_main_v71, res_main_v73, res_main_v57, v18_at, v69_at, krR, rope]

theorem v103_at (b : Fin 8) (p : Fin 64) (h : Fin 8) (l : Fin 64) :
    res_main_v103 V0 (ix4 b p h l) = qR (V0 (Proc.devRef .tc main_arg0)) (V0 (Proc.devRef .tc main_arg1)) (V0 (Proc.devRef .tc main_arg2)) (V0 (Proc.devRef .tc main_arg3)) (V0 (Proc.devRef .tc main_arg4)) b p ⟨h.val * 192 + (128 + l.val), by omega⟩ := by
  pointwise [res_main_v103, v40_at]

theorem zR_congr (b : Fin 8) (p : Fin 64) {i j : Fin 3904} (h : i.val = j.val) : zR a0 a1 a2 b p i = zR a0 a1 a2 b p j :=
  congrArg _ (Fin.ext h)

set_option maxHeartbeats 1000000 in
/-- The run of the reference, its results as the row functions above. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
        r.2.mem ((c.tc : Thread nD τ).loc main_v142) = outQd (StableHlo.launchContents m c (Proc.devRef .tc main_arg0)) (StableHlo.launchContents m c (Proc.devRef .tc main_arg1)) (StableHlo.launchContents m c (Proc.devRef .tc main_arg2))
      ∧ r.2.mem ((c.tc : Thread nD τ).loc main_v143) = outRows (StableHlo.launchContents m c (Proc.devRef .tc main_arg0)) (StableHlo.launchContents m c (Proc.devRef .tc main_arg1)) (StableHlo.launchContents m c (Proc.devRef .tc main_arg2)) 1024 (by decide)
      ∧ r.2.mem ((c.tc : Thread nD τ).loc main_v144) = outRows (StableHlo.launchContents m c (Proc.devRef .tc main_arg0)) (StableHlo.launchContents m c (Proc.devRef .tc main_arg1)) (StableHlo.launchContents m c (Proc.devRef .tc main_arg2)) 2048 (by decide)
      ∧ r.2.mem ((c.tc : Thread nD τ).loc main_v145) = outCkv (StableHlo.launchContents m c (Proc.devRef .tc main_arg0)) (StableHlo.launchContents m c (Proc.devRef .tc main_arg1)) (StableHlo.launchContents m c (Proc.devRef .tc main_arg2)) (StableHlo.launchContents m c (Proc.devRef .tc main_arg5))
      ∧ r.2.mem ((c.tc : Thread nD τ).loc main_v147) = outKr (StableHlo.launchContents m c (Proc.devRef .tc main_arg0)) (StableHlo.launchContents m c (Proc.devRef .tc main_arg1)) (StableHlo.launchContents m c (Proc.devRef .tc main_arg2))
      ∧ r.2.mem ((c.tc : Thread nD τ).loc main_v152) = outHeads (StableHlo.launchContents m c (Proc.devRef .tc main_arg0)) (StableHlo.launchContents m c (Proc.devRef .tc main_arg1)) (StableHlo.launchContents m c (Proc.devRef .tc main_arg2)) 1024 (by decide)
      ∧ r.2.mem ((c.tc : Thread nD τ).loc main_v157) = outHeads (StableHlo.launchContents m c (Proc.devRef .tc main_arg0)) (StableHlo.launchContents m c (Proc.devRef .tc main_arg1)) (StableHlo.launchContents m c (Proc.devRef .tc main_arg2)) 2048 (by decide)
      ∧ r.2.mem ((c.tc : Thread nD τ).loc main_v161) = outQm (StableHlo.launchContents m c (Proc.devRef .tc main_arg0)) (StableHlo.launchContents m c (Proc.devRef .tc main_arg1)) (StableHlo.launchContents m c (Proc.devRef .tc main_arg2)) (StableHlo.launchContents m c (Proc.devRef .tc main_arg3)) (StableHlo.launchContents m c (Proc.devRef .tc main_arg4))
      ∧ r.2.mem ((c.tc : Thread nD τ).loc main_v165) = outKm (StableHlo.launchContents m c (Proc.devRef .tc main_arg0)) (StableHlo.launchContents m c (Proc.devRef .tc main_arg1)) (StableHlo.launchContents m c (Proc.devRef .tc main_arg2)) (StableHlo.launchContents m c (Proc.devRef .tc main_arg5)) (StableHlo.launchContents m c (Proc.devRef .tc main_arg6))
      ∧ r.2.mem ((c.tc : Thread nD τ).loc main_v170) = outVm (StableHlo.launchContents m c (Proc.devRef .tc main_arg0)) (StableHlo.launchContents m c (Proc.devRef .tc main_arg1)) (StableHlo.launchContents m c (Proc.devRef .tc main_arg2)) (StableHlo.launchContents m c (Proc.devRef .tc main_arg5)) (StableHlo.launchContents m c (Proc.devRef .tc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h1 c => ⟨(h1 c).1.trans ?_, (h1 c).2.1.trans ?_, (h1 c).2.2.1.trans ?_, (h1 c).2.2.2.1.trans ?_, (h1 c).2.2.2.2.1.trans ?_, (h1 c).2.2.2.2.2.1.trans ?_, (h1 c).2.2.2.2.2.2.1.trans ?_, (h1 c).2.2.2.2.2.2.2.1.trans ?_, (h1 c).2.2.2.2.2.2.2.2.1.trans ?_, (h1 c).2.2.2.2.2.2.2.2.2.1.trans ?_, (h1 c).2.2.2.2.2.2.2.2.2.2⟩) (run (F := Ideal) m ρ)
  · refine funext fun y => ?_
    obtain ⟨q, h, d, r, l, rfl⟩ : ∃ (q : Fin 1) (h : Fin 8) (d : Fin 2) (r : Fin 512) (l : Fin 128), y = ix5 q h d r l :=
      ⟨y 0, y 1, y 2, y 3, y 4, by blk_ext⟩
    rw [Fin.eq_zero q]; clear h1
    pointwise [outQd, v18_at, v40_at, v55_at, v86_at, v89_at, v103_at, v115_at, res_main_v21, res_main_v22, res_main_v90, res_main_v92, res_main_v117, res_main_v119, res_main_v120, res_main_v121, rope]
    by_cases hd : d.val < 1
    · have hd0 : d.val = 0 := by omega
      by_cases hl : l.val < 64
      · simp only [hd0, hl, dif_pos, if_true, iff_self, zero_lt_one]
      · simp only [hd0, hl, dif_pos, dite_false, iff_true, if_false, zero_lt_one]
    · have hd0 : ¬ d.val = 0 := by omega
      by_cases hl : l.val < 64
      · simp only [hd, hd0, hl, dite_true, dite_false, iff_false, not_true, if_false]
      · simp only [hd, hd0, hl, dite_false, iff_self, if_true]
        exact congrArg (fun z => z * Ideal.ofBits .f32 0x3E38AA3B#32) (zR_congr _ _ _ _ _ (by dsimp only; omega))
  · refine funext fun y => ?_
    obtain ⟨q, r, l, rfl⟩ : ∃ (q : Fin 1) (r : Fin 512) (l : Fin 1024), y = ix3 q r l :=
      ⟨y 0, y 1, y 2, by blk_ext⟩
    rw [Fin.eq_zero q]; clear h1
    pointwise [outRows, v18_at, v40_at, v55_at, v86_at, v89_at, v103_at, v115_at, res_main_v21, res_main_v22, res_main_v90, res_main_v92, res_main_v117, res_main_v119, res_main_v120, res_main_v121, rope]
  · refine funext fun y => ?_
    obtain ⟨q, r, l, rfl⟩ : ∃ (q : Fin 1) (r : Fin 512) (l : Fin 1024), y = ix3 q r l :=
      ⟨y 0, y 1, y 2, by blk_ext⟩
    rw [Fin.eq_zero q]; clear h1
    pointwise [outRows, v18_at, v40_at, v55_at, v86_at, v89_at, v103_at, v115_at, res_main_v21, res_main_v22, res_main_v90, res_main_v92, res_main_v117, res_main_v119, res_main_v120, res_main_v121, rope]
  · refine funext fun y => ?_
    obtain ⟨q, r, l, rfl⟩ : ∃ (q : Fin 1) (r : Fin 512) (l : Fin 256), y = ix3 q r l :=
      ⟨y 0, y 1, y 2, by blk_ext⟩
    rw [Fin.eq_zero q]; clear h1
    pointwise [outCkv, v18_at, v40_at, v55_at, v86_at, v89_at, v103_at, v115_at, res_main_v21, res_main_v22, res_main_v90, res_main_v92, res_main_v117, res_main_v119, res_main_v120, res_main_v121, rope]
  · refine funext fun y => ?_
    obtain ⟨q, r, l, rfl⟩ : ∃ (q : Fin 1) (r : Fin 512) (l : Fin 64), y = ix3 q r l :=
      ⟨y 0, y 1, y 2, by blk_ext⟩
    rw [Fin.eq_zero q]; clear h1
    pointwise [outKr, v18_at, v40_at, v55_at, v86_at, v89_at, v103_at, v115_at, res_main_v21, res_main_v22, res_main_v90, res_main_v92, res_main_v117, res_main_v119, res_main_v120, res_main_v121, rope]
  · refine funext fun y => ?_
    obtain ⟨q, h, r, l, rfl⟩ : ∃ (q : Fin 1) (h : Fin 8) (r : Fin 512) (l : Fin 128), y = ix4 q h r l :=
      ⟨y 0, y 1, y 2, y 3, by blk_ext⟩
    rw [Fin.eq_zero q]; clear h1
    pointwise [outHeads, v18_at, v40_at, v55_at, v86_at, v89_at, v103_at, v115_at, res_main_v21, res_main_v22, res_main_v90, res_main_v92, res_main_v117, res_main_v119, res_main_v120, res_main_v121, rope]
  · refine funext fun y => ?_
    obtain ⟨q, h, r, l, rfl⟩ : ∃ (q : Fin 1) (h : Fin 8) (r : Fin 512) (l : Fin 128), y = ix4 q h r l :=
      ⟨y 0, y 1, y 2, y 3, by blk_ext⟩
    rw [Fin.eq_zero q]; clear h1
    pointwise [outHeads, v18_at, v40_at, v55_at, v86_at, v89_at, v103_at, v115_at, res_main_v21, res_main_v22, res_main_v90, res_main_v92, res_main_v117, res_main_v119, res_main_v120, res_main_v121, rope]
  · refine funext fun y => ?_
    obtain ⟨q, h, r, l, rfl⟩ : ∃ (q : Fin 1) (h : Fin 8) (r : Fin 512) (l : Fin 256), y = ix4 q h r l :=
      ⟨y 0, y 1, y 2, y 3, by blk_ext⟩
    rw [Fin.eq_zero q]; clear h1
    pointwise [outQm, v18_at, v40_at, v55_at, v86_at, v89_at, v103_at, v115_at, res_main_v21, res_main_v22, res_main_v90, res_main_v92, res_main_v117, res_main_v119, res_main_v120, res_main_v121, rope]
  · refine funext fun y => ?_
    obtain ⟨q, h, r, l, rfl⟩ : ∃ (q : Fin 1) (h : Fin 8) (r : Fin 512) (l : Fin 256), y = ix4 q h r l :=
      ⟨y 0, y 1, y 2, y 3, by blk_ext⟩
    rw [Fin.eq_zero q]; clear h1
    pointwise [outKm, v18_at, v40_at, v55_at, v86_at, v89_at, v103_at, v115_at, res_main_v21, res_main_v22, res_main_v90, res_main_v92, res_main_v117, res_main_v119, res_main_v120, res_main_v121, rope]
  · refine funext fun y => ?_
    obtain ⟨q, h, r, l, rfl⟩ : ∃ (q : Fin 1) (h : Fin 8) (r : Fin 512) (l : Fin 128), y = ix4 q h r l :=
      ⟨y 0, y 1, y 2, y 3, by blk_ext⟩
    rw [Fin.eq_zero q]; clear h1
    pointwise [outVm, v18_at, v40_at, v55_at, v86_at, v89_at, v103_at, v115_at, res_main_v21, res_main_v22, res_main_v90, res_main_v92, res_main_v117, res_main_v119, res_main_v120, res_main_v121, rope]

end Cert.ProjRef
-- ==== Proof.ProjRead.lean ====
module

public import Idealize.ShloMosaic.Lib.Pipeline.ValueKit
public import Idealize.ShloMosaic.Lib.Pipeline.ReadBack
public import proofs.«01_k».proof.Proof.ProjHost
public import proofs.«01_k».proof.Proof.ProjBlock
public import proofs.«01_k».proof.Proof.ProjRef

@[expose] public section

set_option maxRecDepth 16384

noncomputable section

/-! What the projection kernel reads at a grid point: rows of the arguments, the rotation tables, the padded weights. -/

namespace Cert.Proj

open Cert.ProjIdeal Cert.ProjIdeal.Gen Idealize.ShloMosaic Idealize.ShloMosaic.TcCoe Idealize.SL.Sem
open Cert.ProjRef (ang)

variable (m : (ℓ : Loc nD τ sig) → Buf (Elt Ideal) ℓ)

theorem idx : ∀ t : Fin cfg0.N, win0_0.index t = ![0, t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![0, 0, 0, t.val, 0] ∧ win0_10.index t = ![0, t.val, 0]
    ∧ win0_11.index t = ![0, t.val, 0] ∧ win0_12.index t = ![0, t.val, 0] ∧ win0_13.index t = ![0, t.val, 0]
    ∧ win0_14.index t = ![0, 0, t.val, 0] ∧ win0_15.index t = ![0, 0, t.val, 0] ∧ win0_16.index t = ![0, 0, t.val, 0]
    ∧ win0_17.index t = ![0, 0, t.val, 0] ∧ win0_18.index t = ![0, 0, t.val, 0] :=
  (by decide +kernel : ∀ t : Fin grid0.N, _)

/-- One layer of a weight array. -/
theorem cast6 (x : FVec Ideal S1x256x2048 .f32) (k : Fin 256) (j : Fin 2048) :
    (shapeCast S256x2048 x shapeCasts_S1x256x2048_S256x2048 : FVec Ideal S256x2048 .f32) (ix2 k j) = x (ix3 0 k j) := by
  pointwise

theorem cast2 (x : FVec Ideal S1x2048x3904 .f32) (k : Fin 2048) (j : Fin 3904) :
    (shapeCast S2048x3904 x shapeCasts_S1x2048x3904_S2048x3904 : FVec Ideal S2048x3904 .f32) (ix2 k j) = x (ix3 0 k j) := by
  pointwise

/-- The rows of all sequences in one array. -/
theorem cast0 (x : FVec Ideal S8x64x2048 .f32) (k : Fin 512) (j : Fin 2048) :
    (shapeCast S1x512x2048 x shapeCasts_S8x64x2048_S1x512x2048 : FVec Ideal S1x512x2048 .f32) (ix3 0 k j)
      = x (ix3 ⟨k / 64, by omega⟩ ⟨k % 64, by omega⟩ j) := by
  pointwise

theorem zero_word : (FloatOps.sitofp (F := Ideal) FTy.f32 0#32 : EReal) = 0 := by
  show (((0#32).toInt : ℝ) : EReal) = 0
  simp

theorem angles_at (r : Fin 512) (f : Fin 32) : angles (ix2 r f) = ang ⟨r % 64, by omega⟩ f := by
  unfold angles ang
  pointwise

theorem blank_at (r : Fin 512) (f : Fin 32) : (blank (ix2 r f) : EReal) = 0 := by
  unfold blank
  pointwise

theorem v41_at (c : Dev nD) (r : Fin 512) (l : Fin 128) :
    (V m c main_v41 : FVec Ideal S512x128 .f32) (ix2 r l) = (if h : l.val < 32 then Ideal.cos (ang ⟨r % 64, by omega⟩ ⟨l.val, h⟩)
      else if h' : l.val < 64 then Ideal.cos (ang ⟨r % 64, by omega⟩ ⟨l.val - 32, by omega⟩) else 0 : EReal) := by
  rw [v41_eq]
  by_cases h1 : l.val < 32
  · pointwise [angles_at, blank_at, h1]
  · by_cases h2 : l.val < 64
    · have h3 : l.val - 32 < 32 := by omega
      pointwise [angles_at, blank_at, h1, h2, h3]
    · have h3 : ¬ l.val - 32 < 32 := by omega
      pointwise [angles_at, blank_at, h1, h2, h3]
      split_ifs <;> rfl

theorem v43_at (c : Dev nD) (r : Fin 512) (l : Fin 128) :
    (V m c main_v43 : FVec Ideal S512x128 .f32) (ix2 r l) = (if h : l.val < 32 then - Ideal.sin (ang ⟨r % 64, by omega⟩ ⟨l.val, h⟩)
      else if h' : l.val < 64 then Ideal.sin (ang ⟨r % 64, by omega⟩ ⟨l.val - 32, by omega⟩) else 0 : EReal) := by
  rw [v43_eq]
  by_cases h1 : l.val < 32
  · pointwise [angles_at, blank_at, h1]
  · by_cases h2 : l.val < 64
    · have h3 : l.val - 32 < 32 := by omega
      pointwise [angles_at, blank_at, h1, h2, h3]
    · have h3 : ¬ l.val - 32 < 32 := by omega
      pointwise [angles_at, blank_at, h1, h2, h3]
      split_ifs <;> rfl

theorem pad_at (x : FVec Ideal S2048x3904 .f32) (v : FVec Ideal S_ .f32) (k : Fin 2048) (j : Fin 3968) :
    (pad S2048x3968 ![0, 0] ![0, 64] ![0, 0] x v pads_S2048x3904_S2048x3968_000_0640 h_S_ : FVec Ideal S2048x3968 .f32) (ix2 k j)
      = if h : j.val < 3904 then x (ix2 k ⟨j.val, h⟩) else v ix0 := by
  pointwise
  split_ifs
  · rfl
  · exact congrArg v (Subsingleton.elim _ _)

theorem v2_at (c : Dev nD) (k : Fin 2048) (j : Fin 3968) :
    (V m c main_v2 : FVec Ideal S2048x3968 .bf16) (ix2 k j) = (if h : j.val < 3904 then m ((c.tc : Thread nD τ).loc main_arg2) (ix3 0 k ⟨j.val, h⟩) else 0 : EReal) := by
  rw [v2_eq]
  refine (pad_at _ _ k j).trans ?_
  split_ifs
  · exact cast2 _ _ _
  · exact zero_word

theorem v11_at (c : Dev nD) (k : Fin 512) (j : Fin 2048) :
    (V m c main_v11 : FVec Ideal S512x2048 .bf16) (ix2 k j) = (if h : j.val < 1024 then m ((c.tc : Thread nD τ).loc main_arg4) (ix3 0 k ⟨j.val / 128 * 192 + j.val % 128, by omega⟩)
      else if h' : (j.val - 1024) % 128 < 64 then m ((c.tc : Thread nD τ).loc main_arg4) (ix3 0 k ⟨(j.val - 1024) / 128 * 192 + (128 + (j.val - 1024) % 128), by omega⟩) else 0 : EReal) := by
  rw [v11_eq]
  by_cases h1 : j.val < 1024
  · pointwise [perHead, h1]
  · have h3 : (j.val - 1024) / 128 < 8 := by omega
    by_cases h2 : (j.val - 1024) % 128 < 64
    · pointwise [perHead, h1, h2, h3]
    · pointwise [perHead, h1, h2, h3, zero_word]

theorem v44_at (c : Dev nD) (r : Fin 512) (k : Fin 2048) :
    (V m c main_v44 : FVec Ideal S1x512x2048 .f32) (ix3 0 r k) = m ((c.tc : Thread nD τ).loc main_arg0) (ix3 ⟨r / 64, by omega⟩ ⟨r % 64, by omega⟩ k) := by
  rw [v44_eq]
  exact cast0 _ r k

theorem v15_at (c : Dev nD) (k : Fin 2048) : (V m c main_v15 : FVec Ideal S1x2048 .f32) (ix2 0 k) = m ((c.tc : Thread nD τ).loc main_arg1) (ix2 0 k) := by
  rw [v15_eq]
  pointwise

theorem read3 (c : Dev nD) (t : Fin cfg0.N) (k : Fin 2048) :
    iblk m c 3 t (ix2 0 k) = V m c main_v15 (ix2 0 k) := by
  unfold iblk
  exact congrArg (V m c main_v15) (by blk_ext [idx t] : (win0_3.blk t).view.emb (ix2 0 k) = ix2 0 k)

theorem v17_at (c : Dev nD) (k : Fin 512) : (V m c main_v17 : FVec Ideal S1x512 .f32) (ix2 0 k) = m ((c.tc : Thread nD τ).loc main_arg3) (ix2 0 k) := by
  rw [v17_eq]
  pointwise

theorem read5 (c : Dev nD) (t : Fin cfg0.N) (k : Fin 512) :
    iblk m c 5 t (ix2 0 k) = V m c main_v17 (ix2 0 k) := by
  unfold iblk
  exact congrArg (V m c main_v17) (by blk_ext [idx t] : (win0_5.blk t).view.emb (ix2 0 k) = ix2 0 k)

theorem v19_at (c : Dev nD) (k : Fin 256) : (V m c main_v19 : FVec Ideal S1x256 .f32) (ix2 0 k) = m ((c.tc : Thread nD τ).loc main_arg5) (ix2 0 k) := by
  rw [v19_eq]
  pointwise

theorem read7 (c : Dev nD) (t : Fin cfg0.N) (k : Fin 256) :
    iblk m c 7 t (ix2 0 k) = V m c main_v19 (ix2 0 k) := by
  unfold iblk
  exact congrArg (V m c main_v19) (by blk_ext [idx t] : (win0_7.blk t).view.emb (ix2 0 k) = ix2 0 k)

theorem v13_at (c : Dev nD) (k : Fin 256) (j : Fin 2048) : (V m c main_v13 : FVec Ideal S256x2048 .bf16) (ix2 k j) = m ((c.tc : Thread nD τ).loc main_arg6) (ix3 0 k j) := by
  rw [v13_eq]
  exact cast6 _ k j

theorem read8 (c : Dev nD) (t : Fin cfg0.N) (k : Fin 256) (j : Fin 2048) :
    iblk m c 8 t (ix2 k j) = V m c main_v13 (ix2 k j) := by
  unfold iblk
  exact congrArg (V m c main_v13) (by blk_ext [idx t] : (win0_8.blk t).view.emb (ix2 k j) = ix2 k j)

theorem read0 (c : Dev nD) (t : Fin cfg0.N) (i : Fin 256) (k : Fin 2048) (r : Fin 512) (hr : r.val = t.val * 256 + i) :
    iblk m c 0 t (ix3 0 i k) = V m c main_v44 (ix3 0 r k) := by
  unfold iblk
  exact congrArg (V m c main_v44) (by blk_ext [idx t] : (win0_0.blk t).view.emb (ix3 0 i k) = ix3 0 r k)

theorem read1 (c : Dev nD) (t : Fin cfg0.N) (i : Fin 256) (l : Fin 128) (r : Fin 512) (hr : r.val = t.val * 256 + i) :
    iblk m c 1 t (ix2 i l) = V m c main_v41 (ix2 r l) := by
  unfold iblk
  exact congrArg (V m c main_v41) (by blk_ext [idx t] : (win0_1.blk t).view.emb (ix2 i l) = ix2 r l)

theorem read2 (c : Dev nD) (t : Fin cfg0.N) (i : Fin 256) (l : Fin 128) (r : Fin 512) (hr : r.val = t.val * 256 + i) :
    iblk m c 2 t (ix2 i l) = V m c main_v43 (ix2 r l) := by
  unfold iblk
  exact congrArg (V m c main_v43) (by blk_ext [idx t] : (win0_2.blk t).view.emb (ix2 i l) = ix2 r l)

theorem read4 (c : Dev nD) (t : Fin cfg0.N) (k : Fin 2048) (j : Fin 3968) :
    iblk m c 4 t (ix2 k j) = V m c main_v2 (ix2 k j) := by
  unfold iblk
  exact congrArg (V m c main_v2) (by blk_ext [idx t] : (win0_4.blk t).view.emb (ix2 k j) = ix2 k j)

theorem read6 (c : Dev nD) (t : Fin cfg0.N) (k : Fin 512) (j : Fin 2048) :
    iblk m c 6 t (ix2 k j) = V m c main_v11 (ix2 k j) := by
  unfold iblk
  exact congrArg (V m c main_v11) (by blk_ext [idx t] : (win0_6.blk t).view.emb (ix2 k j) = ix2 k j)

end Cert.Proj
-- ==== Proof.ProjValue.lean ====
module

public import Idealize.ShloMosaic.Lib.Pipeline.ValueKit
public import Idealize.ShloMosaic.Lib.Pipeline.ReadBack
public import proofs.«01_k».proof.Proof.ProjRead

@[expose] public section

set_option maxRecDepth 16384

noncomputable section

/-! The projection kernel: the arrays it leaves are the reference's. -/

namespace Cert.Proj

open Cert.ProjIdeal Cert.ProjIdeal.Gen Idealize.ShloMosaic Idealize.ShloMosaic.TcCoe Idealize.SL.Sem
open Cert.ProjRef (ang rope hR zR cqR qR ckvR kvR krR outQd outRows outCkv outKr outHeads outQm outKm outVm)

/-- The kernel's rotary step on the first 64 lanes, with its signed sine table, is the reference's. -/
theorem rot_rope (y ct st : Fin 128 → EReal) (y' : Fin 64 → EReal) (p : Fin 64)
    (hy : ∀ l : Fin 64, y ⟨l.val, by omega⟩ = y' l)
    (hc : ∀ l : Fin 128, ct l = if h : l.val < 32 then Ideal.cos (ang p ⟨l.val, h⟩)
      else if h' : l.val < 64 then Ideal.cos (ang p ⟨l.val - 32, by omega⟩) else 0)
    (hs : ∀ l : Fin 128, st l = if h : l.val < 32 then - Ideal.sin (ang p ⟨l.val, h⟩)
      else if h' : l.val < 64 then Ideal.sin (ang p ⟨l.val - 32, by omega⟩) else 0) (l : Fin 64) :
    rot y ct st ⟨l.val, by omega⟩ = rope y' p l := by
  have hl := l.isLt
  unfold rot rope
  rw [hc, hs]
  by_cases h : l.val < 32
  · have h1 : l.val % 64 < 32 := by omega
    have e : (⟨(l.val + 128 - 96) % 128, by omega⟩ : Fin 128) = ⟨(⟨32 + l.val, by omega⟩ : Fin 64).val, by omega⟩ := by
      ext; dsimp only; omega
    simp only [h, h1, dif_pos, if_pos]
    rw [e, hy, hy, mul_neg, sub_eq_add_neg]
  · have h1 : ¬ l.val % 64 < 32 := by omega
    have e : (⟨(l.val + 128 - 32) % 128, by omega⟩ : Fin 128) = ⟨(⟨l.val - 32, by omega⟩ : Fin 64).val, by omega⟩ := by
      ext; dsimp only; omega
    have e' : (⟨32 + (l.val - 32), by omega⟩ : Fin 64) = l := by ext; dsimp only; omega
    simp only [h, h1, hl, dif_pos, dif_neg, if_neg, not_false_iff]
    rw [e, hy, hy, e', add_comm]

/-- Its lanes past 64 are zero: both tables are. -/
theorem rot_blank (y ct st : Fin 128 → EReal) (l : Fin 128) (hc : ct l = 0) (hs : st l = 0) : rot y ct st l = 0 := by
  unfold rot
  rw [hc, hs, mul_zero, mul_zero, add_zero]

variable (m : (ℓ : Loc nD τ sig) → Buf (Elt Ideal) ℓ)

theorem h_val (c : Dev nD) (t : Fin cfg0.N) (i : Fin 256) (r : Fin 512) (hr : r.val = t.val * 256 + i) (k : Fin 2048) : hB (iblk m c 0 t) (iblk m c 3 t) i k = hR (m ((c.tc : Thread nD τ).loc main_arg0)) (m ((c.tc : Thread nD τ).loc main_arg1)) ⟨r / 64, by omega⟩ ⟨r % 64, by omega⟩ k := by
  unfold hB hR
  exact congrArg₂ (fun a b => rms _ a b k) (funext fun k => (read0 m c t i k r hr).trans (v44_at m c r k))
    (funext fun k => (read3 m c t k).trans (v15_at m c k))

theorem z_val (c : Dev nD) (t : Fin cfg0.N) (i : Fin 256) (r : Fin 512) (hr : r.val = t.val * 256 + i) (j : Fin 3904) :
    zB (iblk m c 0 t) (iblk m c 3 t) (iblk m c 4 t) i ⟨j.val, by omega⟩ = zR (m ((c.tc : Thread nD τ).loc main_arg0)) (m ((c.tc : Thread nD τ).loc main_arg1)) (m ((c.tc : Thread nD τ).loc main_arg2)) ⟨r / 64, by omega⟩ ⟨r % 64, by omega⟩ j := by
  unfold zB zR
  refine Finset.sum_congr rfl fun k _ => ?_
  rw [h_val m c t i r hr, read4, v2_at, dif_pos j.isLt]

theorem z_blank (c : Dev nD) (t : Fin cfg0.N) (i : Fin 256) (j : Fin 3968) (hj : 3904 ≤ j.val) :
    zB (iblk m c 0 t) (iblk m c 3 t) (iblk m c 4 t) i j = 0 := by
  unfold zB
  refine Finset.sum_eq_zero fun k _ => ?_
  rw [read4, v2_at, dif_neg (by omega), mul_zero]

theorem cq_val (c : Dev nD) (t : Fin cfg0.N) (i : Fin 256) (r : Fin 512) (hr : r.val = t.val * 256 + i) (k : Fin 512) : cqB (iblk m c 0 t) (iblk m c 3 t) (iblk m c 4 t) (iblk m c 5 t) i k = cqR (m ((c.tc : Thread nD τ).loc main_arg0)) (m ((c.tc : Thread nD τ).loc main_arg1)) (m ((c.tc : Thread nD τ).loc main_arg2)) (m ((c.tc : Thread nD τ).loc main_arg3)) ⟨r / 64, by omega⟩ ⟨r % 64, by omega⟩ k := by
  unfold cqB cqR
  have e : ∀ k : Fin 512, zB (iblk m c 0 t) (iblk m c 3 t) (iblk m c 4 t) i ⟨3072 + k.val, by omega⟩ = zR (m ((c.tc : Thread nD τ).loc main_arg0)) (m ((c.tc : Thread nD τ).loc main_arg1)) (m ((c.tc : Thread nD τ).loc main_arg2)) ⟨r / 64, by omega⟩ ⟨r % 64, by omega⟩ ⟨3072 + k.val, by omega⟩ :=
    fun k => z_val m c t i r hr ⟨3072 + k.val, by omega⟩
  exact congrArg₂ (fun a b => rms _ a b k) (funext e) (funext fun k => (read5 m c t k).trans (v17_at m c k))

theorem ckv_val (c : Dev nD) (t : Fin cfg0.N) (i : Fin 256) (r : Fin 512) (hr : r.val = t.val * 256 + i) (k : Fin 256) : ckvB (iblk m c 0 t) (iblk m c 3 t) (iblk m c 4 t) (iblk m c 7 t) i k = ckvR (m ((c.tc : Thread nD τ).loc main_arg0)) (m ((c.tc : Thread nD τ).loc main_arg1)) (m ((c.tc : Thread nD τ).loc main_arg2)) (m ((c.tc : Thread nD τ).loc main_arg5)) ⟨r / 64, by omega⟩ ⟨r % 64, by omega⟩ k := by
  unfold ckvB ckvR
  have e : ∀ k : Fin 256, zB (iblk m c 0 t) (iblk m c 3 t) (iblk m c 4 t) i ⟨3584 + k.val, by omega⟩ = zR (m ((c.tc : Thread nD τ).loc main_arg0)) (m ((c.tc : Thread nD τ).loc main_arg1)) (m ((c.tc : Thread nD τ).loc main_arg2)) ⟨r / 64, by omega⟩ ⟨r % 64, by omega⟩ ⟨3584 + k.val, by omega⟩ :=
    fun k => z_val m c t i r hr ⟨3584 + k.val, by omega⟩
  exact congrArg₂ (fun a b => rms _ a b k) (funext e) (funext fun k => (read7 m c t k).trans (v19_at m c k))

theorem kv_val (c : Dev nD) (t : Fin cfg0.N) (i : Fin 256) (r : Fin 512) (hr : r.val = t.val * 256 + i) (j : Fin 2048) : kvB (iblk m c 0 t) (iblk m c 3 t) (iblk m c 4 t) (iblk m c 7 t) (iblk m c 8 t) i j = kvR (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) ⟨r / 64, by omega⟩ ⟨r % 64, by omega⟩ j := by
  unfold kvB kvR
  refine Finset.sum_congr rfl fun k _ => ?_
  rw [ckv_val m c t i r hr, read8, v13_at]

theorem q_val (c : Dev nD) (t : Fin cfg0.N) (i : Fin 256) (r : Fin 512) (hr : r.val = t.val * 256 + i) (h : Fin 8) (l : Fin 128) : qB (iblk m c 0 t) (iblk m c 3 t) (iblk m c 4 t) (iblk m c 5 t) (iblk m c 6 t) i ⟨128 * h.val + l.val, by omega⟩
    = qR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨r / 64, by omega⟩ ⟨r % 64, by omega⟩ ⟨h.val * 192 + l.val, by omega⟩ := by
  unfold qB qR
  refine Finset.sum_congr rfl fun k _ => ?_
  have e : (⟨(128 * h.val + l.val) / 128 * 192 + (128 * h.val + l.val) % 128, by omega⟩ : Fin 1536)
      = ⟨h.val * 192 + l.val, by omega⟩ := by ext; dsimp only; omega
  rw [cq_val m c t i r hr, read6, v11_at, dif_pos (by dsimp only; omega), e]

theorem qr_val (c : Dev nD) (t : Fin cfg0.N) (i : Fin 256) (r : Fin 512) (hr : r.val = t.val * 256 + i) (h : Fin 8) (l : Fin 64) : qB (iblk m c 0 t) (iblk m c 3 t) (iblk m c 4 t) (iblk m c 5 t) (iblk m c 6 t) i ⟨1024 + (128 * h.val + l.val), by omega⟩
    = qR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨r / 64, by omega⟩ ⟨r % 64, by omega⟩ ⟨h.val * 192 + (128 + l.val), by omega⟩ := by
  unfold qB qR
  refine Finset.sum_congr rfl fun k _ => ?_
  have e : (⟨(1024 + (128 * h.val + l.val) - 1024) / 128 * 192 + (128 + (1024 + (128 * h.val + l.val) - 1024) % 128), by omega⟩ : Fin 1536)
      = ⟨h.val * 192 + (128 + l.val), by omega⟩ := by ext; dsimp only; omega
  rw [cq_val m c t i r hr, read6, v11_at, dif_neg (by dsimp only; omega), dif_pos (by dsimp only; omega), e]

theorem kr_val (c : Dev nD) (t : Fin cfg0.N) (i : Fin 256) (r : Fin 512) (hr : r.val = t.val * 256 + i) (l : Fin 64) : krB (iblk m c 0 t) (iblk m c 1 t) (iblk m c 2 t) (iblk m c 3 t) (iblk m c 4 t) i ⟨l.val, by omega⟩ = krR (m ((c.tc : Thread nD τ).loc main_arg0)) (m ((c.tc : Thread nD τ).loc main_arg1)) (m ((c.tc : Thread nD τ).loc main_arg2)) ⟨r / 64, by omega⟩ ⟨r % 64, by omega⟩ l := by
  unfold krB krR
  refine rot_rope _ _ _ _ _ (fun l => z_val m c t i r hr ⟨3840 + l.val, by omega⟩) (fun l => ?_) (fun l => ?_) l
  · rw [read1 m c t i l r hr, v41_at]
  · rw [read2 m c t i l r hr, v43_at]

theorem ct_blank (c : Dev nD) (t : Fin cfg0.N) (i : Fin 256) (r : Fin 512) (hr : r.val = t.val * 256 + i) (l : Fin 128) (hl : 64 ≤ l.val) : iblk m c 1 t (ix2 i l) = (0 : EReal) := by
  rw [read1 m c t i l r hr, v41_at, dif_neg (by omega), dif_neg (by omega)]

theorem st_blank (c : Dev nD) (t : Fin cfg0.N) (i : Fin 256) (r : Fin 512) (hr : r.val = t.val * 256 + i) (l : Fin 128) (hl : 64 ≤ l.val) : iblk m c 2 t (ix2 i l) = (0 : EReal) := by
  rw [read2 m c t i l r hr, v43_at, dif_neg (by omega), dif_neg (by omega)]

theorem outQd_at (a0 : FVec Ideal Cert.ProjRefIdeal.S8x64x2048 .f32) (a1 : FVec Ideal Cert.ProjRefIdeal.S1x2048 .f32)
    (a2 : FVec Ideal Cert.ProjRefIdeal.S1x2048x3904 .f32)
    (h : Fin 8) (d : Fin 2) (r : Fin 512) (l : Fin 128) : outQd a0 a1 a2 (ix5 0 h d r l)
      = if (l.val < 64 ↔ d.val = 0) then zR a0 a1 a2 ⟨r / 64, by omega⟩ ⟨r % 64, by omega⟩ ⟨h.val * 128 + l.val, by omega⟩ * Ideal.ofBits .f32 0x3E38AA3B#32
        else 0 := rfl

theorem outQm_at (a0 : FVec Ideal Cert.ProjRefIdeal.S8x64x2048 .f32) (a1 : FVec Ideal Cert.ProjRefIdeal.S1x2048 .f32)
    (a2 : FVec Ideal Cert.ProjRefIdeal.S1x2048x3904 .f32)
    (a3 : FVec Ideal Cert.ProjRefIdeal.S1x512 .f32) (a4 : FVec Ideal Cert.ProjRefIdeal.S1x512x1536 .f32)
    (h : Fin 8) (r : Fin 512) (l : Fin 256) : outQm a0 a1 a2 a3 a4 (ix4 0 h r l)
      = (if h1 : l.val < 128 then qR a0 a1 a2 a3 a4 ⟨r / 64, by omega⟩ ⟨r % 64, by omega⟩ ⟨h.val * 192 + l.val, by omega⟩
        else if h2 : l.val - 128 < 64 then
          rope (fun l : Fin 64 => qR a0 a1 a2 a3 a4 ⟨r / 64, by omega⟩ ⟨r % 64, by omega⟩ ⟨h.val * 192 + (128 + l.val), by omega⟩) ⟨r % 64, by omega⟩ ⟨l.val - 128, h2⟩
        else 0) * Ideal.ofBits .f32 0x3DD53B95#32 := rfl

theorem outKm_at (a0 : FVec Ideal Cert.ProjRefIdeal.S8x64x2048 .f32) (a1 : FVec Ideal Cert.ProjRefIdeal.S1x2048 .f32)
    (a2 : FVec Ideal Cert.ProjRefIdeal.S1x2048x3904 .f32)
    (a5 : FVec Ideal Cert.ProjRefIdeal.S1x256 .f32) (a6 : FVec Ideal Cert.ProjRefIdeal.S1x256x2048 .f32)
    (h : Fin 8) (r : Fin 512) (l : Fin 256) : outKm a0 a1 a2 a5 a6 (ix4 0 h r l)
      = if h1 : l.val < 128 then kvR a0 a1 a2 a5 a6 ⟨r / 64, by omega⟩ ⟨r % 64, by omega⟩ ⟨h.val * 256 + l.val, by omega⟩
        else if h2 : l.val - 128 < 64 then krR a0 a1 a2 ⟨r / 64, by omega⟩ ⟨r % 64, by omega⟩ ⟨l.val - 128, h2⟩ else 0 := rfl

theorem final9 (c : Dev nD) : (dats m 0 c).arrAt 9 cfg0.N = outQd (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  blk_simp
  rw [after0_9]
  obtain ⟨q, h, d, i, l, rfl⟩ : ∃ (q : Fin 1) (h : Fin 8) (d : Fin 2) (i : Fin 256) (l : Fin 128), y = ix5 q h d i l := ⟨y 0, y 1, y 2, y 3, y 4, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_9.blk t).view.emb (ix5 0 h d i l) = ix5 0 h d r l := by blk_ext [idx t]
  rw [e]
  refine (blk9 _ _ _ _ _ _ _ _ _ h d i l).trans ?_
  refine Eq.trans ?_ (outQd_at _ _ _ h d r l).symm
  have hz : zB (iblk m c 0 t) (iblk m c 3 t) (iblk m c 4 t) i ⟨128 * h.val + l.val, by omega⟩ = _ :=
    (z_congr _ _ _ i (b := ⟨h.val * 128 + l.val, by omega⟩) (by dsimp only; omega)).trans
      (z_val m c t i r hr ⟨h.val * 128 + l.val, by omega⟩)
  rw [hz]

theorem final10 (c : Dev nD) : (dats m 0 c).arrAt 10 cfg0.N = outRows (m ((c.tc : Thread nD τ).loc main_arg0)) (m ((c.tc : Thread nD τ).loc main_arg1)) (m ((c.tc : Thread nD τ).loc main_arg2)) 1024 (by decide) := by
  refine (dats m 0 c).arrAt_eq_of_covers 10 _ (by decide +kernel) fun t hf y => ?_
  blk_simp
  rw [after0_10]
  obtain ⟨q, i, l, rfl⟩ : ∃ (q : Fin 1) (i : Fin 256) (l : Fin 1024), y = ix3 q i l := ⟨y 0, y 1, y 2, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_10.blk t).view.emb (ix3 0 i l) = ix3 0 r l := by blk_ext [idx t]
  rw [e]
  refine (blk10 _ _ _ _ _ _ _ _ _ i l).trans ?_
  exact z_val m c t i r hr ⟨1024 + l.val, by omega⟩

theorem final11 (c : Dev nD) : (dats m 0 c).arrAt 11 cfg0.N = outRows (m ((c.tc : Thread nD τ).loc main_arg0)) (m ((c.tc : Thread nD τ).loc main_arg1)) (m ((c.tc : Thread nD τ).loc main_arg2)) 2048 (by decide) := by
  refine (dats m 0 c).arrAt_eq_of_covers 11 _ (by decide +kernel) fun t hf y => ?_
  blk_simp
  rw [after0_11]
  obtain ⟨q, i, l, rfl⟩ : ∃ (q : Fin 1) (i : Fin 256) (l : Fin 1024), y = ix3 q i l := ⟨y 0, y 1, y 2, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_11.blk t).view.emb (ix3 0 i l) = ix3 0 r l := by blk_ext [idx t]
  rw [e]
  refine (blk11 _ _ _ _ _ _ _ _ _ i l).trans ?_
  exact z_val m c t i r hr ⟨2048 + l.val, by omega⟩

theorem final12 (c : Dev nD) : (dats m 0 c).arrAt 12 cfg0.N = outCkv (m ((c.tc : Thread nD τ).loc main_arg0)) (m ((c.tc : Thread nD τ).loc main_arg1)) (m ((c.tc : Thread nD τ).loc main_arg2)) (m ((c.tc : Thread nD τ).loc main_arg5)) := by
  refine (dats m 0 c).arrAt_eq_of_covers 12 _ (by decide +kernel) fun t hf y => ?_
  blk_simp
  rw [after0_12]
  obtain ⟨q, i, l, rfl⟩ : ∃ (q : Fin 1) (i : Fin 256) (l : Fin 256), y = ix3 q i l := ⟨y 0, y 1, y 2, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_12.blk t).view.emb (ix3 0 i l) = ix3 0 r l := by blk_ext [idx t]
  rw [e]
  refine (blk12 _ _ _ _ _ _ _ _ _ i l).trans ?_
  exact ckv_val m c t i r hr l

theorem final13 (c : Dev nD) : (dats m 0 c).arrAt 13 cfg0.N = outKr (m ((c.tc : Thread nD τ).loc main_arg0)) (m ((c.tc : Thread nD τ).loc main_arg1)) (m ((c.tc : Thread nD τ).loc main_arg2)) := by
  refine (dats m 0 c).arrAt_eq_of_covers 13 _ (by decide +kernel) fun t hf y => ?_
  blk_simp
  rw [after0_13]
  obtain ⟨q, i, l, rfl⟩ : ∃ (q : Fin 1) (i : Fin 256) (l : Fin 64), y = ix3 q i l := ⟨y 0, y 1, y 2, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_13.blk t).view.emb (ix3 0 i l) = ix3 0 r l := by blk_ext [idx t]
  rw [e]
  refine (blk13 _ _ _ _ _ _ _ _ _ i l).trans ?_
  exact kr_val m c t i r hr l

theorem final14 (c : Dev nD) : (dats m 0 c).arrAt 14 cfg0.N = outHeads (m ((c.tc : Thread nD τ).loc main_arg0)) (m ((c.tc : Thread nD τ).loc main_arg1)) (m ((c.tc : Thread nD τ).loc main_arg2)) 1024 (by decide) := by
  refine (dats m 0 c).arrAt_eq_of_covers 14 _ (by decide +kernel) fun t hf y => ?_
  blk_simp
  rw [after0_14]
  obtain ⟨q, h, i, l, rfl⟩ : ∃ (q : Fin 1) (h : Fin 8) (i : Fin 256) (l : Fin 128), y = ix4 q h i l := ⟨y 0, y 1, y 2, y 3, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_14.blk t).view.emb (ix4 0 h i l) = ix4 0 h r l := by blk_ext [idx t]
  rw [e]
  refine (blk14 _ _ _ _ _ _ _ _ _ h i l).trans ?_
  refine (z_congr _ _ _ i (b := ⟨1024 + (h.val * 128 + l.val), by omega⟩) (by dsimp only; omega)).trans ?_
  exact z_val m c t i r hr ⟨1024 + (h.val * 128 + l.val), by omega⟩

theorem final15 (c : Dev nD) : (dats m 0 c).arrAt 15 cfg0.N = outHeads (m ((c.tc : Thread nD τ).loc main_arg0)) (m ((c.tc : Thread nD τ).loc main_arg1)) (m ((c.tc : Thread nD τ).loc main_arg2)) 2048 (by decide) := by
  refine (dats m 0 c).arrAt_eq_of_covers 15 _ (by decide +kernel) fun t hf y => ?_
  blk_simp
  rw [after0_15]
  obtain ⟨q, h, i, l, rfl⟩ : ∃ (q : Fin 1) (h : Fin 8) (i : Fin 256) (l : Fin 128), y = ix4 q h i l := ⟨y 0, y 1, y 2, y 3, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_15.blk t).view.emb (ix4 0 h i l) = ix4 0 h r l := by blk_ext [idx t]
  rw [e]
  refine (blk15 _ _ _ _ _ _ _ _ _ h i l).trans ?_
  refine (z_congr _ _ _ i (b := ⟨2048 + (h.val * 128 + l.val), by omega⟩) (by dsimp only; omega)).trans ?_
  exact z_val m c t i r hr ⟨2048 + (h.val * 128 + l.val), by omega⟩

theorem final16 (c : Dev nD) : (dats m 0 c).arrAt 16 cfg0.N = outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 16 _ (by decide +kernel) fun t hf y => ?_
  blk_simp
  rw [after0_16]
  obtain ⟨q, h, i, l, rfl⟩ : ∃ (q : Fin 1) (h : Fin 8) (i : Fin 256) (l : Fin 256), y = ix4 q h i l := ⟨y 0, y 1, y 2, y 3, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_16.blk t).view.emb (ix4 0 h i l) = ix4 0 h r l := by blk_ext [idx t]
  rw [e]
  refine (blk16 _ _ _ _ _ _ _ _ _ h i l).trans ?_
  refine Eq.trans ?_ (outQm_at _ _ _ _ _ h r l).symm
  refine congrArg (· * _) ?_
  by_cases h1 : l.val < 128
  · rw [dif_pos h1, dif_pos h1]
    exact q_val m c t i r hr h ⟨l.val, h1⟩
  · rw [dif_neg h1, dif_neg h1]
    by_cases h2 : l.val - 128 < 64
    · rw [dif_pos h2]
      refine rot_rope _ _ _ _ _ (fun l => qr_val m c t i r hr h l) (fun l => ?_) (fun l => ?_) ⟨l.val - 128, h2⟩
      · exact (read1 m c t i l r hr).trans (v41_at m c r l)
      · exact (read2 m c t i l r hr).trans (v43_at m c r l)
    · rw [dif_neg h2]
      exact rot_blank _ _ _ _ (ct_blank m c t i r hr _ (by dsimp only; omega)) (st_blank m c t i r hr _ (by dsimp only; omega))

theorem final17 (c : Dev nD) : (dats m 0 c).arrAt 17 cfg0.N = outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 17 _ (by decide +kernel) fun t hf y => ?_
  blk_simp
  rw [after0_17]
  obtain ⟨q, h, i, l, rfl⟩ : ∃ (q : Fin 1) (h : Fin 8) (i : Fin 256) (l : Fin 256), y = ix4 q h i l := ⟨y 0, y 1, y 2, y 3, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_17.blk t).view.emb (ix4 0 h i l) = ix4 0 h r l := by blk_ext [idx t]
  rw [e]
  refine (blk17 _ _ _ _ _ _ _ _ _ h i l).trans ?_
  refine Eq.trans ?_ (outKm_at _ _ _ _ _ h r l).symm
  by_cases h1 : l.val < 128
  · rw [dif_pos h1, dif_pos h1]
    refine (kv_congr _ _ _ _ _ i (b := ⟨h.val * 256 + l.val, by omega⟩) (by dsimp only; omega)).trans ?_
    exact kv_val m c t i r hr ⟨h.val * 256 + l.val, by omega⟩
  · rw [dif_neg h1, dif_neg h1]
    by_cases h2 : l.val - 128 < 64
    · rw [dif_pos h2]
      exact kr_val m c t i r hr ⟨l.val - 128, h2⟩
    · rw [dif_neg h2]
      exact rot_blank _ _ _ _ (ct_blank m c t i r hr _ (by dsimp only; omega)) (st_blank m c t i r hr _ (by dsimp only; omega))

theorem final18 (c : Dev nD) : (dats m 0 c).arrAt 18 cfg0.N = outVm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 18 _ (by decide +kernel) fun t hf y => ?_
  blk_simp
  rw [after0_18]
  obtain ⟨q, h, i, l, rfl⟩ : ∃ (q : Fin 1) (h : Fin 8) (i : Fin 256) (l : Fin 128), y = ix4 q h i l := ⟨y 0, y 1, y 2, y 3, by blk_ext⟩
  rw [Fin.eq_zero q]
  have ht : t.val < 2 := t.isLt
  obtain ⟨r, hr⟩ : ∃ r : Fin 512, r.val = t.val * 256 + i := ⟨⟨t.val * 256 + i, by omega⟩, rfl⟩
  have e : (win0_18.blk t).view.emb (ix4 0 h i l) = ix4 0 h r l := by blk_ext [idx t]
  rw [e]
  refine (blk18 _ _ _ _ _ _ _ _ _ h i l).trans ?_
  refine (kv_congr _ _ _ _ _ i (b := ⟨h.val * 256 + (128 + l.val), by omega⟩) (by dsimp only; omega)).trans ?_
  exact kv_val m c t i r hr ⟨h.val * 256 + (128 + l.val), by omega⟩

end Cert.Proj
-- ==== Proof.ProjClaim.lean ====
module

public import proofs.«01_k».proof.Defs
public import proofs.«01_k».proof.Proof.ProjValue
public import proofs.«01_k».proof.Proof.Gen.ProjIdeal.Value

@[expose] public section

set_option maxRecDepth 16384

noncomputable section

/-! The value claim of the projections. -/

namespace Cert.Proj

open Cert.ProjIdeal Cert.ProjIdeal.Gen Idealize.ShloMosaic Idealize.ShloMosaic.TcCoe Idealize.SL.Sem
open Cert.ProjRef (outQd outRows outCkv outKr outHeads outQm outKm outVm)

set_option maxHeartbeats 8000000 in
/-- Kernel and reference end with the same ten arrays. -/
theorem algebraic : Cert.algebraic_ProjIdeal_ProjRefIdeal := by
  intro m g m' g' _ hagree
  refine ⟨fun c => outQd (m ((c.tc : Thread nD τ).loc main_arg0)) (m ((c.tc : Thread nD τ).loc main_arg1)) (m ((c.tc : Thread nD τ).loc main_arg2)),
    fun c => outRows (m ((c.tc : Thread nD τ).loc main_arg0)) (m ((c.tc : Thread nD τ).loc main_arg1)) (m ((c.tc : Thread nD τ).loc main_arg2)) 1024 (by decide),
    fun c => outRows (m ((c.tc : Thread nD τ).loc main_arg0)) (m ((c.tc : Thread nD τ).loc main_arg1)) (m ((c.tc : Thread nD τ).loc main_arg2)) 2048 (by decide),
    fun c => outCkv (m ((c.tc : Thread nD τ).loc main_arg0)) (m ((c.tc : Thread nD τ).loc main_arg1)) (m ((c.tc : Thread nD τ).loc main_arg2)) (m ((c.tc : Thread nD τ).loc main_arg5)),
    fun c => outKr (m ((c.tc : Thread nD τ).loc main_arg0)) (m ((c.tc : Thread nD τ).loc main_arg1)) (m ((c.tc : Thread nD τ).loc main_arg2)),
    fun c => outHeads (m ((c.tc : Thread nD τ).loc main_arg0)) (m ((c.tc : Thread nD τ).loc main_arg1)) (m ((c.tc : Thread nD τ).loc main_arg2)) 1024 (by decide),
    fun c => outHeads (m ((c.tc : Thread nD τ).loc main_arg0)) (m ((c.tc : Thread nD τ).loc main_arg1)) (m ((c.tc : Thread nD τ).loc main_arg2)) 2048 (by decide),
    fun c => outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)),
    fun c => outVm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)), ?_, ?_⟩
  · refine (θ_run _ _ _).mono (fun r h c => ?_) (Cert.ProjIdeal.Value.run_blocks m g)
    obtain ⟨h9, h10, h11, h12, h13, h14, h15, h16, h17, h18, hk⟩ := h c
    exact ⟨h9.trans (final9 m c), h10.trans (final10 m c), h11.trans (final11 m c), h12.trans (final12 m c), h13.trans (final13 m c), h14.trans (final14 m c), h15.trans (final15 m c), h16.trans (final16 m c), h17.trans (final17 m c), h18.trans (final18 m c), hk⟩
  · refine (θ_run _ _ _).mono (fun r h c => ?_) (Cert.ProjRef.run_rows m' g')
    obtain ⟨h9, h10, h11, h12, h13, h14, h15, h16, h17, h18, hk⟩ := h c
    have e := hagree c
    have e0 := e.1
    have e1 := e.2.1
    have e2 := e.2.2.1
    have e3 := e.2.2.2.1
    have e4 := e.2.2.2.2.1
    have e5 := e.2.2.2.2.2.1
    have e6 := e.2.2.2.2.2.2
    have k9 : outQd (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = outQd (m ((c.tc : Thread nD τ).loc main_arg0)) (m ((c.tc : Thread nD τ).loc main_arg1)) (m ((c.tc : Thread nD τ).loc main_arg2)) := by
      rw [e0, e1, e2]
    have k10 : outRows (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) 1024 (by decide) = outRows (m ((c.tc : Thread nD τ).loc main_arg0)) (m ((c.tc : Thread nD τ).loc main_arg1)) (m ((c.tc : Thread nD τ).loc main_arg2)) 1024 (by decide) := by
      rw [e0, e1, e2]
    have k11 : outRows (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) 2048 (by decide) = outRows (m ((c.tc : Thread nD τ).loc main_arg0)) (m ((c.tc : Thread nD τ).loc main_arg1)) (m ((c.tc : Thread nD τ).loc main_arg2)) 2048 (by decide) := by
      rw [e0, e1, e2]
    have k12 : outCkv (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5)) = outCkv (m ((c.tc : Thread nD τ).loc main_arg0)) (m ((c.tc : Thread nD τ).loc main_arg1)) (m ((c.tc : Thread nD τ).loc main_arg2)) (m ((c.tc : Thread nD τ).loc main_arg5)) := by
      rw [e0, e1, e2, e5]
    have k13 : outKr (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) = outKr (m ((c.tc : Thread nD τ).loc main_arg0)) (m ((c.tc : Thread nD τ).loc main_arg1)) (m ((c.tc : Thread nD τ).loc main_arg2)) := by
      rw [e0, e1, e2]
    have k14 : outHeads (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) 1024 (by decide) = outHeads (m ((c.tc : Thread nD τ).loc main_arg0)) (m ((c.tc : Thread nD τ).loc main_arg1)) (m ((c.tc : Thread nD τ).loc main_arg2)) 1024 (by decide) := by
      rw [e0, e1, e2]
    have k15 : outHeads (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) 2048 (by decide) = outHeads (m ((c.tc : Thread nD τ).loc main_arg0)) (m ((c.tc : Thread nD τ).loc main_arg1)) (m ((c.tc : Thread nD τ).loc main_arg2)) 2048 (by decide) := by
      rw [e0, e1, e2]
    have k16 : outQm (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)) (m' ((c.tc : Thread Cert.ProjRefIdeal.nD Cert.ProjRefIdeal.τ).loc Cert.ProjRefIdeal.main_arg4)) = outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
      rw [e0, e1, e2, e3, e4]
    have k17 : outKm (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5)) (m' ((c.tc : Thread Cert.ProjRefIdeal.nD Cert.ProjRefIdeal.τ).loc Cert.ProjRefIdeal.main_arg6)) = outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
      rw [e0, e1, e2, e5, e6]
    have k18 : outVm (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5)) (m' ((c.tc : Thread Cert.ProjRefIdeal.nD Cert.ProjRefIdeal.τ).loc Cert.ProjRefIdeal.main_arg6)) = outVm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
      rw [e0, e1, e2, e5, e6]
    exact ⟨h9.trans k9, h10.trans k10, h11.trans k11, h12.trans k12, h13.trans k13, h14.trans k14, h15.trans k15, h16.trans k16, h17.trans k17, h18.trans k18, hk⟩

end Cert.Proj
end
-- ==== Proof.FfnSPoint.lean ====
module

public import Idealize.ShloMosaic.Lib.Pipeline.ValueKit
public import proofs.«01_k».proof.Proof.Gen.OutFfnSIdeal.Value

@[expose] public section

set_option maxRecDepth 16384

noncomputable section

/-! The output projection and feed-forward kernel, one grid point at a time. -/

namespace Cert.FfnS

open Cert.OutFfnSIdeal Cert.OutFfnSIdeal.Gen Idealize.ShloMosaic Idealize.ShloMosaic.TcCoe Idealize.SL.Sem

/-- Root-mean-square normalization of a row. -/
def rms (y g : Fin 2048 → EReal) (k : Fin 2048) : EReal :=
  y k * Ideal.rsqrt (Ideal.div (∑ x, y x * y x) (Ideal.ofBits .f32 0x45000000#32) + Ideal.ofBits .f32 0x358637BD#32) * g k

/-- A row after the output projection: residual plus the two halves of the mixed heads. -/
def resid (x : Fin 2048 → EReal) (a b : Fin 1024 → EReal) (w : Fin 2048 → Fin 2048 → EReal) (k : Fin 2048) : EReal :=
  x k + ∑ d : Fin 1024, a d * w ⟨d, by omega⟩ k + ∑ d : Fin 1024, b d * w ⟨1024 + d, by omega⟩ k

/-- One hidden unit of the gated feed-forward part. -/
def unit (h wg wu : Fin 2048 → EReal) : EReal :=
  (∑ k, h k * wg k) * Ideal.logistic (∑ k, h k * wg k) * ∑ k, h k * wu k

theorem pay1_at (x : FVec Ideal S512x2048 .f32) (a b : FVec Ideal S512x1024 .bf16) (w w' : FVec Ideal S1024x2048 .bf16)
    (i : Fin 512) (k : Fin 2048) :
    k0_pay1 (F := Ideal) x a w b w' (ix2 i k)
      = x (ix2 i k) + ∑ d : Fin 1024, a (ix2 i d) * w (ix2 d k) + ∑ d : Fin 1024, b (ix2 i d) * w' (ix2 d k) := by
  pointwise [k0_pay1]

theorem pay2_at (x : FVec Ideal S512x2048 .f32) (a b : FVec Ideal S512x1024 .bf16) (w w' : FVec Ideal S1024x2048 .bf16)
    (i : Fin 512) (k : Fin 2048) :
    k0_pay2 (F := Ideal) x a w b w' (ix2 i k) = k0_pay1 (F := Ideal) x a w b w' (ix2 i k) := by
  pointwise [k0_pay2]

theorem pay3_at (x : FVec Ideal S512x2048 .f32) (a b : FVec Ideal S512x1024 .bf16) (w w' : FVec Ideal S1024x2048 .bf16)
    (g : FVec Ideal S1x2048 .f32) (i : Fin 512) (k : Fin 2048) :
    k0_pay3 (F := Ideal) x a w b w' g (ix2 i k)
      = rms (fun k => k0_pay1 (F := Ideal) x a w b w' (ix2 i k)) (fun k => g (ix2 0 k)) k := by
  pointwise [k0_pay3, rms]

theorem pay5_at (y : FVec Ideal S512x2048 .f32) (g : FVec Ideal S1x2048 .f32) (i : Fin 512) (k : Fin 2048) :
    k0_pay5 (F := Ideal) y g (ix2 i k) = rms (fun k => y (ix2 i k)) (fun k => g (ix2 0 k)) k := by
  pointwise [k0_pay5, rms]

theorem pay4_at (h : FVec Ideal S512x2048 .bf16) (wg wu : FVec Ideal S2048x512 .bf16) (y : FVec Ideal S512x2048 .f32)
    (wd : FVec Ideal S512x2048 .bf16) (i : Fin 512) (k : Fin 2048) :
    k0_pay4 (F := Ideal) h wg wu y wd (ix2 i k)
      = y (ix2 i k) + ∑ f : Fin 512, unit (fun k => h (ix2 i k)) (fun k => wg (ix2 k f)) (fun k => wu (ix2 k f)) * wd (ix2 f k) := by
  pointwise [k0_pay4, unit]

variable (m : (ℓ : Loc nD τ sig) → Buf (Elt Ideal) ℓ)

/-- Where each window stands at grid point `t`. -/
theorem idx : ∀ t : Fin cfg0.N, win0_0.index t = ![t.val / 11, 0] ∧ win0_1.index t = ![t.val / 11, 0]
    ∧ win0_2.index t = ![t.val / 11, 0] ∧ win0_3.index t = ![0, 0] ∧ win0_4.index t = ![0, 0]
    ∧ win0_5.index t = ![0, t.val % 11] ∧ win0_6.index t = ![0, t.val % 11] ∧ win0_7.index t = ![t.val % 11, 0]
    ∧ win0_8.index t = ![0, 0] ∧ win0_9.index t = ![t.val / 11, 0] :=
  (by decide +kernel : ∀ t : Fin grid0.N, _)

theorem read0 (c : Dev nD) (t : Fin cfg0.N) (i : Fin 512) (k : Fin 2048) (r : Fin 512) (hr : r.val = t.val / 11 * 512 + i) :
    iblk m c 0 t (ix2 i k) = m ((c.tc : Thread nD τ).loc main_arg0) (ix3 ⟨r / 64, by omega⟩ ⟨r % 64, by omega⟩ k) := by
  blk_point [iblk, V, idx t]

theorem read1 (c : Dev nD) (t : Fin cfg0.N) (i : Fin 512) (k : Fin 1024) (r : Fin 512) (hr : r.val = t.val / 11 * 512 + i) :
    iblk m c 1 t (ix2 i k) = m ((c.tc : Thread nD τ).loc main_arg1) (ix3 ⟨r / 64, by omega⟩ ⟨r % 64, by omega⟩ k) := by
  blk_point [iblk, V, idx t]

theorem read2 (c : Dev nD) (t : Fin cfg0.N) (i : Fin 512) (k : Fin 1024) (r : Fin 512) (hr : r.val = t.val / 11 * 512 + i) :
    iblk m c 2 t (ix2 i k) = m ((c.tc : Thread nD τ).loc main_arg2) (ix3 ⟨r / 64, by omega⟩ ⟨r % 64, by omega⟩ k) := by
  blk_point [iblk, V, idx t]

theorem read3 (c : Dev nD) (t : Fin cfg0.N) (d k : Fin 2048) :
    iblk m c 3 t (ix2 d k) = m ((c.tc : Thread nD τ).loc main_arg3) (ix3 0 d k) := by
  blk_point [iblk, V, idx t]

theorem read4 (c : Dev nD) (t : Fin cfg0.N) (k : Fin 2048) :
    iblk m c 4 t (ix2 0 k) = m ((c.tc : Thread nD τ).loc main_arg4) (ix2 0 k) := by
  blk_point [iblk, V, idx t]

theorem read5 (c : Dev nD) (t : Fin cfg0.N) (k : Fin 2048) (f : Fin 512) (e : Fin 5632) (he : e.val = t.val % 11 * 512 + f) :
    iblk m c 5 t (ix2 k f) = m ((c.tc : Thread nD τ).loc main_arg5) (ix3 0 k e) := by
  blk_point [iblk, V, idx t]

theorem read6 (c : Dev nD) (t : Fin cfg0.N) (k : Fin 2048) (f : Fin 512) (e : Fin 5632) (he : e.val = t.val % 11 * 512 + f) :
    iblk m c 6 t (ix2 k f) = m ((c.tc : Thread nD τ).loc main_arg6) (ix3 0 k e) := by
  blk_point [iblk, V, idx t]

theorem read7 (c : Dev nD) (t : Fin cfg0.N) (k : Fin 2048) (f : Fin 512) (e : Fin 5632) (he : e.val = t.val % 11 * 512 + f) :
    iblk m c 7 t (ix2 f k) = m ((c.tc : Thread nD τ).loc main_arg7) (ix3 0 e k) := by
  blk_point [iblk, V, idx t]

theorem read8 (c : Dev nD) (t : Fin cfg0.N) (k : Fin 2048) :
    iblk m c 8 t (ix2 0 k) = m ((c.tc : Thread nD τ).loc main_arg8) (ix1 k) := by
  blk_point [iblk, V, idx t]

end Cert.FfnS
-- ==== Proof.FfnSRef.lean ====
module

public import Idealize.ShloMosaic.Lib.Pipeline.ValueKit
public import proofs.«01_k».proof.Proof.Gen.OutFfnSRefIdeal.Run
public import proofs.«01_k».proof.Proof.FfnSPoint

@[expose] public section

set_option maxRecDepth 16384

noncomputable section

/-! The reference of the output projection and the feed-forward part, stage by stage. -/

namespace Cert.FfnSRef

open Cert.OutFfnSRefIdeal Cert.OutFfnSRefIdeal.Gen Idealize.ShloMosaic Idealize.ShloMosaic.TcCoe Idealize.SL.Sem

/-- The residual stream after the output projection. -/
def resid (x0 : FVec Ideal S8x64x2048 .f32) (x1 x2 : FVec Ideal S8x64x1024 .bf16) (x3 : FVec Ideal S1x2048x2048 .f32) :
    FVec Ideal S8x64x2048 .f32 :=
  addf x0 (Host.dotGeneral dot_S8x64x2048_S2048x2048_S8x64x2048_2_0_01_1_n_n none (concatenate S8x64x2048 2 [⟨S8x64x1024, (extf .f32 x1 bitsLt_bf16_f32)⟩, ⟨S8x64x1024, (extf .f32 x2 bitsLt_bf16_f32)⟩] concatenates_S8x64x1024_S8x64x1024_S8x64x2048_d2) (shapeCast _ x3 shapeCasts_S1x2048x2048_S2048x2048))

/-- Root-mean-square normalization of every row of `y` with gain `g`. -/
def norm (y : FVec Ideal S8x64x2048 .f32) (g : FVec Ideal S2048 .f32) : FVec Ideal S8x64x2048 .f32 :=
  mulf (mulf y (broadcastInDim S8x64x2048 ![0, 1, 2] bcast_S8x64x1_S8x64x2048_0_1_2 (Host.rsqrt (addf (Host.divf (broadcastInDim S8x64x1 ![0, 1] bcast_S8x64_S8x64x1_0_1 (Host.reduceAdd (mulf y y) (constant S_ .f32 0x00000000#32) reducesTo_S8x64x2048_S8x64_d2 h_S_)) (broadcastInDim S8x64x1 ![] bcast_S_S8x64x1 (constant S_ .f32 0x45000000#32))) (broadcastInDim S8x64x1 ![] bcast_S_S8x64x1 (constant S_ .f32 0x358637BD#32)))))) (broadcastInDim S8x64x2048 ![0, 1, 2] bcast_S1x1x2048_S8x64x2048_0_1_2 (broadcastInDim S1x1x2048 ![2] bcast_S2048_S1x1x2048_2 g))

/-- A row times a weight of the feed-forward part's first layer. -/
def first (h : FVec Ideal S8x64x2048 .f32) (w : FVec Ideal S1x2048x5632 .f32) : FVec Ideal S8x64x5632 .f32 :=
  Host.dotGeneral dot_S8x64x2048_S2048x5632_S8x64x5632_2_0_01_1_n_n none h (shapeCast _ w shapeCasts_S1x2048x5632_S2048x5632)

/-- The gated hidden units. -/
def hidden (a b : FVec Ideal S8x64x5632 .f32) : FVec Ideal S8x64x5632 .f32 :=
  mulf (mulf a (Host.divf (broadcastInDim S8x64x5632 ![] bcast_S_S8x64x5632 (constant S_ .f32 0x3F800000#32)) (addf (broadcastInDim S8x64x5632 ![] bcast_S_S8x64x5632 (constant S_ .f32 0x3F800000#32)) (Host.exp (Host.negf a))))) b

/-- The residual stream after the feed-forward part. -/
def second (y : FVec Ideal S8x64x2048 .f32) (u : FVec Ideal S8x64x5632 .f32) (w : FVec Ideal S1x5632x2048 .f32) :
    FVec Ideal S8x64x2048 .f32 :=
  addf y (Host.dotGeneral dot_S8x64x5632_S5632x2048_S8x64x2048_2_0_01_1_n_n none u (shapeCast _ w shapeCasts_S1x5632x2048_S5632x2048))

/-- Batch and position as one axis. -/
def flat (y : FVec Ideal S8x64x2048 .f32) : FVec Ideal S512x2048 .f32 := shapeCast _ y shapeCasts_S8x64x2048_S512x2048

/-- The gain as a vector. -/
def gain (g : FVec Ideal S1x2048 .f32) : FVec Ideal S2048 .f32 := shapeCast _ g shapeCasts_S1x2048_S2048

/-- The feed-forward part over the residual stream `y`. -/
def ffn (y : FVec Ideal S8x64x2048 .f32) (x4 : FVec Ideal S1x2048 .f32) (x5 x6 : FVec Ideal S1x2048x5632 .f32)
    (x7 : FVec Ideal S1x5632x2048 .f32) : FVec Ideal S8x64x2048 .f32 :=
  second y (hidden (first (norm y (gain x4)) x5) (first (norm y (gain x4)) x6)) x7

/-- The reference's result as a function of the arguments. -/
def ref (x0 : FVec Ideal S8x64x2048 .f32) (x1 x2 : FVec Ideal S8x64x1024 .bf16) (x3 : FVec Ideal S1x2048x2048 .f32)
    (x4 : FVec Ideal S1x2048 .f32) (x5 x6 : FVec Ideal S1x2048x5632 .f32) (x7 : FVec Ideal S1x5632x2048 .f32)
    (x8 : FVec Ideal S2048 .f32) : FVec Ideal S512x2048 .f32 :=
  flat (norm (ffn (resid x0 x1 x2 x3) x4 x5 x6 x7) x8)

/-- The run's result is `ref` of the arguments. -/
theorem res_eq (m : (ℓ : Loc nD τ sig) → Buf (Elt Ideal) ℓ) (c : Dev nD) :
    Value.res_out0 (F := Ideal) m c = ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := rfl

theorem resid_at (x0 : FVec Ideal S8x64x2048 .f32) (x1 x2 : FVec Ideal S8x64x1024 .bf16) (x3 : FVec Ideal S1x2048x2048 .f32)
    (b : Fin 8) (i : Fin 64) (k : Fin 2048) :
    resid x0 x1 x2 x3 (ix3 b i k) = FfnS.resid (fun k => x0 (ix3 b i k)) (fun d => x1 (ix3 b i d)) (fun d => x2 (ix3 b i d))
      (fun d k => x3 (ix3 0 d k)) k := by
  pointwise [resid, FfnS.resid]
  exact (add_assoc _ _ _).symm

theorem norm_at (y : FVec Ideal S8x64x2048 .f32) (g : FVec Ideal S2048 .f32) (b : Fin 8) (i : Fin 64) (k : Fin 2048) :
    norm y g (ix3 b i k) = FfnS.rms (fun k => y (ix3 b i k)) (fun k => g (ix1 k)) k := by
  pointwise [norm, FfnS.rms]

theorem first_at (h : FVec Ideal S8x64x2048 .f32) (w : FVec Ideal S1x2048x5632 .f32) (b : Fin 8) (i : Fin 64) (f : Fin 5632) :
    first h w (ix3 b i f) = ∑ k : Fin 2048, h (ix3 b i k) * w (ix3 0 k f) := by
  pointwise [first]

theorem hidden_at (x y : FVec Ideal S8x64x5632 .f32) (b : Fin 8) (i : Fin 64) (f : Fin 5632) :
    hidden x y (ix3 b i f) = x (ix3 b i f) * Ideal.logistic (x (ix3 b i f)) * y (ix3 b i f) := by
  pointwise [hidden]
  rfl

theorem second_at (y : FVec Ideal S8x64x2048 .f32) (u : FVec Ideal S8x64x5632 .f32) (w : FVec Ideal S1x5632x2048 .f32)
    (b : Fin 8) (i : Fin 64) (k : Fin 2048) :
    second y u w (ix3 b i k) = y (ix3 b i k) + ∑ f : Fin 5632, u (ix3 b i f) * w (ix3 0 f k) := by
  pointwise [second]

theorem flat_at (y : FVec Ideal S8x64x2048 .f32) (r : Fin 512) (k : Fin 2048) :
    flat y (ix2 r k) = y (ix3 ⟨r / 64, by omega⟩ ⟨r % 64, by omega⟩ k) := by
  pointwise [flat]

theorem gain_at (g : FVec Ideal S1x2048 .f32) (k : Fin 2048) : gain g (ix1 k) = g (ix2 0 k) := by
  pointwise [gain]

end Cert.FfnSRef
-- ==== Proof.FfnSValue.lean ====
module

public import Idealize.ShloMosaic.Lib.Pipeline.ValueKit
public import Idealize.ShloMosaic.Lib.Pipeline.ReadBack
public import proofs.«01_k».proof.Proof.FfnSPoint
public import proofs.«01_k».proof.Proof.FfnSRef

@[expose] public section

set_option maxRecDepth 16384

noncomputable section

/-! The output projection and feed-forward kernel: the array it leaves is the reference's. -/

namespace Cert.FfnS

open Cert.OutFfnSIdeal Cert.OutFfnSIdeal.Gen Idealize.ShloMosaic Idealize.ShloMosaic.TcCoe Idealize.SL.Sem

variable (m : (ℓ : Loc nD τ sig) → Buf (Elt Ideal) ℓ)

/-- The array row that row `i` of the block at grid point `n` is. -/
def row (n : ℕ) (i : Fin 512) : Fin 512 := ⟨(n / 11 * 512 + i) % 512, by omega⟩

/-- Hidden unit `f` of block `s`. -/
def col (s : ℕ) (f : Fin 512) : Fin 5632 := ⟨(s * 512 + f) % 5632, by omega⟩

theorem row_val (n : ℕ) (hn : n < cfg0.N) (i : Fin 512) : (row n i).val = n / 11 * 512 + i := by
  have h : n < 11 := hn
  unfold row; dsimp only; omega

theorem col_val (n : ℕ) (f : Fin 512) : (col (n % 11) f).val = n % 11 * 512 + f := by
  unfold col; dsimp only; omega

/-- Row `r` of the residual stream after the output projection. -/
def xrow (c : Dev nD) (r : Fin 512) : Fin 2048 → EReal :=
  resid (fun k => m ((c.tc : Thread nD τ).loc main_arg0) (ix3 ⟨r / 64, by omega⟩ ⟨r % 64, by omega⟩ k))
    (fun k => m ((c.tc : Thread nD τ).loc main_arg1) (ix3 ⟨r / 64, by omega⟩ ⟨r % 64, by omega⟩ k))
    (fun k => m ((c.tc : Thread nD τ).loc main_arg2) (ix3 ⟨r / 64, by omega⟩ ⟨r % 64, by omega⟩ k))
    (fun d k => m ((c.tc : Thread nD τ).loc main_arg3) (ix3 0 d k))

/-- Row `r` normalized. -/
def hrow (c : Dev nD) (r : Fin 512) : Fin 2048 → EReal :=
  rms (xrow m c r) (fun k => m ((c.tc : Thread nD τ).loc main_arg4) (ix2 0 k))

/-- Hidden unit `e` of row `r`, times its weight to lane `k`. -/
def term (c : Dev nD) (r : Fin 512) (k : Fin 2048) (e : Fin 5632) : EReal :=
  unit (hrow m c r) (fun k => m ((c.tc : Thread nD τ).loc main_arg5) (ix3 0 k e))
    (fun k => m ((c.tc : Thread nD τ).loc main_arg6) (ix3 0 k e)) * m ((c.tc : Thread nD τ).loc main_arg7) (ix3 0 e k)

/-- What the first point of a run computes from the residual stream. -/
theorem start (c : Dev nD) (t : Fin cfg0.N) (i : Fin 512) (k : Fin 2048) :
    k0_pay1 (F := Ideal) (iblk m c 0 t) (iblk m c 1 t)
      (View.ld (iblk m c 3 t) (Rect.unit ![0, 0] ![1024, 2048] inb_S2048x2048_S1024x2048_0_0)) (iblk m c 2 t)
      (View.ld (iblk m c 3 t) (Rect.unit ![1024, 0] ![1024, 2048] inb_S2048x2048_S1024x2048_1024_0)) (ix2 i k)
      = xrow m c (row t i) k := by
  have hr := row_val t.val t.isLt i
  rw [pay1_at]
  unfold xrow resid
  have e1 : ∀ d : Fin 1024, View.ld (iblk m c 3 t) (Rect.unit ![0, 0] ![1024, 2048] inb_S2048x2048_S1024x2048_0_0) (ix2 d k)
      = m ((c.tc : Thread nD τ).loc main_arg3) (ix3 0 ⟨d, by omega⟩ k) := fun d => by
    rw [← read3 m c t]; pointwise; try blk_ext
  have e2 : ∀ d : Fin 1024, View.ld (iblk m c 3 t) (Rect.unit ![1024, 0] ![1024, 2048] inb_S2048x2048_S1024x2048_1024_0) (ix2 d k)
      = m ((c.tc : Thread nD τ).loc main_arg3) (ix3 0 ⟨1024 + d, by omega⟩ k) := fun d => by
    rw [← read3 m c t]; pointwise; try blk_ext
  simp only [e1, e2, read0 m c t i _ _ hr, read1 m c t i _ _ hr, read2 m c t i _ _ hr]

/-- The row the first point of a run normalizes. -/
theorem startH (c : Dev nD) (t : Fin cfg0.N) (i : Fin 512) (k : Fin 2048) :
    k0_pay3 (F := Ideal) (iblk m c 0 t) (iblk m c 1 t)
      (View.ld (iblk m c 3 t) (Rect.unit ![0, 0] ![1024, 2048] inb_S2048x2048_S1024x2048_0_0)) (iblk m c 2 t)
      (View.ld (iblk m c 3 t) (Rect.unit ![1024, 0] ![1024, 2048] inb_S2048x2048_S1024x2048_1024_0)) (iblk m c 4 t) (ix2 i k)
      = hrow m c (row t i) k :=
  (pay3_at _ _ _ _ _ _ i k).trans
    (congrArg₂ (fun a b => rms a b k) (funext fun k => start m c t i k) (funext fun k => read4 m c t k))

/-- What every point adds. -/
theorem part (c : Dev nD) (t : Fin cfg0.N) (h : FVec Ideal S512x2048 .bf16) (y : FVec Ideal S512x2048 .f32) (i : Fin 512)
    (hh : ∀ k, h (ix2 i k) = hrow m c (row t i) k) (k : Fin 2048) :
    k0_pay4 (F := Ideal) h (iblk m c 5 t) (iblk m c 6 t) y (iblk m c 7 t) (ix2 i k)
      = y (ix2 i k) + ∑ f : Fin 512, term m c (row t i) k (col (t % 11) f) := by
  rw [pay4_at]
  unfold term
  simp only [hh, read5 m c t _ _ _ (col_val t _), read6 m c t _ _ _ (col_val t _), read7 m c t _ _ _ (col_val t _)]

/-- The buffers carried from a run's first point. -/
theorem stateA (c : Dev nD) (t : Fin cfg0.N) (h0 : t.val % 11 = 0) (i : Fin 512) (k : Fin 2048) :
    (outsAt0 m c t.val t.isLt).2.1 (ix2 i k) = hrow m c (row t i) k
    ∧ (outsAt0 m c t.val t.isLt).2.2 (ix2 i k)
        = xrow m c (row t i) k + ∑ f : Fin 512, term m c (row t i) k (col (t % 11) f) := by
  rw [outsAt0_A m c t h0 (by omega)]
  constructor
  · frame_out
    exact startH m c t i k
  · frame_out
    refine (part m c t _ _ i (fun k => startH m c t i k) k).trans ?_
    exact congrArg (· + _) ((pay2_at _ _ _ _ _ i k).trans (start m c t i k))

/-- The buffers carried from a later point. -/
theorem stateB (c : Dev nD) (t : Fin cfg0.N) (h0 : ¬ t.val % 11 = 0) (i : Fin 512)
    (hh : ∀ k, (outsAt0 m c (t.val - 1) (Nat.lt_of_le_of_lt (Nat.sub_le _ _) t.isLt)).2.1 (ix2 i k) = hrow m c (row t i) k)
    (k : Fin 2048) :
    (outsAt0 m c t.val t.isLt).2.1 (ix2 i k) = hrow m c (row t i) k
    ∧ (outsAt0 m c t.val t.isLt).2.2 (ix2 i k)
        = (outsAt0 m c (t.val - 1) (Nat.lt_of_le_of_lt (Nat.sub_le _ _) t.isLt)).2.2 (ix2 i k)
          + ∑ f : Fin 512, term m c (row t i) k (col (t % 11) f) := by
  by_cases h1 : t.val % 11 = 10
  · rw [outsAt0_C m c t h0 h1]
    constructor
    · unfold sout0_C_0
      exact hh k
    · frame_out
      rw [read_unread_whole, read_unread_whole]
      exact part m c t _ _ i hh k
  · rw [outsAt0_B m c t h0 h1]
    constructor
    · unfold sout0_B_0
      exact hh k
    · frame_out
      rw [read_unread_whole, read_unread_whole]
      exact part m c t _ _ i hh k

/-- What the last point of a run writes back. -/
theorem stateC (c : Dev nD) (t : Fin cfg0.N) (h1 : t.val % 11 = 10) (i : Fin 512) (k : Fin 2048) :
    (outsAt0 m c t.val t.isLt).1 (ix2 i k) = rms (fun k => (outsAt0 m c t.val t.isLt).2.2 (ix2 i k))
      (fun k => m ((c.tc : Thread nD τ).loc main_arg8) (ix1 k)) k := by
  have h0 : ¬ t.val % 11 = 0 := by omega
  have e : (outsAt0 m c t.val t.isLt).1 = k0_pay5 (F := Ideal) (outsAt0 m c t.val t.isLt).2.2 (iblk m c 8 t) := by
    funext j
    rw [outsAt0_C m c t h0 h1]
    frame_out
  rw [e]
  exact (pay5_at _ _ i k).trans (congrArg (fun b => rms _ b k) (funext fun k => read8 m c t k))

/-- The carried buffers after every grid point: the normalized row, and the row's residual plus the hidden blocks so far. -/
theorem state (c : Dev nD) (n : ℕ) : ∀ (hn : n < cfg0.N) (i : Fin 512), (∀ k, (outsAt0 m c n hn).2.1 (ix2 i k) = hrow m c (row n i) k)
    ∧ ∀ k, (outsAt0 m c n hn).2.2 (ix2 i k) = xrow m c (row n i) k
        + ∑ s ∈ Finset.range (n % 11 + 1), ∑ f : Fin 512, term m c (row n i) k (col s f) := by
  induction n with
  | zero =>
    intro hn i
    refine ⟨fun k => (stateA m c ⟨0, hn⟩ rfl i k).1, fun k => ?_⟩
    refine (stateA m c ⟨0, hn⟩ rfl i k).2.trans ?_
    rw [Nat.zero_mod, zero_add, Finset.sum_range_one]
  | succ n ih =>
    intro hn i
    by_cases h0 : (n + 1) % 11 = 0
    · refine ⟨fun k => (stateA m c ⟨n + 1, hn⟩ h0 i k).1, fun k => ?_⟩
      refine (stateA m c ⟨n + 1, hn⟩ h0 i k).2.trans ?_
      dsimp only
      rw [h0, zero_add, Finset.sum_range_one]
    · have er : row n i = row (n + 1) i := by
        unfold row; ext; dsimp only; omega
      have em : n % 11 + 1 = (n + 1) % 11 := by omega
      obtain ⟨ih0, ih1⟩ := ih (Nat.lt_of_succ_lt hn) i
      rw [er] at ih0 ih1
      refine ⟨fun k => (stateB m c ⟨n + 1, hn⟩ h0 i ih0 k).1, fun k => ?_⟩
      refine (stateB m c ⟨n + 1, hn⟩ h0 i ih0 k).2.trans ?_
      refine (congrArg (· + _) (ih1 k)).trans ?_
      dsimp only
      rw [em, Finset.sum_range_succ, add_assoc]

/-- The reference at row `r` is the normalized row: its residual plus all its hidden units. -/
theorem ref_at (c : Dev nD) (r : Fin 512) (k : Fin 2048) :
    FfnSRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (ix2 r k)
      = rms (fun k => xrow m c r k + ∑ e, term m c r k e) (fun k => m ((c.tc : Thread nD τ).loc main_arg8) (ix1 k)) k := by
  unfold FfnSRef.ref FfnSRef.ffn
  rw [FfnSRef.flat_at, FfnSRef.norm_at]
  simp only [FfnSRef.second_at, FfnSRef.hidden_at, FfnSRef.first_at, FfnSRef.norm_at, FfnSRef.resid_at, FfnSRef.gain_at]
  rfl

theorem final (c : Dev nD) : (dats m 0 c).arrAt 9 cfg0.N
    = FfnSRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) := by
  refine (dats m 0 c).arrAt_eq_of_covers 9 _ (by decide +kernel) fun t hf y => ?_
  blk_simp
  rw [after0_9]
  obtain ⟨i, k, rfl⟩ : ∃ (i : Fin 512) (k : Fin 2048), y = ix2 i k := ⟨y 0, y 1, by blk_ext⟩
  have hl : t.val % 11 = 10 := (flush0_9 t).mp hf
  have hr := row_val t.val t.isLt i
  have e : (win0_9.blk t).view.emb (ix2 i k) = ix2 (row t i) k := by blk_ext [idx t]
  rw [e, ref_at]
  refine (stateC m c t hl i k).trans (congrArg (fun b => rms b _ k) (funext fun k => ?_))
  refine ((state m c t t.isLt i).2 k).trans (congrArg (fun z => xrow m c (row t i) k + z) ?_)
  rw [hl, Finset.sum_range]
  refine Fin.sum_mul_add_congr fun s f hl => ?_
  congr 1
  unfold col; ext; dsimp only; omega

end Cert.FfnS
-- ==== Proof.FfnSClaim.lean ====
module

public import proofs.«01_k».proof.Defs
public import proofs.«01_k».proof.Proof.FfnSValue

@[expose] public section

set_option maxRecDepth 16384

noncomputable section

/-! The value claim of the output projection and the feed-forward part. -/

namespace Cert.FfnS

open Cert.OutFfnSIdeal Cert.OutFfnSIdeal.Gen Idealize.ShloMosaic Idealize.ShloMosaic.TcCoe Idealize.SL.Sem

/-- Kernel and reference end with the same array. -/
theorem algebraic : Cert.algebraic_OutFfnSIdeal_OutFfnSRefIdeal := by
  intro m g m' g' _ hagree
  refine ⟨fun c => FfnSRef.ref (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)), ?_, ?_⟩
  · refine (θ_run _ _ _).mono (fun r h c => ⟨(h c).1.trans ?_, (h c).2⟩) (Cert.OutFfnSIdeal.Value.run_blocks m g)
    exact final m c
  · refine (θ_run _ _ _).mono (fun r h c => ⟨(h c).1.trans ?_, (h c).2⟩) (Cert.OutFfnSRefIdeal.Value.run m' g')
    obtain ⟨e0, e1, e2, e3, e4, e5, e6, e7, e8⟩ := hagree c
    refine (FfnSRef.res_eq m' c).trans ?_
    rw [e0, e1, e2, e3, e4, e5, e6, e7, e8]

end Cert.FfnS
end
-- ==== Proof.ProjPHost.lean ====
module

public import Idealize.ShloMosaic.Lib.Pipeline.ValueKit
public import Idealize.ShloMosaic.Lib.StableHlo.RunRead
public import Idealize.ShloMosaic.Lib.StableHlo.RunClose
public import proofs.«01_k».proof.Proof.Gen.ProjPIdeal.Frame

@[expose] public section

set_option maxRecDepth 16384

noncomputable section

/-! The arrays that the host lines before the projection kernel of the prompt leave: padded and reordered weights, rotation tables. -/

namespace Cert.ProjP

open Cert.ProjPIdeal Cert.ProjPIdeal.Gen Idealize.ShloMosaic Idealize.ShloMosaic.TcCoe Idealize.SL.Sem

variable (m : (ℓ : Loc nD τ sig) → Buf (Elt Ideal) ℓ)

/-- The rotation angles by row. -/
def angles : FVec Ideal S4096x32 .f32 :=
  mulf (broadcastInDim S4096x32 ![0, 1] bcast_S4096x1_S4096x32_0_1 (broadcastInDim S4096x1 ![0] bcast_S4096_S4096x1_0
      (sitofp .f32 (addi (broadcastInDim S4096 ![] bcast_S_S4096 (constantI S_ 32 16#32)) (iotaInDim S4096 32 0)))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Zeros for the unused lanes. -/
def blank : FVec Ideal S4096x32 .f32 := broadcastInDim S4096x32 ![] bcast_S_S4096x32 (constant S_ .f32 0x00000000#32)

/-- The query weights, by head. -/
def perHead (x : FVec Ideal S1x512x1536 .f32) : FVec Ideal S512x8x192 .f32 :=
  shapeCast S512x8x192 (shapeCast S512x1536 x shapeCasts_S1x512x1536_S512x1536 : FVec Ideal S512x1536 .f32) shapeCasts_S512x1536_S512x8x192

theorem v2_eq (c : Dev nD) : V m c main_v2 = (truncf .bf16 (pad S2048x3968 ![0, 0] ![0, 64] ![0, 0] (shapeCast S2048x3904 (m ((c.tc : Thread nD τ).loc main_arg2)) shapeCasts_S1x2048x3904_S2048x3904) (sitofp (F := Ideal) .f32 (constantI S_ 32 0#32)) pads_S2048x3904_S2048x3968_000_0640 h_S_ : FVec Ideal S2048x3968 .f32) bitsLt_bf16_f32 : FVec Ideal S2048x3968 .bf16) := by
  unfold V
  simp only [List.flatten_cons, List.flatten_nil]
  after_reads_simp
  rfl

theorem v11_eq (c : Dev nD) : V m c main_v11 = (truncf .bf16 (concatenate S512x2048 1 [⟨S512x1024, shapeCast S512x1024 (extractStridedSlice S512x8x128 ![0, 0, 0] (perHead (m ((c.tc : Thread nD τ).loc main_arg4))) slices_S512x8x192_S512x8x128_0_0_0) shapeCasts_S512x8x128_S512x1024⟩, ⟨S512x1024, shapeCast S512x1024 (pad S512x8x128 ![0, 0, 0] ![0, 0, 64] ![0, 0, 0] (extractStridedSlice S512x8x64 ![0, 0, 128] (perHead (m ((c.tc : Thread nD τ).loc main_arg4))) slices_S512x8x192_S512x8x64_0_0_128) (sitofp (F := Ideal) .f32 (constantI S_ 32 0#32)) pads_S512x8x64_S512x8x128_000_000_0640 h_S_ : FVec Ideal S512x8x128 .f32) shapeCasts_S512x8x128_S512x1024⟩] concatenates_S512x1024_S512x1024_S512x2048_d1 : FVec Ideal S512x2048 .f32) bitsLt_bf16_f32 : FVec Ideal S512x2048 .bf16) := by
  unfold V
  simp only [List.flatten_cons, List.flatten_nil]
  after_reads_simp
  rfl

theorem v13_eq (c : Dev nD) : V m c main_v13 = (truncf .bf16 (shapeCast S256x2048 (m ((c.tc : Thread nD τ).loc main_arg6)) shapeCasts_S1x256x2048_S256x2048) bitsLt_bf16_f32 : FVec Ideal S256x2048 .bf16) := by
  unfold V
  simp only [List.flatten_cons, List.flatten_nil]
  after_reads_simp
  rfl

theorem v15_eq (c : Dev nD) : V m c main_v15 = (broadcastInDim S1x2048 ![1] bcast_S2048_S1x2048_1 (shapeCast S2048 (m ((c.tc : Thread nD τ).loc main_arg1)) shapeCasts_S1x2048_S2048) : FVec Ideal S1x2048 .f32) := by
  unfold V
  simp only [List.flatten_cons, List.flatten_nil]
  after_reads_simp
  rfl

theorem v17_eq (c : Dev nD) : V m c main_v17 = (broadcastInDim S1x512 ![1] bcast_S512_S1x512_1 (shapeCast S512 (m ((c.tc : Thread nD τ).loc main_arg3)) shapeCasts_S1x512_S512) : FVec Ideal S1x512 .f32) := by
  unfold V
  simp only [List.flatten_cons, List.flatten_nil]
  after_reads_simp
  rfl

theorem v19_eq (c : Dev nD) : V m c main_v19 = (broadcastInDim S1x256 ![1] bcast_S256_S1x256_1 (shapeCast S256 (m ((c.tc : Thread nD τ).loc main_arg5)) shapeCasts_S1x256_S256) : FVec Ideal S1x256 .f32) := by
  unfold V
  simp only [List.flatten_cons, List.flatten_nil]
  after_reads_simp
  rfl

theorem v38_eq (c : Dev nD) : V m c main_v38 = (concatenate S4096x128 1 [⟨S4096x32, Host.cos angles⟩, ⟨S4096x32, Host.cos angles⟩, ⟨S4096x32, blank⟩, ⟨S4096x32, blank⟩] concatenates_S4096x32_S4096x32_S4096x32_S4096x32_S4096x128_d1 : FVec Ideal S4096x128 .f32) := by
  unfold V
  simp only [List.flatten_cons, List.flatten_nil]
  after_reads_simp
  rfl

theorem v40_eq (c : Dev nD) : V m c main_v40 = (concatenate S4096x128 1 [⟨S4096x32, Host.negf (Host.sin angles)⟩, ⟨S4096x32, Host.sin angles⟩, ⟨S4096x32, blank⟩, ⟨S4096x32, blank⟩] concatenates_S4096x32_S4096x32_S4096x32_S4096x32_S4096x128_d1 : FVec Ideal S4096x128 .f32) := by
  unfold V
  simp only [List.flatten_cons, List.flatten_nil]
  after_reads_simp
  rfl

end Cert.ProjP
-- ==== Proof.ProjPPoint.lean ====
module

public import Idealize.ShloMosaic.Lib.Pipeline.ValueKit
public import proofs.«01_k».proof.Proof.Gen.ProjPIdeal.Frame

@[expose] public section

set_option maxRecDepth 16384

noncomputable section

/-! The projection kernel of the prompt, one grid point at a time: what each of its steps computes, row by row. -/

namespace Cert.ProjP

open Cert.ProjPIdeal Cert.ProjPIdeal.Gen Idealize.ShloMosaic Idealize.ShloMosaic.TcCoe Idealize.SL.Sem

/-- Root-mean-square normalization of a row of `n` lanes, `N` the lane count as a number. -/
def rms {n : ℕ} (N : EReal) (y g : Fin n → EReal) (k : Fin n) : EReal :=
  y k * Ideal.rsqrt (Ideal.div (∑ x, y x * y x) N + Ideal.ofBits .f32 0x358637BD#32) * g k

/-- The rotary step on 128 lanes as the kernel takes it: each half of a 64-lane group meets the other half. -/
def rot (y ct st : Fin 128 → EReal) (l : Fin 128) : EReal :=
  y l * ct l + (if l.val % 64 < 32 then y ⟨(l + 128 - 96) % 128, by omega⟩ else y ⟨(l + 128 - 32) % 128, by omega⟩) * st l

theorem pay2_at (x : FVec Ideal S1x256x2048 .f32) (g : FVec Ideal S1x2048 .f32) (i : Fin 256) (k : Fin 2048) :
    k0_pay2 (F := Ideal) x g (ix2 i k)
      = rms (Ideal.ofBits .f32 0x45000000#32) (fun k => x (ix3 0 i k)) (fun k => g (ix2 0 k)) k := by
  pointwise [k0_pay2, rms]

/-- The lanes of the first half of each 64-lane group. -/
theorem mask_at (i : Fin 256) (l : Fin 128) : k0_pay29 (ix2 i l) = if l.val % 64 < 32 then 1#1 else 0#1 := by
  pointwise [k0_pay29]
  revert l
  decide +kernel

/-- The first 64 lanes. -/
theorem low_at (i : Fin 256) (l : Fin 128) : k0_pay3 (ix2 i l) = if l.val < 64 then 1#1 else 0#1 := by
  pointwise [k0_pay3]
  revert l
  decide +kernel

/-- The rotary step on a 128-lane block. -/
def turn (ct st r : FVec Ideal S256x128 .f32) : FVec Ideal S256x128 .f32 :=
  addf (mulf r ct) (mulf (select k0_pay29 (dynamicRotate 1 96#32 none r rotates_S256x128_d1)
    (dynamicRotate 1 32#32 none r rotates_S256x128_d1)) st)

theorem turn_at (ct st r : FVec Ideal S256x128 .f32) (i : Fin 256) (l : Fin 128) :
    turn ct st r (ix2 i l) = rot (fun l => r (ix2 i l)) (fun l => ct (ix2 i l)) (fun l => st (ix2 i l)) l := by
  pointwise [turn, rot, mask_at]
  by_cases hl : l.val % 64 < 32
  · rw [if_pos hl, if_pos hl]; rfl
  · rw [if_neg hl, if_neg hl]; rfl

/-- A head's rotated query lanes, scaled and given the shape of the store. -/
def qturn (ct st r : FVec Ideal S256x128 .f32) : FVec Ideal S1x1x256x128 .bf16 :=
  shapeCast S1x1x256x128 (truncf .bf16 (mulf (turn ct st r)
    (broadcast S256x128 (Scalar.ofBits (F := Ideal) .f32 0x3DD53B95#32))) bitsLt_bf16_f32) shapeCasts_S256x128_S1x1x256x128

theorem qturn_at (ct st r : FVec Ideal S256x128 .f32) (i : Fin 256) (l : Fin 128) :
    qturn ct st r (ix4 0 0 i l) = rot (fun l => r (ix2 i l)) (fun l => ct (ix2 i l)) (fun l => st (ix2 i l)) l
      * Ideal.ofBits .f32 0x3DD53B95#32 := by
  pointwise [qturn, turn_at]

theorem turn38 (ct st : FVec Ideal S256x128 .f32) (q : FVec Ideal S256x2048 .f32) :
    k0_pay38 (F := Ideal) ct st q = qturn ct st (extractStridedSlice S256x128 ![0, 1152] q slices_S256x2048_o0_1152_S256x128) := rfl

theorem turn64 (ct st : FVec Ideal S256x128 .f32) (q : FVec Ideal S256x2048 .f32) :
    k0_pay64 (F := Ideal) ct st q = qturn ct st (extractStridedSlice S256x128 ![0, 1536] q slices_S256x2048_o0_1536_S256x128) := rfl

theorem turn90 (ct st : FVec Ideal S256x128 .f32) (q : FVec Ideal S256x2048 .f32) :
    k0_pay90 (F := Ideal) ct st q = qturn ct st (extractStridedSlice S256x128 ![0, 1920] q slices_S256x2048_o0_1920_S256x128) := rfl

theorem turn32 (ct st : FVec Ideal S256x128 .f32) (c : FVec Ideal S256x512 .bf16) (w : Vec Ideal S512x2048 .bf16) :
    k0_pay32 (F := Ideal) ct st (k0_pay28 c w) k0_pay29 (k0_pay30 c w) (k0_pay31 c w) = qturn ct st (k0_pay28 c w) := rfl

theorem turn47 (ct st r : FVec Ideal S256x128 .f32) :
    k0_pay47 (F := Ideal) ct st r (Scalar.select (Scalar.cmpi .eq 64#32 0#32) 1#32 64#32) k0_pay45 k0_pay46 = qturn ct st r := rfl

theorem turn73 (ct st r : FVec Ideal S256x128 .f32) :
    k0_pay73 (F := Ideal) ct st r (Scalar.select (Scalar.cmpi .eq 64#32 0#32) 1#32 64#32) k0_pay71 k0_pay72 = qturn ct st r := rfl

theorem turn58 (ct st : FVec Ideal S256x128 .f32) (q : FVec Ideal S256x2048 .f32) :
    k0_pay58 (F := Ideal) ct st (k0_pay54 q) k0_pay55 (k0_pay56 q) (k0_pay57 q) = qturn ct st (k0_pay54 q) := rfl

theorem turn84 (ct st : FVec Ideal S256x128 .f32) (q : FVec Ideal S256x2048 .f32) :
    k0_pay84 (F := Ideal) ct st (k0_pay80 q) k0_pay81 (k0_pay82 q) (k0_pay83 q) = qturn ct st (k0_pay80 q) := rfl

theorem turn21 (ct st : FVec Ideal S256x128 .f32) (z : FVec Ideal S256x384 .f32) :
    k0_pay21 (F := Ideal) ct st z = turn ct st (extractStridedSlice S256x128 ![0, 256] z slices_S256x384_o0_256_S256x128) := rfl

variable (x0 : Vec Ideal S1x256x2048 .f32) (x1 x2 : Vec Ideal S256x128 .f32) (x3 : Vec Ideal S1x2048 .f32) (x4 : Vec Ideal S2048x3968 .bf16) (x5 : Vec Ideal S1x512 .f32) (x6 : Vec Ideal S512x2048 .bf16) (x7 : Vec Ideal S1x256 .f32) (x8 : Vec Ideal S256x2048 .bf16)

/-- Row `i` of the normalized block. -/
def hB (i : Fin 256) (k : Fin 2048) : EReal :=
  rms (Ideal.ofBits .f32 0x45000000#32) (fun k => x0 (ix3 0 i k)) (fun k => x3 (ix2 0 k)) k

/-- Row `i` of the input projection, column `j`. -/
def zB (i : Fin 256) (j : Fin 3968) : EReal := ∑ k, hB x0 x3 i k * x4 (ix2 k j)

/-- The normalized query latent of row `i`. -/
def cqB (i : Fin 256) (k : Fin 512) : EReal :=
  rms (Ideal.ofBits .f32 0x44000000#32) (fun k : Fin 512 => zB x0 x3 x4 i ⟨3072 + k.val, by omega⟩) (fun k => x5 (ix2 0 k)) k

/-- The latent queries of row `i`. -/
def qB (i : Fin 256) (j : Fin 2048) : EReal := ∑ k, cqB x0 x3 x4 x5 i k * x6 (ix2 k j)

/-- The normalized key-value latent of row `i`. -/
def ckvB (i : Fin 256) (k : Fin 256) : EReal :=
  rms (Ideal.ofBits .f32 0x43800000#32) (fun k : Fin 256 => zB x0 x3 x4 i ⟨3584 + k.val, by omega⟩) (fun k => x7 (ix2 0 k)) k

/-- The latent keys and values of row `i`. -/
def kvB (i : Fin 256) (j : Fin 2048) : EReal := ∑ k, ckvB x0 x3 x4 x7 i k * x8 (ix2 k j)

/-- The rotated shared key of row `i`. -/
def krB (i : Fin 256) (l : Fin 128) : EReal :=
  rot (fun l : Fin 128 => zB x0 x3 x4 i ⟨3840 + l.val, by omega⟩) (fun l => x1 (ix2 i l)) (fun l => x2 (ix2 i l)) l

theorem st139 (i : Fin 256) (k : Fin 2048) : k0_pay139 x0 x1 x2 x3 x4 x5 x6 x7 x8 (ix2 i k) = hB x0 x3 i k := by
  pointwise [k0_pay139, pay2_at, hB]

theorem st143 (i : Fin 256) (k : Fin 384) : k0_pay143 x0 x1 x2 x3 x4 x5 x6 x7 x8 (ix2 i k) = zB x0 x3 x4 i ⟨3584 + k.val, by omega⟩ := by
  pointwise [k0_pay143, k0_pay7, pay2_at, zB, hB]

theorem st144 (i : Fin 256) (k : Fin 512) : k0_pay144 x0 x1 x2 x3 x4 x5 x6 x7 x8 (ix2 i k) = zB x0 x3 x4 i ⟨2048 + k.val, by omega⟩ := by
  pointwise [k0_pay144, k0_pay8, pay2_at, zB, hB]

theorem st6 (i : Fin 256) (k : Fin 512) :
    k0_pay6 (F := Ideal) (View.ld x0 r0_0) (View.ld x3 r0_1) (View.ld x4 r0_3) (ix2 i k) = zB x0 x3 x4 i ⟨3072 + k.val, by omega⟩ := by
  pointwise [k0_pay6, pay2_at, zB, hB]

/-- A product of the normalized rows with 512 columns of the weights, scaled. -/
theorem pay118_at (h : FVec Ideal S256x2048 .bf16) (w : Vec Ideal S2048x512 .bf16) (i : Fin 256) (k : Fin 512) :
    k0_pay118 (F := Ideal) h w (ix2 i k) = (∑ x, h (ix2 i x) * w (ix2 x k)) * Ideal.ofBits .f32 0x3E38AA3B#32 := by
  pointwise [k0_pay118]

theorem pay129_at (h : FVec Ideal S256x2048 .bf16) (w : Vec Ideal S2048x512 .bf16) (i : Fin 256) (k : Fin 512) :
    k0_pay129 (F := Ideal) h w (ix2 i k) = (∑ x, h (ix2 i x) * w (ix2 x k)) * Ideal.ofBits .f32 0x3E38AA3B#32 := by
  pointwise [k0_pay129]

theorem cq_at (z : FVec Ideal S256x512 .f32) (g : Vec Ideal S1x512 .f32) (i : Fin 256) (k : Fin 512) :
    k0_pay15 (F := Ideal) z g (ix2 i k)
      = rms (Ideal.ofBits .f32 0x44000000#32) (fun k => z (ix2 i k)) (fun k => g (ix2 0 k)) k := by
  pointwise [k0_pay15, rms]

theorem ckv_at (z : FVec Ideal S256x384 .f32) (g : Vec Ideal S1x256 .f32) (i : Fin 256) (k : Fin 256) :
    k0_pay19 (F := Ideal) (k0_pay16 z) (k0_pay17 g) (k0_pay18 z) (ix2 i k)
      = rms (Ideal.ofBits .f32 0x43800000#32) (fun k : Fin 256 => z (ix2 i ⟨k.val, by omega⟩)) (fun k => g (ix2 0 k)) k := by
  pointwise [k0_pay19, k0_pay16, k0_pay17, k0_pay18, rms]

theorem pay25_at (c : FVec Ideal S256x512 .bf16) (w : Vec Ideal S512x2048 .bf16) (i : Fin 256) (k : Fin 2048) :
    k0_pay25 (F := Ideal) c w (ix2 i k) = ∑ x, c (ix2 i x) * w (ix2 x k) := by
  pointwise [k0_pay25]

theorem pay26_at (c : FVec Ideal S256x256 .f32) (w : Vec Ideal S256x2048 .bf16) (i : Fin 256) (k : Fin 2048) :
    k0_pay26 (F := Ideal) c w (ix2 i k) = ∑ x, c (ix2 i x) * w (ix2 x k) := by
  pointwise [k0_pay26]

theorem st153 (i : Fin 256) (k : Fin 512) : k0_pay153 x0 x1 x2 x3 x4 x5 x6 x7 x8 (ix2 i k) = zB x0 x3 x4 i ⟨k.val, by omega⟩ * Ideal.ofBits .f32 0x3E38AA3B#32 := by
  pointwise [k0_pay153, pay118_at, st139, zB]

theorem st154 (i : Fin 256) (k : Fin 512) : k0_pay154 x0 x1 x2 x3 x4 x5 x6 x7 x8 (ix2 i k) = zB x0 x3 x4 i ⟨512 + k.val, by omega⟩ * Ideal.ofBits .f32 0x3E38AA3B#32 := by
  pointwise [k0_pay154, pay129_at, st139, zB]

theorem st118 (i : Fin 256) (k : Fin 512) :
    k0_pay118 (F := Ideal) (k0_pay139 x0 x1 x2 x3 x4 x5 x6 x7 x8) (View.ld x4 r0_49) (ix2 i k) = zB x0 x3 x4 i ⟨k.val, by omega⟩ * Ideal.ofBits .f32 0x3E38AA3B#32 := by
  pointwise [pay118_at, st139, zB]

theorem st129 (i : Fin 256) (k : Fin 512) :
    k0_pay129 (F := Ideal) (k0_pay139 x0 x1 x2 x3 x4 x5 x6 x7 x8) (View.ld x4 r0_58) (ix2 i k) = zB x0 x3 x4 i ⟨512 + k.val, by omega⟩ * Ideal.ofBits .f32 0x3E38AA3B#32 := by
  pointwise [pay129_at, st139, zB]

theorem st145 (i : Fin 256) (k : Fin 512) : k0_pay145 x0 x1 x2 x3 x4 x5 x6 x7 x8 (ix2 i k) = cqB x0 x3 x4 x5 i k := by
  pointwise [k0_pay145, cq_at, st6, cqB]

theorem st150 (i : Fin 256) (k : Fin 2048) : k0_pay150 x0 x1 x2 x3 x4 x5 x6 x7 x8 (ix2 i k) = qB x0 x3 x4 x5 x6 i k := by
  pointwise [k0_pay150, pay25_at, st145, qB]

theorem st19 (i : Fin 256) (k : Fin 256) :
    k0_pay19 (F := Ideal) (k0_pay146 x0 x1 x2 x3 x4 x5 x6 x7 x8) (k0_pay147 x0 x1 x2 x3 x4 x5 x6 x7 x8) (k0_pay148 x0 x1 x2 x3 x4 x5 x6 x7 x8) (ix2 i k) = ckvB x0 x3 x4 x7 i k := by
  pointwise [k0_pay146, k0_pay147, k0_pay148, ckv_at, st143, ckvB]

theorem st151 (i : Fin 256) (k : Fin 2048) : k0_pay151 x0 x1 x2 x3 x4 x5 x6 x7 x8 (ix2 i k) = kvB x0 x3 x4 x7 x8 i k := by
  pointwise [k0_pay151, pay26_at, st19, kvB]

theorem st141 (i : Fin 256) (l : Fin 128) : k0_pay141 x0 x1 x2 x3 x4 x5 x6 x7 x8 (ix2 i l) = x1 (ix2 i l) := by
  pointwise [k0_pay141, k0_pay4]

theorem st142 (i : Fin 256) (l : Fin 128) : k0_pay142 x0 x1 x2 x3 x4 x5 x6 x7 x8 (ix2 i l) = x2 (ix2 i l) := by
  pointwise [k0_pay142, k0_pay5]

theorem st_r (i : Fin 256) (l : Fin 128) :
    (extractStridedSlice S256x128 ![0, 256] (k0_pay143 x0 x1 x2 x3 x4 x5 x6 x7 x8) slices_S256x384_o0_256_S256x128 : FVec Ideal S256x128 .f32) (ix2 i l)
      = zB x0 x3 x4 i ⟨3840 + l.val, by omega⟩ := by
  pointwise [st143]
  exact congrArg (zB x0 x3 x4 i) (Fin.ext (by change 3584 + (256 + l.val) = 3840 + l.val; omega))

theorem kr_at (i : Fin 256) (l : Fin 128) :
    k0_pay21 (F := Ideal) (k0_pay141 x0 x1 x2 x3 x4 x5 x6 x7 x8) (k0_pay142 x0 x1 x2 x3 x4 x5 x6 x7 x8) (k0_pay143 x0 x1 x2 x3 x4 x5 x6 x7 x8) (ix2 i l) = krB x0 x1 x2 x3 x4 i l := by
  rw [turn21, turn_at]
  simp only [st141, st142, st_r, krB]

end Cert.ProjP
-- ==== Proof.ProjPBlock.lean ====
module

public import Idealize.ShloMosaic.Lib.Pipeline.ValueKit
public import proofs.«01_k».proof.Proof.ProjPPoint

@[expose] public section

set_option maxRecDepth 16384

noncomputable section

/-! The blocks that one grid point of the projection kernel of the prompt writes, entry by entry. -/

namespace Cert.ProjP

open Cert.ProjPIdeal Cert.ProjPIdeal.Gen Idealize.ShloMosaic Idealize.ShloMosaic.TcCoe Idealize.SL.Sem

variable (x0 : Vec Ideal S1x256x2048 .f32) (x1 x2 : Vec Ideal S256x128 .f32) (x3 : Vec Ideal S1x2048 .f32) (x4 : Vec Ideal S2048x3968 .bf16) (x5 : Vec Ideal S1x512 .f32) (x6 : Vec Ideal S512x2048 .bf16) (x7 : Vec Ideal S1x256 .f32) (x8 : Vec Ideal S256x2048 .bf16)

theorem z_congr (i : Fin 256) {a b : Fin 3968} (h : a.val = b.val) : zB x0 x3 x4 i a = zB x0 x3 x4 i b :=
  congrArg _ (Fin.ext h)

theorem q_congr (i : Fin 256) {a b : Fin 2048} (h : a.val = b.val) : qB x0 x3 x4 x5 x6 i a = qB x0 x3 x4 x5 x6 i b :=
  congrArg _ (Fin.ext h)

theorem kv_congr (i : Fin 256) {a b : Fin 2048} (h : a.val = b.val) : kvB x0 x3 x4 x7 x8 i a = kvB x0 x3 x4 x7 x8 i b :=
  congrArg _ (Fin.ext h)

/-- A value kept where `p` holds, in a place where `q` holds. -/
theorem pick_low (p q : Prop) [Decidable p] [Decidable q] (a b : EReal) (hq : q) (h : a = b) :
    Scalar.select (if p then 1#1 else 0#1) a 0 = if (p ↔ q) then b else 0 := by
  by_cases hp : p
  · rw [if_pos hp, if_pos (by tauto)]; exact h
  · rw [if_neg hp, if_neg (by tauto)]; rfl

/-- A value dropped where `p` holds, in a place where `q` fails. -/
theorem pick_high (p q : Prop) [Decidable p] [Decidable q] (a b : EReal) (hq : ¬ q) (h : a = b) :
    Scalar.select (if p then 1#1 else 0#1) 0 a = if (p ↔ q) then b else 0 := by
  by_cases hp : p
  · rw [if_pos hp, if_neg (by tauto)]; rfl
  · rw [if_neg hp, if_pos (by tauto)]; exact h

/-- The queries: head `h`, component `c`; the other component's lanes are zero. -/
theorem blk9 (h : Fin 8) (c : Fin 2) (i : Fin 256) (l : Fin 128) :
    out0_9 x0 x1 x2 x3 x4 x5 x6 x7 x8 (ix5 0 h c i l)
      = if (l.val < 64 ↔ c.val = 0) then zB x0 x3 x4 i ⟨128 * h.val + l.val, by omega⟩ * Ideal.ofBits .f32 0x3E38AA3B#32
        else 0 := by
  unfold out0_9
  canon_tiles x e
  all_goals
    change (h : ℕ) = _ at e1
    change (c : ℕ) = _ at e2
    change (i : ℕ) = _ at e3
    change (l : ℕ) = _ at e4
    have hx : x = ix5 0 0 0 i l := by blk_ext <;> omega
    rw [hx]
  all_goals pointwise [k0_pay1, k0_pay119, k0_pay120, k0_pay121, k0_pay122, k0_pay123, k0_pay124, k0_pay125, k0_pay126, k0_pay127, k0_pay128, k0_pay130, k0_pay131, k0_pay132, k0_pay133, k0_pay134, k0_pay135, k0_pay136, k0_pay137, k0_pay138, k0_pay140, low_at, st118, st129, st153, st154]
  all_goals
    first
    | exact pick_low _ _ _ _ (by omega) (congrArg (fun z => z * _) (z_congr x0 x3 x4 i (by dsimp only; omega)))
    | exact pick_high _ _ _ _ (by omega) (congrArg (fun z => z * _) (z_congr x0 x3 x4 i (by dsimp only; omega)))

/-- A product of the normalized rows with 512 columns of the weights, stored as it is. -/
theorem pay105_at (h : FVec Ideal S256x2048 .bf16) (w : Vec Ideal S2048x512 .bf16) (i : Fin 256) (k : Fin 512) :
    k0_pay105 (F := Ideal) h w (ix2 i k) = ∑ x, h (ix2 i x) * w (ix2 x k) := by
  pointwise [k0_pay105]

theorem pay111_at (h : FVec Ideal S256x2048 .bf16) (w : Vec Ideal S2048x512 .bf16) (i : Fin 256) (k : Fin 512) :
    k0_pay111 (F := Ideal) h w (ix2 i k) = ∑ x, h (ix2 i x) * w (ix2 x k) := by
  pointwise [k0_pay111]

theorem pay95_at (h : FVec Ideal S256x2048 .bf16) (w : Vec Ideal S2048x512 .bf16) (i : Fin 256) (k : Fin 512) :
    k0_pay95 (F := Ideal) h w (ix2 i k) = ∑ x, h (ix2 i x) * w (ix2 x k) := by
  pointwise [k0_pay95]

theorem st_k (i : Fin 256) (k : Fin 512) :
    k0_pay105 (F := Ideal) (k0_pay139 x0 x1 x2 x3 x4 x5 x6 x7 x8) (View.ld x4 r0_39) (ix2 i k) = zB x0 x3 x4 i ⟨1024 + k.val, by omega⟩ := by
  pointwise [pay105_at, st139, zB]

theorem st_k2 (i : Fin 256) (k : Fin 512) :
    k0_pay111 (F := Ideal) (k0_pay139 x0 x1 x2 x3 x4 x5 x6 x7 x8) (View.ld x4 r0_44) (ix2 i k) = zB x0 x3 x4 i ⟨1536 + k.val, by omega⟩ := by
  pointwise [pay111_at, st139, zB]

theorem st_v2 (i : Fin 256) (k : Fin 512) :
    k0_pay95 (F := Ideal) (k0_pay139 x0 x1 x2 x3 x4 x5 x6 x7 x8) (View.ld x4 r0_37) (ix2 i k) = zB x0 x3 x4 i ⟨2560 + k.val, by omega⟩ := by
  pointwise [pay95_at, st139, zB]

/-- The keys. -/
theorem blk10 (i : Fin 256) (j : Fin 1024) :
    out0_10 x0 x1 x2 x3 x4 x5 x6 x7 x8 (ix3 0 i j) = zB x0 x3 x4 i ⟨1024 + j.val, by omega⟩ := by
  unfold out0_10
  canon_tiles x e
  · change (i : ℕ) = _ at e1
    change (j : ℕ) = _ at e2
    have hx : x = ix3 0 i ⟨j.val - 512, by omega⟩ := by blk_ext <;> omega
    rw [hx]
    pointwise [k0_pay112, k0_pay106, st_k, st_k2]
    exact z_congr x0 x3 x4 i (by dsimp only; omega)
  · change (i : ℕ) = _ at e1
    change (j : ℕ) = _ at e2
    have hx : x = ix3 0 i ⟨j.val, by omega⟩ := by blk_ext <;> omega
    rw [hx]
    pointwise [k0_pay112, k0_pay106, st_k, st_k2]
    try exact z_congr x0 x3 x4 i (by dsimp only; omega)

/-- The values. -/
theorem blk11 (i : Fin 256) (j : Fin 1024) :
    out0_11 x0 x1 x2 x3 x4 x5 x6 x7 x8 (ix3 0 i j) = zB x0 x3 x4 i ⟨2048 + j.val, by omega⟩ := by
  unfold out0_11
  canon_tiles x e
  · change (i : ℕ) = _ at e1
    change (j : ℕ) = _ at e2
    have hx : x = ix3 0 i ⟨j.val - 512, by omega⟩ := by blk_ext <;> omega
    rw [hx]
    pointwise [k0_pay96, k0_pay9, st144, st_v2]
    exact z_congr x0 x3 x4 i (by dsimp only; omega)
  · change (i : ℕ) = _ at e1
    change (j : ℕ) = _ at e2
    have hx : x = ix3 0 i ⟨j.val, by omega⟩ := by blk_ext <;> omega
    rw [hx]
    pointwise [k0_pay96, k0_pay9, st144, st_v2]
    try exact z_congr x0 x3 x4 i (by dsimp only; omega)

/-- The normalized latent. -/
theorem blk12 (i : Fin 256) (k : Fin 256) : out0_12 x0 x1 x2 x3 x4 x5 x6 x7 x8 (ix3 0 i k) = ckvB x0 x3 x4 x7 i k := by
  unfold out0_12
  canon_tiles x e
  change (i : ℕ) = _ at e1
  change (k : ℕ) = _ at e2
  have hx : x = ix3 0 i k := by blk_ext <;> omega
  rw [hx]
  pointwise [k0_pay20, st19]

/-- The rotated shared key. -/
theorem blk13 (i : Fin 256) (l : Fin 64) :
    out0_13 x0 x1 x2 x3 x4 x5 x6 x7 x8 (ix3 0 i l) = krB x0 x1 x2 x3 x4 i ⟨l.val, by omega⟩ := by
  unfold out0_13
  canon_tiles x e
  change (i : ℕ) = _ at e1
  change (l : ℕ) = _ at e2
  have hx : x = ix3 0 i l := by blk_ext <;> omega
  rw [hx]
  pointwise [k0_pay23, k0_pay22, kr_at]

/-- The keys by head. -/
theorem blk14 (h : Fin 8) (i : Fin 256) (l : Fin 128) :
    out0_14 x0 x1 x2 x3 x4 x5 x6 x7 x8 (ix4 0 h i l) = zB x0 x3 x4 i ⟨1024 + (128 * h.val + l.val), by omega⟩ := by
  unfold out0_14
  canon_tiles x e
  all_goals
    change (h : ℕ) = _ at e1
    change (i : ℕ) = _ at e2
    change (l : ℕ) = _ at e3
    have hx : x = ix4 0 0 i l := by blk_ext <;> omega
    rw [hx]
  all_goals pointwise [k0_pay107, k0_pay108, k0_pay109, k0_pay110, k0_pay113, k0_pay114, k0_pay115, k0_pay116, k0_pay117, st_k, st_k2]
  all_goals exact z_congr x0 x3 x4 i (by dsimp only; omega)

theorem st28 (i : Fin 256) (l : Fin 128) :
    k0_pay28 (F := Ideal) (k0_pay145 x0 x1 x2 x3 x4 x5 x6 x7 x8) (View.ld x6 r0_15) (ix2 i l) = qB x0 x3 x4 x5 x6 i ⟨1024 + l.val, by omega⟩ := by
  pointwise [k0_pay28, pay25_at, st145, qB]

theorem st27 (i : Fin 256) (l : Fin 128) :
    k0_pay27 (F := Ideal) (k0_pay145 x0 x1 x2 x3 x4 x5 x6 x7 x8) (View.ld x6 r0_15) (ix4 0 0 i l)
      = qB x0 x3 x4 x5 x6 i ⟨l.val, by omega⟩ * Ideal.ofBits .f32 0x3DD53B95#32 := by
  pointwise [k0_pay27, pay25_at, st145, qB]

/-- The latent queries: 128 lanes of content, then 128 rotated lanes, both scaled. -/
theorem blk16 (h : Fin 8) (i : Fin 256) (l : Fin 256) :
    out0_16 x0 x1 x2 x3 x4 x5 x6 x7 x8 (ix4 0 h i l)
      = (if hl : l.val < 128 then qB x0 x3 x4 x5 x6 i ⟨128 * h.val + l.val, by omega⟩
        else rot (fun l : Fin 128 => qB x0 x3 x4 x5 x6 i ⟨1024 + (128 * h.val + l.val), by omega⟩)
          (fun l => x1 (ix2 i l)) (fun l => x2 (ix2 i l)) ⟨l.val - 128, by omega⟩) * Ideal.ofBits .f32 0x3DD53B95#32 := by
  unfold out0_16
  canon_tiles x e
  all_goals
    change (h : ℕ) = _ at e1
    change (i : ℕ) = _ at e2
    change (l : ℕ) = _ at e3
  all_goals
    first
    | have hx : x = ix4 0 0 i ⟨l.val - 128, by omega⟩ := by blk_ext <;> omega
      rw [hx, dif_neg (by omega : ¬ l.val < 128)]
    | have hx : x = ix4 0 0 i ⟨l.val, by omega⟩ := by blk_ext <;> omega
      rw [hx, dif_pos (by omega : l.val < 128)]
  all_goals try simp only [turn32, turn38, turn47, turn58, turn64, turn73, turn84, turn90]
  all_goals pointwise [qturn_at, st141, st142, st27, st28, st150, k0_pay36, k0_pay37, k0_pay43, k0_pay44, k0_pay53, k0_pay54, k0_pay62, k0_pay63, k0_pay69, k0_pay70, k0_pay79, k0_pay80, k0_pay88, k0_pay89]
  all_goals
    first
    | exact congrArg (fun z => z * _) (q_congr x0 x3 x4 x5 x6 i (by dsimp only; omega))
    | refine congrArg (fun z => z * _) (congrArg (fun y => rot y _ _ _) (funext fun l => q_congr x0 x3 x4 x5 x6 i ?_))
      dsimp only
      omega

theorem st149 (i : Fin 256) (l : Fin 128) : k0_pay149 x0 x1 x2 x3 x4 x5 x6 x7 x8 (ix2 i l) = krB x0 x1 x2 x3 x4 i l := by
  unfold k0_pay149 k0_pay24
  exact kr_at x0 x1 x2 x3 x4 x5 x6 x7 x8 i l

/-- The latent keys: 128 lanes of content, then the shared rotated key. -/
theorem blk17 (h : Fin 8) (i : Fin 256) (l : Fin 256) :
    out0_17 x0 x1 x2 x3 x4 x5 x6 x7 x8 (ix4 0 h i l)
      = if hl : l.val < 128 then kvB x0 x3 x4 x7 x8 i ⟨256 * h.val + l.val, by omega⟩
        else krB x0 x1 x2 x3 x4 i ⟨l.val - 128, by omega⟩ := by
  unfold out0_17
  canon_tiles x e
  all_goals
    change (h : ℕ) = _ at e1
    change (i : ℕ) = _ at e2
    change (l : ℕ) = _ at e3
  all_goals
    first
    | have hx : x = ix4 0 0 i ⟨l.val - 128, by omega⟩ := by blk_ext <;> omega
      rw [hx, dif_neg (by omega : ¬ l.val < 128)]
    | have hx : x = ix4 0 0 i ⟨l.val, by omega⟩ := by blk_ext <;> omega
      rw [hx, dif_pos (by omega : l.val < 128)]
  all_goals pointwise [k0_pay33, k0_pay34, k0_pay39, k0_pay40, k0_pay41, k0_pay48, k0_pay49, k0_pay59, k0_pay60, k0_pay65, k0_pay66, k0_pay67, k0_pay74, k0_pay75, k0_pay85, k0_pay86, k0_pay91, k0_pay92, k0_pay93, st149, st151]
  all_goals exact kv_congr x0 x3 x4 x7 x8 i (by dsimp only; omega)

end Cert.ProjP
-- ==== Proof.ProjPRef.lean ====
module

public import Idealize.ShloMosaic.Lib.Pipeline.ValueKit
public import proofs.«01_k».proof.Proof.Gen.ProjPRefIdeal.Run
public import proofs.«01_k».proof.Proof.ProjPPoint

@[expose] public section

set_option maxRecDepth 16384

noncomputable section

/-! The reference of the projections, stage by stage, row by row. -/

namespace Cert.ProjPRef

open Cert.ProjPRefIdeal Cert.ProjPRefIdeal.Gen Cert.ProjPRefIdeal.Value Idealize.ShloMosaic Idealize.ShloMosaic.TcCoe Idealize.SL.Sem
open Cert.ProjP (rms)

/-- The rotation angles of all positions. -/
def angA  : FVec Ideal S4096x32 .f32 :=
  (mulf (broadcastInDim S4096x32 ![0, 1] bcast_S4096x1_S4096x32_0_1 (broadcastInDim S4096x1 ![0] bcast_S4096_S4096x1_0 (sitofp .f32 (addi (broadcastInDim S4096 ![] bcast_S_S4096 (constantI S_ 32 16#32)) (iotaInDim S4096 32 0))))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- The input projections of all frames. -/
def zA (a0 : FVec Ideal S4x4096x2048 .f32) (a1 : FVec Ideal S1x2048 .f32) (a2 : FVec Ideal S1x2048x3904 .f32) : FVec Ideal S4x4096x3904 .f32 :=
  (Host.dotGeneral dot_S4x4096x2048_S2048x3904_S4x4096x3904_2_0_01_1_n_n none (mulf (mulf a0 (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf a0 a0) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ a1 shapeCasts_S1x2048_S2048)))) (shapeCast _ a2 shapeCasts_S1x2048x3904_S2048x3904))

/-- The latent queries of all frames. -/
def qA (a0 : FVec Ideal S4x4096x2048 .f32) (a1 : FVec Ideal S1x2048 .f32) (a2 : FVec Ideal S1x2048x3904 .f32) (a3 : FVec Ideal S1x512 .f32) (a4 : FVec Ideal S1x512x1536 .f32) : FVec Ideal S4x4096x8x192 .f32 :=
  (shapeCast _ (Host.dotGeneral dot_S4x4096x512_S512x1536_S4x4096x1536_2_0_01_1_n_n none (mulf (mulf (extractStridedSlice S4x4096x512 ![0, 0, 3072] (zA a0 a1 a2) slices_S4x4096x3904_S4x4096x512_0_0_3072) (broadcastInDim S4x4096x512 ![0, 1, 2] bcast_S4x4096x1_S4x4096x512_0_1_2 (Host.rsqrt (addf (Host.divf (broadcastInDim S4x4096x1 ![0, 1] bcast_S4x4096_S4x4096x1_0_1 (Host.reduceAdd (mulf (extractStridedSlice S4x4096x512 ![0, 0, 3072] (zA a0 a1 a2) slices_S4x4096x3904_S4x4096x512_0_0_3072) (extractStridedSlice S4x4096x512 ![0, 0, 3072] (zA a0 a1 a2) slices_S4x4096x3904_S4x4096x512_0_0_3072)) (constant S_ .f32 0x00000000#32) reducesTo_S4x4096x512_S4x4096_d2 h_S_)) (broadcastInDim S4x4096x1 ![] bcast_S_S4x4096x1 (constant S_ .f32 0x44000000#32))) (broadcastInDim S4x4096x1 ![] bcast_S_S4x4096x1 (constant S_ .f32 0x358637BD#32)))))) (broadcastInDim S4x4096x512 ![0, 1, 2] bcast_S1x1x512_S4x4096x512_0_1_2 (broadcastInDim S1x1x512 ![2] bcast_S512_S1x1x512_2 (shapeCast _ a3 shapeCasts_S1x512_S512)))) (shapeCast _ a4 shapeCasts_S1x512x1536_S512x1536)) shapeCasts_S4x4096x1536_S4x4096x8x192)

/-- The normalized latents of all frames. -/
def ckvA (a0 : FVec Ideal S4x4096x2048 .f32) (a1 : FVec Ideal S1x2048 .f32) (a2 : FVec Ideal S1x2048x3904 .f32) (a5 : FVec Ideal S1x256 .f32) : FVec Ideal S4x4096x256 .f32 :=
  (mulf (mulf (extractStridedSlice S4x4096x256 ![0, 0, 3584] (zA a0 a1 a2) slices_S4x4096x3904_S4x4096x256_0_0_3584) (broadcastInDim S4x4096x256 ![0, 1, 2] bcast_S4x4096x1_S4x4096x256_0_1_2 (Host.rsqrt (addf (Host.divf (broadcastInDim S4x4096x1 ![0, 1] bcast_S4x4096_S4x4096x1_0_1 (Host.reduceAdd (mulf (extractStridedSlice S4x4096x256 ![0, 0, 3584] (zA a0 a1 a2) slices_S4x4096x3904_S4x4096x256_0_0_3584) (extractStridedSlice S4x4096x256 ![0, 0, 3584] (zA a0 a1 a2) slices_S4x4096x3904_S4x4096x256_0_0_3584)) (constant S_ .f32 0x00000000#32) reducesTo_S4x4096x256_S4x4096_d2 h_S_)) (broadcastInDim S4x4096x1 ![] bcast_S_S4x4096x1 (constant S_ .f32 0x43800000#32))) (broadcastInDim S4x4096x1 ![] bcast_S_S4x4096x1 (constant S_ .f32 0x358637BD#32)))))) (broadcastInDim S4x4096x256 ![0, 1, 2] bcast_S1x1x256_S4x4096x256_0_1_2 (broadcastInDim S1x1x256 ![2] bcast_S256_S1x1x256_2 (shapeCast _ a5 shapeCasts_S1x256_S256))))

/-- The latent keys and values of all frames. -/
def kvA (a0 : FVec Ideal S4x4096x2048 .f32) (a1 : FVec Ideal S1x2048 .f32) (a2 : FVec Ideal S1x2048x3904 .f32) (a5 : FVec Ideal S1x256 .f32) (a6 : FVec Ideal S1x256x2048 .f32) : FVec Ideal S4x4096x8x256 .f32 :=
  (shapeCast _ (Host.dotGeneral dot_S4x4096x256_S256x2048_S4x4096x2048_2_0_01_1_n_n none (ckvA a0 a1 a2 a5) (shapeCast _ a6 shapeCasts_S1x256x2048_S256x2048)) shapeCasts_S4x4096x2048_S4x4096x8x256)

/-- The rotated shared keys of all frames. -/
def krA (a0 : FVec Ideal S4x4096x2048 .f32) (a1 : FVec Ideal S1x2048 .f32) (a2 : FVec Ideal S1x2048x3904 .f32) : FVec Ideal S4x4096x1x64 .f32 :=
  (concatenate S4x4096x1x64 3 [⟨S4x4096x1x32, (subf (mulf (extractStridedSlice S4x4096x1x32 ![0, 0, 0, 0] (broadcastInDim S4x4096x1x64 ![0, 1, 3] bcast_S4x4096x64_S4x4096x1x64_0_1_3 (extractStridedSlice S4x4096x64 ![0, 0, 3840] (zA a0 a1 a2) slices_S4x4096x3904_S4x4096x64_0_0_3840)) slices_S4x4096x1x64_S4x4096x1x32_0_0_0_0) (broadcastInDim S4x4096x1x32 ![0, 1, 2, 3] bcast_S1x4096x1x32_S4x4096x1x32_0_1_2_3 (broadcastInDim S1x4096x1x32 ![1, 3] bcast_S4096x32_S1x4096x1x32_1_3 (Host.cos angA)))) (mulf (extractStridedSlice S4x4096x1x32 ![0, 0, 0, 32] (broadcastInDim S4x4096x1x64 ![0, 1, 3] bcast_S4x4096x64_S4x4096x1x64_0_1_3 (extractStridedSlice S4x4096x64 ![0, 0, 3840] (zA a0 a1 a2) slices_S4x4096x3904_S4x4096x64_0_0_3840)) slices_S4x4096x1x64_S4x4096x1x32_0_0_0_32) (broadcastInDim S4x4096x1x32 ![0, 1, 2, 3] bcast_S1x4096x1x32_S4x4096x1x32_0_1_2_3 (broadcastInDim S1x4096x1x32 ![1, 3] bcast_S4096x32_S1x4096x1x32_1_3 (Host.sin angA)))))⟩, ⟨S4x4096x1x32, (addf (mulf (extractStridedSlice S4x4096x1x32 ![0, 0, 0, 0] (broadcastInDim S4x4096x1x64 ![0, 1, 3] bcast_S4x4096x64_S4x4096x1x64_0_1_3 (extractStridedSlice S4x4096x64 ![0, 0, 3840] (zA a0 a1 a2) slices_S4x4096x3904_S4x4096x64_0_0_3840)) slices_S4x4096x1x64_S4x4096x1x32_0_0_0_0) (broadcastInDim S4x4096x1x32 ![0, 1, 2, 3] bcast_S1x4096x1x32_S4x4096x1x32_0_1_2_3 (broadcastInDim S1x4096x1x32 ![1, 3] bcast_S4096x32_S1x4096x1x32_1_3 (Host.sin angA)))) (mulf (extractStridedSlice S4x4096x1x32 ![0, 0, 0, 32] (broadcastInDim S4x4096x1x64 ![0, 1, 3] bcast_S4x4096x64_S4x4096x1x64_0_1_3 (extractStridedSlice S4x4096x64 ![0, 0, 3840] (zA a0 a1 a2) slices_S4x4096x3904_S4x4096x64_0_0_3840)) slices_S4x4096x1x64_S4x4096x1x32_0_0_0_32) (broadcastInDim S4x4096x1x32 ![0, 1, 2, 3] bcast_S1x4096x1x32_S4x4096x1x32_0_1_2_3 (broadcastInDim S1x4096x1x32 ![1, 3] bcast_S4096x32_S1x4096x1x32_1_3 (Host.cos angA)))))⟩] concatenates_S4x4096x1x32_S4x4096x1x32_S4x4096x1x64_d3)

/-- The array of the queries. -/
def qdA (a0 : FVec Ideal S4x4096x2048 .f32) (a1 : FVec Ideal S1x2048 .f32) (a2 : FVec Ideal S1x2048x3904 .f32) : FVec Ideal S4x8x2x4096x128 .bf16 :=
  truncf .bf16 (transpose S4x8x2x4096x128 [1, 3, 0, 2, 4] (concatenate S2x4x4096x8x128 0 [⟨S1x4x4096x8x128, (broadcastInDim S1x4x4096x8x128 ![1, 2, 3, 4] bcast_S4x4096x8x128_S1x4x4096x8x128_1_2_3_4 (concatenate S4x4096x8x128 3 [⟨S4x4096x8x64, (shapeCast _ (extractStridedSlice S4x4096x8x1x64 ![0, 0, 0, 0, 0] (mulf (shapeCast _ (extractStridedSlice S4x4096x1024 ![0, 0, 0] (zA a0 a1 a2) slices_S4x4096x3904_S4x4096x1024_0_0_0) shapeCasts_S4x4096x1024_S4x4096x8x2x64) (broadcastInDim S4x4096x8x2x64 ![] bcast_S_S4x4096x8x2x64 (constant S_ .f32 0x3E38AA3B#32))) slices_S4x4096x8x2x64_S4x4096x8x1x64_0_0_0_0_0) shapeCasts_S4x4096x8x1x64_S4x4096x8x64)⟩, ⟨S4x4096x8x64, (broadcastInDim S4x4096x8x64 ![] bcast_S_S4x4096x8x64 (constant (F := Ideal) S_ .f32 0x00000000#32))⟩] concatenates_S4x4096x8x64_S4x4096x8x64_S4x4096x8x128_d3))⟩, ⟨S1x4x4096x8x128, (broadcastInDim S1x4x4096x8x128 ![1, 2, 3, 4] bcast_S4x4096x8x128_S1x4x4096x8x128_1_2_3_4 (concatenate S4x4096x8x128 3 [⟨S4x4096x8x64, (broadcastInDim S4x4096x8x64 ![] bcast_S_S4x4096x8x64 (constant (F := Ideal) S_ .f32 0x00000000#32))⟩, ⟨S4x4096x8x64, (shapeCast _ (extractStridedSlice S4x4096x8x1x64 ![0, 0, 0, 1, 0] (mulf (shapeCast _ (extractStridedSlice S4x4096x1024 ![0, 0, 0] (zA a0 a1 a2) slices_S4x4096x3904_S4x4096x1024_0_0_0) shapeCasts_S4x4096x1024_S4x4096x8x2x64) (broadcastInDim S4x4096x8x2x64 ![] bcast_S_S4x4096x8x2x64 (constant S_ .f32 0x3E38AA3B#32))) slices_S4x4096x8x2x64_S4x4096x8x1x64_0_0_0_1_0) shapeCasts_S4x4096x8x1x64_S4x4096x8x64)⟩] concatenates_S4x4096x8x64_S4x4096x8x64_S4x4096x8x128_d3))⟩] concatenates_S1x4x4096x8x128_S1x4x4096x8x128_S2x4x4096x8x128_d0) transposes_S2x4x4096x8x128_S4x8x2x4096x128_1_3_0_2_4) bitsLt_bf16_f32

/-- The array of the keys. -/
def kdA (a0 : FVec Ideal S4x4096x2048 .f32) (a1 : FVec Ideal S1x2048 .f32) (a2 : FVec Ideal S1x2048x3904 .f32) : FVec Ideal S4x4096x1024 .f32 :=
  extractStridedSlice S4x4096x1024 ![0, 0, 1024] (zA a0 a1 a2) slices_S4x4096x3904_S4x4096x1024_0_0_1024

/-- The array of the values. -/
def vdA (a0 : FVec Ideal S4x4096x2048 .f32) (a1 : FVec Ideal S1x2048 .f32) (a2 : FVec Ideal S1x2048x3904 .f32) : FVec Ideal S4x4096x1024 .f32 :=
  extractStridedSlice S4x4096x1024 ![0, 0, 2048] (zA a0 a1 a2) slices_S4x4096x3904_S4x4096x1024_0_0_2048

/-- The array of the shared keys. -/
def kA (a0 : FVec Ideal S4x4096x2048 .f32) (a1 : FVec Ideal S1x2048 .f32) (a2 : FVec Ideal S1x2048x3904 .f32) : FVec Ideal S4x4096x64 .f32 :=
  shapeCast _ (krA a0 a1 a2) shapeCasts_S4x4096x1x64_S4x4096x64

/-- The array of the keys by head. -/
def khA (a0 : FVec Ideal S4x4096x2048 .f32) (a1 : FVec Ideal S1x2048 .f32) (a2 : FVec Ideal S1x2048x3904 .f32) : FVec Ideal S4x8x4096x128 .bf16 :=
  truncf .bf16 (transpose S4x8x4096x128 [0, 2, 1, 3] (shapeCast _ (extractStridedSlice S4x4096x1024 ![0, 0, 1024] (zA a0 a1 a2) slices_S4x4096x3904_S4x4096x1024_0_0_1024) shapeCasts_S4x4096x1024_S4x4096x8x128) transposes_S4x4096x8x128_S4x8x4096x128_0_2_1_3) bitsLt_bf16_f32

/-- The array of the latent queries. -/
def qmA (a0 : FVec Ideal S4x4096x2048 .f32) (a1 : FVec Ideal S1x2048 .f32) (a2 : FVec Ideal S1x2048x3904 .f32) (a3 : FVec Ideal S1x512 .f32) (a4 : FVec Ideal S1x512x1536 .f32) : FVec Ideal S4x8x4096x256 .bf16 :=
  truncf .bf16 (transpose S4x8x4096x256 [0, 2, 1, 3] (mulf ((concatenate S4x4096x8x256 3 [⟨S4x4096x8x128, ((extractStridedSlice S4x4096x8x128 ![0, 0, 0, 0] (qA a0 a1 a2 a3 a4) slices_S4x4096x8x192_S4x4096x8x128_0_0_0_0) : (⟨S4x4096x8x128, .f32⟩ : BufTy).Contents (Elt Ideal))⟩, ⟨S4x4096x8x64, ((concatenate S4x4096x8x64 3 [⟨S4x4096x8x32, (subf (mulf (extractStridedSlice S4x4096x8x32 ![0, 0, 0, 0] (extractStridedSlice S4x4096x8x64 ![0, 0, 0, 128] (qA a0 a1 a2 a3 a4) slices_S4x4096x8x192_S4x4096x8x64_0_0_0_128) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 (Host.cos angA)))) (mulf (extractStridedSlice S4x4096x8x32 ![0, 0, 0, 32] (extractStridedSlice S4x4096x8x64 ![0, 0, 0, 128] (qA a0 a1 a2 a3 a4) slices_S4x4096x8x192_S4x4096x8x64_0_0_0_128) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 (Host.sin angA)))))⟩, ⟨S4x4096x8x32, (addf (mulf (extractStridedSlice S4x4096x8x32 ![0, 0, 0, 0] (extractStridedSlice S4x4096x8x64 ![0, 0, 0, 128] (qA a0 a1 a2 a3 a4) slices_S4x4096x8x192_S4x4096x8x64_0_0_0_128) slices_S4x4096x8x64_S4x4096x8x32_0_0_0_0) (broadcastInDim S4x4096x8x32 ![0, 1, 2, 3] bcast_S1x4096x1x32_S4x4096x8x32_0_1_2_3 (broadcastInDim S1x4096x1x32 ![1, 3] bcast_S4096x32_S1x4096x1x32_1_3 (Host.sin angA)))) (mulf (extractStridedSlice S4x4096x8x32 ![0, 0, 0, 32] (extractStridedSlice S4x4096x8x64 ![0, 0, 0, 128] (qA a0 a1 a2 a3 a4) slices_S4x4096x8x192_S4x4096x8x64_0_0_0_128) slices_S4x4096x8x64_S4x4096x8x32_0_0_0_32) (broadcastInDim S4x4096x8x32 ![0, 1, 2, 3] bcast_S1x4096x1x32_S4x4096x8x32_0_1_2_3 (broadcastInDim S1x4096x1x32 ![1, 3] bcast_S4096x32_S1x4096x1x32_1_3 (Host.cos angA)))))⟩] concatenates_S4x4096x8x32_S4x4096x8x32_S4x4096x8x64_d3) : (⟨S4x4096x8x64, .f32⟩ : BufTy).Contents (Elt Ideal))⟩, ⟨S4x4096x8x64, ((broadcastInDim S4x4096x8x64 ![] bcast_S_S4x4096x8x64 (constant (F := Ideal) S_ .f32 0x00000000#32)) : (⟨S4x4096x8x64, .f32⟩ : BufTy).Contents (Elt Ideal))⟩] concatenates_S4x4096x8x128_S4x4096x8x64_S4x4096x8x64_S4x4096x8x256_d3 : (⟨S4x4096x8x256, .f32⟩ : BufTy).Contents (Elt Ideal))) (broadcastInDim S4x4096x8x256 ![] bcast_S_S4x4096x8x256 (constant S_ .f32 0x3DD53B95#32))) transposes_S4x4096x8x256_S4x8x4096x256_0_2_1_3) bitsLt_bf16_f32

/-- The array of the latent keys. -/
def kmA (a0 : FVec Ideal S4x4096x2048 .f32) (a1 : FVec Ideal S1x2048 .f32) (a2 : FVec Ideal S1x2048x3904 .f32) (a5 : FVec Ideal S1x256 .f32) (a6 : FVec Ideal S1x256x2048 .f32) : FVec Ideal S4x8x4096x256 .bf16 :=
  truncf .bf16 (transpose S4x8x4096x256 [0, 2, 1, 3] ((concatenate S4x4096x8x256 3 [⟨S4x4096x8x128, ((extractStridedSlice S4x4096x8x128 ![0, 0, 0, 0] (kvA a0 a1 a2 a5 a6) slices_S4x4096x8x256_S4x4096x8x128_0_0_0_0) : (⟨S4x4096x8x128, .f32⟩ : BufTy).Contents (Elt Ideal))⟩, ⟨S4x4096x8x64, ((broadcastInDim S4x4096x8x64 ![0, 1, 2, 3] bcast_S4x4096x1x64_S4x4096x8x64_0_1_2_3 (krA a0 a1 a2)) : (⟨S4x4096x8x64, .f32⟩ : BufTy).Contents (Elt Ideal))⟩, ⟨S4x4096x8x64, ((broadcastInDim S4x4096x8x64 ![] bcast_S_S4x4096x8x64 (constant (F := Ideal) S_ .f32 0x00000000#32)) : (⟨S4x4096x8x64, .f32⟩ : BufTy).Contents (Elt Ideal))⟩] concatenates_S4x4096x8x128_S4x4096x8x64_S4x4096x8x64_S4x4096x8x256_d3 : (⟨S4x4096x8x256, .f32⟩ : BufTy).Contents (Elt Ideal))) transposes_S4x4096x8x256_S4x8x4096x256_0_2_1_3) bitsLt_bf16_f32

variable (a0 : FVec Ideal S4x4096x2048 .f32) (a1 : FVec Ideal S1x2048 .f32) (a2 : FVec Ideal S1x2048x3904 .f32) (a3 : FVec Ideal S1x512 .f32) (a4 : FVec Ideal S1x512x1536 .f32) (a5 : FVec Ideal S1x256 .f32) (a6 : FVec Ideal S1x256x2048 .f32)

/-- The normalized frame of batch `b`, position `p`. -/
def hR (b : Fin 4) (p : Fin 4096) (k : Fin 2048) : EReal :=
  rms (Ideal.ofBits .f32 0x45000000#32) (fun k => a0 (ix3 b p k)) (fun k => a1 (ix2 0 k)) k

/-- Its input projection. -/
def zR (b : Fin 4) (p : Fin 4096) (j : Fin 3904) : EReal := ∑ k, hR a0 a1 b p k * a2 (ix3 0 k j)

/-- Its normalized query latent. -/
def cqR (b : Fin 4) (p : Fin 4096) (k : Fin 512) : EReal :=
  rms (Ideal.ofBits .f32 0x44000000#32) (fun k : Fin 512 => zR a0 a1 a2 b p ⟨3072 + k.val, by omega⟩) (fun k => a3 (ix2 0 k)) k

/-- Its latent queries. -/
def qR (b : Fin 4) (p : Fin 4096) (j : Fin 1536) : EReal := ∑ k, cqR a0 a1 a2 a3 b p k * a4 (ix3 0 k j)

/-- Its normalized key-value latent. -/
def ckvR (b : Fin 4) (p : Fin 4096) (k : Fin 256) : EReal :=
  rms (Ideal.ofBits .f32 0x43800000#32) (fun k : Fin 256 => zR a0 a1 a2 b p ⟨3584 + k.val, by omega⟩) (fun k => a5 (ix2 0 k)) k

/-- Its latent keys and values. -/
def kvR (b : Fin 4) (p : Fin 4096) (j : Fin 2048) : EReal := ∑ k, ckvR a0 a1 a2 a5 b p k * a6 (ix3 0 k j)

/-- The rotation angle of position `p` at frequency `f`. -/
def ang (p : Fin 4096) (f : Fin 32) : EReal :=
  FloatOps.sitofp (F := Ideal) FTy.f32 (IntOp.addi (16#32) (BitVec.ofNat 32 p.val)) *
    Ideal.pow (Ideal.ofBits FTy.f32 0x461C4000#32)
      (Ideal.div (-FloatOps.sitofp (F := Ideal) FTy.f32 (BitVec.ofNat 32 f.val)) (Ideal.ofBits FTy.f32 0x42000000#32))

/-- The rotary step of the reference: the first half minus, the second half plus. -/
def rope (y : Fin 64 → EReal) (p : Fin 4096) (l : Fin 64) : EReal :=
  if h : l.val < 32 then y l * Ideal.cos (ang p ⟨l.val, h⟩) - y ⟨32 + l.val, by omega⟩ * Ideal.sin (ang p ⟨l.val, h⟩)
  else y ⟨l.val - 32, by omega⟩ * Ideal.sin (ang p ⟨l.val - 32, by omega⟩)
    + y ⟨32 + (l.val - 32), by omega⟩ * Ideal.cos (ang p ⟨l.val - 32, by omega⟩)

/-- The rotated shared key. -/
def krR (b : Fin 4) (p : Fin 4096) (l : Fin 64) : EReal :=
  rope (fun l : Fin 64 => zR a0 a1 a2 b p ⟨3840 + l.val, by omega⟩) p l

/-- The queries by head and component, with zeros in the other component's lanes. -/
def outQd : FVec Ideal S4x8x2x4096x128 .bf16 := fun y =>
  have hh : (y 1).val < 8 := (y 1).isLt
  have hl : (y 4).val < 128 := (y 4).isLt
  if ((y 4).val < 64 ↔ (y 2).val = 0) then
    zR a0 a1 a2 ⟨(y 0).val, (y 0).isLt⟩ ⟨(y 3).val, (y 3).isLt⟩ ⟨(y 1).val * 128 + (y 4).val, by omega⟩
      * Ideal.ofBits .f32 0x3E38AA3B#32
  else 0

/-- `1024` columns of the input projection from column `o` on, row by row. -/
def outRows (o : ℕ) (ho : o + 1024 ≤ 3904) : FVec Ideal S4x4096x1024 .f32 := fun y =>
  have hj : (y 2).val < 1024 := (y 2).isLt
  zR a0 a1 a2 ⟨(y 0).val, (y 0).isLt⟩ ⟨(y 1).val, (y 1).isLt⟩ ⟨o + (y 2).val, by omega⟩

/-- The normalized key-value latents, row by row. -/
def outCkv : FVec Ideal S4x4096x256 .f32 := fun y =>
  ckvR a0 a1 a2 a5 ⟨(y 0).val, (y 0).isLt⟩ ⟨(y 1).val, (y 1).isLt⟩ ⟨(y 2).val, (y 2).isLt⟩

/-- The rotated shared keys, row by row. -/
def outKr : FVec Ideal S4x4096x64 .f32 := fun y =>
  krR a0 a1 a2 ⟨(y 0).val, (y 0).isLt⟩ ⟨(y 1).val, (y 1).isLt⟩ ⟨(y 2).val, (y 2).isLt⟩

/-- `1024` columns of the input projection from column `o` on, by head. -/
def outHeads (o : ℕ) (ho : o + 1024 ≤ 3904) : FVec Ideal S4x8x4096x128 .bf16 := fun y =>
  have hh : (y 1).val < 8 := (y 1).isLt
  have hl : (y 3).val < 128 := (y 3).isLt
  zR a0 a1 a2 ⟨(y 0).val, (y 0).isLt⟩ ⟨(y 2).val, (y 2).isLt⟩ ⟨o + ((y 1).val * 128 + (y 3).val), by omega⟩

/-- The latent queries by head: 128 lanes of content, 64 rotated lanes, 64 zeros; scaled. -/
def outQm : FVec Ideal S4x8x4096x256 .bf16 := fun y =>
  have hh : (y 1).val < 8 := (y 1).isLt
  have hl : (y 3).val < 256 := (y 3).isLt
  (if h : (y 3).val < 128 then
    qR a0 a1 a2 a3 a4 ⟨(y 0).val, (y 0).isLt⟩ ⟨(y 2).val, (y 2).isLt⟩ ⟨(y 1).val * 192 + (y 3).val, by omega⟩
  else if h' : (y 3).val - 128 < 64 then
    rope (fun l => qR a0 a1 a2 a3 a4 ⟨(y 0).val, (y 0).isLt⟩ ⟨(y 2).val, (y 2).isLt⟩
      ⟨(y 1).val * 192 + (128 + l.val), by omega⟩) ⟨(y 2).val, (y 2).isLt⟩ ⟨(y 3).val - 128, by omega⟩
  else 0) * Ideal.ofBits .f32 0x3DD53B95#32

/-- The latent keys by head: 128 lanes of content, the shared rotated key, 64 zeros. -/
def outKm : FVec Ideal S4x8x4096x256 .bf16 := fun y =>
  have hh : (y 1).val < 8 := (y 1).isLt
  have hl : (y 3).val < 256 := (y 3).isLt
  if h : (y 3).val < 128 then
    kvR a0 a1 a2 a5 a6 ⟨(y 0).val, (y 0).isLt⟩ ⟨(y 2).val, (y 2).isLt⟩ ⟨(y 1).val * 256 + (y 3).val, by omega⟩
  else if h' : (y 3).val - 128 < 64 then
    krR a0 a1 a2 ⟨(y 0).val, (y 0).isLt⟩ ⟨(y 2).val, (y 2).isLt⟩ ⟨(y 3).val - 128, by omega⟩
  else 0

theorem zR_congr (b : Fin 4) (p : Fin 4096) {i j : Fin 3904} (h : i.val = j.val) : zR a0 a1 a2 b p i = zR a0 a1 a2 b p j :=
  congrArg _ (Fin.ext h)

theorem ang_at (p : Fin 4096) (f : Fin 32) : angA (ix2 p f) = ang p f := by
  pointwise [angA, ang]

theorem zA_at (b : Fin 4) (p : Fin 4096) (j : Fin 3904) : zA a0 a1 a2 (ix3 b p j) = zR a0 a1 a2 b p j := by
  pointwise [zA, zR, hR, rms]

theorem qA_at (b : Fin 4) (p : Fin 4096) (h : Fin 8) (d : Fin 192) : qA a0 a1 a2 a3 a4 (ix4 b p h d) = qR a0 a1 a2 a3 a4 b p ⟨h.val * 192 + d.val, by omega⟩ := by
  pointwise [qA, zA_at, qR, cqR, rms]

theorem ckvA_at (b : Fin 4) (p : Fin 4096) (k : Fin 256) : ckvA a0 a1 a2 a5 (ix3 b p k) = ckvR a0 a1 a2 a5 b p k := by
  pointwise [ckvA, zA_at, ckvR, rms]

theorem kvA_at (b : Fin 4) (p : Fin 4096) (h : Fin 8) (d : Fin 256) : kvA a0 a1 a2 a5 a6 (ix4 b p h d) = kvR a0 a1 a2 a5 a6 b p ⟨h.val * 256 + d.val, by omega⟩ := by
  pointwise [kvA, ckvA_at, kvR]

theorem krA_at (b : Fin 4) (p : Fin 4096) (l : Fin 64) : krA a0 a1 a2 (ix4 b p 0 l) = krR a0 a1 a2 b p l := by
  pointwise [krA, zA_at, ang_at, krR, rope]

theorem qd_eq : qdA a0 a1 a2 = outQd a0 a1 a2 := by
  refine funext fun y => ?_
  obtain ⟨b, h, d, r, l, rfl⟩ : ∃ (b : Fin 4) (h : Fin 8) (d : Fin 2) (r : Fin 4096) (l : Fin 128), y = ix5 b h d r l := ⟨y 0, y 1, y 2, y 3, y 4, by blk_ext⟩
  pointwise [qdA, outQd, zA_at, qA_at, ckvA_at, kvA_at, krA_at, ang_at, rope]
  by_cases hd : d.val < 1
  · have hd0 : d.val = 0 := by omega
    by_cases hl : l.val < 64
    · simp only [hd0, hl, dif_pos, if_true, iff_self, zero_lt_one]
    · simp only [hd0, hl, dif_pos, dite_false, iff_true, if_false, zero_lt_one]
  · have hd0 : ¬ d.val = 0 := by omega
    by_cases hl : l.val < 64
    · simp only [hd, hd0, hl, dite_true, dite_false, iff_false, not_true, if_false]
    · simp only [hd, hd0, hl, dite_false, iff_self, if_true]
      exact congrArg (fun z => z * Ideal.ofBits .f32 0x3E38AA3B#32) (zR_congr _ _ _ _ _ (by dsimp only; omega))

theorem kd_eq : kdA a0 a1 a2 = outRows a0 a1 a2 1024 (by decide) := by
  refine funext fun y => ?_
  obtain ⟨b, r, l, rfl⟩ : ∃ (b : Fin 4) (r : Fin 4096) (l : Fin 1024), y = ix3 b r l := ⟨y 0, y 1, y 2, by blk_ext⟩
  pointwise [kdA, outRows, zA_at, qA_at, ckvA_at, kvA_at, krA_at, ang_at, rope]

theorem vd_eq : vdA a0 a1 a2 = outRows a0 a1 a2 2048 (by decide) := by
  refine funext fun y => ?_
  obtain ⟨b, r, l, rfl⟩ : ∃ (b : Fin 4) (r : Fin 4096) (l : Fin 1024), y = ix3 b r l := ⟨y 0, y 1, y 2, by blk_ext⟩
  pointwise [vdA, outRows, zA_at, qA_at, ckvA_at, kvA_at, krA_at, ang_at, rope]

theorem ckv_eq : ckvA a0 a1 a2 a5 = outCkv a0 a1 a2 a5 := by
  refine funext fun y => ?_
  obtain ⟨b, r, l, rfl⟩ : ∃ (b : Fin 4) (r : Fin 4096) (l : Fin 256), y = ix3 b r l := ⟨y 0, y 1, y 2, by blk_ext⟩
  pointwise [outCkv, zA_at, qA_at, ckvA_at, kvA_at, krA_at, ang_at, rope]

theorem k_eq : kA a0 a1 a2 = outKr a0 a1 a2 := by
  refine funext fun y => ?_
  obtain ⟨b, r, l, rfl⟩ : ∃ (b : Fin 4) (r : Fin 4096) (l : Fin 64), y = ix3 b r l := ⟨y 0, y 1, y 2, by blk_ext⟩
  pointwise [kA, outKr, zA_at, qA_at, ckvA_at, kvA_at, krA_at, ang_at, rope]

theorem kh_eq : khA a0 a1 a2 = outHeads a0 a1 a2 1024 (by decide) := by
  refine funext fun y => ?_
  obtain ⟨b, h, r, l, rfl⟩ : ∃ (b : Fin 4) (h : Fin 8) (r : Fin 4096) (l : Fin 128), y = ix4 b h r l := ⟨y 0, y 1, y 2, y 3, by blk_ext⟩
  pointwise [khA, outHeads, zA_at, qA_at, ckvA_at, kvA_at, krA_at, ang_at, rope]

theorem qm_eq : qmA a0 a1 a2 a3 a4 = outQm a0 a1 a2 a3 a4 := by
  refine funext fun y => ?_
  obtain ⟨b, h, r, l, rfl⟩ : ∃ (b : Fin 4) (h : Fin 8) (r : Fin 4096) (l : Fin 256), y = ix4 b h r l := ⟨y 0, y 1, y 2, y 3, by blk_ext⟩
  pointwise [qmA, outQm, zA_at, qA_at, ckvA_at, kvA_at, krA_at, ang_at, rope]

theorem km_eq : kmA a0 a1 a2 a5 a6 = outKm a0 a1 a2 a5 a6 := by
  refine funext fun y => ?_
  obtain ⟨b, h, r, l, rfl⟩ : ∃ (b : Fin 4) (h : Fin 8) (r : Fin 4096) (l : Fin 256), y = ix4 b h r l := ⟨y 0, y 1, y 2, y 3, by blk_ext⟩
  pointwise [kmA, outKm, zA_at, qA_at, ckvA_at, kvA_at, krA_at, ang_at, rope]

set_option maxHeartbeats 1000000 in
/-- The run of the reference, its results as the row functions above. -/
theorem run_rows (m : (ℓ : Loc nD τ sig) → Buf (Elt Ideal) ℓ) (ρ : Dev nD → PrngReg) :
    θ_run defs (onTc (τ := τ) (main (F := Ideal))) ⟨m, fun _ => 0, ρ⟩ fun r => ∀ c : Dev nD,
        r.2.mem ((c.tc : Thread nD τ).loc main_v140) = outQd (m ((c.tc : Thread nD τ).loc main_arg0)) (m ((c.tc : Thread nD τ).loc main_arg1)) (m ((c.tc : Thread nD τ).loc main_arg2))
      ∧ r.2.mem ((c.tc : Thread nD τ).loc main_v21) = outRows (m ((c.tc : Thread nD τ).loc main_arg0)) (m ((c.tc : Thread nD τ).loc main_arg1)) (m ((c.tc : Thread nD τ).loc main_arg2)) 1024 (by decide)
      ∧ r.2.mem ((c.tc : Thread nD τ).loc main_v22) = outRows (m ((c.tc : Thread nD τ).loc main_arg0)) (m ((c.tc : Thread nD τ).loc main_arg1)) (m ((c.tc : Thread nD τ).loc main_arg2)) 2048 (by decide)
      ∧ r.2.mem ((c.tc : Thread nD τ).loc main_v55) = outCkv (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v141) = outKr (m ((c.tc : Thread nD τ).loc main_arg0)) (m ((c.tc : Thread nD τ).loc main_arg1)) (m ((c.tc : Thread nD τ).loc main_arg2))
      ∧ r.2.mem ((c.tc : Thread nD τ).loc main_v144) = outHeads (m ((c.tc : Thread nD τ).loc main_arg0)) (m ((c.tc : Thread nD τ).loc main_arg1)) (m ((c.tc : Thread nD τ).loc main_arg2)) 1024 (by decide)
      ∧ r.2.mem ((c.tc : Thread nD τ).loc main_v146) = outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v148) = outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun r h1 c => ⟨(h1 c).1.trans (qd_eq _ _ _),
    (h1 c).2.1.trans (kd_eq _ _ _),
    (h1 c).2.2.1.trans (vd_eq _ _ _),
    (h1 c).2.2.2.1.trans (ckv_eq _ _ _ _),
    (h1 c).2.2.2.2.1.trans (k_eq _ _ _),
    (h1 c).2.2.2.2.2.1.trans (kh_eq _ _ _),
    (h1 c).2.2.2.2.2.2.1.trans (qm_eq _ _ _ _ _),
    (h1 c).2.2.2.2.2.2.2.1.trans (km_eq _ _ _ _ _),
    (h1 c).2.2.2.2.2.2.2.2⟩) (run (F := Ideal) m ρ)

end Cert.ProjPRef
-- ==== Proof.ProjPRead.lean ====
module

public import Idealize.ShloMosaic.Lib.Pipeline.ValueKit
public import Idealize.ShloMosaic.Lib.Pipeline.ReadBack
public import proofs.«01_k».proof.Proof.ProjPHost
public import proofs.«01_k».proof.Proof.ProjPBlock
public import proofs.«01_k».proof.Proof.ProjPRef

@[expose] public section

set_option maxRecDepth 16384

noncomputable section

/-! What the projection kernel of the prompt reads at a grid point: rows of the arguments, the rotation tables, the padded weights. -/

namespace Cert.ProjP

open Cert.ProjPIdeal Cert.ProjPIdeal.Gen Idealize.ShloMosaic Idealize.ShloMosaic.TcCoe Idealize.SL.Sem
open Cert.ProjPRef (ang)

variable (m : (ℓ : Loc nD τ sig) → Buf (Elt Ideal) ℓ)

theorem idx : ∀ t : Fin cfg0.N, win0_0.index t = ![t.val / 16, t.val % 16, 0] ∧ win0_1.index t = ![t.val % 16, 0]
    ∧ win0_2.index t = ![t.val % 16, 0] ∧ win0_3.index t = ![0, 0] ∧ win0_4.index t = ![0, 0]
    ∧ win0_5.index t = ![0, 0] ∧ win0_6.index t = ![0, 0] ∧ win0_7.index t = ![0, 0]
    ∧ win0_8.index t = ![0, 0] ∧ win0_9.index t = ![t.val / 16, 0, 0, t.val % 16, 0]
    ∧ win0_10.index t = ![t.val / 16, t.val % 16, 0]
    ∧ win0_11.index t = ![t.val / 16, t.val % 16, 0] ∧ win0_12.index t = ![t.val / 16, t.val % 16, 0]
    ∧ win0_13.index t = ![t.val / 16, t.val % 16, 0] ∧ win0_14.index t = ![t.val / 16, 0, t.val % 16, 0]
    ∧ win0_16.index t = ![t.val / 16, 0, t.val % 16, 0] ∧ win0_17.index t = ![t.val / 16, 0, t.val % 16, 0] :=
  (by decide +kernel : ∀ t : Fin grid0.N, _)

/-- One layer of a weight array. -/
theorem cast6 (x : FVec Ideal S1x256x2048 .f32) (k : Fin 256) (j : Fin 2048) :
    (shapeCast S256x2048 x shapeCasts_S1x256x2048_S256x2048 : FVec Ideal S256x2048 .f32) (ix2 k j) = x (ix3 0 k j) := by
  pointwise

theorem cast2 (x : FVec Ideal S1x2048x3904 .f32) (k : Fin 2048) (j : Fin 3904) :
    (shapeCast S2048x3904 x shapeCasts_S1x2048x3904_S2048x3904 : FVec Ideal S2048x3904 .f32) (ix2 k j) = x (ix3 0 k j) := by
  pointwise

theorem zero_word : (FloatOps.sitofp (F := Ideal) FTy.f32 0#32 : EReal) = 0 := by
  show (((0#32).toInt : ℝ) : EReal) = 0
  simp

theorem angles_at (r : Fin 4096) (f : Fin 32) : angles (ix2 r f) = ang r f := by
  unfold angles ang
  pointwise

theorem blank_at (r : Fin 4096) (f : Fin 32) : (blank (ix2 r f) : EReal) = 0 := by
  unfold blank
  pointwise

theorem v38_at (c : Dev nD) (r : Fin 4096) (l : Fin 128) :
    (V m c main_v38 : FVec Ideal S4096x128 .f32) (ix2 r l) = (if h : l.val < 32 then Ideal.cos (ang r ⟨l.val, h⟩)
      else if h' : l.val < 64 then Ideal.cos (ang r ⟨l.val - 32, by omega⟩) else 0 : EReal) := by
  rw [v38_eq]
  by_cases h1 : l.val < 32
  · pointwise [angles_at, blank_at, h1]
  · by_cases h2 : l.val < 64
    · have h3 : l.val - 32 < 32 := by omega
      pointwise [angles_at, blank_at, h1, h2, h3]
    · have h3 : ¬ l.val - 32 < 32 := by omega
      pointwise [angles_at, blank_at, h1, h2, h3]
      split_ifs <;> rfl

theorem v40_at (c : Dev nD) (r : Fin 4096) (l : Fin 128) :
    (V m c main_v40 : FVec Ideal S4096x128 .f32) (ix2 r l) = (if h : l.val < 32 then - Ideal.sin (ang r ⟨l.val, h⟩)
      else if h' : l.val < 64 then Ideal.sin (ang r ⟨l.val - 32, by omega⟩) else 0 : EReal) := by
  rw [v40_eq]
  by_cases h1 : l.val < 32
  · pointwise [angles_at, blank_at, h1]
  · by_cases h2 : l.val < 64
    · have h3 : l.val - 32 < 32 := by omega
      pointwise [angles_at, blank_at, h1, h2, h3]
    · have h3 : ¬ l.val - 32 < 32 := by omega
      pointwise [angles_at, blank_at, h1, h2, h3]
      split_ifs <;> rfl

theorem pad_at (x : FVec Ideal S2048x3904 .f32) (v : FVec Ideal S_ .f32) (k : Fin 2048) (j : Fin 3968) :
    (pad S2048x3968 ![0, 0] ![0, 64] ![0, 0] x v pads_S2048x3904_S2048x3968_000_0640 h_S_ : FVec Ideal S2048x3968 .f32) (ix2 k j)
      = if h : j.val < 3904 then x (ix2 k ⟨j.val, h⟩) else v ix0 := by
  pointwise
  split_ifs
  · rfl
  · exact congrArg v (Subsingleton.elim _ _)

theorem v2_at (c : Dev nD) (k : Fin 2048) (j : Fin 3968) :
    (V m c main_v2 : FVec Ideal S2048x3968 .bf16) (ix2 k j) = (if h : j.val < 3904 then m ((c.tc : Thread nD τ).loc main_arg2) (ix3 0 k ⟨j.val, h⟩) else 0 : EReal) := by
  rw [v2_eq]
  refine (pad_at _ _ k j).trans ?_
  split_ifs
  · exact cast2 _ _ _
  · exact zero_word

theorem v11_at (c : Dev nD) (k : Fin 512) (j : Fin 2048) :
    (V m c main_v11 : FVec Ideal S512x2048 .bf16) (ix2 k j) = (if h : j.val < 1024 then m ((c.tc : Thread nD τ).loc main_arg4) (ix3 0 k ⟨j.val / 128 * 192 + j.val % 128, by omega⟩)
      else if h' : (j.val - 1024) % 128 < 64 then m ((c.tc : Thread nD τ).loc main_arg4) (ix3 0 k ⟨(j.val - 1024) / 128 * 192 + (128 + (j.val - 1024) % 128), by omega⟩) else 0 : EReal) := by
  rw [v11_eq]
  by_cases h1 : j.val < 1024
  · pointwise [perHead, h1]
  · have h3 : (j.val - 1024) / 128 < 8 := by omega
    by_cases h2 : (j.val - 1024) % 128 < 64
    · pointwise [perHead, h1, h2, h3]
    · pointwise [perHead, h1, h2, h3, zero_word]

theorem v15_at (c : Dev nD) (k : Fin 2048) : (V m c main_v15 : FVec Ideal S1x2048 .f32) (ix2 0 k) = m ((c.tc : Thread nD τ).loc main_arg1) (ix2 0 k) := by
  rw [v15_eq]
  pointwise

theorem read3 (c : Dev nD) (t : Fin cfg0.N) (k : Fin 2048) :
    iblk m c 3 t (ix2 0 k) = V m c main_v15 (ix2 0 k) := by
  unfold iblk
  exact congrArg (V m c main_v15) (by blk_ext [idx t] : (win0_3.blk t).view.emb (ix2 0 k) = ix2 0 k)

theorem v17_at (c : Dev nD) (k : Fin 512) : (V m c main_v17 : FVec Ideal S1x512 .f32) (ix2 0 k) = m ((c.tc : Thread nD τ).loc main_arg3) (ix2 0 k) := by
  rw [v17_eq]
  pointwise

theorem read5 (c : Dev nD) (t : Fin cfg0.N) (k : Fin 512) :
    iblk m c 5 t (ix2 0 k) = V m c main_v17 (ix2 0 k) := by
  unfold iblk
  exact congrArg (V m c main_v17) (by blk_ext [idx t] : (win0_5.blk t).view.emb (ix2 0 k) = ix2 0 k)

theorem v19_at (c : Dev nD) (k : Fin 256) : (V m c main_v19 : FVec Ideal S1x256 .f32) (ix2 0 k) = m ((c.tc : Thread nD τ).loc main_arg5) (ix2 0 k) := by
  rw [v19_eq]
  pointwise

theorem read7 (c : Dev nD) (t : Fin cfg0.N) (k : Fin 256) :
    iblk m c 7 t (ix2 0 k) = V m c main_v19 (ix2 0 k) := by
  unfold iblk
  exact congrArg (V m c main_v19) (by blk_ext [idx t] : (win0_7.blk t).view.emb (ix2 0 k) = ix2 0 k)

theorem v13_at (c : Dev nD) (k : Fin 256) (j : Fin 2048) : (V m c main_v13 : FVec Ideal S256x2048 .bf16) (ix2 k j) = m ((c.tc : Thread nD τ).loc main_arg6) (ix3 0 k j) := by
  rw [v13_eq]
  exact cast6 _ k j

theorem read8 (c : Dev nD) (t : Fin cfg0.N) (k : Fin 256) (j : Fin 2048) :
    iblk m c 8 t (ix2 k j) = V m c main_v13 (ix2 k j) := by
  unfold iblk
  exact congrArg (V m c main_v13) (by blk_ext [idx t] : (win0_8.blk t).view.emb (ix2 k j) = ix2 k j)

theorem read0 (c : Dev nD) (t : Fin cfg0.N) (i : Fin 256) (k : Fin 2048) (b : Fin 4) (hb : b.val = t.val / 16) (r : Fin 4096) (hr : r.val = t.val % 16 * 256 + i) :
    iblk m c 0 t (ix3 0 i k) = m ((c.tc : Thread nD τ).loc main_arg0) (ix3 b r k) := by
  have e : (win0_0.blk t).view.emb (ix3 0 i k) = ix3 b r k := by blk_ext [idx t]
  exact (congrArg (V m c main_arg0) e).trans (congrFun (V_main_arg0 m c) _)

theorem read1 (c : Dev nD) (t : Fin cfg0.N) (i : Fin 256) (l : Fin 128) (r : Fin 4096) (hr : r.val = t.val % 16 * 256 + i) :
    iblk m c 1 t (ix2 i l) = V m c main_v38 (ix2 r l) := by
  unfold iblk
  exact congrArg (V m c main_v38) (by blk_ext [idx t] : (win0_1.blk t).view.emb (ix2 i l) = ix2 r l)

theorem read2 (c : Dev nD) (t : Fin cfg0.N) (i : Fin 256) (l : Fin 128) (r : Fin 4096) (hr : r.val = t.val % 16 * 256 + i) :
    iblk m c 2 t (ix2 i l) = V m c main_v40 (ix2 r l) := by
  unfold iblk
  exact congrArg (V m c main_v40) (by blk_ext [idx t] : (win0_2.blk t).view.emb (ix2 i l) = ix2 r l)

theorem read4 (c : Dev nD) (t : Fin cfg0.N) (k : Fin 2048) (j : Fin 3968) :
    iblk m c 4 t (ix2 k j) = V m c main_v2 (ix2 k j) := by
  unfold iblk
  exact congrArg (V m c main_v2) (by blk_ext [idx t] : (win0_4.blk t).view.emb (ix2 k j) = ix2 k j)

theorem read6 (c : Dev nD) (t : Fin cfg0.N) (k : Fin 512) (j : Fin 2048) :
    iblk m c 6 t (ix2 k j) = V m c main_v11 (ix2 k j) := by
  unfold iblk
  exact congrArg (V m c main_v11) (by blk_ext [idx t] : (win0_6.blk t).view.emb (ix2 k j) = ix2 k j)

end Cert.ProjP
-- ==== Proof.ProjPValue.lean ====
module

public import Idealize.ShloMosaic.Lib.Pipeline.ValueKit
public import Idealize.ShloMosaic.Lib.Pipeline.ReadBack
public import proofs.«01_k».proof.Proof.ProjPRead

@[expose] public section

set_option maxRecDepth 16384

noncomputable section

/-! The projection kernel of the prompt: the arrays it leaves are the reference's. -/

namespace Cert.ProjP

open Cert.ProjPIdeal Cert.ProjPIdeal.Gen Idealize.ShloMosaic Idealize.ShloMosaic.TcCoe Idealize.SL.Sem
open Cert.ProjPRef (ang rope hR zR cqR qR ckvR kvR krR outQd outRows outCkv outKr outHeads outQm outKm)

/-- The kernel's rotary step on the first 64 lanes, with its signed sine table, is the reference's. -/
theorem rot_rope (y ct st : Fin 128 → EReal) (y' : Fin 64 → EReal) (p : Fin 4096)
    (hy : ∀ l : Fin 64, y ⟨l.val, by omega⟩ = y' l)
    (hc : ∀ l : Fin 128, ct l = if h : l.val < 32 then Ideal.cos (ang p ⟨l.val, h⟩)
      else if h' : l.val < 64 then Ideal.cos (ang p ⟨l.val - 32, by omega⟩) else 0)
    (hs : ∀ l : Fin 128, st l = if h : l.val < 32 then - Ideal.sin (ang p ⟨l.val, h⟩)
      else if h' : l.val < 64 then Ideal.sin (ang p ⟨l.val - 32, by omega⟩) else 0) (l : Fin 64) :
    rot y ct st ⟨l.val, by omega⟩ = rope y' p l := by
  have hl := l.isLt
  unfold rot rope
  rw [hc, hs]
  by_cases h : l.val < 32
  · have h1 : l.val % 64 < 32 := by omega
    have e : (⟨(l.val + 128 - 96) % 128, by omega⟩ : Fin 128) = ⟨(⟨32 + l.val, by omega⟩ : Fin 64).val, by omega⟩ := by
      ext; dsimp only; omega
    simp only [h, h1, dif_pos, if_pos]
    rw [e, hy, hy, mul_neg, sub_eq_add_neg]
  · have h1 : ¬ l.val % 64 < 32 := by omega
    have e : (⟨(l.val + 128 - 32) % 128, by omega⟩ : Fin 128) = ⟨(⟨l.val - 32, by omega⟩ : Fin 64).val, by omega⟩ := by
      ext; dsimp only; omega
    have e' : (⟨32 + (l.val - 32), by omega⟩ : Fin 64) = l := by ext; dsimp only; omega
    simp only [h, h1, hl, dif_pos, dif_neg, if_neg, not_false_iff]
    rw [e, hy, hy, e', add_comm]

/-- Its lanes past 64 are zero: both tables are. -/
theorem rot_blank (y ct st : Fin 128 → EReal) (l : Fin 128) (hc : ct l = 0) (hs : st l = 0) : rot y ct st l = 0 := by
  unfold rot
  rw [hc, hs, mul_zero, mul_zero, add_zero]

variable (m : (ℓ : Loc nD τ sig) → Buf (Elt Ideal) ℓ)

theorem h_val (c : Dev nD) (t : Fin cfg0.N) (i : Fin 256) (b : Fin 4) (hb : b.val = t.val / 16) (r : Fin 4096) (hr : r.val = t.val % 16 * 256 + i) (k : Fin 2048) : hB (iblk m c 0 t) (iblk m c 3 t) i k = hR (m ((c.tc : Thread nD τ).loc main_arg0)) (m ((c.tc : Thread nD τ).loc main_arg1)) b r k := by
  unfold hB hR
  exact congrArg₂ (fun a b => rms _ a b k) (funext fun k => read0 m c t i k b hb r hr)
    (funext fun k => (read3 m c t k).trans (v15_at m c k))

theorem z_val (c : Dev nD) (t : Fin cfg0.N) (i : Fin 256) (b : Fin 4) (hb : b.val = t.val / 16) (r : Fin 4096) (hr : r.val = t.val % 16 * 256 + i) (j : Fin 3904) :
    zB (iblk m c 0 t) (iblk m c 3 t) (iblk m c 4 t) i ⟨j.val, by omega⟩ = zR (m ((c.tc : Thread nD τ).loc main_arg0)) (m ((c.tc : Thread nD τ).loc main_arg1)) (m ((c.tc : Thread nD τ).loc main_arg2)) b r j := by
  unfold zB zR
  refine Finset.sum_congr rfl fun k _ => ?_
  rw [h_val m c t i b hb r hr, read4, v2_at, dif_pos j.isLt]

theorem z_blank (c : Dev nD) (t : Fin cfg0.N) (i : Fin 256) (j : Fin 3968) (hj : 3904 ≤ j.val) :
    zB (iblk m c 0 t) (iblk m c 3 t) (iblk m c 4 t) i j = 0 := by
  unfold zB
  refine Finset.sum_eq_zero fun k _ => ?_
  rw [read4, v2_at, dif_neg (by omega), mul_zero]

theorem cq_val (c : Dev nD) (t : Fin cfg0.N) (i : Fin 256) (b : Fin 4) (hb : b.val = t.val / 16) (r : Fin 4096) (hr : r.val = t.val % 16 * 256 + i) (k : Fin 512) : cqB (iblk m c 0 t) (iblk m c 3 t) (iblk m c 4 t) (iblk m c 5 t) i k = cqR (m ((c.tc : Thread nD τ).loc main_arg0)) (m ((c.tc : Thread nD τ).loc main_arg1)) (m ((c.tc : Thread nD τ).loc main_arg2)) (m ((c.tc : Thread nD τ).loc main_arg3)) b r k := by
  unfold cqB cqR
  have e : ∀ k : Fin 512, zB (iblk m c 0 t) (iblk m c 3 t) (iblk m c 4 t) i ⟨3072 + k.val, by omega⟩ = zR (m ((c.tc : Thread nD τ).loc main_arg0)) (m ((c.tc : Thread nD τ).loc main_arg1)) (m ((c.tc : Thread nD τ).loc main_arg2)) b r ⟨3072 + k.val, by omega⟩ :=
    fun k => z_val m c t i b hb r hr ⟨3072 + k.val, by omega⟩
  exact congrArg₂ (fun a b => rms _ a b k) (funext e) (funext fun k => (read5 m c t k).trans (v17_at m c k))

theorem ckv_val (c : Dev nD) (t : Fin cfg0.N) (i : Fin 256) (b : Fin 4) (hb : b.val = t.val / 16) (r : Fin 4096) (hr : r.val = t.val % 16 * 256 + i) (k : Fin 256) : ckvB (iblk m c 0 t) (iblk m c 3 t) (iblk m c 4 t) (iblk m c 7 t) i k = ckvR (m ((c.tc : Thread nD τ).loc main_arg0)) (m ((c.tc : Thread nD τ).loc main_arg1)) (m ((c.tc : Thread nD τ).loc main_arg2)) (m ((c.tc : Thread nD τ).loc main_arg5)) b r k := by
  unfold ckvB ckvR
  have e : ∀ k : Fin 256, zB (iblk m c 0 t) (iblk m c 3 t) (iblk m c 4 t) i ⟨3584 + k.val, by omega⟩ = zR (m ((c.tc : Thread nD τ).loc main_arg0)) (m ((c.tc : Thread nD τ).loc main_arg1)) (m ((c.tc : Thread nD τ).loc main_arg2)) b r ⟨3584 + k.val, by omega⟩ :=
    fun k => z_val m c t i b hb r hr ⟨3584 + k.val, by omega⟩
  exact congrArg₂ (fun a b => rms _ a b k) (funext e) (funext fun k => (read7 m c t k).trans (v19_at m c k))

theorem kv_val (c : Dev nD) (t : Fin cfg0.N) (i : Fin 256) (b : Fin 4) (hb : b.val = t.val / 16) (r : Fin 4096) (hr : r.val = t.val % 16 * 256 + i) (j : Fin 2048) : kvB (iblk m c 0 t) (iblk m c 3 t) (iblk m c 4 t) (iblk m c 7 t) (iblk m c 8 t) i j = kvR (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) b r j := by
  unfold kvB kvR
  refine Finset.sum_congr rfl fun k _ => ?_
  rw [ckv_val m c t i b hb r hr, read8, v13_at]

theorem q_val (c : Dev nD) (t : Fin cfg0.N) (i : Fin 256) (b : Fin 4) (hb : b.val = t.val / 16) (r : Fin 4096) (hr : r.val = t.val % 16 * 256 + i) (h : Fin 8) (l : Fin 128) : qB (iblk m c 0 t) (iblk m c 3 t) (iblk m c 4 t) (iblk m c 5 t) (iblk m c 6 t) i ⟨128 * h.val + l.val, by omega⟩
    = qR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b r ⟨h.val * 192 + l.val, by omega⟩ := by
  unfold qB qR
  refine Finset.sum_congr rfl fun k _ => ?_
  have e : (⟨(128 * h.val + l.val) / 128 * 192 + (128 * h.val + l.val) % 128, by omega⟩ : Fin 1536)
      = ⟨h.val * 192 + l.val, by omega⟩ := by ext; dsimp only; omega
  rw [cq_val m c t i b hb r hr, read6, v11_at, dif_pos (by dsimp only; omega), e]

theorem qr_val (c : Dev nD) (t : Fin cfg0.N) (i : Fin 256) (b : Fin 4) (hb : b.val = t.val / 16) (r : Fin 4096) (hr : r.val = t.val % 16 * 256 + i) (h : Fin 8) (l : Fin 64) : qB (iblk m c 0 t) (iblk m c 3 t) (iblk m c 4 t) (iblk m c 5 t) (iblk m c 6 t) i ⟨1024 + (128 * h.val + l.val), by omega⟩
    = qR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b r ⟨h.val * 192 + (128 + l.val), by omega⟩ := by
  unfold qB qR
  refine Finset.sum_congr rfl fun k _ => ?_
  have e : (⟨(1024 + (128 * h.val + l.val) - 1024) / 128 * 192 + (128 + (1024 + (128 * h.val + l.val) - 1024) % 128), by omega⟩ : Fin 1536)
      = ⟨h.val * 192 + (128 + l.val), by omega⟩ := by ext; dsimp only; omega
  rw [cq_val m c t i b hb r hr, read6, v11_at, dif_neg (by dsimp only; omega), dif_pos (by dsimp only; omega), e]

theorem kr_val (c : Dev nD) (t : Fin cfg0.N) (i : Fin 256) (b : Fin 4) (hb : b.val = t.val / 16) (r : Fin 4096) (hr : r.val = t.val % 16 * 256 + i) (l : Fin 64) : krB (iblk m c 0 t) (iblk m c 1 t) (iblk m c 2 t) (iblk m c 3 t) (iblk m c 4 t) i ⟨l.val, by omega⟩ = krR (m ((c.tc : Thread nD τ).loc main_arg0)) (m ((c.tc : Thread nD τ).loc main_arg1)) (m ((c.tc : Thread nD τ).loc main_arg2)) b r l := by
  unfold krB krR
  refine rot_rope _ _ _ _ _ (fun l => z_val m c t i b hb r hr ⟨3840 + l.val, by omega⟩) (fun l => ?_) (fun l => ?_) l
  · rw [read1 m c t i l r hr, v38_at]
  · rw [read2 m c t i l r hr, v40_at]

theorem ct_blank (c : Dev nD) (t : Fin cfg0.N) (i : Fin 256) (b : Fin 4) (hb : b.val = t.val / 16) (r : Fin 4096) (hr : r.val = t.val % 16 * 256 + i) (l : Fin 128) (hl : 64 ≤ l.val) : iblk m c 1 t (ix2 i l) = (0 : EReal) := by
  rw [read1 m c t i l r hr, v38_at, dif_neg (by omega), dif_neg (by omega)]

theorem st_blank (c : Dev nD) (t : Fin cfg0.N) (i : Fin 256) (b : Fin 4) (hb : b.val = t.val / 16) (r : Fin 4096) (hr : r.val = t.val % 16 * 256 + i) (l : Fin 128) (hl : 64 ≤ l.val) : iblk m c 2 t (ix2 i l) = (0 : EReal) := by
  rw [read2 m c t i l r hr, v40_at, dif_neg (by omega), dif_neg (by omega)]

theorem outQd_at (a0 : FVec Ideal Cert.ProjPRefIdeal.S4x4096x2048 .f32) (a1 : FVec Ideal Cert.ProjPRefIdeal.S1x2048 .f32)
    (a2 : FVec Ideal Cert.ProjPRefIdeal.S1x2048x3904 .f32)
    (b : Fin 4) (h : Fin 8) (d : Fin 2) (r : Fin 4096) (l : Fin 128) : outQd a0 a1 a2 (ix5 b h d r l)
      = if (l.val < 64 ↔ d.val = 0) then zR a0 a1 a2 b r ⟨h.val * 128 + l.val, by omega⟩ * Ideal.ofBits .f32 0x3E38AA3B#32
        else 0 := rfl

theorem outQm_at (a0 : FVec Ideal Cert.ProjPRefIdeal.S4x4096x2048 .f32) (a1 : FVec Ideal Cert.ProjPRefIdeal.S1x2048 .f32)
    (a2 : FVec Ideal Cert.ProjPRefIdeal.S1x2048x3904 .f32)
    (a3 : FVec Ideal Cert.ProjPRefIdeal.S1x512 .f32) (a4 : FVec Ideal Cert.ProjPRefIdeal.S1x512x1536 .f32)
    (b : Fin 4) (h : Fin 8) (r : Fin 4096) (l : Fin 256) : outQm a0 a1 a2 a3 a4 (ix4 b h r l)
      = (if h1 : l.val < 128 then qR a0 a1 a2 a3 a4 b r ⟨h.val * 192 + l.val, by omega⟩
        else if h2 : l.val - 128 < 64 then
          rope (fun l : Fin 64 => qR a0 a1 a2 a3 a4 b r ⟨h.val * 192 + (128 + l.val), by omega⟩) r ⟨l.val - 128, h2⟩
        else 0) * Ideal.ofBits .f32 0x3DD53B95#32 := rfl

theorem outKm_at (a0 : FVec Ideal Cert.ProjPRefIdeal.S4x4096x2048 .f32) (a1 : FVec Ideal Cert.ProjPRefIdeal.S1x2048 .f32)
    (a2 : FVec Ideal Cert.ProjPRefIdeal.S1x2048x3904 .f32)
    (a5 : FVec Ideal Cert.ProjPRefIdeal.S1x256 .f32) (a6 : FVec Ideal Cert.ProjPRefIdeal.S1x256x2048 .f32)
    (b : Fin 4) (h : Fin 8) (r : Fin 4096) (l : Fin 256) : outKm a0 a1 a2 a5 a6 (ix4 b h r l)
      = if h1 : l.val < 128 then kvR a0 a1 a2 a5 a6 b r ⟨h.val * 256 + l.val, by omega⟩
        else if h2 : l.val - 128 < 64 then krR a0 a1 a2 b r ⟨l.val - 128, h2⟩ else 0 := rfl

theorem final9 (c : Dev nD) : (dats m 0 c).arrAt 9 cfg0.N = outQd (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  blk_simp
  rw [after0_9]
  obtain ⟨q, h, d, i, l, rfl⟩ : ∃ (q : Fin 1) (h : Fin 8) (d : Fin 2) (i : Fin 256) (l : Fin 128), y = ix5 q h d i l := ⟨y 0, y 1, y 2, y 3, y 4, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_9.blk t).view.emb (ix5 0 h d i l) = ix5 b h d r l := by blk_ext [idx t]
  rw [e]
  refine (blk9 _ _ _ _ _ _ _ _ _ h d i l).trans ?_
  refine Eq.trans ?_ (outQd_at _ _ _ b h d r l).symm
  have hz : zB (iblk m c 0 t) (iblk m c 3 t) (iblk m c 4 t) i ⟨128 * h.val + l.val, by omega⟩ = _ :=
    (z_congr _ _ _ i (b := ⟨h.val * 128 + l.val, by omega⟩) (by dsimp only; omega)).trans
      (z_val m c t i b hb r hr ⟨h.val * 128 + l.val, by omega⟩)
  rw [hz]

theorem final10 (c : Dev nD) : (dats m 0 c).arrAt 10 cfg0.N = outRows (m ((c.tc : Thread nD τ).loc main_arg0)) (m ((c.tc : Thread nD τ).loc main_arg1)) (m ((c.tc : Thread nD τ).loc main_arg2)) 1024 (by decide) := by
  refine (dats m 0 c).arrAt_eq_of_covers 10 _ (by decide +kernel) fun t hf y => ?_
  blk_simp
  rw [after0_10]
  obtain ⟨q, i, l, rfl⟩ : ∃ (q : Fin 1) (i : Fin 256) (l : Fin 1024), y = ix3 q i l := ⟨y 0, y 1, y 2, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_10.blk t).view.emb (ix3 0 i l) = ix3 b r l := by blk_ext [idx t]
  rw [e]
  refine (blk10 _ _ _ _ _ _ _ _ _ i l).trans ?_
  exact z_val m c t i b hb r hr ⟨1024 + l.val, by omega⟩

theorem final11 (c : Dev nD) : (dats m 0 c).arrAt 11 cfg0.N = outRows (m ((c.tc : Thread nD τ).loc main_arg0)) (m ((c.tc : Thread nD τ).loc main_arg1)) (m ((c.tc : Thread nD τ).loc main_arg2)) 2048 (by decide) := by
  refine (dats m 0 c).arrAt_eq_of_covers 11 _ (by decide +kernel) fun t hf y => ?_
  blk_simp
  rw [after0_11]
  obtain ⟨q, i, l, rfl⟩ : ∃ (q : Fin 1) (i : Fin 256) (l : Fin 1024), y = ix3 q i l := ⟨y 0, y 1, y 2, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_11.blk t).view.emb (ix3 0 i l) = ix3 b r l := by blk_ext [idx t]
  rw [e]
  refine (blk11 _ _ _ _ _ _ _ _ _ i l).trans ?_
  exact z_val m c t i b hb r hr ⟨2048 + l.val, by omega⟩

theorem final12 (c : Dev nD) : (dats m 0 c).arrAt 12 cfg0.N = outCkv (m ((c.tc : Thread nD τ).loc main_arg0)) (m ((c.tc : Thread nD τ).loc main_arg1)) (m ((c.tc : Thread nD τ).loc main_arg2)) (m ((c.tc : Thread nD τ).loc main_arg5)) := by
  refine (dats m 0 c).arrAt_eq_of_covers 12 _ (by decide +kernel) fun t hf y => ?_
  blk_simp
  rw [after0_12]
  obtain ⟨q, i, l, rfl⟩ : ∃ (q : Fin 1) (i : Fin 256) (l : Fin 256), y = ix3 q i l := ⟨y 0, y 1, y 2, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_12.blk t).view.emb (ix3 0 i l) = ix3 b r l := by blk_ext [idx t]
  rw [e]
  refine (blk12 _ _ _ _ _ _ _ _ _ i l).trans ?_
  exact ckv_val m c t i b hb r hr l

theorem final13 (c : Dev nD) : (dats m 0 c).arrAt 13 cfg0.N = outKr (m ((c.tc : Thread nD τ).loc main_arg0)) (m ((c.tc : Thread nD τ).loc main_arg1)) (m ((c.tc : Thread nD τ).loc main_arg2)) := by
  refine (dats m 0 c).arrAt_eq_of_covers 13 _ (by decide +kernel) fun t hf y => ?_
  blk_simp
  rw [after0_13]
  obtain ⟨q, i, l, rfl⟩ : ∃ (q : Fin 1) (i : Fin 256) (l : Fin 64), y = ix3 q i l := ⟨y 0, y 1, y 2, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_13.blk t).view.emb (ix3 0 i l) = ix3 b r l := by blk_ext [idx t]
  rw [e]
  refine (blk13 _ _ _ _ _ _ _ _ _ i l).trans ?_
  exact kr_val m c t i b hb r hr l

theorem final14 (c : Dev nD) : (dats m 0 c).arrAt 14 cfg0.N = outHeads (m ((c.tc : Thread nD τ).loc main_arg0)) (m ((c.tc : Thread nD τ).loc main_arg1)) (m ((c.tc : Thread nD τ).loc main_arg2)) 1024 (by decide) := by
  refine (dats m 0 c).arrAt_eq_of_covers 14 _ (by decide +kernel) fun t hf y => ?_
  blk_simp
  rw [after0_14]
  obtain ⟨q, h, i, l, rfl⟩ : ∃ (q : Fin 1) (h : Fin 8) (i : Fin 256) (l : Fin 128), y = ix4 q h i l := ⟨y 0, y 1, y 2, y 3, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_14.blk t).view.emb (ix4 0 h i l) = ix4 b h r l := by blk_ext [idx t]
  rw [e]
  refine (blk14 _ _ _ _ _ _ _ _ _ h i l).trans ?_
  refine (z_congr _ _ _ i (b := ⟨1024 + (h.val * 128 + l.val), by omega⟩) (by dsimp only; omega)).trans ?_
  exact z_val m c t i b hb r hr ⟨1024 + (h.val * 128 + l.val), by omega⟩

theorem final16 (c : Dev nD) : (dats m 0 c).arrAt 16 cfg0.N = outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 16 _ (by decide +kernel) fun t hf y => ?_
  blk_simp
  rw [after0_16]
  obtain ⟨q, h, i, l, rfl⟩ : ∃ (q : Fin 1) (h : Fin 8) (i : Fin 256) (l : Fin 256), y = ix4 q h i l := ⟨y 0, y 1, y 2, y 3, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_16.blk t).view.emb (ix4 0 h i l) = ix4 b h r l := by blk_ext [idx t]
  rw [e]
  refine (blk16 _ _ _ _ _ _ _ _ _ h i l).trans ?_
  refine Eq.trans ?_ (outQm_at _ _ _ _ _ b h r l).symm
  refine congrArg (· * _) ?_
  by_cases h1 : l.val < 128
  · rw [dif_pos h1, dif_pos h1]
    exact q_val m c t i b hb r hr h ⟨l.val, h1⟩
  · rw [dif_neg h1, dif_neg h1]
    by_cases h2 : l.val - 128 < 64
    · rw [dif_pos h2]
      refine rot_rope _ _ _ _ _ (fun l => qr_val m c t i b hb r hr h l) (fun l => ?_) (fun l => ?_) ⟨l.val - 128, h2⟩
      · exact (read1 m c t i l r hr).trans (v38_at m c r l)
      · exact (read2 m c t i l r hr).trans (v40_at m c r l)
    · rw [dif_neg h2]
      exact rot_blank _ _ _ _ (ct_blank m c t i b hb r hr _ (by dsimp only; omega)) (st_blank m c t i b hb r hr _ (by dsimp only; omega))

theorem final17 (c : Dev nD) : (dats m 0 c).arrAt 17 cfg0.N = outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  refine (dats m 0 c).arrAt_eq_of_covers 17 _ (by decide +kernel) fun t hf y => ?_
  blk_simp
  rw [after0_17]
  obtain ⟨q, h, i, l, rfl⟩ : ∃ (q : Fin 1) (h : Fin 8) (i : Fin 256) (l : Fin 256), y = ix4 q h i l := ⟨y 0, y 1, y 2, y 3, by blk_ext⟩
  rw [Fin.eq_zero q]
  have ht : t.val < 64 := t.isLt
  obtain ⟨b, hb⟩ : ∃ b : Fin 4, b.val = t.val / 16 := ⟨⟨t.val / 16, by omega⟩, rfl⟩
  obtain ⟨r, hr⟩ : ∃ r : Fin 4096, r.val = t.val % 16 * 256 + i := ⟨⟨t.val % 16 * 256 + i, by omega⟩, rfl⟩
  have e : (win0_17.blk t).view.emb (ix4 0 h i l) = ix4 b h r l := by blk_ext [idx t]
  rw [e]
  refine (blk17 _ _ _ _ _ _ _ _ _ h i l).trans ?_
  refine Eq.trans ?_ (outKm_at _ _ _ _ _ b h r l).symm
  by_cases h1 : l.val < 128
  · rw [dif_pos h1, dif_pos h1]
    refine (kv_congr _ _ _ _ _ i (b := ⟨h.val * 256 + l.val, by omega⟩) (by dsimp only; omega)).trans ?_
    exact kv_val m c t i b hb r hr ⟨h.val * 256 + l.val, by omega⟩
  · rw [dif_neg h1, dif_neg h1]
    by_cases h2 : l.val - 128 < 64
    · rw [dif_pos h2]
      exact kr_val m c t i b hb r hr ⟨l.val - 128, h2⟩
    · rw [dif_neg h2]
      exact rot_blank _ _ _ _ (ct_blank m c t i b hb r hr _ (by dsimp only; omega)) (st_blank m c t i b hb r hr _ (by dsimp only; omega))

end Cert.ProjP
-- ==== Proof.ProjPClaim.lean ====
module

public import proofs.«01_k».proof.Defs
public import proofs.«01_k».proof.Proof.ProjPValue
public import proofs.«01_k».proof.Proof.Gen.ProjPIdeal.Value

@[expose] public section

set_option maxRecDepth 16384

noncomputable section

/-! The value claim of the projections of the prompt. -/

namespace Cert.ProjP

open Cert.ProjPIdeal Cert.ProjPIdeal.Gen Idealize.ShloMosaic Idealize.ShloMosaic.TcCoe Idealize.SL.Sem
open Cert.ProjPRef (outQd outRows outCkv outKr outHeads outQm outKm)

set_option maxHeartbeats 8000000 in
/-- Kernel and reference end with the same eight arrays. -/
theorem algebraic : Cert.algebraic_ProjPIdeal_ProjPRefIdeal := by
  intro m g m' g' _ hagree
  refine ⟨fun c => outQd (m ((c.tc : Thread nD τ).loc main_arg0)) (m ((c.tc : Thread nD τ).loc main_arg1)) (m ((c.tc : Thread nD τ).loc main_arg2)),
    fun c => outRows (m ((c.tc : Thread nD τ).loc main_arg0)) (m ((c.tc : Thread nD τ).loc main_arg1)) (m ((c.tc : Thread nD τ).loc main_arg2)) 1024 (by decide),
    fun c => outRows (m ((c.tc : Thread nD τ).loc main_arg0)) (m ((c.tc : Thread nD τ).loc main_arg1)) (m ((c.tc : Thread nD τ).loc main_arg2)) 2048 (by decide),
    fun c => outCkv (m ((c.tc : Thread nD τ).loc main_arg0)) (m ((c.tc : Thread nD τ).loc main_arg1)) (m ((c.tc : Thread nD τ).loc main_arg2)) (m ((c.tc : Thread nD τ).loc main_arg5)),
    fun c => outKr (m ((c.tc : Thread nD τ).loc main_arg0)) (m ((c.tc : Thread nD τ).loc main_arg1)) (m ((c.tc : Thread nD τ).loc main_arg2)),
    fun c => outHeads (m ((c.tc : Thread nD τ).loc main_arg0)) (m ((c.tc : Thread nD τ).loc main_arg1)) (m ((c.tc : Thread nD τ).loc main_arg2)) 1024 (by decide),
    fun c => outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)), ?_, ?_⟩
  · refine (θ_run _ _ _).mono (fun r h c => ?_) (Cert.ProjPIdeal.Value.run_blocks m g)
    obtain ⟨h9, h10, h11, h12, h13, h14, _, h16, h17, _, hk⟩ := h c
    exact ⟨h9.trans (final9 m c), h10.trans (final10 m c), h11.trans (final11 m c), h12.trans (final12 m c), h13.trans (final13 m c), h14.trans (final14 m c), h16.trans (final16 m c), h17.trans (final17 m c), hk⟩
  · refine (θ_run _ _ _).mono (fun r h c => ?_) (Cert.ProjPRef.run_rows m' g')
    obtain ⟨h9, h10, h11, h12, h13, h14, h16, h17, hk⟩ := h c
    have e := hagree c
    have e0 := e.1
    have e1 := e.2.1
    have e2 := e.2.2.1
    have e3 := e.2.2.2.1
    have e4 := e.2.2.2.2.1
    have e5 := e.2.2.2.2.2.1
    have e6 := e.2.2.2.2.2.2
    have k9 : outQd (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) = outQd (m ((c.tc : Thread nD τ).loc main_arg0)) (m ((c.tc : Thread nD τ).loc main_arg1)) (m ((c.tc : Thread nD τ).loc main_arg2)) := by
      rw [e0, e1, e2]
    have k10 : outRows (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) 1024 (by decide) = outRows (m ((c.tc : Thread nD τ).loc main_arg0)) (m ((c.tc : Thread nD τ).loc main_arg1)) (m ((c.tc : Thread nD τ).loc main_arg2)) 1024 (by decide) := by
      rw [e0, e1, e2]
    have k11 : outRows (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) 2048 (by decide) = outRows (m ((c.tc : Thread nD τ).loc main_arg0)) (m ((c.tc : Thread nD τ).loc main_arg1)) (m ((c.tc : Thread nD τ).loc main_arg2)) 2048 (by decide) := by
      rw [e0, e1, e2]
    have k12 : outCkv (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg5)) = outCkv (m ((c.tc : Thread nD τ).loc main_arg0)) (m ((c.tc : Thread nD τ).loc main_arg1)) (m ((c.tc : Thread nD τ).loc main_arg2)) (m ((c.tc : Thread nD τ).loc main_arg5)) := by
      rw [e0, e1, e2, e5]
    have k13 : outKr (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) = outKr (m ((c.tc : Thread nD τ).loc main_arg0)) (m ((c.tc : Thread nD τ).loc main_arg1)) (m ((c.tc : Thread nD τ).loc main_arg2)) := by
      rw [e0, e1, e2]
    have k14 : outHeads (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) 1024 (by decide) = outHeads (m ((c.tc : Thread nD τ).loc main_arg0)) (m ((c.tc : Thread nD τ).loc main_arg1)) (m ((c.tc : Thread nD τ).loc main_arg2)) 1024 (by decide) := by
      rw [e0, e1, e2]
    have k16 : outQm (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg3)) (m' ((c.tc : Thread Cert.ProjPRefIdeal.nD Cert.ProjPRefIdeal.τ).loc Cert.ProjPRefIdeal.main_arg4)) = outQm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
      rw [e0, e1, e2, e3, e4]
    have k17 : outKm (m' ((c.tc : Thread Cert.ProjPRefIdeal.nD Cert.ProjPRefIdeal.τ).loc Cert.ProjPRefIdeal.main_arg0)) (m' ((c.tc : Thread Cert.ProjPRefIdeal.nD Cert.ProjPRefIdeal.τ).loc Cert.ProjPRefIdeal.main_arg1)) (m' ((c.tc : Thread Cert.ProjPRefIdeal.nD Cert.ProjPRefIdeal.τ).loc Cert.ProjPRefIdeal.main_arg2)) (m' ((c.tc : Thread Cert.ProjPRefIdeal.nD Cert.ProjPRefIdeal.τ).loc Cert.ProjPRefIdeal.main_arg5)) (m' ((c.tc : Thread Cert.ProjPRefIdeal.nD Cert.ProjPRefIdeal.τ).loc Cert.ProjPRefIdeal.main_arg6)) = outKm (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
      rw [e0, e1, e2, e5, e6]
    exact ⟨h9.trans k9, h10.trans k10, h11.trans k11, h12.trans k12, h13.trans k13, h14.trans k14, h16.trans k16, h17.trans k17, hk⟩

end Cert.ProjP
end
-- ==== Proof.lean ====
module

public import proofs.«01_k».proof.Defs
public import proofs.«01_k».proof.Proof.Gen.DecMla.Frame
public import proofs.«01_k».proof.Proof.Gen.DecMlaIdeal.Frame
public import proofs.«01_k».proof.Proof.Gen.DecMlaRefIdeal.Run
public import proofs.«01_k».proof.Proof.Gen.DecMlaIdeal.Value
public import proofs.«01_k».proof.Proof.Gen.DecDiff.Frame
public import proofs.«01_k».proof.Proof.Gen.DecDiffIdeal.Frame
public import proofs.«01_k».proof.Proof.Gen.DecDiffRefIdeal.Run
public import proofs.«01_k».proof.Proof.Gen.DecDiffIdeal.Value
public import proofs.«01_k».proof.Proof.Gen.OutFfn.Frame
public import proofs.«01_k».proof.Proof.Gen.OutFfnIdeal.Frame
public import proofs.«01_k».proof.Proof.Gen.OutFfnRefIdeal.Run
public import proofs.«01_k».proof.Proof.Gen.OutFfnIdeal.Value
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjIdeal.Value
public import proofs.«01_k».proof.Proof.Gen.OutFfnS.Frame
public import proofs.«01_k».proof.Proof.Gen.OutFfnSIdeal.Frame
public import proofs.«01_k».proof.Proof.Gen.OutFfnSRefIdeal.Run
public import proofs.«01_k».proof.Proof.Gen.OutFfnSIdeal.Value
public import proofs.«01_k».proof.Proof.Gen.ProjP.Frame
public import proofs.«01_k».proof.Proof.Gen.ProjPIdeal.Frame
public import proofs.«01_k».proof.Proof.Gen.ProjPRefIdeal.Run
public import proofs.«01_k».proof.Proof.Gen.ProjPIdeal.Value
public import proofs.«01_k».proof.Proof.MlaClaim
public import proofs.«01_k».proof.Proof.DiffClaim
public import proofs.«01_k».proof.Proof.FfnClaim
public import proofs.«01_k».proof.Proof.ProjClaim
public import proofs.«01_k».proof.Proof.FfnSClaim
public import proofs.«01_k».proof.Proof.ProjPClaim

@[expose] public section

set_option maxRecDepth 16384

noncomputable section

namespace Cert.Proof

open Idealize.ShloMosaic Idealize.SL.Sem

/-- The reference of the latent attention runs to its end and leaves its arguments as they were. -/
theorem frame_mla_ref : Cert.quiescent_DecMlaRefIdeal := fun m g _ =>
  (θ_run Cert.DecMlaRefIdeal.defs _ _).mono (fun r h => ⟨fun c => (h c).2, sem_eq_zero_of_no_sems (by decide) r.2⟩)
    (Cert.DecMlaRefIdeal.Value.run (F := Ideal) m g)

/-- The reference of the differential attention runs to its end and leaves its arguments as they were. -/
theorem frame_diff_ref : Cert.quiescent_DecDiffRefIdeal := fun m g _ =>
  (θ_run Cert.DecDiffRefIdeal.defs _ _).mono (fun r h => ⟨fun c => (h c).2, sem_eq_zero_of_no_sems (by decide) r.2⟩)
    (Cert.DecDiffRefIdeal.Value.run (F := Ideal) m g)

/-- The reference of the feed-forward part runs to its end and leaves its arguments as they were. -/
theorem frame_ffn_ref : Cert.quiescent_OutFfnRefIdeal := fun m g _ =>
  (θ_run Cert.OutFfnRefIdeal.defs _ _).mono (fun r h => ⟨fun c => (h c).2, sem_eq_zero_of_no_sems (by decide) r.2⟩)
    (Cert.OutFfnRefIdeal.Value.run (F := Ideal) m g)

/-- The reference of the projection runs to its end and leaves its arguments as they were. -/
theorem frame_proj_ref : Cert.quiescent_ProjRefIdeal := fun m g _ =>
  (θ_run Cert.ProjRefIdeal.defs _ _).mono (fun r h => ⟨fun c => (h c).2.2.2.2.2.2.2.2.2.2, sem_eq_zero_of_no_sems (by decide) r.2⟩)
    (Cert.ProjRefIdeal.Value.run (F := Ideal) m g)

/-- The reference of the feed-forward part at the decoding batch runs to its end and leaves its arguments as they were. -/
theorem frame_ffns_ref : Cert.quiescent_OutFfnSRefIdeal := fun m g _ =>
  (θ_run Cert.OutFfnSRefIdeal.defs _ _).mono (fun r h => ⟨fun c => (h c).2, sem_eq_zero_of_no_sems (by decide) r.2⟩)
    (Cert.OutFfnSRefIdeal.Value.run (F := Ideal) m g)

/-- The reference of the projection of the prompt runs to its end and leaves its arguments as they were. -/
theorem frame_projp_ref : Cert.quiescent_ProjPRefIdeal := fun m g _ =>
  (θ_run Cert.ProjPRefIdeal.defs _ _).mono (fun r h => ⟨fun c => (h c).2.2.2.2.2.2.2.2, sem_eq_zero_of_no_sems (by decide) r.2⟩)
    (Cert.ProjPRefIdeal.Value.run (F := Ideal) m g)

/-- All claims. -/
theorem claim : Cert.Claim := ⟨Cert.DecMla.Gen.facts,
  Cert.DecMlaIdeal.Gen.facts,
  Cert.DecMlaRefIdeal.Gen.facts,
  Cert.DecDiff.Gen.facts,
  Cert.DecDiffIdeal.Gen.facts,
  Cert.DecDiffRefIdeal.Gen.facts,
  Cert.OutFfn.Gen.facts,
  Cert.OutFfnIdeal.Gen.facts,
  Cert.OutFfnRefIdeal.Gen.facts,
  Cert.Proj.Gen.facts,
  Cert.ProjIdeal.Gen.facts,
  Cert.ProjRefIdeal.Gen.facts,
  Cert.OutFfnS.Gen.facts,
  Cert.OutFfnSIdeal.Gen.facts,
  Cert.OutFfnSRefIdeal.Gen.facts,
  Cert.ProjP.Gen.facts,
  Cert.ProjPIdeal.Gen.facts,
  Cert.ProjPRefIdeal.Gen.facts,
  Cert.MlaDec.preFacts,
  Cert.DiffDec.preFacts,
  fun m ρ _ => Cert.DecMla.Gen.frame m ρ,
  fun m ρ _ => Cert.DecMlaIdeal.Gen.frame m ρ,
  fun m ρ _ => Cert.DecMlaIdeal.Gen.frame m ρ,
  frame_mla_ref,
  fun m ρ _ => frame_mla_ref m ρ trivial,
  fun m ρ _ => Cert.DecDiff.Gen.frame m ρ,
  fun m ρ _ => Cert.DecDiffIdeal.Gen.frame m ρ,
  fun m ρ _ => Cert.DecDiffIdeal.Gen.frame m ρ,
  frame_diff_ref,
  fun m ρ _ => frame_diff_ref m ρ trivial,
  fun m ρ _ => Cert.OutFfn.Gen.frame m ρ,
  fun m ρ _ => Cert.OutFfnIdeal.Gen.frame m ρ,
  frame_ffn_ref,
  fun m ρ _ => Cert.Proj.Gen.frame m ρ,
  fun m ρ _ => Cert.ProjIdeal.Gen.frame m ρ,
  frame_proj_ref,
  fun m ρ _ => Cert.OutFfnS.Gen.frame m ρ,
  fun m ρ _ => Cert.OutFfnSIdeal.Gen.frame m ρ,
  frame_ffns_ref,
  fun m ρ _ => Cert.ProjP.Gen.frame m ρ,
  fun m ρ _ => Cert.ProjPIdeal.Gen.frame m ρ,
  frame_projp_ref,
  trivial,
  Cert.MlaDec.algebraic,
  trivial,
  Cert.DiffDec.algebraic,
  trivial,
  Cert.Ffn.algebraic,
  trivial,
  Cert.Proj.algebraic,
  trivial,
  Cert.FfnS.algebraic,
  trivial,
  Cert.ProjP.algebraic⟩

end Cert.Proof
end
